-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_routed3 : Cert.Pre_routed3.Facts] (m : (ℓ : Loc Cert.Kernel3.nD Cert.Kernel3.τ Cert.Kernel3.sig) → Buf (Elt Bits) ℓ) : Prop :=
  ∀ c : Dev Cert.Kernel3.nD,
    (Cert.Pre_routed3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_routed3 : Cert.Pre_routed3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed3 [hPre_routed3 : Cert.Pre_routed3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_routed3 : Cert.Pre_routed3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_routed3 : Cert.Pre_routed3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_routed3 [hReference3Ideal : Cert.Reference3Ideal.Facts] [hPre_routed3 : Cert.Pre_routed3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_v126) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_routed3 : Cert.Pre_routed3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v36)) (v1 : (c : Dev Cert.Kernel6Ideal.nD) → Buf (Elt Ideal) ((c.tc : Thread Cert.Kernel6Ideal.nD Cert.Kernel6Ideal.τ).loc Cert.Kernel6Ideal.main_v37)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36) = v0 c
          ∧ r.2.mem ((c.tc : Thread Cert.Kernel6Ideal.nD Cert.Kernel6Ideal.τ).loc Cert.Kernel6Ideal.main_v37) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_routed : Cert.Pre_routed.Facts) (hPre_routed3 : Cert.Pre_routed3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3) (hPre_routed3 := hPre_routed3)
    ∧ quiescent_Kernel3Ideal (hKernel3Ideal := hKernel3Ideal) (hPre_routed3 := hPre_routed3)
    ∧ quiescent_Reference3Ideal (hReference3Ideal := hReference3Ideal)
    ∧ quiescent_Reference3Ideal_pre_routed3 (hReference3Ideal := hReference3Ideal) (hPre_routed3 := hPre_routed3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal) (hPre_routed3 := hPre_routed3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S18432x4096 : Shape := ⟨2, ![18432, 4096]⟩
abbrev S18432x6656 : Shape := ⟨2, ![18432, 6656]⟩
abbrev S18432x5120 : Shape := ⟨2, ![18432, 5120]⟩
abbrev S6x4x8192 : Shape := ⟨3, ![6, 4, 8192]⟩
abbrev S16384x1536 : Shape := ⟨2, ![16384, 1536]⟩
abbrev S_ : Shape := ⟨0, ![]⟩

class Facts : Prop where
  slices_S18432x6656_S16384x1536_0_4608 : S18432x6656.Slices ![0, 4608] S16384x1536
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel
  slices_S18432x5120_S16384x1536_0_0 : S18432x5120.Slices ![0, 0] S16384x1536
  bcast_S_S6x4x8192 : S_.BroadcastsInDim S6x4x8192 (![] : Fin 0 → Fin S6x4x8192.rank)
  reducesTo_S6x4x8192_S_d0_1_2 : S6x4x8192.ReducesTo [0, 1, 2] S_

variable [Facts]

def fn {F : FTy → Type} [FloatOps F] (main_arg0 : FVec F S18432x4096 .bf16) (main_arg1 : FVec F S18432x6656 .bf16) (main_arg2 : FVec F S18432x5120 .bf16) (main_arg3 : FVec F S6x4x8192 .f32) : IVec S_ 1 :=
  let main_v0 : FVec F S16384x1536 .bf16 := (extractStridedSlice S16384x1536 ![0, 4608] · slices_S18432x6656_S16384x1536_0_4608) main_arg1
  let main_v1 : FVec F S16384x1536 .f32 := (extf .f32 · bitsLt_bf16_f32) main_v0
  let main_v2 : FVec F S16384x1536 .f32 := Host.absf main_v1
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  let main_c : IVec S_ 1 := constantI S_ 1 1#1
  let main_v5 : IVec S_ 1 := (fun x v => Host.reduce IntOp.andi x v reducesTo_S16384x1536_S_d0_1 h_S_) main_v4 main_c
  let main_v6 : FVec F S16384x1536 .bf16 := (extractStridedSlice S16384x1536 ![0, 0] · slices_S18432x5120_S16384x1536_0_0) main_arg2
  let main_v7 : FVec F S16384x1536 .f32 := (extf .f32 · bitsLt_bf16_f32) main_v6
  let main_v8 : FVec F S16384x1536 .f32 := Host.absf main_v7
  let main_cst_0 : FVec F S_ .f32 := constant S_ .f32 0x7F800000#32
  let main_v9 : FVec F S16384x1536 .f32 := broadcastInDim S16384x1536 ![] bcast_S_S16384x1536 main_cst_0
  let main_v10 : IVec S16384x1536 1 := cmpf .olt main_v8 main_v9
  let main_c_1 : IVec S_ 1 := constantI S_ 1 1#1
  let main_v11 : IVec S_ 1 := (fun x v => Host.reduce IntOp.andi x v reducesTo_S16384x1536_S_d0_1 h_S_) main_v10 main_c_1
  let main_v12 : IVec S_ 1 := andi main_v5 main_v11
  let main_v13 : FVec F S6x4x8192 .f32 := Host.absf main_arg3
  let main_cst_2 : FVec F S_ .f32 := constant S_ .f32 0x7F800000#32
  let main_v14 : FVec F S6x4x8192 .f32 := broadcastInDim S6x4x8192 ![] bcast_S_S6x4x8192 main_cst_2
  let main_v15 : IVec S6x4x8192 1 := cmpf .olt main_v13 main_v14
  let main_c_3 : IVec S_ 1 := constantI S_ 1 1#1
  let main_v16 : IVec S_ 1 := (fun x v => Host.reduce IntOp.andi x v reducesTo_S6x4x8192_S_d0_1_2 h_S_) main_v15 main_c_3
  let main_v17 : IVec S_ 1 := andi main_v12 main_v16
  main_v17
-- ==== Pre_routed.lean ====
abbrev S79 : Shape := ⟨1, ![79]⟩
abbrev S40448x4096 : Shape := ⟨2, ![40448, 4096]⟩
abbrev S8x4096x14336 : Shape := ⟨3, ![8, 4096, 14336]⟩
abbrev S114688x4096 : Shape := ⟨2, ![114688, 4096]⟩
abbrev S_ : Shape := ⟨0, ![]⟩

class Facts : Prop where
  bcast_S_S79 : S_.BroadcastsInDim S79 (![] : Fin 0 → Fin S79.rank)
  reducesTo_S79_S_d0 : S79.ReducesTo [0] S_
  h_S_ : 0 < S_.numel

variable [Facts]

def fn {F : FTy → Type} [FloatOps F] (main_arg0 : IVec S79 32) (main_arg1 : IVec S79 32) (main_arg2 : FVec F S40448x4096 .bf16) (main_arg3 : FVec F S8x4096x14336 .bf16) (main_arg4 : FVec F S8x4096x14336 .bf16) (main_arg5 : FVec F S114688x4096 .f32) : IVec S_ 1 :=
  let main_c : IVec S_ 32 := constantI S_ 32 0#32
  let main_v0 : IVec S79 32 := broadcastInDim S79 ![] bcast_S_S79 main_c
  let main_v1 : IVec S79 1 := cmpi .sge main_arg0 main_v0
  let main_c_0 : IVec S_ 32 := constantI S_ 32 8#32
  let main_v2 : IVec S79 32 := broadcastInDim S79 ![] bcast_S_S79 main_c_0
  let main_v3 : IVec S79 1 := cmpi .slt main_arg0 main_v2
  let main_v4 : IVec S79 1 := andi main_v1 main_v3
  let main_c_1 : IVec S_ 1 := constantI S_ 1 1#1
  let main_v5 : IVec S_ 1 := (fun x v => Host.reduce IntOp.andi x v reducesTo_S79_S_d0 h_S_) main_v4 main_c_1
  let main_c_2 : IVec S_ 32 := constantI S_ 32 0#32
  let main_v6 : IVec S79 32 := broadcastInDim S79 ![] bcast_S_S79 main_c_2
  let main_v7 : IVec S79 1 := cmpi .sge main_arg1 main_v6
  let main_c_3 : IVec S_ 1 := constantI S_ 1 1#1
  let main_v8 : IVec S_ 1 := (fun x v => Host.reduce IntOp.andi x v reducesTo_S79_S_d0 h_S_) main_v7 main_c_3
  let main_v9 : IVec S_ 1 := andi main_v5 main_v8
  main_v9
-- ==== Pre_routed3.lean ====
abbrev S79 : Shape := ⟨1, ![79]⟩
abbrev S40448x14336 : Shape := ⟨2, ![40448, 14336]⟩
abbrev S8x14336x4096 : Shape := ⟨3, ![8, 14336, 4096]⟩
abbrev S40448x1 : Shape := ⟨2, ![40448, 1]⟩
abbrev S_ : Shape := ⟨0, ![]⟩

class Facts : Prop where
  bcast_S_S79 : S_.BroadcastsInDim S79 (![] : Fin 0 → Fin S79.rank)
  reducesTo_S79_S_d0 : S79.ReducesTo [0] S_
  h_S_ : 0 < S_.numel

variable [Facts]

def fn {F : FTy → Type} [FloatOps F] (main_arg0 : IVec S79 32) (main_arg1 : IVec S79 32) (main_arg2 : FVec F S40448x14336 .bf16) (main_arg3 : FVec F S8x14336x4096 .bf16) (main_arg4 : FVec F S40448x1 .f32) : IVec S_ 1 :=
  let main_c : IVec S_ 32 := constantI S_ 32 0#32
  let main_v0 : IVec S79 32 := broadcastInDim S79 ![] bcast_S_S79 main_c
  let main_v1 : IVec S79 1 := cmpi .sge main_arg0 main_v0
  let main_c_0 : IVec S_ 32 := constantI S_ 32 8#32
  let main_v2 : IVec S79 32 := broadcastInDim S79 ![] bcast_S_S79 main_c_0
  let main_v3 : IVec S79 1 := cmpi .slt main_arg0 main_v2
  let main_v4 : IVec S79 1 := andi main_v1 main_v3
  let main_c_1 : IVec S_ 1 := constantI S_ 1 1#1
  let main_v5 : IVec S_ 1 := (fun x v => Host.reduce IntOp.andi x v reducesTo_S79_S_d0 h_S_) main_v4 main_c_1
  main_v5
-- ==== Kernel.lean ====
abbrev S18432x4096 : Shape := ⟨2, ![18432, 4096]⟩
abbrev S18432x6656 : Shape := ⟨2, ![18432, 6656]⟩
abbrev S18432x5120 : Shape := ⟨2, ![18432, 5120]⟩
abbrev S6x4x8192 : Shape := ⟨3, ![6, 4, 8192]⟩
abbrev S512x512 : Shape := ⟨2, ![512, 512]⟩
abbrev S8192x512 : Shape := ⟨2, ![8192, 512]⟩
abbrev S1x4x8192 : Shape := ⟨3, ![1, 4, 8192]⟩
abbrev S512x128 : Shape := ⟨2, ![512, 128]⟩
abbrev S1x1x128 : Shape := ⟨3, ![1, 1, 128]⟩
abbrev S1x128 : Shape := ⟨2, ![1, 128]⟩
abbrev S1x1 : Shape := ⟨2, ![1, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S18432x4096, .bf16⟩
  | .hbm, ⟨1, _⟩ => ⟨S18432x6656, .bf16⟩
  | .hbm, ⟨2, _⟩ => ⟨S18432x5120, .bf16⟩
  | .hbm, ⟨3, _⟩ => ⟨S6x4x8192, .f32⟩
  | .hbm, ⟨4, _⟩ => ⟨S18432x4096, .bf16⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S1x4x8192, .f32⟩
  | .local _ .vmem, ⟨7, _⟩ => ⟨S1x4x8192, .f32⟩
  | .local _ .vmem, ⟨8, _⟩ => ⟨S512x512, .bf16⟩
  | .local _ .vmem, ⟨9, _⟩ => ⟨S512x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 3, 16], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 3 → Nat :=
  let c0_4 : Index := 0#32
  let c0_5 : Index := 0#32
  let arg2 : BitVec 32 := BitVec.ofNat 32 (i 2).val
  let c512_i32 : BitVec 32 := 512#32
  let v0 : BitVec 32 := Scalar.muli arg2 c512_i32
  let v1 : BitVec 32 := v0
  let v6 : Index := Scalar.indexCast v1
  ![0, 0, v6.toNat]
def k0_off2 (i : grid0.Coords) : Fin 3 → Nat :=
  let c0_6 : Index := 0#32
  let c1 : Index := 1#32
  let arg2 : BitVec 32 := BitVec.ofNat 32 (i 2).val
  let c512_i32 : BitVec 32 := 512#32
  let v0 : BitVec 32 := Scalar.muli arg2 c512_i32
  let v1 : BitVec 32 := v0
  let v10 : Index := Scalar.indexCast v1
  ![0, 1, v10.toNat]
def k0_off3 (i : grid0.Coords) : Fin 3 → Nat :=
  let c0_7 : Index := 0#32
  let c2 : Index := 2#32
  let arg2 : BitVec 32 := BitVec.ofNat 32 (i 2).val
  let c512_i32 : BitVec 32 := 512#32
  let v0 : BitVec 32 := Scalar.muli arg2 c512_i32
  let v1 : BitVec 32 := v0
  let v14 : Index := Scalar.indexCast v1
  ![0, 2, v14.toNat]
def k0_off4 (i : grid0.Coords) : Fin 3 → Nat :=
  let c0_8 : Index := 0#32
  let c3 : Index := 3#32
  let arg2 : BitVec 32 := BitVec.ofNat 32 (i 2).val
  let c512_i32 : BitVec 32 := 512#32
  let v0 : BitVec 32 := Scalar.muli arg2 c512_i32
  let v1 : BitVec 32 := v0
  let v18 : Index := Scalar.indexCast v1
  ![0, 3, v18.toNat]
@[reducible] def k0_t1_loop (i : grid0.Coords) : Scf.Loop 32 :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_20 : BitVec 32 := 1#32
  ⟨c0_i32, v38, c1_i32_20⟩
def k0_mult2 (i : grid0.Coords) (k0_t1 : Fin (k0_t1_loop i).trips) : BitVec 32 :=
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  v209
def k0_off5 (i : grid0.Coords) (k0_t1 : Fin (k0_t1_loop i).trips) : Fin 2 → Nat :=
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  let v210 : BitVec 32 := v209
  let v211 : Index := Scalar.indexCast v210
  let c0_75 : Index := 0#32
  ![v211.toNat, 0]
def k0_off6 (i : grid0.Coords) (k0_t1 : Fin (k0_t1_loop i).trips) : Fin 3 → Nat :=
  let c0_79 : Index := 0#32
  let c0_80 : Index := 0#32
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  let v210 : BitVec 32 := v209
  let v218 : Index := Scalar.indexCast v210
  ![0, 0, v218.toNat]
def k0_off7 (i : grid0.Coords) (k0_t1 : Fin (k0_t1_loop i).trips) : Fin 2 → Nat :=
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  let v210 : BitVec 32 := v209
  let v244 : Index := Scalar.indexCast v210
  let c128_85 : Index := 128#32
  ![v244.toNat, 128]
def k0_off8 (i : grid0.Coords) (k0_t1 : Fin (k0_t1_loop i).trips) : Fin 3 → Nat :=
  let c0_89 : Index := 0#32
  let c1_90 : Index := 1#32
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  let v210 : BitVec 32 := v209
  let v251 : Index := Scalar.indexCast v210
  ![0, 1, v251.toNat]
def k0_off9 (i : grid0.Coords) (k0_t1 : Fin (k0_t1_loop i).trips) : Fin 2 → Nat :=
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  let v210 : BitVec 32 := v209
  let v277 : Index := Scalar.indexCast v210
  let c256_95 : Index := 256#32
  ![v277.toNat, 256]
def k0_off10 (i : grid0.Coords) (k0_t1 : Fin (k0_t1_loop i).trips) : Fin 3 → Nat :=
  let c0_99 : Index := 0#32
  let c2_100 : Index := 2#32
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  let v210 : BitVec 32 := v209
  let v284 : Index := Scalar.indexCast v210
  ![0, 2, v284.toNat]
def k0_off11 (i : grid0.Coords) (k0_t1 : Fin (k0_t1_loop i).trips) : Fin 2 → Nat :=
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  let v210 : BitVec 32 := v209
  let v310 : Index := Scalar.indexCast v210
  let c384_105 : Index := 384#32
  ![v310.toNat, 384]
def k0_off12 (i : grid0.Coords) (k0_t1 : Fin (k0_t1_loop i).trips) : Fin 3 → Nat :=
  let c0_109 : Index := 0#32
  let c3_110 : Index := 3#32
  let c0_i32 : BitVec 32 := 0#32
  let c1_i32_20 : BitVec 32 := 1#32
  let arg9 : BitVec 32 := Scf.iv c0_i32 c1_i32_20 k0_t1
  let c512_i32_74 : BitVec 32 := 512#32
  let v209 : BitVec 32 := Scalar.muli arg9 c512_i32_74
  let v210 : BitVec 32 := v209
  let v317 : Index := Scalar.indexCast v210
  ![0, 3, v317.toNat]
@[reducible] def k0_t2_loop (i : grid0.Coords) : Scf.Loop 32 :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let v35 : BitVec 32 := Scalar.addi c0_i32 v34
  let c1_i32_21 : BitVec 32 := 1#32
  ⟨v38, v35, c1_i32_21⟩
def k0_mult3 (i : grid0.Coords) (k0_t2 : Fin (k0_t2_loop i).trips) : BitVec 32 :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  v209
def k0_off13 (i : grid0.Coords) (k0_t2 : Fin (k0_t2_loop i).trips) : Fin 2 → Nat :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  let v210 : BitVec 32 := v209
  let v211 : Index := Scalar.indexCast v210
  let c0_75 : Index := 0#32
  ![v211.toNat, 0]
def k0_off14 (i : grid0.Coords) (k0_t2 : Fin (k0_t2_loop i).trips) : Fin 3 → Nat :=
  let c0_79 : Index := 0#32
  let c0_80 : Index := 0#32
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  let v210 : BitVec 32 := v209
  let v218 : Index := Scalar.indexCast v210
  ![0, 0, v218.toNat]
def k0_off15 (i : grid0.Coords) (k0_t2 : Fin (k0_t2_loop i).trips) : Fin 2 → Nat :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  let v210 : BitVec 32 := v209
  let v244 : Index := Scalar.indexCast v210
  let c128_85 : Index := 128#32
  ![v244.toNat, 128]
def k0_off16 (i : grid0.Coords) (k0_t2 : Fin (k0_t2_loop i).trips) : Fin 3 → Nat :=
  let c0_89 : Index := 0#32
  let c1_90 : Index := 1#32
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  let v210 : BitVec 32 := v209
  let v251 : Index := Scalar.indexCast v210
  ![0, 1, v251.toNat]
def k0_off17 (i : grid0.Coords) (k0_t2 : Fin (k0_t2_loop i).trips) : Fin 2 → Nat :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  let v210 : BitVec 32 := v209
  let v277 : Index := Scalar.indexCast v210
  let c256_95 : Index := 256#32
  ![v277.toNat, 256]
def k0_off18 (i : grid0.Coords) (k0_t2 : Fin (k0_t2_loop i).trips) : Fin 3 → Nat :=
  let c0_99 : Index := 0#32
  let c2_100 : Index := 2#32
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  let v210 : BitVec 32 := v209
  let v284 : Index := Scalar.indexCast v210
  ![0, 2, v284.toNat]
def k0_off19 (i : grid0.Coords) (k0_t2 : Fin (k0_t2_loop i).trips) : Fin 2 → Nat :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  let v210 : BitVec 32 := v209
  let v310 : Index := Scalar.indexCast v210
  let c384_105 : Index := 384#32
  ![v310.toNat, 384]
def k0_off20 (i : grid0.Coords) (k0_t2 : Fin (k0_t2_loop i).trips) : Fin 3 → Nat :=
  let c0_109 : Index := 0#32
  let c3_110 : Index := 3#32
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_21 : BitVec 32 := 1#32
  let arg9 : BitVec 32 := Scf.iv v38 c1_i32_21 k0_t2
  let c512_i32_74 : BitVec 32 := 512#32
  let v209 : BitVec 32 := Scalar.muli arg9 c512_i32_74
  let v210 : BitVec 32 := v209
  let v317 : Index := Scalar.indexCast v210
  ![0, 3, v317.toNat]
def k0_off21 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v41 : Index := Scalar.indexCast v1
  let c0_22 : Index := 0#32
  ![v41.toNat, 0]
def k0_off22 (i : grid0.Coords) : Fin 3 → Nat :=
  let c0_26 : Index := 0#32
  let c0_27 : Index := 0#32
  let arg2 : BitVec 32 := BitVec.ofNat 32 (i 2).val
  let c512_i32 : BitVec 32 := 512#32
  let v0 : BitVec 32 := Scalar.muli arg2 c512_i32
  let v1 : BitVec 32 := v0
  let v48 : Index := Scalar.indexCast v1
  ![0, 0, v48.toNat]
def k0_off23 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v79 : Index := Scalar.indexCast v1
  let c128_33 : Index := 128#32
  ![v79.toNat, 128]
def k0_off24 (i : grid0.Coords) : Fin 3 → Nat :=
  let c0_37 : Index := 0#32
  let c1_38 : Index := 1#32
  let arg2 : BitVec 32 := BitVec.ofNat 32 (i 2).val
  let c512_i32 : BitVec 32 := 512#32
  let v0 : BitVec 32 := Scalar.muli arg2 c512_i32
  let v1 : BitVec 32 := v0
  let v86 : Index := Scalar.indexCast v1
  ![0, 1, v86.toNat]
def k0_off25 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v117 : Index := Scalar.indexCast v1
  let c256_44 : Index := 256#32
  ![v117.toNat, 256]
def k0_off26 (i : grid0.Coords) : Fin 3 → Nat :=
  let c0_48 : Index := 0#32
  let c2_49 : Index := 2#32
  let arg2 : BitVec 32 := BitVec.ofNat 32 (i 2).val
  let c512_i32 : BitVec 32 := 512#32
  let v0 : BitVec 32 := Scalar.muli arg2 c512_i32
  let v1 : BitVec 32 := v0
  let v124 : Index := Scalar.indexCast v1
  ![0, 2, v124.toNat]
def k0_off27 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v155 : Index := Scalar.indexCast v1
  let c384_55 : Index := 384#32
  ![v155.toNat, 384]
def k0_off28 (i : grid0.Coords) : Fin 3 → Nat :=
  let c0_59 : Index := 0#32
  let c3_60 : Index := 3#32
  let arg2 : BitVec 32 := BitVec.ofNat 32 (i 2).val
  let c512_i32 : BitVec 32 := 512#32
  let v0 : BitVec 32 := Scalar.muli arg2 c512_i32
  let v1 : BitVec 32 := v0
  let v162 : Index := Scalar.indexCast v1
  ![0, 3, v162.toNat]
def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c9_i32 : BitVec 32 := 9#32
  let v2 : BitVec 32 := Scalar.addi c9_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S18432x4096 : Shape := ⟨2, ![18432, 4096]⟩
abbrev S18432x6656 : Shape := ⟨2, ![18432, 6656]⟩
abbrev S18432x5120 : Shape := ⟨2, ![18432, 5120]⟩
abbrev S6x4x8192 : Shape := ⟨3, ![6, 4, 8192]⟩
abbrev S16384x1536 : Shape := ⟨2, ![16384, 1536]⟩
abbrev S2x8192x12x128 : Shape := ⟨4, ![2, 8192, 12, 128]⟩
abbrev S2x12x8192 : Shape := ⟨3, ![2, 12, 8192]⟩
abbrev S2x12x8192x8192 : Shape := ⟨4, ![2, 12, 8192, 8192]⟩
abbrev S_ : Shape := ⟨0, ![]⟩
abbrev S2x12x8192x1 : Shape := ⟨4, ![2, 12, 8192, 1]⟩
abbrev S2x12x1x8192 : Shape := ⟨4, ![2, 12, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x12x128x8192 : Shape := ⟨4, ![2, 12, 128, 8192]⟩

abbrev nBuf : Space → Nat
  | .hbm => 56
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S18432x6656, .bf16⟩
  | .hbm, ⟨2, _⟩ => ⟨S18432x5120, .bf16⟩
  | .hbm, ⟨3, _⟩ => ⟨S6x4x8192, .f32⟩
  | .hbm, ⟨4, _⟩ => ⟨S16384x1536, .bf16⟩
  | .hbm, ⟨5, _⟩ => ⟨S16384x1536, .f32⟩
  | .hbm, ⟨6, _⟩ => ⟨S2x8192x12x128, .f32⟩
  | .hbm, ⟨7, _⟩ => ⟨S16384x1536, .bf16⟩
  | .hbm, ⟨8, _⟩ => ⟨S16384x1536, .f32⟩
  | .hbm, ⟨9, _⟩ => ⟨S2x8192x12x128, .f32⟩
  | .hbm, ⟨10, _⟩ => ⟨S16384x1536, .bf16⟩
  | .hbm, ⟨11, _⟩ => ⟨S16384x1536, .f32⟩
  | .hbm, ⟨12, _⟩ => ⟨S2x8192x12x128, .f32⟩
  | .hbm, ⟨13, _⟩ => ⟨S2x12x8192, .f32⟩
  | .hbm, ⟨14, _⟩ => ⟨S2x12x8192x8192, .f32⟩
  | .hbm, ⟨15, _⟩ => ⟨S_, .f32⟩
  | .hbm, ⟨16, _⟩ => ⟨S2x12x8192x8192, .f32⟩
  | .hbm, ⟨17, _⟩ => ⟨S2x12x8192x8192, .f32⟩
  | .hbm, ⟨18, _⟩ => ⟨S2x12x8192x1, .f32⟩
  | .hbm, ⟨19, _⟩ => ⟨S2x12x1x8192, .f32⟩
  | .hbm, ⟨20, _⟩ => ⟨S2x12x8192x8192, .f32⟩
  | .hbm, ⟨21, _⟩ => ⟨S2x12x8192x8192, .f32⟩
  | .hbm, ⟨22, _⟩ => ⟨S2x12x8192x8192, .f32⟩
  | .hbm, ⟨23, _⟩ => ⟨S8192, .i32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S2x12x8192x8192, .f32⟩
  | .hbm, ⟨30, _⟩ => ⟨S_, .f32⟩
  | .hbm, ⟨31, _⟩ => ⟨S_, .f32⟩
  | .hbm, ⟨32, _⟩ => ⟨S2x12x8192x8192, .i1⟩
  | .hbm, ⟨33, _⟩ => ⟨S2x12x8192x8192, .f32⟩
  | .hbm, ⟨34, _⟩ => ⟨S2x12x8192x8192, .f32⟩
  | .hbm, ⟨35, _⟩ => ⟨S_, .f32⟩
  | .hbm, ⟨36, _⟩ => ⟨S2x12x8192, .f32⟩
  | .hbm, ⟨37, _⟩ => ⟨S_, .f32⟩
  | .hbm, ⟨38, _⟩ => ⟨S2x12x8192, .f32⟩
  | .hbm, ⟨39, _⟩ => ⟨S2x12x8192, .f32⟩
  | .hbm, ⟨40, _⟩ => ⟨S2x12x8192x1, .f32⟩
  | .hbm, ⟨41, _⟩ => ⟨S2x12x8192x8192, .f32⟩
  | .hbm, ⟨42, _⟩ => ⟨S2x12x8192x8192, .f32⟩
  | .hbm, ⟨43, _⟩ => ⟨S2x12x8192x8192, .f32⟩
  | .hbm, ⟨44, _⟩ => ⟨S_, .f32⟩
  | .hbm, ⟨45, _⟩ => ⟨S2x12x8192, .f32⟩
  | .hbm, ⟨46, _⟩ => ⟨S2x12x8192x1, .f32⟩
  | .hbm, ⟨47, _⟩ => ⟨S2x12x8192x8192, .f32⟩
  | .hbm, ⟨48, _⟩ => ⟨S2x12x8192x8192, .f32⟩
  | .hbm, ⟨49, _⟩ => ⟨S2x12x128x8192, .f32⟩
  | .hbm, ⟨50, _⟩ => ⟨S2x8192x12x128, .f32⟩
  | .hbm, ⟨51, _⟩ => ⟨S16384x1536, .f32⟩
  | .hbm, ⟨52, _⟩ => ⟨S16384x1536, .bf16⟩
  | .hbm, ⟨53, _⟩ => ⟨S_, .i32⟩
  | .hbm, ⟨54, _⟩ => ⟨S_, .i32⟩
  | .hbm, ⟨55, _⟩ => ⟨S18432x4096, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_c_4 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel2.lean ====
abbrev S79 : Shape := ⟨1, ![79]⟩
abbrev S40448x4096 : Shape := ⟨2, ![40448, 4096]⟩
abbrev S8x4096x14336 : Shape := ⟨3, ![8, 4096, 14336]⟩
abbrev S114688x4096 : Shape := ⟨2, ![114688, 4096]⟩
abbrev S40448x14336 : Shape := ⟨2, ![40448, 14336]⟩
abbrev S512x4096 : Shape := ⟨2, ![512, 4096]⟩
abbrev S1x4096x512 : Shape := ⟨3, ![1, 4096, 512]⟩
abbrev S1 : Shape := ⟨1, ![1]⟩
abbrev S64x4096 : Shape := ⟨2, ![64, 4096]⟩
abbrev S512x512 : Shape := ⟨2, ![512, 512]⟩
abbrev S4096x512 : Shape := ⟨2, ![4096, 512]⟩
abbrev S256x4096 : Shape := ⟨2, ![256, 4096]⟩
abbrev S256x512 : Shape := ⟨2, ![256, 512]⟩

abbrev nBuf : Space → Nat
  | .hbm => 6
  | .vmem => 12
  | .smem => 2
  | _ => 0

abbrev bufTy : (tb : Table) → Fin (tcTables nBuf tb) → BufTy
  | .hbm, ⟨0, _⟩ => ⟨S40448x4096, .bf16⟩
  | .hbm, ⟨1, _⟩ => ⟨S8x4096x14336, .bf16⟩
  | .hbm, ⟨2, _⟩ => ⟨S8x4096x14336, .bf16⟩
  | .hbm, ⟨3, _⟩ => ⟨S114688x4096, .f32⟩
  | .hbm, ⟨4, _⟩ => ⟨S40448x14336, .bf16⟩
  | .hbm, ⟨5, _⟩ => ⟨S114688x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S64x4096, .f32⟩
  | .local _ .vmem, ⟨7, _⟩ => ⟨S64x4096, .f32⟩
  | .local _ .vmem, ⟨8, _⟩ => ⟨S512x512, .bf16⟩
  | .local _ .vmem, ⟨9, _⟩ => ⟨S512x512, .bf16⟩
  | .local _ .vmem, ⟨10, _⟩ => ⟨S64x4096, .bf16⟩
  | .local _ .vmem, ⟨11, _⟩ => ⟨S64x4096, .bf16⟩
  | .local _ .smem, ⟨0, _⟩ => ⟨S79, .i32⟩
  | .local _ .smem, ⟨1, _⟩ => ⟨S79, .i32⟩
  | _, _ => ⟨S40448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0_0 : Ref sig .tc := ⟨.hbm, 4, rfl⟩
abbrev main_v0_1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![28, 79], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v1 : BitVec 32) : BitVec 1 :=
  let c256_i32 : BitVec 32 := 256#32
  let v2 : BitVec 1 := Scalar.cmpi .sgt v1 c256_i32
  let v3 : BitVec 32 := Scalar.extui v2
  let c0_i32 : BitVec 32 := 0#32
  let v4 : BitVec 1 := Scalar.cmpi .ne v3 c0_i32
  v4

def k0_cond2 (v1 : BitVec 32) : BitVec 1 :=
  let c0_i32_0 : BitVec 32 := 0#32
  let v5 : BitVec 1 := Scalar.cmpi .sgt v1 c0_i32_0
  let c256_i32_1 : BitVec 32 := 256#32
  let v6 : BitVec 1 := Scalar.cmpi .sle v1 c256_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (v1 : BitVec 32) : BitVec 1 :=
  let c0_i32_3 : BitVec 32 := 0#32
  let v10 : BitVec 1 := Scalar.cmpi .eq v1 c0_i32_3
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c79_i32 : BitVec 32 := 79#32
  let v13 : BitVec 32 := Scalar.muli arg0 c79_i32
  let arg1 : BitVec 32 := BitVec.ofNat 32 (i 1).val
  let v14 : BitVec 32 := Scalar.addi v13 arg1
  let c0_i32_5 : BitVec 32 := 0#32
  let v15 : BitVec 1 := Scalar.cmpi .sge v14 c0_i32_5
  let c1792_i32 : BitVec 32 := 1792#32
  let v16 : BitVec 1 := Scalar.cmpi .slt v14 c1792_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S79) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_2 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S79) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c79_i32 : BitVec 32 := 79#32
  let v0 : BitVec 32 := Scalar.muli arg0 c79_i32
  let v1 : BitVec 32 := Scalar.addi v0 arg1
  let c0_i32 : BitVec 32 := 0#32
  let v2 : BitVec 32 := Scalar.subi v1 c0_i32
  let c0_i32_0 : BitVec 32 := 0#32
  let c1791_i32 : BitVec 32 := 1791#32
  let v3 : BitVec 32 := Scalar.maxsi c0_i32_0 v2
  let v4 : BitVec 32 := Scalar.minsi c1791_i32 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c79_i32 : BitVec 32 := 79#32
  let v0 : BitVec 32 := Scalar.muli arg0 c79_i32
  let v1 : BitVec 32 := Scalar.addi v0 arg1
  let c0_i32 : BitVec 32 := 0#32
  let v2 : BitVec 32 := Scalar.subi v1 c0_i32
  let c0_i32_0 : BitVec 32 := 0#32
  let c1791_i32 : BitVec 32 := 1791#32
  let v3 : BitVec 32 := Scalar.maxsi c0_i32_0 v2
  let v4 : BitVec 32 := Scalar.minsi c1791_i32 v3
  let c0_i32_1 : BitVec 32 := 0#32
  let c0_i32_2 : BitVec 32 := 0#32
  ![v4.toNat, c0_i32_1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S79 : Shape := ⟨1, ![79]⟩
abbrev S40448x4096 : Shape := ⟨2, ![40448, 4096]⟩
abbrev S8x4096x14336 : Shape := ⟨3, ![8, 4096, 14336]⟩
abbrev S114688x4096 : Shape := ⟨2, ![114688, 4096]⟩
abbrev S79x1 : Shape := ⟨2, ![79, 1]⟩
abbrev S79x512 : Shape := ⟨2, ![79, 512]⟩
abbrev S40448x1 : Shape := ⟨2, ![40448, 1]⟩
abbrev S_ : Shape := ⟨0, ![]⟩
abbrev S512 : Shape := ⟨1, ![512]⟩
abbrev S1x512 : Shape := ⟨2, ![1, 512]⟩
abbrev S40448x14336 : Shape := ⟨2, ![40448, 14336]⟩
abbrev S1x4096x14336 : Shape := ⟨3, ![1, 4096, 14336]⟩
abbrev S4096x14336 : Shape := ⟨2, ![4096, 14336]⟩

abbrev nBuf : Space → Nat
  | .hbm => 226
  | .vmem => 0
  | .smem => 0
  | _ => 0

abbrev hbmTy0_0 (i : Nat) : BufTy := match i % 128 with
  | 0 => ⟨S79, .i32⟩
  | 1 => ⟨S79, .i32⟩
  | 2 => ⟨S40448x4096, .bf16⟩
  | 3 => ⟨S8x4096x14336, .bf16⟩
  | 4 => ⟨S8x4096x14336, .bf16⟩
  | 5 => ⟨S114688x4096, .f32⟩
  | 6 => ⟨S79x1, .i32⟩
  | 7 => ⟨S79x512, .i32⟩
  | 8 => ⟨S40448x1, .i32⟩
  | 9 => ⟨S_, .i32⟩
  | 10 => ⟨S79, .i32⟩
  | 11 => ⟨S79, .i1⟩
  | 12 => ⟨S_, .i32⟩
  | 13 => ⟨S79, .i32⟩
  | 14 => ⟨S79, .i1⟩
  | 15 => ⟨S_, .i32⟩
  | 16 => ⟨S_, .i32⟩
  | 17 => ⟨S79, .i32⟩
  | 18 => ⟨S79, .i32⟩
  | 19 => ⟨S79, .i32⟩
  | 20 => ⟨S_, .i32⟩
  | 21 => ⟨S79, .i32⟩
  | 22 => ⟨S79, .i32⟩
  | 23 => ⟨S79x1, .i32⟩
  | 24 => ⟨S79x512, .i32⟩
  | 25 => ⟨S40448x1, .i32⟩
  | 26 => ⟨S512, .i32⟩
  | 27 => ⟨S1x512, .i32⟩
  | 28 => ⟨S79x512, .i32⟩
  | 29 => ⟨S40448x1, .i32⟩
  | 30 => ⟨S40448x4096, .f32⟩
  | 31 => ⟨S_, .f32⟩
  | 32 => ⟨S40448x14336, .f32⟩
  | 33 => ⟨S1x4096x14336, .bf16⟩
  | 34 => ⟨S4096x14336, .bf16⟩
  | 35 => ⟨S4096x14336, .f32⟩
  | 36 => ⟨S40448x14336, .f32⟩
  | 37 => ⟨S1x4096x14336, .bf16⟩
  | 38 => ⟨S4096x14336, .bf16⟩
  | 39 => ⟨S4096x14336, .f32⟩
  | 40 => ⟨S40448x14336, .f32⟩
  | 41 => ⟨S_, .i32⟩
  | 42 => ⟨S40448x1, .i32⟩
  | 43 => ⟨S40448x1, .i1⟩
  | 44 => ⟨S40448x14336, .f32⟩
  | 45 => ⟨S40448x14336, .f32⟩
  | 46 => ⟨S_, .f32⟩
  | 47 => ⟨S40448x14336, .f32⟩
  | 48 => ⟨S40448x14336, .f32⟩
  | 49 => ⟨S_, .f32⟩
  | 50 => ⟨S40448x14336, .f32⟩
  | 51 => ⟨S40448x14336, .f32⟩
  | 52 => ⟨S40448x14336, .f32⟩
  | 53 => ⟨S40448x14336, .f32⟩
  | 54 => ⟨S40448x14336, .i1⟩
  | 55 => ⟨S40448x14336, .f32⟩
  | 56 => ⟨S1x4096x14336, .bf16⟩
  | 57 => ⟨S4096x14336, .bf16⟩
  | 58 => ⟨S4096x14336, .f32⟩
  | 59 => ⟨S40448x14336, .f32⟩
  | 60 => ⟨S1x4096x14336, .bf16⟩
  | 61 => ⟨S4096x14336, .bf16⟩
  | 62 => ⟨S4096x14336, .f32⟩
  | 63 => ⟨S40448x14336, .f32⟩
  | 64 => ⟨S_, .i32⟩
  | 65 => ⟨S40448x1, .i32⟩
  | 66 => ⟨S40448x1, .i1⟩
  | 67 => ⟨S40448x14336, .f32⟩
  | 68 => ⟨S40448x14336, .f32⟩
  | 69 => ⟨S_, .f32⟩
  | 70 => ⟨S40448x14336, .f32⟩
  | 71 => ⟨S40448x14336, .f32⟩
  | 72 => ⟨S_, .f32⟩
  | 73 => ⟨S40448x14336, .f32⟩
  | 74 => ⟨S40448x14336, .f32⟩
  | 75 => ⟨S40448x14336, .f32⟩
  | 76 => ⟨S40448x14336, .f32⟩
  | 77 => ⟨S40448x14336, .i1⟩
  | 78 => ⟨S40448x14336, .f32⟩
  | 79 => ⟨S1x4096x14336, .bf16⟩
  | 80 => ⟨S4096x14336, .bf16⟩
  | 81 => ⟨S4096x14336, .f32⟩
  | 82 => ⟨S40448x14336, .f32⟩
  | 83 => ⟨S1x4096x14336, .bf16⟩
  | 84 => ⟨S4096x14336, .bf16⟩
  | 85 => ⟨S4096x14336, .f32⟩
  | 86 => ⟨S40448x14336, .f32⟩
  | 87 => ⟨S_, .i32⟩
  | 88 => ⟨S40448x1, .i32⟩
  | 89 => ⟨S40448x1, .i1⟩
  | 90 => ⟨S40448x14336, .f32⟩
  | 91 => ⟨S40448x14336, .f32⟩
  | 92 => ⟨S_, .f32⟩
  | 93 => ⟨S40448x14336, .f32⟩
  | 94 => ⟨S40448x14336, .f32⟩
  | 95 => ⟨S_, .f32⟩
  | 96 => ⟨S40448x14336, .f32⟩
  | 97 => ⟨S40448x14336, .f32⟩
  | 98 => ⟨S40448x14336, .f32⟩
  | 99 => ⟨S40448x14336, .f32⟩
  | 100 => ⟨S40448x14336, .i1⟩
  | 101 => ⟨S40448x14336, .f32⟩
  | 102 => ⟨S1x4096x14336, .bf16⟩
  | 103 => ⟨S4096x14336, .bf16⟩
  | 104 => ⟨S4096x14336, .f32⟩
  | 105 => ⟨S40448x14336, .f32⟩
  | 106 => ⟨S1x4096x14336, .bf16⟩
  | 107 => ⟨S4096x14336, .bf16⟩
  | 108 => ⟨S4096x14336, .f32⟩
  | 109 => ⟨S40448x14336, .f32⟩
  | 110 => ⟨S_, .i32⟩
  | 111 => ⟨S40448x1, .i32⟩
  | 112 => ⟨S40448x1, .i1⟩
  | 113 => ⟨S40448x14336, .f32⟩
  | 114 => ⟨S40448x14336, .f32⟩
  | 115 => ⟨S_, .f32⟩
  | 116 => ⟨S40448x14336, .f32⟩
  | 117 => ⟨S40448x14336, .f32⟩
  | 118 => ⟨S_, .f32⟩
  | 119 => ⟨S40448x14336, .f32⟩
  | 120 => ⟨S40448x14336, .f32⟩
  | 121 => ⟨S40448x14336, .f32⟩
  | 122 => ⟨S40448x14336, .f32⟩
  | 123 => ⟨S40448x14336, .i1⟩
  | 124 => ⟨S40448x14336, .f32⟩
  | 125 => ⟨S1x4096x14336, .bf16⟩
  | 126 => ⟨S4096x14336, .bf16⟩
  | 127 => ⟨S4096x14336, .f32⟩
  | _ => ⟨S79, .i32⟩

abbrev hbmTy0_1 (i : Nat) : BufTy := match i % 128 with
  | 0 => ⟨S40448x14336, .f32⟩
  | 1 => ⟨S1x4096x14336, .bf16⟩
  | 2 => ⟨S4096x14336, .bf16⟩
  | 3 => ⟨S4096x14336, .f32⟩
  | 4 => ⟨S40448x14336, .f32⟩
  | 5 => ⟨S_, .i32⟩
  | 6 => ⟨S40448x1, .i32⟩
  | 7 => ⟨S40448x1, .i1⟩
  | 8 => ⟨S40448x14336, .f32⟩
  | 9 => ⟨S40448x14336, .f32⟩
  | 10 => ⟨S_, .f32⟩
  | 11 => ⟨S40448x14336, .f32⟩
  | 12 => ⟨S40448x14336, .f32⟩
  | 13 => ⟨S_, .f32⟩
  | 14 => ⟨S40448x14336, .f32⟩
  | 15 => ⟨S40448x14336, .f32⟩
  | 16 => ⟨S40448x14336, .f32⟩
  | 17 => ⟨S40448x14336, .f32⟩
  | 18 => ⟨S40448x14336, .i1⟩
  | 19 => ⟨S40448x14336, .f32⟩
  | 20 => ⟨S1x4096x14336, .bf16⟩
  | 21 => ⟨S4096x14336, .bf16⟩
  | 22 => ⟨S4096x14336, .f32⟩
  | 23 => ⟨S40448x14336, .f32⟩
  | 24 => ⟨S1x4096x14336, .bf16⟩
  | 25 => ⟨S4096x14336, .bf16⟩
  | 26 => ⟨S4096x14336, .f32⟩
  | 27 => ⟨S40448x14336, .f32⟩
  | 28 => ⟨S_, .i32⟩
  | 29 => ⟨S40448x1, .i32⟩
  | 30 => ⟨S40448x1, .i1⟩
  | 31 => ⟨S40448x14336, .f32⟩
  | 32 => ⟨S40448x14336, .f32⟩
  | 33 => ⟨S_, .f32⟩
  | 34 => ⟨S40448x14336, .f32⟩
  | 35 => ⟨S40448x14336, .f32⟩
  | 36 => ⟨S_, .f32⟩
  | 37 => ⟨S40448x14336, .f32⟩
  | 38 => ⟨S40448x14336, .f32⟩
  | 39 => ⟨S40448x14336, .f32⟩
  | 40 => ⟨S40448x14336, .f32⟩
  | 41 => ⟨S40448x14336, .i1⟩
  | 42 => ⟨S40448x14336, .f32⟩
  | 43 => ⟨S1x4096x14336, .bf16⟩
  | 44 => ⟨S4096x14336, .bf16⟩
  | 45 => ⟨S4096x14336, .f32⟩
  | 46 => ⟨S40448x14336, .f32⟩
  | 47 => ⟨S1x4096x14336, .bf16⟩
  | 48 => ⟨S4096x14336, .bf16⟩
  | 49 => ⟨S4096x14336, .f32⟩
  | 50 => ⟨S40448x14336, .f32⟩
  | 51 => ⟨S_, .i32⟩
  | 52 => ⟨S40448x1, .i32⟩
  | 53 => ⟨S40448x1, .i1⟩
  | 54 => ⟨S40448x14336, .f32⟩
  | 55 => ⟨S40448x14336, .f32⟩
  | 56 => ⟨S_, .f32⟩
  | 57 => ⟨S40448x14336, .f32⟩
  | 58 => ⟨S40448x14336, .f32⟩
  | 59 => ⟨S_, .f32⟩
  | 60 => ⟨S40448x14336, .f32⟩
  | 61 => ⟨S40448x14336, .f32⟩
  | 62 => ⟨S40448x14336, .f32⟩
  | 63 => ⟨S40448x14336, .f32⟩
  | 64 => ⟨S40448x14336, .i1⟩
  | 65 => ⟨S40448x14336, .f32⟩
  | 66 => ⟨S1x4096x14336, .bf16⟩
  | 67 => ⟨S4096x14336, .bf16⟩
  | 68 => ⟨S4096x14336, .f32⟩
  | 69 => ⟨S40448x14336, .f32⟩
  | 70 => ⟨S1x4096x14336, .bf16⟩
  | 71 => ⟨S4096x14336, .bf16⟩
  | 72 => ⟨S4096x14336, .f32⟩
  | 73 => ⟨S40448x14336, .f32⟩
  | 74 => ⟨S_, .i32⟩
  | 75 => ⟨S40448x1, .i32⟩
  | 76 => ⟨S40448x1, .i1⟩
  | 77 => ⟨S40448x14336, .f32⟩
  | 78 => ⟨S40448x14336, .f32⟩
  | 79 => ⟨S_, .f32⟩
  | 80 => ⟨S40448x14336, .f32⟩
  | 81 => ⟨S40448x14336, .f32⟩
  | 82 => ⟨S_, .f32⟩
  | 83 => ⟨S40448x14336, .f32⟩
  | 84 => ⟨S40448x14336, .f32⟩
  | 85 => ⟨S40448x14336, .f32⟩
  | 86 => ⟨S40448x14336, .f32⟩
  | 87 => ⟨S40448x14336, .i1⟩
  | 88 => ⟨S40448x14336, .f32⟩
  | 89 => ⟨S40448x1, .i32⟩
  | 90 => ⟨S40448x1, .i1⟩
  | 91 => ⟨S_, .f32⟩
  | 92 => ⟨S_, .f32⟩
  | 93 => ⟨S40448x14336, .i1⟩
  | 94 => ⟨S40448x14336, .f32⟩
  | 95 => ⟨S40448x14336, .f32⟩
  | 96 => ⟨S40448x14336, .bf16⟩
  | 97 => ⟨S114688x4096, .bf16⟩
  | _ => ⟨S79, .i32⟩

abbrev hbmTy (i : Nat) : BufTy := match i / 128 with
  | 0 => hbmTy0_0 i
  | 1 => hbmTy0_1 i
  | _ => ⟨S79, .i32⟩

abbrev bufTy : (tb : Table) → Fin (tcTables nBuf tb) → BufTy
  | .hbm, ⟨i, _⟩ => hbmTy i
  | _, _ => ⟨S79, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_c_3 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v28 : Ref sig .tc := ⟨.hbm, 52, rfl⟩
abbrev main_v29 : Ref sig .tc := ⟨.hbm, 53, rfl⟩
abbrev main_call3_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_call4_v0 : Ref sig .tc := ⟨.hbm, 67, rfl⟩
abbrev main_call4_v1 : Ref sig .tc := ⟨.hbm, 68, rfl⟩
abbrev main_call4_cst : Ref sig .tc := ⟨.hbm, 69, rfl⟩
abbrev main_call4_v2 : Ref sig .tc := ⟨.hbm, 70, rfl⟩
abbrev main_call4_v3 : Ref sig .tc := ⟨.hbm, 71, rfl⟩
abbrev main_call4_cst_0 : Ref sig .tc := ⟨.hbm, 72, rfl⟩
abbrev main_call4_v4 : Ref sig .tc := ⟨.hbm, 73, rfl⟩
abbrev main_call4_v5 : Ref sig .tc := ⟨.hbm, 74, rfl⟩
abbrev main_v41 : Ref sig .tc := ⟨.hbm, 75, rfl⟩
abbrev main_v42 : Ref sig .tc := ⟨.hbm, 76, rfl⟩
abbrev main_call5_v0 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_6 : Ref sig .tc := ⟨.hbm, 87, rfl⟩
abbrev main_v52 : Ref sig .tc := ⟨.hbm, 88, rfl⟩
abbrev main_v53 : Ref sig .tc := ⟨.hbm, 89, rfl⟩
abbrev main_call6_v0 : Ref sig .tc := ⟨.hbm, 90, rfl⟩
abbrev main_call6_v1 : Ref sig .tc := ⟨.hbm, 91, rfl⟩
abbrev main_call6_cst : Ref sig .tc := ⟨.hbm, 92, rfl⟩
abbrev main_call6_v2 : Ref sig .tc := ⟨.hbm, 93, rfl⟩
abbrev main_call6_v3 : Ref sig .tc := ⟨.hbm, 94, rfl⟩
abbrev main_call6_cst_0 : Ref sig .tc := ⟨.hbm, 95, rfl⟩
abbrev main_call6_v4 : Ref sig .tc := ⟨.hbm, 96, rfl⟩
abbrev main_call6_v5 : Ref sig .tc := ⟨.hbm, 97, rfl⟩
abbrev main_v54 : Ref sig .tc := ⟨.hbm, 98, rfl⟩
abbrev main_v55 : Ref sig .tc := ⟨.hbm, 99, rfl⟩
abbrev main_call7_v0 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_7 : Ref sig .tc := ⟨.hbm, 110, rfl⟩
abbrev main_v65 : Ref sig .tc := ⟨.hbm, 111, rfl⟩
abbrev main_v66 : Ref sig .tc := ⟨.hbm, 112, rfl⟩
abbrev main_call8_v0 : Ref sig .tc := ⟨.hbm, 113, rfl⟩
abbrev main_call8_v1 : Ref sig .tc := ⟨.hbm, 114, rfl⟩
abbrev main_call8_cst : Ref sig .tc := ⟨.hbm, 115, rfl⟩
abbrev main_call8_v2 : Ref sig .tc := ⟨.hbm, 116, rfl⟩
abbrev main_call8_v3 : Ref sig .tc := ⟨.hbm, 117, rfl⟩
abbrev main_call8_cst_0 : Ref sig .tc := ⟨.hbm, 118, rfl⟩
abbrev main_call8_v4 : Ref sig .tc := ⟨.hbm, 119, rfl⟩
abbrev main_call8_v5 : Ref sig .tc := ⟨.hbm, 120, rfl⟩
abbrev main_v67 : Ref sig .tc := ⟨.hbm, 121, rfl⟩
abbrev main_v68 : Ref sig .tc := ⟨.hbm, 122, rfl⟩
abbrev main_call9_v0 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_c_8 : Ref sig .tc := ⟨.hbm, 133, rfl⟩
abbrev main_v78 : Ref sig .tc := ⟨.hbm, 134, rfl⟩
abbrev main_v79 : Ref sig .tc := ⟨.hbm, 135, rfl⟩
abbrev main_call10_v0 : Ref sig .tc := ⟨.hbm, 136, rfl⟩
abbrev main_call10_v1 : Ref sig .tc := ⟨.hbm, 137, rfl⟩
abbrev main_call10_cst : Ref sig .tc := ⟨.hbm, 138, rfl⟩
abbrev main_call10_v2 : Ref sig .tc := ⟨.hbm, 139, rfl⟩
abbrev main_call10_v3 : Ref sig .tc := ⟨.hbm, 140, rfl⟩
abbrev main_call10_cst_0 : Ref sig .tc := ⟨.hbm, 141, rfl⟩
abbrev main_call10_v4 : Ref sig .tc := ⟨.hbm, 142, rfl⟩
abbrev main_call10_v5 : Ref sig .tc := ⟨.hbm, 143, rfl⟩
abbrev main_v80 : Ref sig .tc := ⟨.hbm, 144, rfl⟩
abbrev main_v81 : Ref sig .tc := ⟨.hbm, 145, rfl⟩
abbrev main_call11_v0 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_c_9 : Ref sig .tc := ⟨.hbm, 156, rfl⟩
abbrev main_v91 : Ref sig .tc := ⟨.hbm, 157, rfl⟩
abbrev main_v92 : Ref sig .tc := ⟨.hbm, 158, rfl⟩
abbrev main_call12_v0 : Ref sig .tc := ⟨.hbm, 159, rfl⟩
abbrev main_call12_v1 : Ref sig .tc := ⟨.hbm, 160, rfl⟩
abbrev main_call12_cst : Ref sig .tc := ⟨.hbm, 161, rfl⟩
abbrev main_call12_v2 : Ref sig .tc := ⟨.hbm, 162, rfl⟩
abbrev main_call12_v3 : Ref sig .tc := ⟨.hbm, 163, rfl⟩
abbrev main_call12_cst_0 : Ref sig .tc := ⟨.hbm, 164, rfl⟩
abbrev main_call12_v4 : Ref sig .tc := ⟨.hbm, 165, rfl⟩
abbrev main_call12_v5 : Ref sig .tc := ⟨.hbm, 166, rfl⟩
abbrev main_v93 : Ref sig .tc := ⟨.hbm, 167, rfl⟩
abbrev main_v94 : Ref sig .tc := ⟨.hbm, 168, rfl⟩
abbrev main_call13_v0 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_c_10 : Ref sig .tc := ⟨.hbm, 179, rfl⟩
abbrev main_v104 : Ref sig .tc := ⟨.hbm, 180, rfl⟩
abbrev main_v105 : Ref sig .tc := ⟨.hbm, 181, rfl⟩
abbrev main_call14_v0 : Ref sig .tc := ⟨.hbm, 182, rfl⟩
abbrev main_call14_v1 : Ref sig .tc := ⟨.hbm, 183, rfl⟩
abbrev main_call14_cst : Ref sig .tc := ⟨.hbm, 184, rfl⟩
abbrev main_call14_v2 : Ref sig .tc := ⟨.hbm, 185, rfl⟩
abbrev main_call14_v3 : Ref sig .tc := ⟨.hbm, 186, rfl⟩
abbrev main_call14_cst_0 : Ref sig .tc := ⟨.hbm, 187, rfl⟩
abbrev main_call14_v4 : Ref sig .tc := ⟨.hbm, 188, rfl⟩
abbrev main_call14_v5 : Ref sig .tc := ⟨.hbm, 189, rfl⟩
abbrev main_v106 : Ref sig .tc := ⟨.hbm, 190, rfl⟩
abbrev main_v107 : Ref sig .tc := ⟨.hbm, 191, rfl⟩
abbrev main_call15_v0 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_c_11 : Ref sig .tc := ⟨.hbm, 202, rfl⟩
abbrev main_v117 : Ref sig .tc := ⟨.hbm, 203, rfl⟩
abbrev main_v118 : Ref sig .tc := ⟨.hbm, 204, rfl⟩
abbrev main_call16_v0 : Ref sig .tc := ⟨.hbm, 205, rfl⟩
abbrev main_call16_v1 : Ref sig .tc := ⟨.hbm, 206, rfl⟩
abbrev main_call16_cst : Ref sig .tc := ⟨.hbm, 207, rfl⟩
abbrev main_call16_v2 : Ref sig .tc := ⟨.hbm, 208, rfl⟩
abbrev main_call16_v3 : Ref sig .tc := ⟨.hbm, 209, rfl⟩
abbrev main_call16_cst_0 : Ref sig .tc := ⟨.hbm, 210, rfl⟩
abbrev main_call16_v4 : Ref sig .tc := ⟨.hbm, 211, rfl⟩
abbrev main_call16_v5 : Ref sig .tc := ⟨.hbm, 212, rfl⟩
abbrev main_v119 : Ref sig .tc := ⟨.hbm, 213, rfl⟩
abbrev main_v120 : Ref sig .tc := ⟨.hbm, 214, rfl⟩
abbrev main_call17_v0 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_cst_12 : Ref sig .tc := ⟨.hbm, 219, rfl⟩
abbrev main_call18_v0 : Ref sig .tc := ⟨.hbm, 220, rfl⟩
abbrev main_call18_v1 : Ref sig .tc := ⟨.hbm, 221, rfl⟩
abbrev main_call18_v2 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩

abbrev nD : Nat := 1
abbrev τ : Topo := Topo.v7x

variable {F : FTy → Type} [FloatOps F]
-- ==== Kernel3.lean ====
abbrev S79 : Shape := ⟨1, ![79]⟩
abbrev S40448x14336 : Shape := ⟨2, ![40448, 14336]⟩
abbrev S8x14336x4096 : Shape := ⟨3, ![8, 14336, 4096]⟩
abbrev S40448x1 : Shape := ⟨2, ![40448, 1]⟩
abbrev S40448x4096 : Shape := ⟨2, ![40448, 4096]⟩
abbrev S512x1024 : Shape := ⟨2, ![512, 1024]⟩
abbrev S1x1024x4096 : Shape := ⟨3, ![1, 1024, 4096]⟩
abbrev S1 : Shape := ⟨1, ![1]⟩
abbrev S512x1 : Shape := ⟨2, ![512, 1]⟩
abbrev S512x4096 : Shape := ⟨2, ![512, 4096]⟩
abbrev S1024x4096 : Shape := ⟨2, ![1024, 4096]⟩
abbrev S256x1024 : Shape := ⟨2, ![256, 1024]⟩
abbrev S256x4096 : Shape := ⟨2, ![256, 4096]⟩
abbrev S32x4096 : Shape := ⟨2, ![32, 4096]⟩
abbrev S32x1 : Shape := ⟨2, ![32, 1]⟩

abbrev nBuf : Space → Nat
  | .hbm => 4
  | .vmem => 8
  | .smem => 2
  | _ => 0

abbrev bufTy : (tb : Table) → Fin (tcTables nBuf tb) → BufTy
  | .hbm, ⟨0, _⟩ => ⟨S40448x14336, .bf16⟩
  | .hbm, ⟨1, _⟩ => ⟨S8x14336x4096, .bf16⟩
  | .hbm, ⟨2, _⟩ => ⟨S40448x1, .f32⟩
  | .hbm, ⟨3, _⟩ => ⟨S40448x4096, .f32⟩
  | .local _ .vmem, ⟨0, _⟩ => ⟨S512x1024, .bf16⟩
  | .local _ .vmem, ⟨1, _⟩ => ⟨S512x1024, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S512x1, .f32⟩
  | .local _ .vmem, ⟨5, _⟩ => ⟨S512x1, .f32⟩
  | .local _ .vmem, ⟨6, _⟩ => ⟨S512x4096, .f32⟩
  | .local _ .vmem, ⟨7, _⟩ => ⟨S512x4096, .f32⟩
  | .local _ .smem, ⟨0, _⟩ => ⟨S79, .i32⟩
  | .local _ .smem, ⟨1, _⟩ => ⟨S79, .i32⟩
  | _, _ => ⟨S40448x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![79, 14], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_12 : BitVec 32 := 0#32
  let c8_i32 : BitVec 32 := 8#32
  let v31 : BitVec 32 := Scalar.addi c0_i32_12 c8_i32
  let c1_i32 : BitVec 32 := 1#32
  ⟨c0_i32_12, v31, c1_i32⟩
def k0_mult1 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c64_i32 : BitVec 32 := 64#32
  let v32 : BitVec 32 := Scalar.muli arg8 c64_i32
  let c0_i32_14 : BitVec 32 := 0#32
  let v33 : BitVec 32 := Scalar.addi v32 c0_i32_14
  v33
def k0_mult2 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c64_i32 : BitVec 32 := 64#32
  let v32 : BitVec 32 := Scalar.muli arg8 c64_i32
  let c32_i32 : BitVec 32 := 32#32
  let v35 : BitVec 32 := Scalar.addi v32 c32_i32
  v35
def k0_off2 (k0_t1 : Fin k0_t1_loop.trips) (c0_i32_14 : BitVec 32) : Fin 2 → Nat :=
  let c0_i32_12 : BitVec 32 := 0#32
  let c1_i32 : BitVec 32 := 1#32
  let arg8 : BitVec 32 := Scf.iv c0_i32_12 c1_i32 k0_t1
  let c64_i32 : BitVec 32 := 64#32
  let v32 : BitVec 32 := Scalar.muli arg8 c64_i32
  let v33 : BitVec 32 := Scalar.addi v32 c0_i32_14
  let v34 : BitVec 32 := v33
  let v37 : Index := Scalar.indexCast v34
  let c0 : Index := 0#32
  ![v37.toNat, 0]
def k0_off3 (k0_t1 : Fin k0_t1_loop.trips) (c0_i32_14 : BitVec 32) : Fin 2 → Nat :=
  let c0_i32_12 : BitVec 32 := 0#32
  let c1_i32 : BitVec 32 := 1#32
  let arg8 : BitVec 32 := Scf.iv c0_i32_12 c1_i32 k0_t1
  let c64_i32 : BitVec 32 := 64#32
  let v32 : BitVec 32 := Scalar.muli arg8 c64_i32
  let v33 : BitVec 32 := Scalar.addi v32 c0_i32_14
  let v34 : BitVec 32 := v33
  let v40 : Index := Scalar.indexCast v34
  let c0_15 : Index := 0#32
  ![v40.toNat, 0]
def k0_cond1 (i : grid0.Coords) (v1 : BitVec 32) : BitVec 1 :=
  let c256_i32 : BitVec 32 := 256#32
  let v3 : BitVec 1 := Scalar.cmpi .sgt v1 c256_i32
  let arg1 : BitVec 32 := BitVec.ofNat 32 (i 1).val
  let c0_i32_0 : BitVec 32 := 0#32
  let v6 : BitVec 1 := Scalar.cmpi .eq arg1 c0_i32_0
  let v7 : BitVec 1 := Scalar.andi v3 v6
  let v8 : BitVec 32 := Scalar.extui v7
  let c0_i32_1 : BitVec 32 := 0#32
  let v9 : BitVec 1 := Scalar.cmpi .ne v8 c0_i32_1
  v9

def k0_cond2 (i : grid0.Coords) (v1 : BitVec 32) : BitVec 1 :=
  let c256_i32 : BitVec 32 := 256#32
  let v3 : BitVec 1 := Scalar.cmpi .sgt v1 c256_i32
  let arg1 : BitVec 32 := BitVec.ofNat 32 (i 1).val
  let c0_i32_2 : BitVec 32 := 0#32
  let v10 : BitVec 1 := Scalar.cmpi .sgt arg1 c0_i32_2
  let v11 : BitVec 1 := Scalar.andi v3 v10
  let v12 : BitVec 32 := Scalar.extui v11
  let c0_i32_3 : BitVec 32 := 0#32
  let v13 : BitVec 1 := Scalar.cmpi .ne v12 c0_i32_3
  v13

def k0_cond3 (i : grid0.Coords) (v1 : BitVec 32) : BitVec 1 :=
  let c0_i32 : BitVec 32 := 0#32
  let v2 : BitVec 1 := Scalar.cmpi .sgt v1 c0_i32
  let c256_i32 : BitVec 32 := 256#32
  let v3 : BitVec 1 := Scalar.cmpi .sgt v1 c256_i32
  let v_true : BitVec 1 := 1#1
  let v4 : BitVec 1 := Scalar.xori v3 v_true
  let v5 : BitVec 1 := Scalar.andi v2 v4
  let arg1 : BitVec 32 := BitVec.ofNat 32 (i 1).val
  let c0_i32_4 : BitVec 32 := 0#32
  let v14 : BitVec 1 := Scalar.cmpi .eq arg1 c0_i32_4
  let v15 : BitVec 1 := Scalar.andi v5 v14
  let v16 : BitVec 32 := Scalar.extui v15
  let c0_i32_5 : BitVec 32 := 0#32
  let v17 : BitVec 1 := Scalar.cmpi .ne v16 c0_i32_5
  v17

def k0_cond4 (i : grid0.Coords) (v1 : BitVec 32) : BitVec 1 :=
  let c0_i32 : BitVec 32 := 0#32
  let v2 : BitVec 1 := Scalar.cmpi .sgt v1 c0_i32
  let c256_i32 : BitVec 32 := 256#32
  let v3 : BitVec 1 := Scalar.cmpi .sgt v1 c256_i32
  let v_true : BitVec 1 := 1#1
  let v4 : BitVec 1 := Scalar.xori v3 v_true
  let v5 : BitVec 1 := Scalar.andi v2 v4
  let arg1 : BitVec 32 := BitVec.ofNat 32 (i 1).val
  let c0_i32_6 : BitVec 32 := 0#32
  let v18 : BitVec 1 := Scalar.cmpi .sgt arg1 c0_i32_6
  let v19 : BitVec 1 := Scalar.andi v5 v18
  let v20 : BitVec 32 := Scalar.extui v19
  let c0_i32_7 : BitVec 32 := 0#32
  let v21 : BitVec 1 := Scalar.cmpi .ne v20 c0_i32_7
  v21

def k0_cond5 (i : grid0.Coords) (v1 : BitVec 32) : BitVec 1 :=
  let c0_i32 : BitVec 32 := 0#32
  let v2 : BitVec 1 := Scalar.cmpi .sgt v1 c0_i32
  let arg1 : BitVec 32 := BitVec.ofNat 32 (i 1).val
  let c13_i32 : BitVec 32 := 13#32
  let v22 : BitVec 1 := Scalar.cmpi .eq arg1 c13_i32
  let v23 : BitVec 1 := Scalar.andi v2 v22
  let v24 : BitVec 32 := Scalar.extui v23
  let c0_i32_8 : BitVec 32 := 0#32
  let v25 : BitVec 1 := Scalar.cmpi .ne v24 c0_i32_8
  v25

def k0_cond6 (i : grid0.Coords) (v1 : BitVec 32) : BitVec 1 :=
  let c0_i32 : BitVec 32 := 0#32
  let v2 : BitVec 1 := Scalar.cmpi .sgt v1 c0_i32
  let true_9 : BitVec 1 := 1#1
  let v26 : BitVec 1 := Scalar.xori v2 true_9
  let arg1 : BitVec 32 := BitVec.ofNat 32 (i 1).val
  let c13_i32_10 : BitVec 32 := 13#32
  let v27 : BitVec 1 := Scalar.cmpi .eq arg1 c13_i32_10
  let v28 : BitVec 1 := Scalar.andi v26 v27
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S79 : Shape := ⟨1, ![79]⟩
abbrev S40448x14336 : Shape := ⟨2, ![40448, 14336]⟩
abbrev S8x14336x4096 : Shape := ⟨3, ![8, 14336, 4096]⟩
abbrev S40448x1 : Shape := ⟨2, ![40448, 1]⟩
abbrev S79x1 : Shape := ⟨2, ![79, 1]⟩
abbrev S79x512 : Shape := ⟨2, ![79, 512]⟩
abbrev S_ : Shape := ⟨0, ![]⟩
abbrev S512 : Shape := ⟨1, ![512]⟩
abbrev S1x512 : Shape := ⟨2, ![1, 512]⟩
abbrev S40448x4096 : Shape := ⟨2, ![40448, 4096]⟩
abbrev S1x14336x4096 : Shape := ⟨3, ![1, 14336, 4096]⟩
abbrev S14336x4096 : Shape := ⟨2, ![14336, 4096]⟩

abbrev nBuf : Space → Nat
  | .hbm => 113
  | .vmem => 0
  | .smem => 0
  | _ => 0

abbrev bufTy : (tb : Table) → Fin (tcTables nBuf tb) → BufTy
  | .hbm, ⟨0, _⟩ => ⟨S79, .i32⟩
  | .hbm, ⟨1, _⟩ => ⟨S79, .i32⟩
  | .hbm, ⟨2, _⟩ => ⟨S40448x14336, .bf16⟩
  | .hbm, ⟨3, _⟩ => ⟨S8x14336x4096, .bf16⟩
  | .hbm, ⟨4, _⟩ => ⟨S40448x1, .f32⟩
  | .hbm, ⟨5, _⟩ => ⟨S79x1, .i32⟩
  | .hbm, ⟨6, _⟩ => ⟨S79x512, .i32⟩
  | .hbm, ⟨7, _⟩ => ⟨S40448x1, .i32⟩
  | .hbm, ⟨8, _⟩ => ⟨S_, .i32⟩
  | .hbm, ⟨9, _⟩ => ⟨S79, .i32⟩
  | .hbm, ⟨10, _⟩ => ⟨S79, .i1⟩
  | .hbm, ⟨11, _⟩ => ⟨S_, .i32⟩
  | .hbm, ⟨12, _⟩ => ⟨S79, .i32⟩
  | .hbm, ⟨13, _⟩ => ⟨S79, .i1⟩
  | .hbm, ⟨14, _⟩ => ⟨S_, .i32⟩
  | .hbm, ⟨15, _⟩ => ⟨S_, .i32⟩
  | .hbm, ⟨16, _⟩ => ⟨S79, .i32⟩
  | .hbm, ⟨17, _⟩ => ⟨S79, .i32⟩
  | .hbm, ⟨18, _⟩ => ⟨S79, .i32⟩
  | .hbm, ⟨19, _⟩ => ⟨S_, .i32⟩
  | .hbm, ⟨20, _⟩ => ⟨S79, .i32⟩
  | .hbm, ⟨21, _⟩ => ⟨S79, .i32⟩
  | .hbm, ⟨22, _⟩ => ⟨S79x1, .i32⟩
  | .hbm, ⟨23, _⟩ => ⟨S79x512, .i32⟩
  | .hbm, ⟨24, _⟩ => ⟨S40448x1, .i32⟩
  | .hbm, ⟨25, _⟩ => ⟨S512, .i32⟩
  | .hbm, ⟨26, _⟩ => ⟨S1x512, .i32⟩
  | .hbm, ⟨27, _⟩ => ⟨S79x512, .i32⟩
  | .hbm, ⟨28, _⟩ => ⟨S40448x1, .i32⟩
  | .hbm, ⟨29, _⟩ => ⟨S40448x14336, .f32⟩
  | .hbm, ⟨30, _⟩ => ⟨S_, .f32⟩
  | .hbm, ⟨31, _⟩ => ⟨S40448x4096, .f32⟩
  | .hbm, ⟨32, _⟩ => ⟨S1x14336x4096, .bf16⟩
  | .hbm, ⟨33, _⟩ => ⟨S14336x4096, .bf16⟩
  | .hbm, ⟨34, _⟩ => ⟨S14336x4096, .f32⟩
  | .hbm, ⟨35, _⟩ => ⟨S40448x4096, .f32⟩
  | .hbm, ⟨36, _⟩ => ⟨S_, .i32⟩
  | .hbm, ⟨37, _⟩ => ⟨S40448x1, .i32⟩
  | .hbm, ⟨38, _⟩ => ⟨S40448x1, .i1⟩
  | .hbm, ⟨39, _⟩ => ⟨S40448x4096, .i1⟩
  | .hbm, ⟨40, _⟩ => ⟨S40448x4096, .f32⟩
  | .hbm, ⟨41, _⟩ => ⟨S1x14336x4096, .bf16⟩
  | .hbm, ⟨42, _⟩ => ⟨S14336x4096, .bf16⟩
  | .hbm, ⟨43, _⟩ => ⟨S14336x4096, .f32⟩
  | .hbm, ⟨44, _⟩ => ⟨S40448x4096, .f32⟩
  | .hbm, ⟨45, _⟩ => ⟨S_, .i32⟩
  | .hbm, ⟨46, _⟩ => ⟨S40448x1, .i32⟩
  | .hbm, ⟨47, _⟩ => ⟨S40448x1, .i1⟩
  | .hbm, ⟨48, _⟩ => ⟨S40448x4096, .i1⟩
  | .hbm, ⟨49, _⟩ => ⟨S40448x4096, .f32⟩
  | .hbm, ⟨50, _⟩ => ⟨S1x14336x4096, .bf16⟩
  | .hbm, ⟨51, _⟩ => ⟨S14336x4096, .bf16⟩
  | .hbm, ⟨52, _⟩ => ⟨S14336x4096, .f32⟩
  | .hbm, ⟨53, _⟩ => ⟨S40448x4096, .f32⟩
  | .hbm, ⟨54, _⟩ => ⟨S_, .i32⟩
  | .hbm, ⟨55, _⟩ => ⟨S40448x1, .i32⟩
  | .hbm, ⟨56, _⟩ => ⟨S40448x1, .i1⟩
  | .hbm, ⟨57, _⟩ => ⟨S40448x4096, .i1⟩
  | .hbm, ⟨58, _⟩ => ⟨S40448x4096, .f32⟩
  | .hbm, ⟨59, _⟩ => ⟨S1x14336x4096, .bf16⟩
  | .hbm, ⟨60, _⟩ => ⟨S14336x4096, .bf16⟩
  | .hbm, ⟨61, _⟩ => ⟨S14336x4096, .f32⟩
  | .hbm, ⟨62, _⟩ => ⟨S40448x4096, .f32⟩
  | .hbm, ⟨63, _⟩ => ⟨S_, .i32⟩
  | .hbm, ⟨64, _⟩ => ⟨S40448x1, .i32⟩
  | .hbm, ⟨65, _⟩ => ⟨S40448x1, .i1⟩
  | .hbm, ⟨66, _⟩ => ⟨S40448x4096, .i1⟩
  | .hbm, ⟨67, _⟩ => ⟨S40448x4096, .f32⟩
  | .hbm, ⟨68, _⟩ => ⟨S1x14336x4096, .bf16⟩
  | .hbm, ⟨69, _⟩ => ⟨S14336x4096, .bf16⟩
  | .hbm, ⟨70, _⟩ => ⟨S14336x4096, .f32⟩
  | .hbm, ⟨71, _⟩ => ⟨S40448x4096, .f32⟩
  | .hbm, ⟨72, _⟩ => ⟨S_, .i32⟩
  | .hbm, ⟨73, _⟩ => ⟨S40448x1, .i32⟩
  | .hbm, ⟨74, _⟩ => ⟨S40448x1, .i1⟩
  | .hbm, ⟨75, _⟩ => ⟨S40448x4096, .i1⟩
  | .hbm, ⟨76, _⟩ => ⟨S40448x4096, .f32⟩
  | .hbm, ⟨77, _⟩ => ⟨S1x14336x4096, .bf16⟩
  | .hbm, ⟨78, _⟩ => ⟨S14336x4096, .bf16⟩
  | .hbm, ⟨79, _⟩ => ⟨S14336x4096, .f32⟩
  | .hbm, ⟨80, _⟩ => ⟨S40448x4096, .f32⟩
  | .hbm, ⟨81, _⟩ => ⟨S_, .i32⟩
  | .hbm, ⟨82, _⟩ => ⟨S40448x1, .i32⟩
  | .hbm, ⟨83, _⟩ => ⟨S40448x1, .i1⟩
  | .hbm, ⟨84, _⟩ => ⟨S40448x4096, .i1⟩
  | .hbm, ⟨85, _⟩ => ⟨S40448x4096, .f32⟩
  | .hbm, ⟨86, _⟩ => ⟨S1x14336x4096, .bf16⟩
  | .hbm, ⟨87, _⟩ => ⟨S14336x4096, .bf16⟩
  | .hbm, ⟨88, _⟩ => ⟨S14336x4096, .f32⟩
  | .hbm, ⟨89, _⟩ => ⟨S40448x4096, .f32⟩
  | .hbm, ⟨90, _⟩ => ⟨S_, .i32⟩
  | .hbm, ⟨91, _⟩ => ⟨S40448x1, .i32⟩
  | .hbm, ⟨92, _⟩ => ⟨S40448x1, .i1⟩
  | .hbm, ⟨93, _⟩ => ⟨S40448x4096, .i1⟩
  | .hbm, ⟨94, _⟩ => ⟨S40448x4096, .f32⟩
  | .hbm, ⟨95, _⟩ => ⟨S1x14336x4096, .bf16⟩
  | .hbm, ⟨96, _⟩ => ⟨S14336x4096, .bf16⟩
  | .hbm, ⟨97, _⟩ => ⟨S14336x4096, .f32⟩
  | .hbm, ⟨98, _⟩ => ⟨S40448x4096, .f32⟩
  | .hbm, ⟨99, _⟩ => ⟨S_, .i32⟩
  | .hbm, ⟨100, _⟩ => ⟨S40448x1, .i32⟩
  | .hbm, ⟨101, _⟩ => ⟨S40448x1, .i1⟩
  | .hbm, ⟨102, _⟩ => ⟨S40448x4096, .i1⟩
  | .hbm, ⟨103, _⟩ => ⟨S40448x4096, .f32⟩
  | .hbm, ⟨104, _⟩ => ⟨S40448x1, .i32⟩
  | .hbm, ⟨105, _⟩ => ⟨S40448x1, .i1⟩
  | .hbm, ⟨106, _⟩ => ⟨S_, .f32⟩
  | .hbm, ⟨107, _⟩ => ⟨S_, .f32⟩
  | .hbm, ⟨108, _⟩ => ⟨S40448x4096, .i1⟩
  | .hbm, ⟨109, _⟩ => ⟨S40448x4096, .f32⟩
  | .hbm, ⟨110, _⟩ => ⟨S40448x4096, .f32⟩
  | .hbm, ⟨111, _⟩ => ⟨S40448x4096, .f32⟩
  | .hbm, ⟨112, _⟩ => ⟨S40448x4096, .f32⟩
  | _, _ => ⟨S79, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_c_3 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_call2_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_call3_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_call4_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_call5_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_call6_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_call7_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_call8_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_11 : Ref sig .tc := ⟨.hbm, 99, rfl⟩
abbrev main_v71 : Ref sig .tc := ⟨.hbm, 100, rfl⟩
abbrev main_v72 : Ref sig .tc := ⟨.hbm, 101, rfl⟩
abbrev main_call9_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_12 : Ref sig .tc := ⟨.hbm, 106, rfl⟩
abbrev main_call10_v0 : Ref sig .tc := ⟨.hbm, 107, rfl⟩
abbrev main_call10_v1 : Ref sig .tc := ⟨.hbm, 108, rfl⟩
abbrev main_call10_v2 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== Kernel4.lean ====
abbrev S2x8192x4096 : Shape := ⟨3, ![2, 8192, 4096]⟩
abbrev S32x64x4096 : Shape := ⟨3, ![32, 64, 4096]⟩
abbrev S4096x12316 : Shape := ⟨2, ![4096, 12316]⟩
abbrev S16384x4096 : Shape := ⟨2, ![16384, 4096]⟩
abbrev S2048x4096 : Shape := ⟨2, ![2048, 4096]⟩
abbrev S18432x4096 : Shape := ⟨2, ![18432, 4096]⟩
abbrev S12316x4096 : Shape := ⟨2, ![12316, 4096]⟩
abbrev S1536x4096 : Shape := ⟨2, ![1536, 4096]⟩
abbrev S12x4096 : Shape := ⟨2, ![12, 4096]⟩
abbrev S1024x4096 : Shape := ⟨2, ![1024, 4096]⟩
abbrev S768x4096 : Shape := ⟨2, ![768, 4096]⟩
abbrev S16x4096 : Shape := ⟨2, ![16, 4096]⟩
abbrev S12288x4096 : Shape := ⟨2, ![12288, 4096]⟩
abbrev S_ : Shape := ⟨0, ![]⟩
abbrev S4x4096 : Shape := ⟨2, ![4, 4096]⟩
abbrev S112x4096 : Shape := ⟨2, ![112, 4096]⟩
abbrev S128x4096 : Shape := ⟨2, ![128, 4096]⟩
abbrev S18 : Shape := ⟨1, ![18]⟩
abbrev S1x12288x4096 : Shape := ⟨3, ![1, 12288, 4096]⟩
abbrev S18432x5120 : Shape := ⟨2, ![18432, 5120]⟩
abbrev S1x1024x4096 : Shape := ⟨3, ![1, 1024, 4096]⟩
abbrev S1 : Shape := ⟨1, ![1]⟩
abbrev S1024x1024 : Shape := ⟨2, ![1024, 1024]⟩
abbrev S512x4096 : Shape := ⟨2, ![512, 4096]⟩
abbrev S512x1024 : Shape := ⟨2, ![512, 1024]⟩

abbrev nBuf : Space → Nat
  | .hbm => 35
  | .vmem => 8
  | .smem => 2
  | _ => 0

abbrev bufTy : (tb : Table) → Fin (tcTables nBuf tb) → BufTy
  | .hbm, ⟨0, _⟩ => ⟨S2x8192x4096, .f32⟩
  | .hbm, ⟨1, _⟩ => ⟨S32x64x4096, .f32⟩
  | .hbm, ⟨2, _⟩ => ⟨S4096x12316, .f32⟩
  | .hbm, ⟨3, _⟩ => ⟨S16384x4096, .f32⟩
  | .hbm, ⟨4, _⟩ => ⟨S2048x4096, .f32⟩
  | .hbm, ⟨5, _⟩ => ⟨S18432x4096, .f32⟩
  | .hbm, ⟨6, _⟩ => ⟨S18432x4096, .bf16⟩
  | .hbm, ⟨7, _⟩ => ⟨S12316x4096, .f32⟩
  | .hbm, ⟨8, _⟩ => ⟨S1536x4096, .f32⟩
  | .hbm, ⟨9, _⟩ => ⟨S1536x4096, .f32⟩
  | .hbm, ⟨10, _⟩ => ⟨S1536x4096, .f32⟩
  | .hbm, ⟨11, _⟩ => ⟨S12x4096, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S768x4096, .f32⟩
  | .hbm, ⟨16, _⟩ => ⟨S768x4096, .f32⟩
  | .hbm, ⟨17, _⟩ => ⟨S1536x4096, .f32⟩
  | .hbm, ⟨18, _⟩ => ⟨S1536x4096, .f32⟩
  | .hbm, ⟨19, _⟩ => ⟨S16x4096, .f32⟩
  | .hbm, ⟨20, _⟩ => ⟨S12288x4096, .f32⟩
  | .hbm, ⟨21, _⟩ => ⟨S12288x4096, .bf16⟩
  | .hbm, ⟨22, _⟩ => ⟨S_, .f32⟩
  | .hbm, ⟨23, _⟩ => ⟨S4x4096, .f32⟩
  | .hbm, ⟨24, _⟩ => ⟨S16x4096, .f32⟩
  | .hbm, ⟨25, _⟩ => ⟨S16x4096, .bf16⟩
  | .hbm, ⟨26, _⟩ => ⟨S_, .f32⟩
  | .hbm, ⟨27, _⟩ => ⟨S112x4096, .f32⟩
  | .hbm, ⟨28, _⟩ => ⟨S128x4096, .f32⟩
  | .hbm, ⟨29, _⟩ => ⟨S128x4096, .bf16⟩
  | .hbm, ⟨30, _⟩ => ⟨S_, .i32⟩
  | .hbm, ⟨31, _⟩ => ⟨S_, .i32⟩
  | .hbm, ⟨32, _⟩ => ⟨S1x12288x4096, .bf16⟩
  | .hbm, ⟨33, _⟩ => ⟨S18432x5120, .f32⟩
  | .hbm, ⟨34, _⟩ => ⟨S18432x5120, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .smem, ⟨0, _⟩ => ⟨S18, .i32⟩
  | .local _ .smem, ⟨1, _⟩ => ⟨S18, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_c_1 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v25 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 18], ![false, false]⟩

abbrev pre0 : Pipeline.Prefetch sig := ⟨2, ![main_v25.idx, main_v26.idx], fun | 0 => main_v25.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v1 : BitVec 32) : BitVec 1 :=
  let c512_i32 : BitVec 32 := 512#32
  let v2 : BitVec 1 := Scalar.cmpi .sgt v1 c512_i32
  let v3 : BitVec 32 := Scalar.extui v2
  let c0_i32 : BitVec 32 := 0#32
  let v4 : BitVec 1 := Scalar.cmpi .ne v3 c0_i32
  v4

def k0_cond2 (v1 : BitVec 32) : BitVec 1 :=
  let c0_i32_0 : BitVec 32 := 0#32
  let v5 : BitVec 1 := Scalar.cmpi .sgt v1 c0_i32_0
  let c512_i32_1 : BitVec 32 := 512#32
  let v6 : BitVec 1 := Scalar.cmpi .sle v1 c512_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (v1 : BitVec 32) : BitVec 1 :=
  let c0_i32_3 : BitVec 32 := 0#32
  let v10 : BitVec 1 := Scalar.cmpi .eq v1 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S18.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S18) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x8192x4096 : Shape := ⟨3, ![2, 8192, 4096]⟩
abbrev S32x64x4096 : Shape := ⟨3, ![32, 64, 4096]⟩
abbrev S4096x12316 : Shape := ⟨2, ![4096, 12316]⟩
abbrev S16384x4096 : Shape := ⟨2, ![16384, 4096]⟩
abbrev S2048x4096 : Shape := ⟨2, ![2048, 4096]⟩
abbrev S18432x4096 : Shape := ⟨2, ![18432, 4096]⟩
abbrev S18432x12316 : Shape := ⟨2, ![18432, 12316]⟩
abbrev S18432x1536 : Shape := ⟨2, ![18432, 1536]⟩
abbrev S18432x12 : Shape := ⟨2, ![18432, 12]⟩
abbrev S18432x1024 : Shape := ⟨2, ![18432, 1024]⟩
abbrev S18432x4624 : Shape := ⟨2, ![18432, 4624]⟩
abbrev S18432x5120 : Shape := ⟨2, ![18432, 5120]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S32x64x4096, .f32⟩
  | .hbm, ⟨2, _⟩ => ⟨S4096x12316, .f32⟩
  | .hbm, ⟨3, _⟩ => ⟨S16384x4096, .f32⟩
  | .hbm, ⟨4, _⟩ => ⟨S2048x4096, .f32⟩
  | .hbm, ⟨5, _⟩ => ⟨S18432x4096, .f32⟩
  | .hbm, ⟨6, _⟩ => ⟨S18432x12316, .f32⟩
  | .hbm, ⟨7, _⟩ => ⟨S18432x1536, .f32⟩
  | .hbm, ⟨8, _⟩ => ⟨S18432x1536, .f32⟩
  | .hbm, ⟨9, _⟩ => ⟨S18432x1536, .f32⟩
  | .hbm, ⟨10, _⟩ => ⟨S18432x12, .f32⟩
  | .hbm, ⟨11, _⟩ => ⟨S18432x1024, .f32⟩
  | .hbm, ⟨12, _⟩ => ⟨S18432x1024, .f32⟩
  | .hbm, ⟨13, _⟩ => ⟨S18432x1024, .f32⟩
  | .hbm, ⟨14, _⟩ => ⟨S18432x4624, .f32⟩
  | .hbm, ⟨15, _⟩ => ⟨S18432x5120, .f32⟩
  | .hbm, ⟨16, _⟩ => ⟨S18432x5120, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S2x8192x4096 : Shape := ⟨3, ![2, 8192, 4096]⟩
abbrev S32x64x4096 : Shape := ⟨3, ![32, 64, 4096]⟩
abbrev S4096x12316 : Shape := ⟨2, ![4096, 12316]⟩
abbrev S16384x4096 : Shape := ⟨2, ![16384, 4096]⟩
abbrev S2048x4096 : Shape := ⟨2, ![2048, 4096]⟩
abbrev S18432x4096 : Shape := ⟨2, ![18432, 4096]⟩
abbrev S12316x4096 : Shape := ⟨2, ![12316, 4096]⟩
abbrev S1536x4096 : Shape := ⟨2, ![1536, 4096]⟩
abbrev S12x4096 : Shape := ⟨2, ![12, 4096]⟩
abbrev S1024x4096 : Shape := ⟨2, ![1024, 4096]⟩
abbrev S768x4096 : Shape := ⟨2, ![768, 4096]⟩
abbrev S16x4096 : Shape := ⟨2, ![16, 4096]⟩
abbrev S12288x4096 : Shape := ⟨2, ![12288, 4096]⟩
abbrev S_ : Shape := ⟨0, ![]⟩
abbrev S4x4096 : Shape := ⟨2, ![4, 4096]⟩
abbrev S112x4096 : Shape := ⟨2, ![112, 4096]⟩
abbrev S128x4096 : Shape := ⟨2, ![128, 4096]⟩
abbrev S18 : Shape := ⟨1, ![18]⟩
abbrev S1x12288x4096 : Shape := ⟨3, ![1, 12288, 4096]⟩
abbrev S18432x7168 : Shape := ⟨2, ![18432, 7168]⟩
abbrev S1x1024x4096 : Shape := ⟨3, ![1, 1024, 4096]⟩
abbrev S1 : Shape := ⟨1, ![1]⟩
abbrev S1024x1024 : Shape := ⟨2, ![1024, 1024]⟩
abbrev S512x4096 : Shape := ⟨2, ![512, 4096]⟩
abbrev S512x1024 : Shape := ⟨2, ![512, 1024]⟩

abbrev nBuf : Space → Nat
  | .hbm => 34
  | .vmem => 6
  | .smem => 2
  | _ => 0

abbrev bufTy : (tb : Table) → Fin (tcTables nBuf tb) → BufTy
  | .hbm, ⟨0, _⟩ => ⟨S2x8192x4096, .f32⟩
  | .hbm, ⟨1, _⟩ => ⟨S32x64x4096, .f32⟩
  | .hbm, ⟨2, _⟩ => ⟨S4096x12316, .f32⟩
  | .hbm, ⟨3, _⟩ => ⟨S16384x4096, .f32⟩
  | .hbm, ⟨4, _⟩ => ⟨S2048x4096, .f32⟩
  | .hbm, ⟨5, _⟩ => ⟨S18432x4096, .f32⟩
  | .hbm, ⟨6, _⟩ => ⟨S18432x4096, .bf16⟩
  | .hbm, ⟨7, _⟩ => ⟨S12316x4096, .f32⟩
  | .hbm, ⟨8, _⟩ => ⟨S1536x4096, .f32⟩
  | .hbm, ⟨9, _⟩ => ⟨S1536x4096, .f32⟩
  | .hbm, ⟨10, _⟩ => ⟨S1536x4096, .f32⟩
  | .hbm, ⟨11, _⟩ => ⟨S12x4096, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S768x4096, .f32⟩
  | .hbm, ⟨16, _⟩ => ⟨S768x4096, .f32⟩
  | .hbm, ⟨17, _⟩ => ⟨S1536x4096, .f32⟩
  | .hbm, ⟨18, _⟩ => ⟨S1536x4096, .f32⟩
  | .hbm, ⟨19, _⟩ => ⟨S16x4096, .f32⟩
  | .hbm, ⟨20, _⟩ => ⟨S12288x4096, .f32⟩
  | .hbm, ⟨21, _⟩ => ⟨S12288x4096, .bf16⟩
  | .hbm, ⟨22, _⟩ => ⟨S_, .f32⟩
  | .hbm, ⟨23, _⟩ => ⟨S4x4096, .f32⟩
  | .hbm, ⟨24, _⟩ => ⟨S16x4096, .f32⟩
  | .hbm, ⟨25, _⟩ => ⟨S16x4096, .bf16⟩
  | .hbm, ⟨26, _⟩ => ⟨S_, .f32⟩
  | .hbm, ⟨27, _⟩ => ⟨S112x4096, .f32⟩
  | .hbm, ⟨28, _⟩ => ⟨S128x4096, .f32⟩
  | .hbm, ⟨29, _⟩ => ⟨S128x4096, .bf16⟩
  | .hbm, ⟨30, _⟩ => ⟨S_, .i32⟩
  | .hbm, ⟨31, _⟩ => ⟨S_, .i32⟩
  | .hbm, ⟨32, _⟩ => ⟨S1x12288x4096, .bf16⟩
  | .hbm, ⟨33, _⟩ => ⟨S18432x7168, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .bf16⟩
  | .local _ .vmem, ⟨5, _⟩ => ⟨S1024x1024, .bf16⟩
  | .local _ .smem, ⟨0, _⟩ => ⟨S18, .i32⟩
  | .local _ .smem, ⟨1, _⟩ => ⟨S18, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_c_1 : Ref sig .tc := ⟨.hbm, 31, rfl⟩
abbrev main_v27 : Ref sig .tc := ⟨.hbm, 32, rfl⟩
abbrev main_v28 : Ref sig .tc := ⟨.hbm, 33, rfl⟩
abbrev main_v25 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 18], ![false, false]⟩

abbrev pre0 : Pipeline.Prefetch sig := ⟨2, ![main_v25.idx, main_v26.idx], fun | 0 => main_v25.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v1 : BitVec 32) : BitVec 1 :=
  let c512_i32 : BitVec 32 := 512#32
  let v2 : BitVec 1 := Scalar.cmpi .sgt v1 c512_i32
  let v3 : BitVec 32 := Scalar.extui v2
  let c0_i32 : BitVec 32 := 0#32
  let v4 : BitVec 1 := Scalar.cmpi .ne v3 c0_i32
  v4

def k0_cond2 (v1 : BitVec 32) : BitVec 1 :=
  let c0_i32_0 : BitVec 32 := 0#32
  let v5 : BitVec 1 := Scalar.cmpi .sgt v1 c0_i32_0
  let c512_i32_1 : BitVec 32 := 512#32
  let v6 : BitVec 1 := Scalar.cmpi .sle v1 c512_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (v1 : BitVec 32) : BitVec 1 :=
  let c0_i32_3 : BitVec 32 := 0#32
  let v10 : BitVec 1 := Scalar.cmpi .eq v1 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S18.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S18) ![v0.toNat] S1.size (k0_off1_inb i)) numel1_S1
  let c5_i32 : BitVec 32 := 5#32
  let v2 : BitVec 32 := Scalar.addi arg0 c5_i32
  let c0_i32 : BitVec 32 := 0#32
  let c0_i32_0 : BitVec 32 := 0#32
  ![v1.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x8192x4096 : Shape := ⟨3, ![2, 8192, 4096]⟩
abbrev S32x64x4096 : Shape := ⟨3, ![32, 64, 4096]⟩
abbrev S4096x12316 : Shape := ⟨2, ![4096, 12316]⟩
abbrev S16384x4096 : Shape := ⟨2, ![16384, 4096]⟩
abbrev S2048x4096 : Shape := ⟨2, ![2048, 4096]⟩
abbrev S18432x4096 : Shape := ⟨2, ![18432, 4096]⟩
abbrev S18432x12316 : Shape := ⟨2, ![18432, 12316]⟩
abbrev S18432x1536 : Shape := ⟨2, ![18432, 1536]⟩
abbrev S18432x12 : Shape := ⟨2, ![18432, 12]⟩
abbrev S18432x1024 : Shape := ⟨2, ![18432, 1024]⟩
abbrev S18432x4608 : Shape := ⟨2, ![18432, 4608]⟩
abbrev S18432x16 : Shape := ⟨2, ![18432, 16]⟩
abbrev S18432x7168 : Shape := ⟨2, ![18432, 7168]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S32x64x4096, .f32⟩
  | .hbm, ⟨2, _⟩ => ⟨S4096x12316, .f32⟩
  | .hbm, ⟨3, _⟩ => ⟨S16384x4096, .f32⟩
  | .hbm, ⟨4, _⟩ => ⟨S2048x4096, .f32⟩
  | .hbm, ⟨5, _⟩ => ⟨S18432x4096, .f32⟩
  | .hbm, ⟨6, _⟩ => ⟨S18432x12316, .f32⟩
  | .hbm, ⟨7, _⟩ => ⟨S18432x1536, .f32⟩
  | .hbm, ⟨8, _⟩ => ⟨S18432x1536, .f32⟩
  | .hbm, ⟨9, _⟩ => ⟨S18432x1536, .f32⟩
  | .hbm, ⟨10, _⟩ => ⟨S18432x12, .f32⟩
  | .hbm, ⟨11, _⟩ => ⟨S18432x1024, .f32⟩
  | .hbm, ⟨12, _⟩ => ⟨S18432x1024, .f32⟩
  | .hbm, ⟨13, _⟩ => ⟨S18432x1024, .f32⟩
  | .hbm, ⟨14, _⟩ => ⟨S18432x4608, .f32⟩
  | .hbm, ⟨15, _⟩ => ⟨S18432x16, .f32⟩
  | .hbm, ⟨16, _⟩ => ⟨S18432x7168, .f32⟩
  | .hbm, ⟨17, _⟩ => ⟨S18432x7168, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel6.lean ====
abbrev S2x8192x4096 : Shape := ⟨3, ![2, 8192, 4096]⟩
abbrev S32x64x4096 : Shape := ⟨3, ![32, 64, 4096]⟩
abbrev S4096x12316 : Shape := ⟨2, ![4096, 12316]⟩
abbrev S12 : Shape := ⟨1, ![12]⟩
abbrev S16384x4096 : Shape := ⟨2, ![16384, 4096]⟩
abbrev S2048x4096 : Shape := ⟨2, ![2048, 4096]⟩
abbrev S18432x4096 : Shape := ⟨2, ![18432, 4096]⟩
abbrev S12316x4096 : Shape := ⟨2, ![12316, 4096]⟩
abbrev S1536x4096 : Shape := ⟨2, ![1536, 4096]⟩
abbrev S12x4096 : Shape := ⟨2, ![12, 4096]⟩
abbrev S1024x4096 : Shape := ⟨2, ![1024, 4096]⟩
abbrev S768x4096 : Shape := ⟨2, ![768, 4096]⟩
abbrev S16x4096 : Shape := ⟨2, ![16, 4096]⟩
abbrev S12288x4096 : Shape := ⟨2, ![12288, 4096]⟩
abbrev S_ : Shape := ⟨0, ![]⟩
abbrev S4x4096 : Shape := ⟨2, ![4, 4096]⟩
abbrev S112x4096 : Shape := ⟨2, ![112, 4096]⟩
abbrev S128x4096 : Shape := ⟨2, ![128, 4096]⟩
abbrev S16x1 : Shape := ⟨2, ![16, 1]⟩
abbrev S1 : Shape := ⟨1, ![1]⟩
abbrev S2 : Shape := ⟨1, ![2]⟩
abbrev S16x18432 : Shape := ⟨2, ![16, 18432]⟩
abbrev S512x4096 : Shape := ⟨2, ![512, 4096]⟩
abbrev S16x512 : Shape := ⟨2, ![16, 512]⟩
abbrev S12x2048 : Shape := ⟨2, ![12, 2048]⟩
abbrev S12x32x64 : Shape := ⟨3, ![12, 32, 64]⟩
abbrev S32x12x64 : Shape := ⟨3, ![32, 12, 64]⟩
abbrev S12x16384 : Shape := ⟨2, ![12, 16384]⟩
abbrev S12x2x8192 : Shape := ⟨3, ![12, 2, 8192]⟩
abbrev S2x8192x12 : Shape := ⟨3, ![2, 8192, 12]⟩
abbrev S32x64x12 : Shape := ⟨3, ![32, 64, 12]⟩

abbrev nBuf : Space → Nat
  | .hbm => 47
  | .vmem => 6
  | .smem => 0
  | _ => 0

abbrev bufTy : (tb : Table) → Fin (tcTables nBuf tb) → BufTy
  | .hbm, ⟨0, _⟩ => ⟨S2x8192x4096, .f32⟩
  | .hbm, ⟨1, _⟩ => ⟨S32x64x4096, .f32⟩
  | .hbm, ⟨2, _⟩ => ⟨S4096x12316, .f32⟩
  | .hbm, ⟨3, _⟩ => ⟨S12, .f32⟩
  | .hbm, ⟨4, _⟩ => ⟨S16384x4096, .f32⟩
  | .hbm, ⟨5, _⟩ => ⟨S2048x4096, .f32⟩
  | .hbm, ⟨6, _⟩ => ⟨S18432x4096, .f32⟩
  | .hbm, ⟨7, _⟩ => ⟨S18432x4096, .bf16⟩
  | .hbm, ⟨8, _⟩ => ⟨S12316x4096, .f32⟩
  | .hbm, ⟨9, _⟩ => ⟨S1536x4096, .f32⟩
  | .hbm, ⟨10, _⟩ => ⟨S1536x4096, .f32⟩
  | .hbm, ⟨11, _⟩ => ⟨S1536x4096, .f32⟩
  | .hbm, ⟨12, _⟩ => ⟨S12x4096, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S768x4096, .f32⟩
  | .hbm, ⟨17, _⟩ => ⟨S768x4096, .f32⟩
  | .hbm, ⟨18, _⟩ => ⟨S1536x4096, .f32⟩
  | .hbm, ⟨19, _⟩ => ⟨S1536x4096, .f32⟩
  | .hbm, ⟨20, _⟩ => ⟨S16x4096, .f32⟩
  | .hbm, ⟨21, _⟩ => ⟨S12288x4096, .f32⟩
  | .hbm, ⟨22, _⟩ => ⟨S12288x4096, .bf16⟩
  | .hbm, ⟨23, _⟩ => ⟨S_, .f32⟩
  | .hbm, ⟨24, _⟩ => ⟨S4x4096, .f32⟩
  | .hbm, ⟨25, _⟩ => ⟨S16x4096, .f32⟩
  | .hbm, ⟨26, _⟩ => ⟨S16x4096, .bf16⟩
  | .hbm, ⟨27, _⟩ => ⟨S_, .f32⟩
  | .hbm, ⟨28, _⟩ => ⟨S112x4096, .f32⟩
  | .hbm, ⟨29, _⟩ => ⟨S128x4096, .f32⟩
  | .hbm, ⟨30, _⟩ => ⟨S128x4096, .bf16⟩
  | .hbm, ⟨31, _⟩ => ⟨S_, .f32⟩
  | .hbm, ⟨32, _⟩ => ⟨S16x1, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S16x1, .f32⟩
  | .hbm, ⟨39, _⟩ => ⟨S16x18432, .f32⟩
  | .hbm, ⟨40, _⟩ => ⟨S12x2048, .f32⟩
  | .hbm, ⟨41, _⟩ => ⟨S12x32x64, .f32⟩
  | .hbm, ⟨42, _⟩ => ⟨S32x12x64, .f32⟩
  | .hbm, ⟨43, _⟩ => ⟨S12x16384, .f32⟩
  | .hbm, ⟨44, _⟩ => ⟨S12x2x8192, .f32⟩
  | .hbm, ⟨45, _⟩ => ⟨S2x8192x12, .f32⟩
  | .hbm, ⟨46, _⟩ => ⟨S32x64x12, .f32⟩
  | .local _ .vmem, ⟨0, _⟩ => ⟨S16x4096, .bf16⟩
  | .local _ .vmem, ⟨1, _⟩ => ⟨S16x1, .f32⟩
  | .local _ .vmem, ⟨2, _⟩ => ⟨S512x4096, .bf16⟩
  | .local _ .vmem, ⟨3, _⟩ => ⟨S512x4096, .bf16⟩
  | .local _ .vmem, ⟨4, _⟩ => ⟨S16x512, .f32⟩
  | .local _ .vmem, ⟨5, _⟩ => ⟨S16x512, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x8192x4096 : Shape := ⟨3, ![2, 8192, 4096]⟩
abbrev S32x64x4096 : Shape := ⟨3, ![32, 64, 4096]⟩
abbrev S4096x12316 : Shape := ⟨2, ![4096, 12316]⟩
abbrev S12 : Shape := ⟨1, ![12]⟩
abbrev S2x8192x12316 : Shape := ⟨3, ![2, 8192, 12316]⟩
abbrev S2x8192x4608 : Shape := ⟨3, ![2, 8192, 4608]⟩
abbrev S2x8192x12 : Shape := ⟨3, ![2, 8192, 12]⟩
abbrev S2x8192x7696 : Shape := ⟨3, ![2, 8192, 7696]⟩
abbrev S1x1x12 : Shape := ⟨3, ![1, 1, 12]⟩
abbrev S_ : Shape := ⟨0, ![]⟩
abbrev S32x64x12316 : Shape := ⟨3, ![32, 64, 12316]⟩
abbrev S32x64x4608 : Shape := ⟨3, ![32, 64, 4608]⟩
abbrev S32x64x12 : Shape := ⟨3, ![32, 64, 12]⟩
abbrev S32x64x7696 : Shape := ⟨3, ![32, 64, 7696]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S32x64x4096, .f32⟩
  | .hbm, ⟨2, _⟩ => ⟨S4096x12316, .f32⟩
  | .hbm, ⟨3, _⟩ => ⟨S12, .f32⟩
  | .hbm, ⟨4, _⟩ => ⟨S2x8192x12316, .f32⟩
  | .hbm, ⟨5, _⟩ => ⟨S2x8192x4608, .f32⟩
  | .hbm, ⟨6, _⟩ => ⟨S2x8192x12, .f32⟩
  | .hbm, ⟨7, _⟩ => ⟨S2x8192x7696, .f32⟩
  | .hbm, ⟨8, _⟩ => ⟨S1x1x12, .f32⟩
  | .hbm, ⟨9, _⟩ => ⟨S2x8192x12, .f32⟩
  | .hbm, ⟨10, _⟩ => ⟨S2x8192x12, .f32⟩
  | .hbm, ⟨11, _⟩ => ⟨S2x8192x12, .f32⟩
  | .hbm, ⟨12, _⟩ => ⟨S_, .f32⟩
  | .hbm, ⟨13, _⟩ => ⟨S2x8192x12, .f32⟩
  | .hbm, ⟨14, _⟩ => ⟨S2x8192x12, .f32⟩
  | .hbm, ⟨15, _⟩ => ⟨S2x8192x12, .f32⟩
  | .hbm, ⟨16, _⟩ => ⟨S2x8192x12, .f32⟩
  | .hbm, ⟨17, _⟩ => ⟨S2x8192x12, .i1⟩
  | .hbm, ⟨18, _⟩ => ⟨S2x8192x12, .f32⟩
  | .hbm, ⟨19, _⟩ => ⟨S2x8192x12, .f32⟩
  | .hbm, ⟨20, _⟩ => ⟨S2x8192x12, .f32⟩
  | .hbm, ⟨21, _⟩ => ⟨S2x8192x12, .f32⟩
  | .hbm, ⟨22, _⟩ => ⟨S2x8192x12, .f32⟩
  | .hbm, ⟨23, _⟩ => ⟨S2x8192x12, .f32⟩
  | .hbm, ⟨24, _⟩ => ⟨S2x8192x12, .f32⟩
  | .hbm, ⟨25, _⟩ => ⟨S2x8192x12, .f32⟩
  | .hbm, ⟨26, _⟩ => ⟨S2x8192x12, .f32⟩
  | .hbm, ⟨27, _⟩ => ⟨S32x64x12316, .f32⟩
  | .hbm, ⟨28, _⟩ => ⟨S32x64x4608, .f32⟩
  | .hbm, ⟨29, _⟩ => ⟨S32x64x12, .f32⟩
  | .hbm, ⟨30, _⟩ => ⟨S32x64x7696, .f32⟩
  | .hbm, ⟨31, _⟩ => ⟨S1x1x12, .f32⟩
  | .hbm, ⟨32, _⟩ => ⟨S32x64x12, .f32⟩
  | .hbm, ⟨33, _⟩ => ⟨S32x64x12, .f32⟩
  | .hbm, ⟨34, _⟩ => ⟨S32x64x12, .f32⟩
  | .hbm, ⟨35, _⟩ => ⟨S_, .f32⟩
  | .hbm, ⟨36, _⟩ => ⟨S32x64x12, .f32⟩
  | .hbm, ⟨37, _⟩ => ⟨S32x64x12, .f32⟩
  | .hbm, ⟨38, _⟩ => ⟨S32x64x12, .f32⟩
  | .hbm, ⟨39, _⟩ => ⟨S32x64x12, .f32⟩
  | .hbm, ⟨40, _⟩ => ⟨S32x64x12, .i1⟩
  | .hbm, ⟨41, _⟩ => ⟨S32x64x12, .f32⟩
  | .hbm, ⟨42, _⟩ => ⟨S32x64x12, .f32⟩
  | .hbm, ⟨43, _⟩ => ⟨S32x64x12, .f32⟩
  | .hbm, ⟨44, _⟩ => ⟨S32x64x12, .f32⟩
  | .hbm, ⟨45, _⟩ => ⟨S32x64x12, .f32⟩
  | .hbm, ⟨46, _⟩ => ⟨S32x64x12, .f32⟩
  | .hbm, ⟨47, _⟩ => ⟨S32x64x12, .f32⟩
  | .hbm, ⟨48, _⟩ => ⟨S32x64x12, .f32⟩
  | .hbm, ⟨49, _⟩ => ⟨S32x64x12, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v15 : Ref sig .tc := ⟨.hbm, 49, rfl⟩

abbrev nD : Nat := 1
abbrev τ : Topo := Topo.v7x

variable {F : FTy → Type} [FloatOps F]
-- ==== Proof.Heads.lean ====
module

public import proofs.«01_k».proof.Proof.Gen.KernelIdeal.Value
public import Idealize.ShloMosaic.Lib.Pipeline.ValueKit.Tiles

@[expose] public section

set_option maxRecDepth 16384

noncomputable section

/-! # The attention kernel, one head at a time

The kernel's body works on four heads at once and carries twelve vectors through its loop. Here the body is taken apart
by head: one head's state is its running maximum, its running sum and its running weighted sum, and one block of 512
keys changes it by `step`. -/

namespace Heads
open Cert.KernelIdeal Cert.KernelIdeal.Gen Idealize.ShloMosaic Idealize.ShloMosaic.TcCoe Idealize.SL.Sem
variable {F : FTy → Type} [FloatOps F] [Named F]

/-- One head's running maximum, running sum and running weighted sum of values. -/
abbrev St (F : FTy → Type) : Type := FVec F S512x1 .f32 × FVec F S512x1 .f32 × FVec F S512x128 .f32

/-- The four heads' states, as the loop carries them. -/
abbrev St4 (F : FTy → Type) : Type := FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32

/-- A head's three vectors among the twelve. -/
def head (h : Fin 4) (x : St4 F) : St F := match h with
  | 0 => (x.1, x.2.1, x.2.2.1)
  | 1 => (x.2.2.2.1, x.2.2.2.2.1, x.2.2.2.2.2.1)
  | 2 => (x.2.2.2.2.2.2.1, x.2.2.2.2.2.2.2.1, x.2.2.2.2.2.2.2.2.1)
  | 3 => (x.2.2.2.2.2.2.2.2.2.1, x.2.2.2.2.2.2.2.2.2.2.1, x.2.2.2.2.2.2.2.2.2.2.2)

/-- The new running maximum after a block of scores `s`. -/
def mN (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)

/-- The factor that moves the old sums to the new maximum. -/
def aN (s : FVec F S512x512 .f32) (m : FVec F S512x1 .f32) : FVec F S512x1 .f32 := exp2 (subf m (mN s m))

/-- The block's weights against the new maximum. -/
def pN (s : FVec F S512x512 .f32) (m : FVec F S512x1 .f32) : FVec F S512x512 .f32 :=
  exp2 (subf s (broadcastTo S512x512 (mN s m) broadcasts_S512x1_S512x512))

/-- One block's change of one head's state. -/
def step (s : FVec F S512x512 .f32) (v : Vec F S512x128 .bf16) (x : St F) : St F :=
  (mN s x.1,
   addf (mulf (aN s x.1) x.2.1) (shapeCast S512x1 (multiReduction .add [1] S512 (pN s x.1) 0x00000000#32 reduces_S512x512_S512 (.inl rfl) rfl) shapeCasts_S512_S512x1),
   addf (mulf (broadcastTo S512x128 (aN s x.1) broadcasts_S512x1_S512x128) x.2.2)
     (matmul dot_S512x512_S512x128_S512x128_1_0_0_1_n_n none (truncf .bf16 (pN s x.1) bitsLt_bf16_f32) v (constant S512x128 .f32 0x00000000#32)))

/-- The state before any key: maximum the seed, both sums zero. -/
def start : St F := (k0_pay39, k0_pay40, k0_pay41)

/-- The head's output: its weighted sum over its sum. -/
def quot (x : St F) : Vec F S512x128 .bf16 :=
  truncf .bf16 (divf x.2.2 (broadcastTo S512x128 x.2.1 broadcasts_S512x1_S512x128)) bitsLt_bf16_f32

/-- Rows `b … b+511` of head `h` of a block of keys or values. -/
def rows (x : Vec F S8192x512 .bf16) (b h : ℕ) : Vec F S512x128 .bf16 :=
  fun j => x fun a => match a with
    | ⟨0, _⟩ => ⟨(b + (j 0).val) % 8192, Nat.mod_lt _ (by norm_num)⟩
    | ⟨1, _⟩ => ⟨(128 * h + (j 1).val) % 512, Nat.mod_lt _ (by norm_num)⟩

/-- Positions `b … b+511` of head `h` of the cumulative log-forgets. -/
def crow (x : Vec F S1x4x8192 .f32) (h b : ℕ) : Vec F S1x1x512 .f32 :=
  fun j => x fun a => match a with
    | ⟨0, _⟩ => ⟨0, Nat.one_pos⟩
    | ⟨1, _⟩ => ⟨h % 4, Nat.mod_lt _ (by norm_num)⟩
    | ⟨2, _⟩ => ⟨(b + (j 2).val) % 8192, Nat.mod_lt _ (by norm_num)⟩

/-- Positions `b … b+127` of head `h` of the cumulative log-forgets. -/
def cfst (x : Vec F S1x4x8192 .f32) (h b : ℕ) : Vec F S1x1x128 .f32 :=
  fun j => x fun a => match a with
    | ⟨0, _⟩ => ⟨0, Nat.one_pos⟩
    | ⟨1, _⟩ => ⟨h % 4, Nat.mod_lt _ (by norm_num)⟩
    | ⟨2, _⟩ => ⟨(b + (j 2).val) % 8192, Nat.mod_lt _ (by norm_num)⟩

/-- Head `h`'s columns of the block of queries. -/
def qcol (x : Vec F S512x512 .bf16) (h : ℕ) : Vec F S512x128 .bf16 :=
  fun j => x fun a => match a with
    | ⟨0, _⟩ => ⟨(j 0).val, (j 0).isLt⟩
    | ⟨1, _⟩ => ⟨(128 * h + (j 1).val) % 512, Nat.mod_lt _ (by norm_num)⟩

theorem rows_ld (x : Vec F S8192x512 .bf16) (b h : ℕ) {off : Fin 2 → ℕ} (h0 : off 0 = b) (h1 : off 1 = 128 * h)
    (inb : ∀ a, off a + S512x128.size a ≤ S8192x512.size a) :
    View.ld (Val := Elt F) (e' := .bf16) x (Rect.unit (s := S8192x512) off S512x128.size inb) = rows x b h := by
  funext j
  refine View.ld_unit_apply_of x off _ inb j _ fun a => ?_
  have i0 : off 0 + 512 ≤ 8192 := inb 0
  have i1 : off 1 + 128 ≤ 512 := inb 1
  have j0 : (j 0).val < 512 := (j 0).isLt
  have j1 : (j 1).val < 128 := (j 1).isLt
  match a with
  | ⟨0, _⟩ => show (b + (j 0).val) % 8192 = off 0 + (j 0).val; rw [h0]; exact Nat.mod_eq_of_lt (by omega)
  | ⟨1, _⟩ => show (128 * h + (j 1).val) % 512 = off 1 + (j 1).val; rw [h1]; exact Nat.mod_eq_of_lt (by omega)

theorem crow_ld (x : Vec F S1x4x8192 .f32) (h b : ℕ) {off : Fin 3 → ℕ} (h0 : off 0 = 0) (h1 : off 1 = h) (h2 : off 2 = b)
    (inb : ∀ a, off a + S1x1x512.size a ≤ S1x4x8192.size a) :
    View.ld (Val := Elt F) (e' := .f32) x (Rect.unit (s := S1x4x8192) off S1x1x512.size inb) = crow x h b := by
  funext j
  refine View.ld_unit_apply_of x off _ inb j _ fun a => ?_
  have i1 : off 1 + 1 ≤ 4 := inb 1
  have i2 : off 2 + 512 ≤ 8192 := inb 2
  have j0 : (j 0).val < 1 := (j 0).isLt
  have j1 : (j 1).val < 1 := (j 1).isLt
  have j2 : (j 2).val < 512 := (j 2).isLt
  match a with
  | ⟨0, _⟩ => show 0 = off 0 + (j 0).val; omega
  | ⟨1, _⟩ => show h % 4 = off 1 + (j 1).val; rw [h1] at i1 ⊢; rw [Nat.mod_eq_of_lt (by omega)]; omega
  | ⟨2, _⟩ => show (b + (j 2).val) % 8192 = off 2 + (j 2).val; rw [h2]; exact Nat.mod_eq_of_lt (by omega)

theorem cfst_ld (x : Vec F S1x4x8192 .f32) (h b : ℕ) {off : Fin 3 → ℕ} (h0 : off 0 = 0) (h1 : off 1 = h) (h2 : off 2 = b)
    (inb : ∀ a, off a + S1x1x128.size a ≤ S1x4x8192.size a) :
    View.ld (Val := Elt F) (e' := .f32) x (Rect.unit (s := S1x4x8192) off S1x1x128.size inb) = cfst x h b := by
  funext j
  refine View.ld_unit_apply_of x off _ inb j _ fun a => ?_
  have i1 : off 1 + 1 ≤ 4 := inb 1
  have i2 : off 2 + 128 ≤ 8192 := inb 2
  have j0 : (j 0).val < 1 := (j 0).isLt
  have j1 : (j 1).val < 1 := (j 1).isLt
  have j2 : (j 2).val < 128 := (j 2).isLt
  match a with
  | ⟨0, _⟩ => show 0 = off 0 + (j 0).val; omega
  | ⟨1, _⟩ => show h % 4 = off 1 + (j 1).val; rw [h1] at i1 ⊢; rw [Nat.mod_eq_of_lt (by omega)]; omega
  | ⟨2, _⟩ => show (b + (j 2).val) % 8192 = off 2 + (j 2).val; rw [h2]; exact Nat.mod_eq_of_lt (by omega)

theorem qcol_ld (x : Vec F S512x512 .bf16) (h : ℕ) {off : Fin 2 → ℕ} (h0 : off 0 = 0) (h1 : off 1 = 128 * h)
    (inb : ∀ a, off a + S512x128.size a ≤ S512x512.size a) :
    View.ld (Val := Elt F) (e' := .bf16) x (Rect.unit (s := S512x512) off S512x128.size inb) = qcol x h := by
  funext j
  refine View.ld_unit_apply_of x off _ inb j _ fun a => ?_
  have i1 : off 1 + 128 ≤ 512 := inb 1
  have j1 : (j 1).val < 128 := (j 1).isLt
  match a with
  | ⟨0, _⟩ => show (j 0).val = off 0 + (j 0).val; omega
  | ⟨1, _⟩ => show (128 * h + (j 1).val) % 512 = off 1 + (j 1).val; rw [h1]; exact Nat.mod_eq_of_lt (by omega)

/-! ## The loops' bounds and the offsets of a trip -/

theorem trips1 (i : grid0.Coords) : (k0_t1_loop i).trips = (i 2).val :=
  (by decide +kernel : ∀ n : Fin 16, Scf.Loop.trips (⟨0#32, Scalar.addi 0#32 (Scalar.muli (Scalar.divsi (Scalar.subi (BitVec.ofNat 32 n.val) 0#32) 1#32) 1#32), 1#32⟩ : Scf.Loop 32) = n.val) ⟨(i 2).val, (i 2).isLt⟩

theorem trips2 (i : grid0.Coords) : (k0_t2_loop i).trips = 0 :=
  (by decide +kernel : ∀ n : Fin 16, Scf.Loop.trips (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32) = 0) ⟨(i 2).val, (i 2).isLt⟩

theorem word_trip (k : ℕ) (hk : k < 16) : (Scalar.indexCast (Scalar.muli (Scf.iv 0#32 1#32 k) 512#32)).toNat = 512 * k :=
  (by decide +kernel : ∀ k : Fin 16, (Scalar.indexCast (Scalar.muli (Scf.iv 0#32 1#32 k.val) 512#32)).toNat = 512 * k.val) ⟨k, hk⟩

theorem word_diag (k : ℕ) (hk : k < 16) : (Scalar.indexCast (Scalar.muli (BitVec.ofNat 32 k) 512#32)).toNat = 512 * k :=
  (by decide +kernel : ∀ k : Fin 16, (Scalar.indexCast (Scalar.muli (BitVec.ofNat 32 k.val) 512#32)).toNat = 512 * k.val) ⟨k, hk⟩

theorem trip_lt (i : grid0.Coords) (k : Fin (k0_t1_loop i).trips) : k.val < 16 := by
  have h := k.isLt
  have h2 : (i 2).val < 16 := (i 2).isLt
  have := trips1 i
  omega

/-- The scores of trip `k` for head `h`. -/
def tripScore (Q : Fin 4 → Vec F S512x128 .bf16) (C : Fin 4 → FVec F S1x1 .f32) (x1 : Vec F S8192x512 .bf16) (x3 : Vec F S1x4x8192 .f32) (h : Fin 4) (k : ℕ) : FVec F S512x512 .f32 :=
  k0_pay1 (Q h) (C h) (rows x1 (512 * k) h.val) (crow x3 h.val (512 * k))

theorem trip_head (𝒱 : Variants) (c : Dev nD) (bd : Option 𝒱.V) (i : grid0.Coords) (arg3 : Memref sig .tc .hbm S18432x4096 .bf16) (harg3 : arg3.IsWhole) (arg4 : Memref sig .tc .vmem S512x512 .bf16) (harg4 : arg4.IsWhole) (arg5 : Memref sig .tc .vmem S8192x512 .bf16) (harg5 : arg5.IsWhole) (arg6 : Memref sig .tc .vmem S8192x512 .bf16) (harg6 : arg6.IsWhole) (arg7 : Memref sig .tc .vmem S1x4x8192 .f32) (harg7 : arg7.IsWhole) (arg8 : Memref sig .tc .vmem S512x512 .bf16) (harg8 : arg8.IsWhole) (arg2 : BitVec 32) (v1 : BitVec 32) (Q : Fin 4 → Vec F S512x128 .bf16) (C : Fin 4 → FVec F S1x1 .f32) (v22 : FVec F S512x1 .f32) (v23 : FVec F S512x1 .f32) (v24 : FVec F S512x128 .f32) (v25 : FVec F S512x1 .f32) (v26 : FVec F S512x1 .f32) (v27 : FVec F S512x128 .f32) (v28 : FVec F S512x1 .f32) (v29 : FVec F S512x1 .f32) (v30 : FVec F S512x128 .f32)
    (x1 : Vec F S8192x512 .bf16) (x2 : Vec F S8192x512 .bf16) (x3 : Vec F S1x4x8192 .f32) (k : Fin (k0_t1_loop i).trips) (acc : St4 F) (h : Fin 4) :
    head h (tripR_k0_t1 𝒱 c bd i arg3 harg3 arg4 harg4 arg5 harg5 arg6 harg6 arg7 harg7 arg8 harg8 arg2 v1 (Q 0) (Q 1) (Q 2) (Q 3) (C 0) (C 1) (C 2) (C 3) v22 v23 v24 v25 v26 v27 v28 v29 v30 (harg5.unread x1) (harg6.unread x2) (harg7.unread x3) k acc)
      = step (tripScore Q C x1 x3 h k.val) (rows x2 (512 * k.val) h.val) (head h acc) := by
  have hw := word_trip k.val (trip_lt i k)
  unfold tripR_k0_t1 trip_k0_t1
  dsimp only
  sl_unfold_run_names
  simp only [View.readAt_eq_ld, harg5.read_unread, harg6.read_unread, harg7.read_unread]
  rw [rows_ld x1 (512 * k.val) 0 (off := k0_off5 i k) hw rfl, rows_ld x2 (512 * k.val) 0 (off := k0_off5 i k) hw rfl, crow_ld x3 0 (512 * k.val) (off := k0_off6 i k) rfl rfl hw,
    rows_ld x1 (512 * k.val) 1 (off := k0_off7 i k) hw rfl, rows_ld x2 (512 * k.val) 1 (off := k0_off7 i k) hw rfl, crow_ld x3 1 (512 * k.val) (off := k0_off8 i k) rfl rfl hw,
    rows_ld x1 (512 * k.val) 2 (off := k0_off9 i k) hw rfl, rows_ld x2 (512 * k.val) 2 (off := k0_off9 i k) hw rfl, crow_ld x3 2 (512 * k.val) (off := k0_off10 i k) rfl rfl hw,
    rows_ld x1 (512 * k.val) 3 (off := k0_off11 i k) hw rfl, rows_ld x2 (512 * k.val) 3 (off := k0_off11 i k) hw rfl, crow_ld x3 3 (512 * k.val) (off := k0_off12 i k) rfl rfl hw]
  match h with
  | 0 => rfl
  | 1 => rfl
  | 2 => rfl
  | 3 => rfl

/-- A head's state after the first `n` blocks. -/
def iter (s : ℕ → FVec F S512x512 .f32) (v : ℕ → Vec F S512x128 .bf16) : ℕ → St F
  | 0 => start
  | n + 1 => step (s n) (v n) (iter s v n)

theorem st_head (𝒱 : Variants) (c : Dev nD) (bd : Option 𝒱.V) (i : grid0.Coords) (arg3 : Memref sig .tc .hbm S18432x4096 .bf16) (harg3 : arg3.IsWhole) (arg4 : Memref sig .tc .vmem S512x512 .bf16) (harg4 : arg4.IsWhole) (arg5 : Memref sig .tc .vmem S8192x512 .bf16) (harg5 : arg5.IsWhole) (arg6 : Memref sig .tc .vmem S8192x512 .bf16) (harg6 : arg6.IsWhole) (arg7 : Memref sig .tc .vmem S1x4x8192 .f32) (harg7 : arg7.IsWhole) (arg8 : Memref sig .tc .vmem S512x512 .bf16) (harg8 : arg8.IsWhole) (arg2 : BitVec 32) (v1 : BitVec 32) (Q : Fin 4 → Vec F S512x128 .bf16) (C : Fin 4 → FVec F S1x1 .f32) (v22 : FVec F S512x1 .f32) (v23 : FVec F S512x1 .f32) (v24 : FVec F S512x128 .f32) (v25 : FVec F S512x1 .f32) (v26 : FVec F S512x1 .f32) (v27 : FVec F S512x128 .f32) (v28 : FVec F S512x1 .f32) (v29 : FVec F S512x1 .f32) (v30 : FVec F S512x128 .f32)
    (x1 : Vec F S8192x512 .bf16) (x2 : Vec F S8192x512 .bf16) (x3 : Vec F S1x4x8192 .f32) (init : St4 F) (hinit : ∀ h, head h init = start) (h : Fin 4) (n : ℕ) (hn : n ≤ (k0_t1_loop i).trips) :
    head h (st_k0_t1 𝒱 c bd i arg3 harg3 arg4 harg4 arg5 harg5 arg6 harg6 arg7 harg7 arg8 harg8 arg2 v1 (Q 0) (Q 1) (Q 2) (Q 3) (C 0) (C 1) (C 2) (C 3) v22 v23 v24 v25 v26 v27 v28 v29 v30 (harg5.unread x1) (harg6.unread x2) (harg7.unread x3) init n)
      = iter (tripScore Q C x1 x3 h) (fun k => rows x2 (512 * k) h.val) n := by
  induction n with
  | zero => rw [st_k0_t1_zero]; exact hinit h
  | succ n ih =>
    have e := st_k0_t1_succ 𝒱 c bd i arg3 harg3 arg4 harg4 arg5 harg5 arg6 harg6 arg7 harg7 arg8 harg8 arg2 v1 (Q 0) (Q 1) (Q 2) (Q 3) (C 0) (C 1) (C 2) (C 3) v22 v23 v24 v25 v26 v27 v28 v29 v30 (harg5.unread x1) (harg6.unread x2) (harg7.unread x3) init ⟨n, hn⟩
    rw [show st_k0_t1 𝒱 c bd i arg3 harg3 arg4 harg4 arg5 harg5 arg6 harg6 arg7 harg7 arg8 harg8 arg2 v1 (Q 0) (Q 1) (Q 2) (Q 3) (C 0) (C 1) (C 2) (C 3) v22 v23 v24 v25 v26 v27 v28 v29 v30 (harg5.unread x1) (harg6.unread x2) (harg7.unread x3) init (n + 1) = _ from e, trip_head, ih (Nat.le_of_succ_le hn)]
    rfl

/-! ## The block a grid point leaves -/

/-- Head `h`'s queries, first position's log-forget, and last (masked) scores, at point `i`. -/
def Qh (x0 : Vec F S512x512 .bf16) (h : Fin 4) : Vec F S512x128 .bf16 := qcol x0 h.val

def Ch (x3 : Vec F S1x4x8192 .f32) (n : ℕ) (h : Fin 4) : FVec F S1x1 .f32 := k0_pay35 (cfst x3 h.val (512 * n))

/-- The scores of the block on the diagonal, masked. -/
def diagScore (Q : Fin 4 → Vec F S512x128 .bf16) (C : Fin 4 → FVec F S1x1 .f32) (x1 : Vec F S8192x512 .bf16) (x3 : Vec F S1x4x8192 .f32) (h : Fin 4) (k : ℕ) : FVec F S512x512 .f32 :=
  k0_pay69 (Q h) (C h) (rows x1 (512 * k) h.val) (crow x3 h.val (512 * k))

/-- Head `h`'s part of the block that the point with query block `n` leaves. -/
def out (x0 : Vec F S512x512 .bf16) (x1 x2 : Vec F S8192x512 .bf16) (x3 : Vec F S1x4x8192 .f32) (n : ℕ) (h : Fin 4) : Vec F S512x128 .bf16 :=
  quot (step (diagScore (Qh x0) (Ch x3 n) x1 x3 h n) (rows x2 (512 * n) h.val)
    (iter (tripScore (Qh x0) (Ch x3 n) x1 x3 h) (fun k => rows x2 (512 * k) h.val) n))

theorem out_block (c : Dev nD) (i : grid0.Coords) (arg4 : Memref sig .tc .vmem S512x512 .bf16) (harg4 : arg4.IsWhole) (arg5 : Memref sig .tc .vmem S8192x512 .bf16) (harg5 : arg5.IsWhole) (arg6 : Memref sig .tc .vmem S8192x512 .bf16) (harg6 : arg6.IsWhole) (arg7 : Memref sig .tc .vmem S1x4x8192 .f32) (harg7 : arg7.IsWhole) (arg8 : Memref sig .tc .vmem S512x512 .bf16) (harg8 : arg8.IsWhole) (x0 : Vec F S512x512 .bf16) (x1 : Vec F S8192x512 .bf16) (x2 : Vec F S8192x512 .bf16) (x3 : Vec F S1x4x8192 .f32) (y : S512x512.Idx) (h : Fin 4) (d : Fin 128) (hy : (y 1).val = 128 * h.val + d.val) :
    out0_A_4 c i arg4 harg4 arg5 harg5 arg6 harg6 arg7 harg7 arg8 harg8 x0 x1 x2 x3 y = out x0 x1 x2 x3 (i 2).val h (fun a => match a with | ⟨0, _⟩ => ⟨(y 0).val, (y 0).isLt⟩ | ⟨1, _⟩ => d) := by
  have hi : (i 2).val < 16 := (i 2).isLt
  have hw := word_diag (i 2).val hi
  have ht1 := trips1 i
  have ht2 := trips2 i
  unfold out0_A_4
  rw [View.read_writes_eq_canon _ _ _ (cover0_A_4 c i arg4 harg4 arg5 harg5 arg6 harg6 arg7 harg7 arg8 harg8 x0 x1 x2 x3)]
  unfold kernelRun0_A
  dsimp only
  sl_unfold_run_names
  simp only [View.readAt_eq_ld, harg4.read_unread, harg5.read_unread, harg6.read_unread, harg7.read_unread]
  simp only [ht1, ht2, st_k0_t2_zero]
  rw [qcol_ld x0 0 (off := ![0, 0]) rfl rfl, qcol_ld x0 1 (off := ![0, 128]) rfl rfl, qcol_ld x0 2 (off := ![0, 256]) rfl rfl, qcol_ld x0 3 (off := ![0, 384]) rfl rfl,
    cfst_ld x3 0 (512 * (i 2).val) (off := k0_off1 i) rfl rfl hw, cfst_ld x3 1 (512 * (i 2).val) (off := k0_off2 i) rfl rfl hw,
    cfst_ld x3 2 (512 * (i 2).val) (off := k0_off3 i) rfl rfl hw, cfst_ld x3 3 (512 * (i 2).val) (off := k0_off4 i) rfl rfl hw,
    rows_ld x1 (512 * (i 2).val) 0 (off := k0_off21 i) hw rfl, rows_ld x2 (512 * (i 2).val) 0 (off := k0_off21 i) hw rfl, crow_ld x3 0 (512 * (i 2).val) (off := k0_off22 i) rfl rfl hw,
    rows_ld x1 (512 * (i 2).val) 1 (off := k0_off23 i) hw rfl, rows_ld x2 (512 * (i 2).val) 1 (off := k0_off23 i) hw rfl, crow_ld x3 1 (512 * (i 2).val) (off := k0_off24 i) rfl rfl hw,
    rows_ld x1 (512 * (i 2).val) 2 (off := k0_off25 i) hw rfl, rows_ld x2 (512 * (i 2).val) 2 (off := k0_off25 i) hw rfl, crow_ld x3 2 (512 * (i 2).val) (off := k0_off26 i) rfl rfl hw,
    rows_ld x1 (512 * (i 2).val) 3 (off := k0_off27 i) hw rfl, rows_ld x2 (512 * (i 2).val) 3 (off := k0_off27 i) hw rfl, crow_ld x3 3 (512 * (i 2).val) (off := k0_off28 i) rfl rfl hw]
  generalize hS : st_k0_t1 (F := F) _ _ _ _ _ _ _ _ _ _ _ _ _ _ _ _ _ _ _ _ _ _ _ _ _ _ _ _ _ _ _ _ _ _ _ _ _ _ _ _ = S
  have hs : ∀ h, head h S = iter (tripScore (Qh x0) (Ch x3 (i 2).val) x1 x3 h) (fun k => rows x2 (512 * k) h.val) (i 2).val := by
    intro h
    rw [← hS]
    refine st_head (Q := Qh x0) (C := Ch x3 (i 2).val) (x1 := x1) (x2 := x2) (x3 := x3) (init := _) (hinit := ?_) (h := h) (n := (i 2).val) (hn := ht1.ge) ..
    intro h
    match h with
    | 0 => rfl
    | 1 => rfl
    | 2 => rfl
    | 3 => rfl
  clear hS
  have hq : ∀ (h' : Fin 4) (x : S512x128.Idx), (y 0).val = (x 0).val → (y 1).val = 128 * h'.val + (x 1).val →
      quot (step (diagScore (Qh x0) (Ch x3 (i 2).val) x1 x3 h' (i 2).val) (rows x2 (512 * (i 2).val) h'.val) (head h' S)) x
        = out x0 x1 x2 x3 (i 2).val h (fun a => match a with | ⟨0, _⟩ => ⟨(y 0).val, (y 0).isLt⟩ | ⟨1, _⟩ => d) := by
    intro h' x e0 e1
    have hx : (x 1).val < 128 := (x 1).isLt
    have hd := d.isLt
    have hh : h' = h := Fin.ext (by omega)
    subst hh
    rw [hs]
    unfold out
    congr 1
    funext a
    match a with
    | ⟨0, _⟩ => exact Fin.ext e0.symm
    | ⟨1, _⟩ => exact Fin.ext (show (x 1).val = d.val by omega)
  canon_tiles x hx
  · exact hq 3 x (by omega) (by omega)
  · exact hq 2 x (by omega) (by omega)
  · exact hq 1 x (by omega) (by omega)
  · exact hq 0 x (by omega) (by omega)

end Heads
-- ==== Proof.Softmax.lean ====
/- One softmax row, computed block by block against a running maximum, on the extended reals. -/
module

public import Idealize.ShloMosaic.PureOps.Ideal.Laws

@[expose] public section

noncomputable section

namespace Softmax

open Idealize.ShloMosaic

/-- The weight `2^s` of a score: a real number, zero where the score is `⊥`. -/
def wt (s : EReal) : ℝ := if s = ⊥ then 0 else (2 : ℝ) ^ s.toReal

theorem wt_nonneg (s : EReal) : 0 ≤ wt s := by
  unfold wt; split
  · exact le_rfl
  · positivity

theorem wt_coe_pos (r : ℝ) : 0 < wt (r : EReal) := by
  unfold wt; rw [if_neg (EReal.coe_ne_bot r)]; positivity

/-- The scale `2^(-μ)` that a running maximum `μ` puts on every weight. -/
def sc (μ : ℝ) : ℝ := (2 : ℝ) ^ (-μ)

theorem sc_pos (μ : ℝ) : 0 < sc μ := by unfold sc; positivity

theorem exp2_sub (s : EReal) (hs : s ≠ ⊤) (μ : ℝ) : Ideal.exp2 (s - (μ : EReal)) = ((sc μ * wt s : ℝ) : EReal) := by
  induction s with
  | bot => simp [wt]
  | top => exact absurd rfl hs
  | coe r =>
    rw [← EReal.coe_sub, Ideal.exp2_coe, wt, if_neg (EReal.coe_ne_bot r), EReal.toReal_coe, sc, ← Real.rpow_add (by norm_num)]
    congr 2
    ring

theorem exp2_sub_coe (μ ν : ℝ) : Ideal.exp2 ((μ : EReal) - (ν : EReal)) = ((sc ν / sc μ : ℝ) : EReal) := by
  rw [exp2_sub _ (EReal.coe_ne_top μ), wt, if_neg (EReal.coe_ne_bot μ), EReal.toReal_coe]
  congr 1
  unfold sc
  rw [Real.rpow_neg (by norm_num) μ, div_inv_eq_mul]

/-- A nonnegative real factor distributes over a finite sum of extended reals. -/
theorem mul_sum {ι : Type*} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

theorem coe_sum {ι : Type*} (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- The state of one row (of one output column) after a set of keys: `W` the sum of their weights, `A` their weighted values;
    held against some real `μ`, or against `⊥` while no key has been seen. -/
def Inv (W : ℝ) (A m l a : EReal) : Prop :=
  (m = ⊥ ∧ l = 0 ∧ a = 0 ∧ W = 0 ∧ A = 0)
    ∨ ∃ μ : ℝ, m = (μ : EReal) ∧ l = ((sc μ * W : ℝ) : EReal) ∧ a = ((sc μ : ℝ) : EReal) * A

theorem Inv.start : Inv 0 0 ⊥ 0 0 := Or.inl ⟨rfl, rfl, rfl, rfl, rfl⟩

/-- The fold of `max` from `⊥` over scores below `⊤`, one of them real, is real. -/
theorem fold_max_real {ι : Type*} [Fintype ι] (s : ι → EReal) (ht : ∀ k, s k ≠ ⊤) (k₀ : ι) (r : ℝ) (h₀ : s k₀ = (r : EReal)) :
    ∃ μ : ℝ, (Finset.univ : Finset ι).fold max ⊥ s = (μ : EReal) := by
  have hle : (r : EReal) ≤ (Finset.univ : Finset ι).fold max ⊥ s := by
    rw [Finset.le_fold_max]; exact Or.inr ⟨k₀, Finset.mem_univ _, h₀.ge⟩
  have hlt : (Finset.univ : Finset ι).fold max ⊥ s < ⊤ := by
    rw [Finset.fold_max_lt]; exact ⟨bot_lt_top, fun k _ => lt_top_iff_ne_top.mpr (ht k)⟩
  refine ⟨((Finset.univ : Finset ι).fold max ⊥ s).toReal, (EReal.coe_toReal hlt.ne ?_).symm⟩
  exact fun h => by rw [h] at hle; exact absurd (le_bot_iff.mp hle) (EReal.coe_ne_bot r)

/-- One block's step keeps the invariant: the block's keys join the sums. -/
theorem Inv.step {ι : Type*} [Fintype ι] {W : ℝ} {A m l a : EReal} (h : Inv W A m l a)
    (s v : ι → EReal) (ht : ∀ k, s k ≠ ⊤) (k₀ : ι) (r : ℝ) (h₀ : s k₀ = (r : EReal)) (m' : EReal)
    (hm' : m' = max m ((Finset.univ : Finset ι).fold max ⊥ s)) :
    Inv (W + ∑ k, wt (s k)) (A + ∑ k, ((wt (s k) : ℝ) : EReal) * v k) m'
      (Ideal.exp2 (m - m') * l + ∑ k, Ideal.exp2 (s k - m'))
      (Ideal.exp2 (m - m') * a + ∑ k, Ideal.exp2 (s k - m') * v k) := by
  obtain ⟨β, hβ⟩ := fold_max_real s ht k₀ r h₀
  rw [hβ] at hm'
  have key : ∀ ν : ℝ, (∑ k, Ideal.exp2 (s k - (ν : EReal))) = ((sc ν * ∑ k, wt (s k) : ℝ) : EReal) := fun ν => by
    rw [Finset.mul_sum, coe_sum]; exact Finset.sum_congr rfl fun k _ => exp2_sub _ (ht k) ν
  have keyv : ∀ ν : ℝ, (∑ k, Ideal.exp2 (s k - (ν : EReal)) * v k)
      = ((sc ν : ℝ) : EReal) * ∑ k, ((wt (s k) : ℝ) : EReal) * v k := fun ν => by
    rw [mul_sum _ _ (sc_pos ν).le]
    exact Finset.sum_congr rfl fun k _ => by rw [exp2_sub _ (ht k) ν, EReal.coe_mul, mul_assoc]
  rcases h with ⟨hm, hl, ha, hW, hA⟩ | ⟨μ, hm, hl, ha⟩
  · refine Or.inr ⟨β, ?_, ?_, ?_⟩
    · rw [hm', hm]; exact max_eq_right bot_le
    · have hm2 : m' = (β : EReal) := by rw [hm', hm]; exact max_eq_right bot_le
      rw [hl, hW, hm2, key, mul_zero, zero_add, zero_add]
    · have hm2 : m' = (β : EReal) := by rw [hm', hm]; exact max_eq_right bot_le
      rw [ha, hA, hm2, keyv, mul_zero, zero_add, zero_add]
  · have hm2 : m' = ((max μ β : ℝ) : EReal) := by rw [hm', hm]; exact (EReal.coe_strictMono.monotone.map_max).symm
    have hne : sc μ ≠ 0 := (sc_pos μ).ne'
    refine Or.inr ⟨max μ β, hm2, ?_, ?_⟩
    · rw [hl, hm, hm2, key, exp2_sub_coe, ← EReal.coe_mul, ← EReal.coe_add]
      congr 1; field_simp
    · rw [ha, hm, hm2, keyv, exp2_sub_coe, ← mul_assoc, ← EReal.coe_mul, div_mul_cancel₀ _ hne,
        EReal.left_distrib_of_nonneg_of_ne_top (by exact_mod_cast (sc_pos _).le) (EReal.coe_ne_top _)]

/-- What the row divides out to at the end. -/
theorem Inv.quot {W : ℝ} {A m l a : EReal} (h : Inv W A m l a) (hW : 0 < W) :
    Ideal.div a l = ((W⁻¹ : ℝ) : EReal) * A := by
  rcases h with ⟨_, _, _, h0, _⟩ | ⟨μ, _, hl, ha⟩
  · exact absurd h0 hW.ne'
  · have hp : sc μ * W ≠ 0 := (mul_pos (sc_pos μ) hW).ne'
    rw [hl, Ideal.div_coe hp, ha, mul_comm, ← mul_assoc, ← EReal.coe_mul]
    congr 2
    have := (sc_pos μ).ne'; field_simp

/-- The weight `e^t` of a natural-base score. -/
def we (t : EReal) : ℝ := if t = ⊥ then 0 else Real.exp t.toReal

theorem exp_sub (t : EReal) (ht : t ≠ ⊤) (μ : ℝ) : Ideal.exp (t - (μ : EReal)) = ((Real.exp (-μ) * we t : ℝ) : EReal) := by
  induction t with
  | bot => simp [we]
  | top => exact absurd rfl ht
  | coe r =>
    rw [← EReal.coe_sub, Ideal.exp_coe, we, if_neg (EReal.coe_ne_bot r), EReal.toReal_coe, ← Real.exp_add]
    congr 2; ring

theorem we_nonneg (t : EReal) : 0 ≤ we t := by
  unfold we; split
  · exact le_rfl
  · positivity

/-- The plain softmax row: scores shifted by their maximum, exponentials over their sum, times the values. -/
theorem plain {ι : Type*} [Fintype ι] (t v : ι → EReal) (ht : ∀ k, t k ≠ ⊤) (k₀ : ι) (r : ℝ) (h₀ : t k₀ = (r : EReal)) (M : EReal)
    (hM : M = (Finset.univ : Finset ι).fold max ⊥ t) :
    (∑ k, v k * Ideal.div (Ideal.exp (t k - M)) (0 + ∑ j, Ideal.exp (t j - M)))
      = (((∑ k, we (t k))⁻¹ : ℝ) : EReal) * ∑ k, ((we (t k) : ℝ) : EReal) * v k := by
  obtain ⟨μ, hμ⟩ := fold_max_real t ht k₀ r h₀
  rw [hM, hμ, zero_add]
  have hsum : (∑ j, Ideal.exp (t j - (μ : EReal))) = ((Real.exp (-μ) * ∑ k, we (t k) : ℝ) : EReal) := by
    rw [Finset.mul_sum, coe_sum]; exact Finset.sum_congr rfl fun k _ => exp_sub _ (ht k) μ
  have hpos : 0 < ∑ k, we (t k) := by
    refine Finset.sum_pos' (fun k _ => we_nonneg _) ⟨k₀, Finset.mem_univ _, ?_⟩
    rw [h₀, we, if_neg (EReal.coe_ne_bot r)]; positivity
  rw [hsum, mul_sum _ _ (inv_nonneg.mpr hpos.le)]
  refine Finset.sum_congr rfl fun k _ => ?_
  have he : Real.exp (-μ) ≠ 0 := (Real.exp_pos _).ne'
  rw [Ideal.div_coe (mul_ne_zero he hpos.ne'), exp_sub _ (ht k) μ, ← EReal.coe_mul, ← mul_assoc, ← EReal.coe_mul, mul_comm (v k)]
  congr 2
  have := hpos.ne'; field_simp

/-- A positive factor common to every weight cancels. -/
theorem scale_cancel {ι : Type*} (S : Finset ι) (K : ℝ) (hK : 0 < K) (w w' : ι → ℝ) (h : ∀ k ∈ S, w k = K * w' k) (hw' : ∀ k ∈ S, 0 ≤ w' k) (v : ι → EReal) :
    (((∑ k ∈ S, w k)⁻¹ : ℝ) : EReal) * ∑ k ∈ S, ((w k : ℝ) : EReal) * v k
      = (((∑ k ∈ S, w' k)⁻¹ : ℝ) : EReal) * ∑ k ∈ S, ((w' k : ℝ) : EReal) * v k := by
  rw [Finset.sum_congr rfl h, ← Finset.mul_sum, Finset.sum_congr rfl fun k hk => show ((w k : ℝ) : EReal) * v k = ((K : ℝ) : EReal) * (((w' k : ℝ) : EReal) * v k) by
    rw [h k hk, EReal.coe_mul, mul_assoc], ← mul_sum _ _ hK.le, ← mul_assoc, ← EReal.coe_mul]
  congr 2
  rw [mul_inv, mul_comm, ← mul_assoc, mul_inv_cancel₀ hK.ne', one_mul]

end Softmax

end
-- ==== Proof.Rows.lean ====
module

public import proofs.«01_k».proof.Proof.Heads
public import proofs.«01_k».proof.Proof.Softmax
public import Idealize.ShloMosaic.Lib.ValueIdx
public import Idealize.ShloMosaic.Lib.Pointwise

@[expose] public section

set_option maxRecDepth 16384

noncomputable section

/-! # The kernel's block over the extended reals, row by row

Each row of a head's state is read at one row and one column: the running maximum, sum and weighted sum of the scores
seen. By `Softmax.Inv` the three stay the scaled exact sums, so the quotient at the end is the weighted mean of the
values, the weights `2^score` over all keys up to the query's own position. -/

namespace Rows
open Cert.KernelIdeal Cert.KernelIdeal.Gen Idealize.ShloMosaic Idealize.ShloMosaic.TcCoe Idealize.SL.Sem
open Heads Softmax

/-! ## The three vector operations that change shape, at an index -/

theorem bc_col (x : FVec Ideal S512x1 .f32) (r j : Fin 512) :
    broadcastTo S512x512 x broadcasts_S512x1_S512x512 (ValueIdx.ix2 r j) = x (ValueIdx.ix2 r 0) :=
  broadcastTo_apply x _ _ _ fun a => by
    match a with
    | ⟨0, _⟩ => rfl
    | ⟨1, _⟩ => rfl

theorem bc_col' (x : FVec Ideal S512x1 .f32) (r : Fin 512) (d : Fin 128) :
    broadcastTo S512x128 x broadcasts_S512x1_S512x128 (ValueIdx.ix2 r d) = x (ValueIdx.ix2 r 0) :=
  broadcastTo_apply x _ _ _ fun a => by
    match a with
    | ⟨0, _⟩ => rfl
    | ⟨1, _⟩ => rfl

theorem bc_row (x : FVec Ideal S1x512 .f32) (r j : Fin 512) :
    broadcastTo S512x512 x broadcasts_S1x512_S512x512 (ValueIdx.ix2 r j) = x (ValueIdx.ix2 0 j) :=
  broadcastTo_apply x _ _ _ fun a => by
    match a with
    | ⟨0, _⟩ => rfl
    | ⟨1, _⟩ => rfl

theorem bc_one (x : FVec Ideal S1x1 .f32) (j : Fin 512) :
    broadcastTo S1x512 x broadcasts_S1x1_S1x512 (ValueIdx.ix2 0 j) = x (ValueIdx.ix2 0 0) :=
  broadcastTo_apply x _ _ _ fun a => by
    match a with
    | ⟨0, _⟩ => rfl
    | ⟨1, _⟩ => rfl

theorem cast_col (x : FVec Ideal S512 .f32) (r : Fin 512) :
    shapeCast S512x1 x shapeCasts_S512_S512x1 (ValueIdx.ix2 r 0) = x (ValueIdx.ix1 r) :=
  shapeCast_apply x _ _ _ (by rw [Shape.rowMajor_val_one, Shape.rowMajor_val_two]; show r.val = r.val * 1 + 0; omega)

theorem cast_row (x : Vec Ideal S1x1x512 .f32) (j : Fin 512) :
    shapeCast S1x512 x shapeCasts_S1x1x512_S1x512 (ValueIdx.ix2 0 j) = x (ValueIdx.ix3 0 0 j) :=
  shapeCast_apply x _ _ _ (by rw [Shape.rowMajor_val_three, Shape.rowMajor_val_two]; show (0 * 1 + 0) * 512 + j.val = 0 * 512 + j.val; omega)

theorem rmax (x : FVec Ideal S512x512 .f32) (r : Fin 512) :
    multiReduction .maximumf [1] S512 x 0xFF800000#32 reduces_S512x512_S512 (.inl rfl) rfl (ValueIdx.ix1 r)
      = (Finset.univ : Finset (Fin 512)).fold max ⊥ fun j => x (ValueIdx.ix2 r j) := by
  refine (Ideal.multiReduction_maximumf_single x _ _ (.inl rfl) rfl _).trans ?_
  have e : (x ∘ reduces_S512x512_S512.lift (ValueIdx.ix1 r)) = fun j : Fin 512 => x (ValueIdx.ix2 r j) := by
    funext j
    refine congrArg x (funext fun a => ?_)
    match a with
    | ⟨0, _⟩ => rfl
    | ⟨1, _⟩ => rfl
  have b : (FloatOps.ofBits .f32 0xFF800000#32 : Ideal .f32) = (⊥ : EReal) := by
    simp [pointwise, Ideal.ofBits, Ideal.ieee]
  rw [e]
  exact congrArg (Finset.fold max · _ Finset.univ) b

theorem rsum (x : FVec Ideal S512x512 .f32) (r : Fin 512) :
    multiReduction .add [1] S512 x 0x00000000#32 reduces_S512x512_S512 (.inl rfl) rfl (ValueIdx.ix1 r)
      = ∑ j : Fin 512, x (ValueIdx.ix2 r j) := by
  refine (Ideal.multiReduction_add_single x _ _ (.inl rfl) rfl _).trans ?_
  refine Finset.sum_congr rfl fun j _ => congrArg x (funext fun a => ?_)
  match a with
  | ⟨0, _⟩ => rfl
  | ⟨1, _⟩ => rfl

theorem qk_lhs0 (j : S512x512.Idx) (q : dot_S512x128_S512x128_S512x512_1_1_0_0_n_n.contr.Idx) : (dot_S512x128_S512x128_S512x512_1_1_0_0_n_n.lhsIdx j q 0).val = (j 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl

theorem qk_rhs0 (j : S512x512.Idx) (q : dot_S512x128_S512x128_S512x512_1_1_0_0_n_n.contr.Idx) : (dot_S512x128_S512x128_S512x512_1_1_0_0_n_n.rhsIdx j q 0).val = (j 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl

theorem pv_lhs0 (j : S512x128.Idx) (q : dot_S512x512_S512x128_S512x128_1_0_0_1_n_n.contr.Idx) : (dot_S512x512_S512x128_S512x128_1_0_0_1_n_n.lhsIdx j q 0).val = (j 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl

theorem pv_rhs1 (j : S512x128.Idx) (q : dot_S512x512_S512x128_S512x128_1_0_0_1_n_n.contr.Idx) : (dot_S512x512_S512x128_S512x128_1_0_0_1_n_n.rhsIdx j q 1).val = (j 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

theorem mm_qk (q k : FVec Ideal S512x128 .bf16) (r j : Fin 512) :
    matmul dot_S512x128_S512x128_S512x512_1_1_0_0_n_n none q k (constant S512x512 .f32 0x00000000#32) (ValueIdx.ix2 r j)
      = ∑ d : Fin 128, q (ValueIdx.ix2 r d) * k (ValueIdx.ix2 j d) := by
  unfold matmul
  rw [Ideal.matmul_constant_zero_apply, ← Equiv.sum_comp (ValueIdx.contrEquiv1 dot_S512x128_S512x128_S512x512_1_1_0_0_n_n 128 rfl rfl).symm]
  refine Finset.sum_congr rfl fun d _ => ?_
  have hk := ValueIdx.contrEquiv1_symm_val dot_S512x128_S512x128_S512x512_1_1_0_0_n_n 128 rfl rfl d
  congr 2
  · funext a
    match a with
    | ⟨0, _⟩ => exact Fin.ext (qk_lhs0 _ _)
    | ⟨1, _⟩ => exact Fin.ext ((DotDims.lhsIdx_val_of_single _ rfl _ _).trans hk)
  · funext a
    match a with
    | ⟨0, _⟩ => exact Fin.ext (qk_rhs0 _ _)
    | ⟨1, _⟩ => exact Fin.ext ((DotDims.rhsIdx_val_of_single _ rfl _ _).trans hk)

theorem mm_pv (p : FVec Ideal S512x512 .bf16) (v : FVec Ideal S512x128 .bf16) (r : Fin 512) (d : Fin 128) :
    matmul dot_S512x512_S512x128_S512x128_1_0_0_1_n_n none p v (constant S512x128 .f32 0x00000000#32) (ValueIdx.ix2 r d)
      = ∑ j : Fin 512, p (ValueIdx.ix2 r j) * v (ValueIdx.ix2 j d) := by
  unfold matmul
  rw [Ideal.matmul_constant_zero_apply, ← Equiv.sum_comp (ValueIdx.contrEquiv1 dot_S512x512_S512x128_S512x128_1_0_0_1_n_n 512 rfl rfl).symm]
  refine Finset.sum_congr rfl fun j _ => ?_
  have hk := ValueIdx.contrEquiv1_symm_val dot_S512x512_S512x128_S512x128_1_0_0_1_n_n 512 rfl rfl j
  congr 2
  · funext a
    match a with
    | ⟨0, _⟩ => exact Fin.ext (pv_lhs0 _ _)
    | ⟨1, _⟩ => exact Fin.ext ((DotDims.lhsIdx_val_of_single _ rfl _ _).trans hk)
  · funext a
    match a with
    | ⟨0, _⟩ => exact Fin.ext ((DotDims.rhsIdx_val_of_single _ rfl _ _).trans hk)
    | ⟨1, _⟩ => exact Fin.ext (pv_rhs1 _ _)

/-! ## One block's change of a head's state, at a row and a column -/

theorem step_max (s : FVec Ideal S512x512 .f32) (v : Vec Ideal S512x128 .bf16) (x : St Ideal) (r : Fin 512) :
    (step s v x).1 (ValueIdx.ix2 r 0) = max (x.1 (ValueIdx.ix2 r 0)) ((Finset.univ : Finset (Fin 512)).fold max ⊥ fun j => s (ValueIdx.ix2 r j)) := by
  show max (x.1 (ValueIdx.ix2 r 0)) (shapeCast S512x1 _ shapeCasts_S512_S512x1 (ValueIdx.ix2 r 0)) = _
  rw [cast_col, rmax]

theorem pN_apply (s : FVec Ideal S512x512 .f32) (m : FVec Ideal S512x1 .f32) (r j : Fin 512) :
    pN s m (ValueIdx.ix2 r j) = Ideal.exp2 (s (ValueIdx.ix2 r j) - mN s m (ValueIdx.ix2 r 0)) := by
  show Ideal.exp2 (s (ValueIdx.ix2 r j) - broadcastTo S512x512 _ broadcasts_S512x1_S512x512 (ValueIdx.ix2 r j)) = _
  rw [bc_col]

theorem step_sum (s : FVec Ideal S512x512 .f32) (v : Vec Ideal S512x128 .bf16) (x : St Ideal) (r : Fin 512) :
    (step s v x).2.1 (ValueIdx.ix2 r 0) = Ideal.exp2 (x.1 (ValueIdx.ix2 r 0) - (step s v x).1 (ValueIdx.ix2 r 0)) * x.2.1 (ValueIdx.ix2 r 0)
      + ∑ j : Fin 512, Ideal.exp2 (s (ValueIdx.ix2 r j) - (step s v x).1 (ValueIdx.ix2 r 0)) := by
  show Ideal.exp2 (x.1 (ValueIdx.ix2 r 0) - mN s x.1 (ValueIdx.ix2 r 0)) * x.2.1 (ValueIdx.ix2 r 0) + shapeCast S512x1 _ shapeCasts_S512_S512x1 (ValueIdx.ix2 r 0) = _
  rw [cast_col, rsum]
  refine congrArg _ (Finset.sum_congr rfl fun j _ => ?_)
  rw [pN_apply]; rfl

theorem step_acc (s : FVec Ideal S512x512 .f32) (v : Vec Ideal S512x128 .bf16) (x : St Ideal) (r : Fin 512) (d : Fin 128) :
    (step s v x).2.2 (ValueIdx.ix2 r d) = Ideal.exp2 (x.1 (ValueIdx.ix2 r 0) - (step s v x).1 (ValueIdx.ix2 r 0)) * x.2.2 (ValueIdx.ix2 r d)
      + ∑ j : Fin 512, Ideal.exp2 (s (ValueIdx.ix2 r j) - (step s v x).1 (ValueIdx.ix2 r 0)) * v (ValueIdx.ix2 j d) := by
  show broadcastTo S512x128 _ broadcasts_S512x1_S512x128 (ValueIdx.ix2 r d) * x.2.2 (ValueIdx.ix2 r d) + matmul _ none _ v _ (ValueIdx.ix2 r d) = _
  rw [bc_col', mm_pv]
  show Ideal.exp2 (x.1 (ValueIdx.ix2 r 0) - mN s x.1 (ValueIdx.ix2 r 0)) * x.2.2 (ValueIdx.ix2 r d) + _ = _
  refine congrArg _ (Finset.sum_congr rfl fun j _ => ?_)
  show pN s x.1 (ValueIdx.ix2 r j) * v (ValueIdx.ix2 j d) = _
  rw [pN_apply]; rfl

theorem quot_apply (x : St Ideal) (r : Fin 512) (d : Fin 128) :
    quot x (ValueIdx.ix2 r d) = Ideal.div (x.2.2 (ValueIdx.ix2 r d)) (x.2.1 (ValueIdx.ix2 r 0)) := by
  show Ideal.div (x.2.2 (ValueIdx.ix2 r d)) (broadcastTo S512x128 _ broadcasts_S512x1_S512x128 (ValueIdx.ix2 r d)) = _
  rw [bc_col']

theorem start_max (r : Fin 512) : (start : St Ideal).1 (ValueIdx.ix2 r 0) = (⊥ : EReal) := by
  show (FloatOps.ofBits .f32 0xFF800000#32 : Ideal .f32) = _
  simp [pointwise, Ideal.ofBits, Ideal.ieee]

theorem start_sum (r : Fin 512) : (start : St Ideal).2.1 (ValueIdx.ix2 r 0) = (0 : EReal) := by
  show (FloatOps.ofBits .f32 0x00000000#32 : Ideal .f32) = _
  simp [pointwise, Ideal.ofBits, Ideal.ieee]

theorem start_acc (r : Fin 512) (d : Fin 128) : (start : St Ideal).2.2 (ValueIdx.ix2 r d) = (0 : EReal) := by
  show (FloatOps.ofBits .f32 0x00000000#32 : Ideal .f32) = _
  simp [pointwise, Ideal.ofBits, Ideal.ieee]

/-! ## The scores -/

/-- The kernel's two named constants: `1 / ln 2`, and the reference's score scale over `ln 2`. -/
def L2 : ℝ := (Real.log 2)⁻¹
def SC : ℝ := 11863283 / 134217728 * (Real.log 2)⁻¹

theorem named_l2 : Named.named (F := Ideal) Cert.KernelIdeal.κ "log2e" (φ := .f32) 0x3FB8AA3B#32 = ((L2 : ℝ) : EReal) :=
  IdealRules.named_const.ideal_named_scalar _ _ _ _ rfl

theorem named_sc : Named.named (F := Ideal) Cert.KernelIdeal.κ "scale_log2e" (φ := .f32) 0x3E0293EE#32 = ((SC : ℝ) : EReal) :=
  IdealRules.named_const.ideal_named_scalar _ _ _ _ rfl

/-- Head `h`'s entry `d` of query row `r` of the block. -/
def qv (x0 : Vec Ideal S512x512 .bf16) (h : ℕ) (r : Fin 512) (d : Fin 128) : EReal :=
  x0 (ValueIdx.ix2 r ⟨(128 * h + d.val) % 512, Nat.mod_lt _ (by norm_num)⟩)

/-- Head `h`'s entry `d` of key (or value) row `t`. -/
def kv (x : Vec Ideal S8192x512 .bf16) (h : ℕ) (t : ℕ) (d : Fin 128) : EReal :=
  x (ValueIdx.ix2 ⟨t % 8192, Nat.mod_lt _ (by norm_num)⟩ ⟨(128 * h + d.val) % 512, Nat.mod_lt _ (by norm_num)⟩)

/-- Head `h`'s cumulative log-forget at position `t`. -/
def cv (x : Vec Ideal S1x4x8192 .f32) (h : ℕ) (t : ℕ) : EReal :=
  x (ValueIdx.ix3 0 ⟨h % 4, Nat.mod_lt _ (by norm_num)⟩ ⟨t % 8192, Nat.mod_lt _ (by norm_num)⟩)

/-- The kernel's score (in base 2, up to the query's own shift) of query row `r` of block `n` against key `t`. -/
def sc2 (x0 : Vec Ideal S512x512 .bf16) (x1 : Vec Ideal S8192x512 .bf16) (x3 : Vec Ideal S1x4x8192 .f32) (n h : ℕ) (r : Fin 512) (t : ℕ) : EReal :=
  (∑ d : Fin 128, qv x0 h r d * kv x1 h t d) * ((SC : ℝ) : EReal) + (cv x3 h (512 * n) - cv x3 h t) * ((L2 : ℝ) : EReal)

theorem rows_apply (x : Vec Ideal S8192x512 .bf16) (b h : ℕ) (j : Fin 512) (d : Fin 128) : rows x b h (ValueIdx.ix2 j d) = kv x h (b + j.val) d :=
  congrArg x (funext fun a => by
    match a with
    | ⟨0, _⟩ => rfl
    | ⟨1, _⟩ => rfl)

theorem qcol_apply (x : Vec Ideal S512x512 .bf16) (h : ℕ) (r : Fin 512) (d : Fin 128) : qcol x h (ValueIdx.ix2 r d) = qv x h r d :=
  congrArg x (funext fun a => by
    match a with
    | ⟨0, _⟩ => rfl
    | ⟨1, _⟩ => rfl)

theorem crow_apply (x : Vec Ideal S1x4x8192 .f32) (h b : ℕ) (j : Fin 512) : crow x h b (ValueIdx.ix3 0 0 j) = cv x h (b + j.val) :=
  congrArg x (funext fun a => by
    match a with
    | ⟨0, _⟩ => rfl
    | ⟨1, _⟩ => rfl
    | ⟨2, _⟩ => rfl)

theorem first_apply (x : Vec Ideal S1x4x8192 .f32) (n : ℕ) (h : Fin 4) : Ch x n h (ValueIdx.ix2 0 0) = cv x h.val (512 * n) := by
  unfold Ch k0_pay35
  rw [extractStridedSlice_apply _ _ _ (ValueIdx.ix2 0 0) (ValueIdx.ix2 0 0) (fun a => by
    match a with
    | ⟨0, _⟩ => rfl
    | ⟨1, _⟩ => rfl)]
  rw [shapeCast_apply _ shapeCasts_S1x1x128_S1x128 (ValueIdx.ix2 0 0) (ValueIdx.ix3 0 0 0) rfl]
  exact congrArg x (funext fun a => by
    match a with
    | ⟨0, _⟩ => rfl
    | ⟨1, _⟩ => rfl
    | ⟨2, _⟩ => rfl)

theorem score_apply (q k : Vec Ideal S512x128 .bf16) (cf : FVec Ideal S1x1 .f32) (ck : Vec Ideal S1x1x512 .f32) (r j : Fin 512) :
    k0_pay1 q cf k ck (ValueIdx.ix2 r j) = (∑ d : Fin 128, q (ValueIdx.ix2 r d) * k (ValueIdx.ix2 j d)) * ((SC : ℝ) : EReal)
      + (cf (ValueIdx.ix2 0 0) - ck (ValueIdx.ix3 0 0 j)) * ((L2 : ℝ) : EReal) := by
  unfold k0_pay1
  show matmul _ none q k _ (ValueIdx.ix2 r j) * Named.named (F := Ideal) Cert.KernelIdeal.κ "scale_log2e" (φ := .f32) 0x3E0293EE#32
    + broadcastTo S512x512 _ broadcasts_S1x512_S512x512 (ValueIdx.ix2 r j) = _
  rw [bc_row, named_sc, mm_qk]
  show _ + (broadcastTo S1x512 cf broadcasts_S1x1_S1x512 (ValueIdx.ix2 0 j) - shapeCast S1x512 ck shapeCasts_S1x1x512_S1x512 (ValueIdx.ix2 0 j))
    * Named.named (F := Ideal) Cert.KernelIdeal.κ "log2e" (φ := .f32) 0x3FB8AA3B#32 = _
  rw [bc_one, cast_row, named_l2]

theorem tripScore_apply (x0 : Vec Ideal S512x512 .bf16) (x1 : Vec Ideal S8192x512 .bf16) (x3 : Vec Ideal S1x4x8192 .f32) (n : ℕ) (h : Fin 4) (k : ℕ) (r j : Fin 512) :
    tripScore (Qh x0) (Ch x3 n) x1 x3 h k (ValueIdx.ix2 r j) = sc2 x0 x1 x3 n h.val r (512 * k + j.val) := by
  unfold tripScore sc2
  rw [score_apply, first_apply, crow_apply]
  simp only [rows_apply, Qh, qcol_apply]

theorem mask_word (r j : Fin 512) : (IntOp.cmpi .sle (BitVec.ofNat 32 j.val) (BitVec.ofNat 32 r.val) = 1#1) ↔ j.val ≤ r.val := by
  have hr := r.isLt
  have hj := j.isLt
  have e : ∀ n : ℕ, n < 512 → (BitVec.ofNat 32 n).toInt = n := fun n hn => by
    rw [BitVec.toInt_eq_toNat_of_lt (by rw [BitVec.toNat_ofNat]; omega), BitVec.toNat_ofNat]; omega
  simp only [IntOp.cmpi, BitVec.sle, e _ hr, e _ hj]
  by_cases h : j.val ≤ r.val <;> simp [h]

theorem diagScore_apply (x0 : Vec Ideal S512x512 .bf16) (x1 : Vec Ideal S8192x512 .bf16) (x3 : Vec Ideal S1x4x8192 .f32) (n : ℕ) (h : Fin 4) (k : ℕ) (r j : Fin 512) :
    diagScore (Qh x0) (Ch x3 n) x1 x3 h k (ValueIdx.ix2 r j) = if j.val ≤ r.val then sc2 x0 x1 x3 n h.val r (512 * k + j.val) else ⊥ := by
  rw [← tripScore_apply]
  show Scalar.select (IntOp.cmpi .sle (BitVec.ofNat 32 (0 * 512 + j.val)) (BitVec.ofNat 32 (0 * 512 + r.val)))
    (tripScore (Qh x0) (Ch x3 n) x1 x3 h k (ValueIdx.ix2 r j)) (FloatOps.ofBits .f32 0xFF800000#32 : Ideal .f32) = _
  rw [show (FloatOps.ofBits .f32 0xFF800000#32 : Ideal .f32) = (⊥ : EReal) by simp [pointwise, Ideal.ofBits, Ideal.ieee], Nat.zero_mul, Nat.zero_add, Nat.zero_add]
  unfold Scalar.select
  exact if_congr (mask_word r j) rfl rfl

/-! ## The sums over all the keys -/

theorem sum_blocks {M : Type*} [AddCommMonoid M] (f : ℕ → M) (n : ℕ) :
    ∑ k ∈ Finset.range n, ∑ j : Fin 512, f (512 * k + j.val) = ∑ t ∈ Finset.range (512 * n), f t := by
  induction n with
  | zero => simp
  | succ n ih =>
    rw [Finset.sum_range_succ, ih, Nat.mul_succ, Finset.sum_range_add, Finset.sum_range (fun x => f (512 * n + x))]

theorem iter_inv (s : ℕ → FVec Ideal S512x512 .f32) (v : ℕ → Vec Ideal S512x128 .bf16) (r : Fin 512) (d : Fin 128) (n : ℕ)
    (hs : ∀ k, ∀ j : Fin 512, ∃ ρ : ℝ, s k (ValueIdx.ix2 r j) = (ρ : EReal)) :
    Inv (∑ k ∈ Finset.range n, ∑ j : Fin 512, wt (s k (ValueIdx.ix2 r j)))
      (∑ k ∈ Finset.range n, ∑ j : Fin 512, ((wt (s k (ValueIdx.ix2 r j)) : ℝ) : EReal) * v k (ValueIdx.ix2 j d))
      ((iter s v n).1 (ValueIdx.ix2 r 0)) ((iter s v n).2.1 (ValueIdx.ix2 r 0)) ((iter s v n).2.2 (ValueIdx.ix2 r d)) := by
  induction n with
  | zero =>
    show Inv _ _ ((start : St Ideal).1 _) ((start : St Ideal).2.1 _) ((start : St Ideal).2.2 _)
    rw [start_max, start_sum, start_acc]
    exact Inv.start
  | succ n ih =>
    show Inv _ _ ((step (s n) (v n) (iter s v n)).1 _) ((step (s n) (v n) (iter s v n)).2.1 _) ((step (s n) (v n) (iter s v n)).2.2 _)
    rw [Finset.sum_range_succ, Finset.sum_range_succ, step_sum, step_acc]
    obtain ⟨ρ, h0⟩ := hs n 0
    exact ih.step (fun j => s n (ValueIdx.ix2 r j)) (fun j => v n (ValueIdx.ix2 j d)) (fun j => by obtain ⟨ρ, e⟩ := hs n j; rw [e]; exact EReal.coe_ne_top ρ)
      0 ρ h0 _ (step_max _ _ _ _)

/-- The weight of key `t` for query row `r` of block `n`: `2^score` up to the query's own position, zero beyond. -/
def W (x0 : Vec Ideal S512x512 .bf16) (x1 : Vec Ideal S8192x512 .bf16) (x3 : Vec Ideal S1x4x8192 .f32) (n h : ℕ) (r : Fin 512) (t : ℕ) : ℝ :=
  if t ≤ 512 * n + r.val then wt (sc2 x0 x1 x3 n h r t) else 0

theorem sum_W {M : Type*} [AddCommMonoid M] (n : ℕ) (hn : n < 16) (r : Fin 512) (f g : ℕ → M)
    (hlo : ∀ t, t ≤ 512 * n + r.val → g t = f t) (hhi : ∀ t, ¬t ≤ 512 * n + r.val → g t = 0) :
    (∑ k ∈ Finset.range n, ∑ j : Fin 512, f (512 * k + j.val)) + ∑ j : Fin 512, (if j.val ≤ r.val then f (512 * n + j.val) else 0)
      = ∑ t : Fin 8192, g t.val := by
  rw [← Finset.sum_range (fun t => g t), sum_blocks,
    ← Finset.sum_subset (Finset.range_subset_range.mpr (show 512 * n + 512 ≤ 8192 by omega)) (fun t _ ht => hhi t (by
      have hr := r.isLt
      simp only [Finset.mem_range] at ht; omega)), Finset.sum_range_add,
    Finset.sum_range (fun x => g (512 * n + x))]
  refine congrArg₂ _ (Finset.sum_congr rfl fun t ht => (hlo t ?_).symm) (Finset.sum_congr rfl fun j _ => ?_)
  · simp only [Finset.mem_range] at ht; omega
  · split
    · exact (hlo _ (by omega)).symm
    · exact (hhi _ (by omega)).symm

theorem out_apply (x0 : Vec Ideal S512x512 .bf16) (x1 x2 : Vec Ideal S8192x512 .bf16) (x3 : Vec Ideal S1x4x8192 .f32) (n : ℕ) (hn : n < 16) (h : Fin 4)
    (r : Fin 512) (d : Fin 128) (hs : ∀ t, ∃ ρ : ℝ, sc2 x0 x1 x3 n h.val r t = (ρ : EReal)) :
    out x0 x1 x2 x3 n h (ValueIdx.ix2 r d)
      = (((∑ t : Fin 8192, W x0 x1 x3 n h.val r t.val)⁻¹ : ℝ) : EReal)
        * ∑ t : Fin 8192, ((W x0 x1 x3 n h.val r t.val : ℝ) : EReal) * kv x2 h.val t.val d := by
  have hi := iter_inv (tripScore (Qh x0) (Ch x3 n) x1 x3 h) (fun k => rows x2 (512 * k) h.val) r d n
    (fun k j => by rw [tripScore_apply]; exact hs _)
  obtain ⟨ρ, h0⟩ := hs (512 * n)
  have hj := hi.step (fun j => diagScore (Qh x0) (Ch x3 n) x1 x3 h n (ValueIdx.ix2 r j)) (fun j => rows x2 (512 * n) h.val (ValueIdx.ix2 j d))
    (fun j => by
      rw [diagScore_apply]
      split
      · obtain ⟨ρ, e⟩ := hs (512 * n + j.val); rw [e]; exact EReal.coe_ne_top ρ
      · exact bot_ne_top)
    0 ρ (by rw [diagScore_apply, if_pos (show ((0 : Fin 512).val ≤ r.val) from Nat.zero_le _)]; exact h0)
    ((step (diagScore (Qh x0) (Ch x3 n) x1 x3 h n) (rows x2 (512 * n) h.val) (iter (tripScore (Qh x0) (Ch x3 n) x1 x3 h) (fun k => rows x2 (512 * k) h.val) n)).1 (ValueIdx.ix2 r 0))
    (step_max _ _ _ _)
  have eW := sum_W n hn r (fun t => wt (sc2 x0 x1 x3 n h.val r t)) (W x0 x1 x3 n h.val r) (fun t ht => if_pos ht) (fun t ht => if_neg ht)
  have eA := sum_W n hn r (fun t => ((wt (sc2 x0 x1 x3 n h.val r t) : ℝ) : EReal) * kv x2 h.val t d)
    (fun t => ((W x0 x1 x3 n h.val r t : ℝ) : EReal) * kv x2 h.val t d)
    (fun t ht => by show ((W x0 x1 x3 n h.val r t : ℝ) : EReal) * _ = _; rw [show W x0 x1 x3 n h.val r t = _ from if_pos ht])
    (fun t ht => by show ((W x0 x1 x3 n h.val r t : ℝ) : EReal) * _ = _; rw [show W x0 x1 x3 n h.val r t = _ from if_neg ht, EReal.coe_zero, zero_mul])
  have e1 : (∑ k ∈ Finset.range n, ∑ j : Fin 512, wt (tripScore (Qh x0) (Ch x3 n) x1 x3 h k (ValueIdx.ix2 r j)))
      + ∑ j : Fin 512, wt (diagScore (Qh x0) (Ch x3 n) x1 x3 h n (ValueIdx.ix2 r j)) = ∑ t : Fin 8192, W x0 x1 x3 n h.val r t.val := by
    rw [← eW]
    refine congrArg₂ _ (Finset.sum_congr rfl fun k _ => Finset.sum_congr rfl fun j _ => by rw [tripScore_apply]) (Finset.sum_congr rfl fun j _ => ?_)
    rw [diagScore_apply]
    split
    · rfl
    · exact if_pos rfl
  have e2 : (∑ k ∈ Finset.range n, ∑ j : Fin 512, ((wt (tripScore (Qh x0) (Ch x3 n) x1 x3 h k (ValueIdx.ix2 r j)) : ℝ) : EReal) * rows x2 (512 * k) h.val (ValueIdx.ix2 j d))
      + ∑ j : Fin 512, ((wt (diagScore (Qh x0) (Ch x3 n) x1 x3 h n (ValueIdx.ix2 r j)) : ℝ) : EReal) * rows x2 (512 * n) h.val (ValueIdx.ix2 j d)
        = ∑ t : Fin 8192, ((W x0 x1 x3 n h.val r t.val : ℝ) : EReal) * kv x2 h.val t.val d := by
    rw [← eA]
    refine congrArg₂ _ (Finset.sum_congr rfl fun k _ => Finset.sum_congr rfl fun j _ => by rw [tripScore_apply, rows_apply]) (Finset.sum_congr rfl fun j _ => ?_)
    rw [diagScore_apply, rows_apply]
    split
    · rfl
    · rw [show wt ⊥ = 0 from if_pos rfl, EReal.coe_zero, zero_mul]
  rw [e1, e2] at hj
  have hpos : 0 < ∑ t : Fin 8192, W x0 x1 x3 n h.val r t.val := by
    refine Finset.sum_pos' (fun t _ => ?_) ⟨⟨512 * n, by omega⟩, Finset.mem_univ _, ?_⟩
    · unfold W; split
      · exact wt_nonneg _
      · exact le_rfl
    · show 0 < W x0 x1 x3 n h.val r (512 * n)
      unfold W
      rw [if_pos (Nat.le_add_right _ _), h0]
      exact wt_coe_pos ρ
  unfold out
  rw [quot_apply, step_sum, step_acc]
  exact hj.quot hpos

end Rows
-- ==== Proof.Blocks.lean ====
module

public import proofs.«01_k».proof.Proof.Rows
public import Idealize.ShloMosaic.Lib.Pipeline.Value

@[expose] public section

set_option maxRecDepth 16384

noncomputable section

/-! # The blocks a grid point reads, as parts of the arrays

Grid point `(b, g, n)` takes query block `n` of prompt `b` for the four heads of group `g`, all of that prompt's keys
and values for the group, and its cumulative log-forgets. -/

namespace Blocks
open Cert.KernelIdeal Cert.KernelIdeal.Gen Idealize.ShloMosaic Idealize.ShloMosaic.TcCoe Idealize.SL.Sem
open Heads Rows

variable (m : (ℓ : Loc nD τ sig) → Buf (Elt Ideal) ℓ) (c : Dev nD)

/-- The prompt, the head group and the query block of a point. -/
def pb (t : Fin cfg0.N) : Fin 2 := grid0.coords t 0
def pg (t : Fin cfg0.N) : Fin 3 := grid0.coords t 1
def pq (t : Fin cfg0.N) : Fin 16 := grid0.coords t 2

theorem index0 : ∀ t : Fin cfg0.N, win0_0.index t 0 = 16 * (pb t).val + (pq t).val ∧ win0_0.index t 1 = 9 + (pg t).val :=
  (by decide +kernel : ∀ t : Fin grid0.N, win0_0.index t 0 = 16 * (grid0.coords t 0).val + (grid0.coords t 2).val ∧ win0_0.index t 1 = 9 + (grid0.coords t 1).val)
theorem index1 : ∀ t : Fin cfg0.N, win0_1.index t 0 = (pb t).val ∧ win0_1.index t 1 = (pg t).val :=
  (by decide +kernel : ∀ t : Fin grid0.N, win0_1.index t 0 = (grid0.coords t 0).val ∧ win0_1.index t 1 = (grid0.coords t 1).val)
theorem index2 : ∀ t : Fin cfg0.N, win0_2.index t 0 = (pb t).val ∧ win0_2.index t 1 = 3 + (pg t).val :=
  (by decide +kernel : ∀ t : Fin grid0.N, win0_2.index t 0 = (grid0.coords t 0).val ∧ win0_2.index t 1 = 3 + (grid0.coords t 1).val)
theorem index3 : ∀ t : Fin cfg0.N, win0_3.index t 0 = 3 * (pb t).val + (pg t).val ∧ win0_3.index t 1 = 0 ∧ win0_3.index t 2 = 0 :=
  (by decide +kernel : ∀ t : Fin grid0.N, win0_3.index t 0 = 3 * (grid0.coords t 0).val + (grid0.coords t 1).val ∧ win0_3.index t 1 = 0 ∧ win0_3.index t 2 = 0)
theorem index4 : ∀ t : Fin cfg0.N, win0_4.index t 0 = 16 * (pb t).val + (pq t).val ∧ win0_4.index t 1 = 3 + (pg t).val :=
  (by decide +kernel : ∀ t : Fin grid0.N, win0_4.index t 0 = 16 * (grid0.coords t 0).val + (grid0.coords t 2).val ∧ win0_4.index t 1 = 3 + (grid0.coords t 1).val)

/-- Every prompt, group and query block is some point's. -/
theorem point_of (b : Fin 2) (g : Fin 3) (n : Fin 16) : ∃ t : Fin cfg0.N, (pb t).val = b.val ∧ (pg t).val = g.val ∧ (pq t).val = n.val :=
  ⟨⟨(b.val * 3 + g.val) * 16 + n.val, by show _ < 96; omega⟩,
    (by decide +kernel : ∀ (b : Fin 2) (g : Fin 3) (n : Fin 16),
      (grid0.coords ⟨(b.val * 3 + g.val) * 16 + n.val, by show _ < 96; omega⟩ 0).val = b.val
      ∧ (grid0.coords ⟨(b.val * 3 + g.val) * 16 + n.val, by show _ < 96; omega⟩ 1).val = g.val
      ∧ (grid0.coords ⟨(b.val * 3 + g.val) * 16 + n.val, by show _ < 96; omega⟩ 2).val = n.val) b g n⟩

/-! ## The arrays, by prompt, head and position -/

def qA (x : (⟨S18432x6656, .bf16⟩ : BufTy).Contents (Elt Ideal)) (b : Fin 2) (hd : Fin 12) (t : Fin 8192) (d : Fin 128) : EReal :=
  x (ValueIdx.ix2 ⟨8192 * b.val + t.val, by omega⟩ ⟨4608 + (128 * hd.val + d.val), by omega⟩)
def kA (x : (⟨S18432x5120, .bf16⟩ : BufTy).Contents (Elt Ideal)) (b : Fin 2) (hd : Fin 12) (t : Fin 8192) (d : Fin 128) : EReal :=
  x (ValueIdx.ix2 ⟨8192 * b.val + t.val, by omega⟩ ⟨128 * hd.val + d.val, by omega⟩)
def vA (x : (⟨S18432x5120, .bf16⟩ : BufTy).Contents (Elt Ideal)) (b : Fin 2) (hd : Fin 12) (t : Fin 8192) (d : Fin 128) : EReal :=
  x (ValueIdx.ix2 ⟨8192 * b.val + t.val, by omega⟩ ⟨1536 + (128 * hd.val + d.val), by omega⟩)
def cA (x : (⟨S6x4x8192, .f32⟩ : BufTy).Contents (Elt Ideal)) (b : Fin 2) (hd : Fin 12) (t : Fin 8192) : EReal :=
  x (ValueIdx.ix3 ⟨3 * b.val + hd.val / 4, by omega⟩ ⟨hd.val % 4, by omega⟩ t)

/-- Head `h` of group `g`. -/
def hdOf (g : Fin 3) (h : Fin 4) : Fin 12 := ⟨4 * g.val + h.val, by omega⟩

theorem q_read (t : Fin cfg0.N) (h : Fin 4) (r : Fin 512) (d : Fin 128) :
    qv (iblk m c 0 t) h.val r d = qA (m ((c : Thread nD τ).loc main_arg1)) (pb t) (hdOf (pg t) h) ⟨512 * (pq t).val + r.val, by omega⟩ d := by
  obtain ⟨e0, e1⟩ := index0 t
  unfold qv iblk qA
  rw [View.read_apply]
  show V m c main_arg1 _ = _
  rw [V_main_arg1]
  refine congrArg (m ((c : Thread nD τ).loc main_arg1)) (funext fun a => Fin.ext ?_)
  match a with
  | ⟨0, _⟩ => show win0_0.index t 0 * 512 + 1 * r.val = 8192 * (pb t).val + (512 * (pq t).val + r.val); rw [e0]; omega
  | ⟨1, _⟩ => show win0_0.index t 1 * 512 + 1 * ((128 * h.val + d.val) % 512) = 4608 + (128 * (4 * (pg t).val + h.val) + d.val); rw [e1]; omega

theorem k_read (t : Fin cfg0.N) (h : Fin 4) (s : Fin 8192) (d : Fin 128) :
    kv (X0_1 m c t) h.val s.val d = kA (m ((c : Thread nD τ).loc main_arg2)) (pb t) (hdOf (pg t) h) s d := by
  obtain ⟨e0, e1⟩ := index1 t
  unfold kv X0_1 kA Pipeline.Window.fill
  rw [dif_pos (moved0_1 t _)]
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 8192 + 1 * (s.val % 8192) = 8192 * (pb t).val + s.val; rw [e0]; omega
  | ⟨1, _⟩ => show win0_1.index t 1 * 512 + 1 * ((128 * h.val + d.val) % 512) = 128 * (4 * (pg t).val + h.val) + d.val; rw [e1]; omega

theorem v_read (t : Fin cfg0.N) (h : Fin 4) (s : Fin 8192) (d : Fin 128) :
    kv (X0_2 m c t) h.val s.val d = vA (m ((c : Thread nD τ).loc main_arg2)) (pb t) (hdOf (pg t) h) s d := by
  obtain ⟨e0, e1⟩ := index2 t
  unfold kv X0_2 vA Pipeline.Window.fill
  rw [dif_pos (moved0_2 t _)]
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 8192 + 1 * (s.val % 8192) = 8192 * (pb t).val + s.val; rw [e0]; omega
  | ⟨1, _⟩ => show win0_2.index t 1 * 512 + 1 * ((128 * h.val + d.val) % 512) = 1536 + (128 * (4 * (pg t).val + h.val) + d.val); rw [e1]; omega

theorem c_read (t : Fin cfg0.N) (h : Fin 4) (s : Fin 8192) :
    cv (iblk m c 3 t) h.val s.val = cA (m ((c : Thread nD τ).loc main_arg3)) (pb t) (hdOf (pg t) h) s := by
  obtain ⟨e0, e1, e2⟩ := index3 t
  unfold cv iblk cA
  rw [View.read_apply]
  show V m c main_arg3 _ = _
  rw [V_main_arg3]
  refine congrArg (m ((c : Thread nD τ).loc main_arg3)) (funext fun a => Fin.ext ?_)
  match a with
  | ⟨0, _⟩ => show win0_3.index t 0 * 1 + 1 * 0 = 3 * (pb t).val + (4 * (pg t).val + h.val) / 4; rw [e0]; omega
  | ⟨1, _⟩ => show win0_3.index t 1 * 4 + 1 * (h.val % 4) = (4 * (pg t).val + h.val) % 4; rw [e1]; omega
  | ⟨2, _⟩ => show win0_3.index t 2 * 8192 + 1 * (s.val % 8192) = s.val; rw [e2]; omega

/-- The result array starts as a copy of the array whose columns the attention does not write. -/
theorem V_out : V m c main_v0 = m ((c : Thread nD τ).loc main_arg0) := rfl

end Blocks
-- ==== Proof.Plain.lean ====
module

public import proofs.«01_k».proof.Proof.Blocks
public import proofs.«01_k».proof.Proof.Gen.ReferenceIdeal.Read
public import Idealize.ShloMosaic.Lib.Affine
public import Idealize.ShloMosaic.Lib.Pointwise.ShapeOpsCore

@[expose] public section

set_option maxRecDepth 16384

noncomputable section

/-! # The plain attention, read at a prompt, a head, a position and a column -/

namespace Plain
open Cert.ReferenceIdeal Cert.ReferenceIdeal.Gen Cert.ReferenceIdeal.Read Idealize.ShloMosaic Idealize.ShloMosaic.TcCoe Idealize.SL.Sem
open Blocks Softmax

variable (x0 : (⟨S18432x4096, .bf16⟩ : BufTy).Contents (Elt Ideal)) (x1 : (⟨S18432x6656, .bf16⟩ : BufTy).Contents (Elt Ideal))
  (x2 : (⟨S18432x5120, .bf16⟩ : BufTy).Contents (Elt Ideal)) (x3 : (⟨S6x4x8192, .f32⟩ : BufTy).Contents (Elt Ideal))

/-- The value of the reference's scale, the f32 nearest to one over the root of 128. -/
def scale : ℝ := 11863283 / 134217728

/-- The score of position `s` for position `t`: the scaled product plus the decay between them, `⊥` in the future. -/
def tau (b : Fin 2) (hd : Fin 12) (t s : Fin 8192) : EReal :=
  if s.val ≤ t.val then (∑ d : Fin 128, qA x1 b hd t d * kA x2 b hd s d) * (scale : EReal) + (cA x3 b hd t - cA x3 b hd s) else ⊥

/-- The attention of position `t`, at column `d` of head `hd` of prompt `b`. -/
def attn (b : Fin 2) (hd : Fin 12) (t : Fin 8192) (d : Fin 128) : EReal :=
  (((∑ s : Fin 8192, we (tau x1 x2 x3 b hd t s))⁻¹ : ℝ) : EReal) * ∑ s : Fin 8192, ((we (tau x1 x2 x3 b hd t s) : ℝ) : EReal) * vA x2 b hd s d

theorem q_at (b : Fin 2) (t : Fin 8192) (hd : Fin 12) (d : Fin 128) :
    val_main_v2 (F := Ideal) x1 (ValueIdx.ix4 b t hd d) = qA x1 b hd t d := by
  rw [val_main_v2_apply, val_main_v1_apply]
  show val_main_v0 (F := Ideal) x1 _ = _
  rw [val_main_v0_apply]
  unfold qA
  refine congrArg x1 (funext fun a => Fin.ext ?_)
  have := b.isLt; have := t.isLt; have := hd.isLt; have := d.isLt
  match a with
  | ⟨0, _⟩ => show (((b.val * 8192 + t.val) * 12 + hd.val) * 128 + d.val) / 1536 = 8192 * b.val + t.val; omega
  | ⟨1, _⟩ => show 4608 + (((b.val * 8192 + t.val) * 12 + hd.val) * 128 + d.val) % 1536 = 4608 + (128 * hd.val + d.val); omega

theorem k_at (b : Fin 2) (t : Fin 8192) (hd : Fin 12) (d : Fin 128) :
    val_main_v5 (F := Ideal) x2 (ValueIdx.ix4 b t hd d) = kA x2 b hd t d := by
  rw [val_main_v5_apply, val_main_v4_apply]
  show val_main_v3 (F := Ideal) x2 _ = _
  rw [val_main_v3_apply]
  unfold kA
  refine congrArg x2 (funext fun a => Fin.ext ?_)
  have := b.isLt; have := t.isLt; have := hd.isLt; have := d.isLt
  match a with
  | ⟨0, _⟩ => show (((b.val * 8192 + t.val) * 12 + hd.val) * 128 + d.val) / 1536 = 8192 * b.val + t.val; omega
  | ⟨1, _⟩ => show (((b.val * 8192 + t.val) * 12 + hd.val) * 128 + d.val) % 1536 = 128 * hd.val + d.val; omega

theorem v_at (b : Fin 2) (t : Fin 8192) (hd : Fin 12) (d : Fin 128) :
    val_main_v8 (F := Ideal) x2 (ValueIdx.ix4 b t hd d) = vA x2 b hd t d := by
  rw [val_main_v8_apply, val_main_v7_apply]
  show val_main_v6 (F := Ideal) x2 _ = _
  rw [val_main_v6_apply]
  unfold vA
  refine congrArg x2 (funext fun a => Fin.ext ?_)
  have := b.isLt; have := t.isLt; have := hd.isLt; have := d.isLt
  match a with
  | ⟨0, _⟩ => show (((b.val * 8192 + t.val) * 12 + hd.val) * 128 + d.val) / 1536 = 8192 * b.val + t.val; omega
  | ⟨1, _⟩ => show 1536 + (((b.val * 8192 + t.val) * 12 + hd.val) * 128 + d.val) % 1536 = 1536 + (128 * hd.val + d.val); omega

theorem c_at (b : Fin 2) (hd : Fin 12) (t : Fin 8192) :
    val_main_v9 (F := Ideal) x3 (ValueIdx.ix3 b hd t) = cA x3 b hd t := by
  rw [val_main_v9_apply]
  unfold cA
  refine congrArg x3 (funext fun a => Fin.ext ?_)
  have := b.isLt; have := t.isLt; have := hd.isLt
  match a with
  | ⟨0, _⟩ => show ((b.val * 12 + hd.val) * 8192 + t.val) / 32768 = 3 * b.val + hd.val / 4; omega
  | ⟨1, _⟩ => show ((b.val * 12 + hd.val) * 8192 + t.val) / 8192 % 4 = hd.val % 4; omega
  | ⟨2, _⟩ => show ((b.val * 12 + hd.val) * 8192 + t.val) % 8192 = t.val; omega

theorem mask_word (s t : Fin 8192) : (IntOp.cmpi .sle (BitVec.ofNat 32 s.val) (BitVec.ofNat 32 t.val) = 1#1) ↔ s.val ≤ t.val := by
  have e : ∀ n : Fin 8192, (BitVec.ofNat 32 n.val).toInt = (n.val : ℤ) := fun n => by
    have := n.isLt
    rw [BitVec.toInt_eq_toNat_of_lt (by rw [BitVec.toNat_ofNat]; omega), BitVec.toNat_ofNat]; omega
  rw [IntOp.cmpi_sle, e, e]
  exact Int.ofNat_le

theorem bot_word : (FloatOps.ofBits .f32 0xFF800000#32 : Ideal .f32) = (⊥ : EReal) := by
  simp [pointwise, Ideal.ofBits, Ideal.ieee]

theorem zero_word : (FloatOps.ofBits .f32 0x00000000#32 : Ideal .f32) = (0 : EReal) := by
  simp [pointwise, Ideal.ofBits, Ideal.ieee]

theorem scale_word : (FloatOps.ofBits .f32 0x3DB504F3#32 : Ideal .f32) = ((scale : ℝ) : EReal) := by
  unfold scale
  simp [pointwise, Ideal.ofBits, Ideal.ieee]
  rw [← EReal.coe_mul]
  norm_num

theorem score_at (b : Fin 2) (hd : Fin 12) (t s : Fin 8192) :
    val_main_v25 (F := Ideal) x1 x2 x3 (ValueIdx.ix4 b hd t s) = tau x1 x2 x3 b hd t s := by
  rw [val_main_v25_apply, val_main_call0_v1_apply, val_main_v23_apply, val_main_v21_apply, val_main_v22_apply, val_main_v19_apply,
    val_main_v20_apply, val_main_v18_apply, val_main_v18_apply, val_main_call0_v2_apply, val_main_v24_apply, val_main_v12_apply,
    val_main_v17_apply, val_main_v10_apply, val_main_v11_apply, val_main_v15_apply, val_main_v16_apply, val_main_v13_apply, val_main_v14_apply]
  have eq : (idx_main_v13 (idx_main_v15 (ValueIdx.ix4 b hd t s : S2x12x8192x8192.Idx))) = ValueIdx.ix3 b hd t :=
    funext fun a => by match a with | ⟨0, _⟩ => rfl | ⟨1, _⟩ => rfl | ⟨2, _⟩ => rfl
  have ek : (idx_main_v14 (idx_main_v16 (ValueIdx.ix4 b hd t s : S2x12x8192x8192.Idx))) = ValueIdx.ix3 b hd s :=
    funext fun a => by match a with | ⟨0, _⟩ => rfl | ⟨1, _⟩ => rfl | ⟨2, _⟩ => rfl
  rw [eq, ek, c_at, c_at]
  have es : (∑ k : Fin 128, val_main_v2 (F := Ideal) x1 (lidx_main_v10 (ValueIdx.ix4 b hd t s : S2x12x8192x8192.Idx) k) * val_main_v5 (F := Ideal) x2 (ridx_main_v10 (ValueIdx.ix4 b hd t s : S2x12x8192x8192.Idx) k))
      = ∑ d : Fin 128, qA x1 b hd t d * kA x2 b hd s d := by
    refine Finset.sum_congr rfl fun d _ => ?_
    have el : lidx_main_v10 (ValueIdx.ix4 b hd t s : S2x12x8192x8192.Idx) d = ValueIdx.ix4 b t hd d :=
      funext fun a => by match a with | ⟨0, _⟩ => rfl | ⟨1, _⟩ => rfl | ⟨2, _⟩ => rfl | ⟨3, _⟩ => rfl
    have er : ridx_main_v10 (ValueIdx.ix4 b hd t s : S2x12x8192x8192.Idx) d = ValueIdx.ix4 b s hd d :=
      funext fun a => by match a with | ⟨0, _⟩ => rfl | ⟨1, _⟩ => rfl | ⟨2, _⟩ => rfl | ⟨3, _⟩ => rfl
    rw [el, er, q_at, k_at]
  rw [es]
  show Scalar.select (IntOp.cmpi .sle (BitVec.ofNat 32 s.val) (BitVec.ofNat 32 t.val))
    ((∑ d : Fin 128, qA x1 b hd t d * kA x2 b hd s d) * (FloatOps.ofBits .f32 0x3DB504F3#32 : Ideal .f32) + (cA x3 b hd t - cA x3 b hd s))
    (FloatOps.ofBits .f32 0xFF800000#32 : Ideal .f32) = _
  rw [scale_word, bot_word]
  unfold Scalar.select tau
  exact if_congr (mask_word s t) rfl rfl

theorem max_at (b : Fin 2) (hd : Fin 12) (t : Fin 8192) :
    val_main_v28 (F := Ideal) x1 x2 x3 (ValueIdx.ix3 b hd t) = (Finset.univ : Finset (Fin 8192)).fold max ⊥ fun s => tau x1 x2 x3 b hd t s := by
  rw [val_main_v28_apply, val_main_v27_apply, val_main_cst_2_apply, bot_word]
  show max (⊥ : EReal) (val_main_v26 (F := Ideal) x1 x2 x3 (ValueIdx.ix3 b hd t)) = _
  rw [max_eq_right bot_le]
  unfold val_main_v26
  refine (Host.reduce_eq_fold_single (FloatOps.maximumf (F := Ideal) (φ := .f32)) (val_main_v25 (F := Ideal) x1 x2 x3) _ reducesTo_S2x12x8192x8192_S2x12x8192_d3 (by decide) h_S_ _).trans ?_
  have e : (val_main_v25 (F := Ideal) x1 x2 x3 ∘ (by decide : S2x12x8192x8192.Reduces [3] S2x12x8192).lift (ValueIdx.ix3 b hd t)) = fun s : Fin 8192 => tau x1 x2 x3 b hd t s := by
    funext s
    refine (congrArg (val_main_v25 (F := Ideal) x1 x2 x3) (funext fun a => ?_)).trans (score_at x1 x2 x3 b hd t s)
    match a with | ⟨0, _⟩ => rfl | ⟨1, _⟩ => rfl | ⟨2, _⟩ => rfl | ⟨3, _⟩ => rfl
  rw [e]
  exact congrArg (Finset.fold max · _ Finset.univ) bot_word

theorem exp_at (b : Fin 2) (hd : Fin 12) (t s : Fin 8192) :
    val_main_v32 (F := Ideal) x1 x2 x3 (ValueIdx.ix4 b hd t s)
      = Ideal.exp (tau x1 x2 x3 b hd t s - val_main_v28 (F := Ideal) x1 x2 x3 (ValueIdx.ix3 b hd t)) := by
  rw [val_main_v32_apply, val_main_v31_apply, val_main_v30_apply, val_main_v29_apply, score_at]
  have e : idx_main_v29 (idx_main_v30 (ValueIdx.ix4 b hd t s : S2x12x8192x8192.Idx)) = ValueIdx.ix3 b hd t :=
    funext fun a => by match a with | ⟨0, _⟩ => rfl | ⟨1, _⟩ => rfl | ⟨2, _⟩ => rfl
  rw [e]
  rfl

theorem sum_at (b : Fin 2) (hd : Fin 12) (t : Fin 8192) :
    val_main_v33 (F := Ideal) x1 x2 x3 (ValueIdx.ix3 b hd t)
      = 0 + ∑ s : Fin 8192, Ideal.exp (tau x1 x2 x3 b hd t s - val_main_v28 (F := Ideal) x1 x2 x3 (ValueIdx.ix3 b hd t)) := by
  rw [val_main_v33_apply]
  refine congrArg₂ (· + ·) zero_word (Finset.sum_congr rfl fun s _ => ?_)
  have e : idx_main_v33 (ValueIdx.ix3 b hd t : S2x12x8192.Idx) s = ValueIdx.ix4 b hd t s :=
    funext fun a => by match a with | ⟨0, _⟩ => rfl | ⟨1, _⟩ => rfl | ⟨2, _⟩ => rfl | ⟨3, _⟩ => rfl
  rw [e, exp_at]

theorem weight_at (b : Fin 2) (hd : Fin 12) (t s : Fin 8192) :
    val_main_v36 (F := Ideal) x1 x2 x3 (ValueIdx.ix4 b hd t s)
      = Ideal.div (Ideal.exp (tau x1 x2 x3 b hd t s - val_main_v28 (F := Ideal) x1 x2 x3 (ValueIdx.ix3 b hd t)))
          (0 + ∑ j : Fin 8192, Ideal.exp (tau x1 x2 x3 b hd t j - val_main_v28 (F := Ideal) x1 x2 x3 (ValueIdx.ix3 b hd t))) := by
  rw [val_main_v36_apply, val_main_v35_apply, val_main_v34_apply, exp_at]
  have e : idx_main_v34 (idx_main_v35 (ValueIdx.ix4 b hd t s : S2x12x8192x8192.Idx)) = ValueIdx.ix3 b hd t :=
    funext fun a => by match a with | ⟨0, _⟩ => rfl | ⟨1, _⟩ => rfl | ⟨2, _⟩ => rfl
  rw [e, sum_at]
  rfl

/-- The products with the values, where the scores of a position's past are real numbers. -/
theorem out_at (b : Fin 2) (hd : Fin 12) (t : Fin 8192) (d : Fin 128) (ht : ∀ s, tau x1 x2 x3 b hd t s ≠ ⊤) (ρ : ℝ) (h₀ : tau x1 x2 x3 b hd t t = ρ) :
    val_main_v37 (F := Ideal) x1 x2 x3 (ValueIdx.ix4 b hd d t) = attn x1 x2 x3 b hd t d := by
  rw [val_main_v37_apply]
  refine Eq.trans (Finset.sum_congr rfl fun s _ => ?_) (plain (fun s => tau x1 x2 x3 b hd t s) (fun s => vA x2 b hd s d) ht t ρ h₀ _ (max_at x1 x2 x3 b hd t))
  have el : lidx_main_v37 (ValueIdx.ix4 b hd d t : S2x12x128x8192.Idx) s = ValueIdx.ix4 b s hd d :=
    funext fun a => by match a with | ⟨0, _⟩ => rfl | ⟨1, _⟩ => rfl | ⟨2, _⟩ => rfl | ⟨3, _⟩ => rfl
  have er : ridx_main_v37 (ValueIdx.ix4 b hd d t : S2x12x128x8192.Idx) s = ValueIdx.ix4 b hd t s :=
    funext fun a => by match a with | ⟨0, _⟩ => rfl | ⟨1, _⟩ => rfl | ⟨2, _⟩ => rfl | ⟨3, _⟩ => rfl
  rw [el, er, v_at, weight_at]

/-- … laid out as rows of positions and columns of heads. -/
theorem rows_at (b : Fin 2) (hd : Fin 12) (t : Fin 8192) (d : Fin 128) (i : S16384x1536.Idx) (h0 : (i 0).val = 8192 * b.val + t.val)
    (h1 : (i 1).val = 128 * hd.val + d.val) (ht : ∀ s, tau x1 x2 x3 b hd t s ≠ ⊤) (ρ : ℝ) (h₀ : tau x1 x2 x3 b hd t t = ρ) :
    val_main_v40 (F := Ideal) x1 x2 x3 i = attn x1 x2 x3 b hd t d := by
  rw [val_main_v40_apply]
  show val_main_v39 (F := Ideal) x1 x2 x3 i = _
  rw [val_main_v39_apply, val_main_v38_apply]
  refine Eq.trans (congrArg (val_main_v37 (F := Ideal) x1 x2 x3) (funext fun a => Fin.ext ?_)) (out_at x1 x2 x3 b hd t d ht ρ h₀)
  have := b.isLt; have := t.isLt; have := hd.isLt; have := d.isLt
  match a with
  | ⟨0, _⟩ => show ((i 0).val * 1536 + (i 1).val) / 12582912 = b.val; rw [h0, h1]; omega
  | ⟨1, _⟩ => show ((i 0).val * 1536 + (i 1).val) / 128 % 12 = hd.val; rw [h0, h1]; omega
  | ⟨2, _⟩ => show ((i 0).val * 1536 + (i 1).val) % 128 = d.val; rw [h0, h1]; omega
  | ⟨3, _⟩ => show ((i 0).val * 1536 + (i 1).val) / 1536 % 8192 = t.val; rw [h0, h1]; omega

theorem start0 : Host.clampedStart S18432x4096 S16384x1536 updateFits_S18432x4096_S16384x1536.1
    (fun k => (((![val_main_c (F := Ideal), val_main_c_4 (F := Ideal)] : Fin 2 → (⟨S_, .i32⟩ : BufTy).Contents (Elt Ideal))) k (Shape.Idx.first h_S_)).toInt) 0 = 0 := by
  rfl

theorem start1 : Host.clampedStart S18432x4096 S16384x1536 updateFits_S18432x4096_S16384x1536.1
    (fun k => (((![val_main_c (F := Ideal), val_main_c_4 (F := Ideal)] : Fin 2 → (⟨S_, .i32⟩ : BufTy).Contents (Elt Ideal))) k (Shape.Idx.first h_S_)).toInt) 1 = 1536 := by
  rfl

/-- The result at the attention's rows and columns. -/
theorem result_in (b : Fin 2) (hd : Fin 12) (t : Fin 8192) (d : Fin 128) (i : S18432x4096.Idx) (h0 : (i 0).val = 8192 * b.val + t.val)
    (h1 : (i 1).val = 1536 + (128 * hd.val + d.val)) (ht : ∀ s, tau x1 x2 x3 b hd t s ≠ ⊤) (ρ : ℝ) (h₀ : tau x1 x2 x3 b hd t t = ρ) :
    val_main_v41 (F := Ideal) x0 x1 x2 x3 i = attn x1 x2 x3 b hd t d := by
  unfold val_main_v41
  rw [Host.dynamicUpdateSlice_apply]
  have := b.isLt; have := t.isLt; have := hd.isLt; have := d.isLt
  rw [dif_pos (fun a => by
    match a with
    | ⟨0, _⟩ => exact ⟨(start0.le.trans (Nat.zero_le _)), by have := start0; show (i 0).val < _ + 16384; rw [h0]; omega⟩
    | ⟨1, _⟩ => exact ⟨start1.le.trans (show 1536 ≤ (i 1).val by rw [h1]; omega), by show (i 1).val < _ + 1536; refine lt_of_lt_of_eq (b := 1536 + 1536) (by rw [h1]; omega) (congrArg (· + 1536) start1.symm)⟩)]
  refine rows_at x1 x2 x3 b hd t d _ ?_ ?_ ht ρ h₀
  · show (i 0).val - _ = _
    exact (congrArg ((i 0).val - ·) start0).trans (by omega)
  · show (i 1).val - _ = _
    exact (congrArg ((i 1).val - ·) start1).trans (by omega)

/-- … and elsewhere. -/
theorem result_out (i : S18432x4096.Idx) (h : ¬ ((i 0).val < 16384 ∧ 1536 ≤ (i 1).val ∧ (i 1).val < 3072)) :
    val_main_v41 (F := Ideal) x0 x1 x2 x3 i = x0 i := by
  unfold val_main_v41
  rw [Host.dynamicUpdateSlice_apply]
  rw [dif_neg (fun hin => h ⟨by have h2 : (i 0).val < _ + 16384 := (hin 0).2; exact h2.trans_eq (congrArg (· + 16384) start0), start1.symm.le.trans (hin 1).1,
    by have h2 : (i 1).val < _ + 1536 := (hin 1).2; exact h2.trans_eq (congrArg (· + 1536) start1)⟩)]

end Plain
-- ==== Proof.Whole.lean ====
module

public import proofs.«01_k».proof.Proof.Plain
public import proofs.«01_k».proof.Proof.Gen.KernelIdeal.Value

@[expose] public section

set_option maxRecDepth 16384

noncomputable section

/-! # The kernel's result array is the plain attention, where the queries, keys and log-forgets are real numbers -/

namespace Whole
open Cert.KernelIdeal Cert.KernelIdeal.Gen Cert.KernelIdeal.Value Idealize.ShloMosaic Idealize.ShloMosaic.TcCoe Idealize.SL.Sem
open Heads Rows Blocks Softmax Plain

theorem sum_real {ι : Type*} [Fintype ι] (f g : ι → EReal) (hf : ∀ i, ∃ r : ℝ, f i = r) (hg : ∀ i, ∃ r : ℝ, g i = r) : ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

/-- The kernel's weight of a real score, in base two and from the block's first log-forget, against the plain one. -/
theorem weight_scale (σ cf cq cs : ℝ) :
    wt ((σ : EReal) * ((SC : ℝ) : EReal) + ((cf : EReal) - (cs : EReal)) * ((L2 : ℝ) : EReal))
      = Real.exp (cf - cq) * we ((σ : EReal) * ((scale : ℝ) : EReal) + ((cq : EReal) - (cs : EReal))) := by
  rw [← EReal.coe_sub, ← EReal.coe_sub, ← EReal.coe_mul, ← EReal.coe_mul, ← EReal.coe_mul, ← EReal.coe_add, ← EReal.coe_add]
  unfold wt we
  rw [if_neg (EReal.coe_ne_bot _), if_neg (EReal.coe_ne_bot _), EReal.toReal_coe, EReal.toReal_coe, ← Real.exp_add, Real.rpow_def_of_pos (by norm_num)]
  congr 1
  have h2 : Real.log 2 ≠ 0 := (Real.log_pos (by norm_num)).ne'
  unfold SC L2 scale
  field_simp
  ring

variable (m : (ℓ : Loc nD τ sig) → Buf (Elt Ideal) ℓ) (c : Dev nD)

abbrev A1 : (⟨S18432x6656, .bf16⟩ : BufTy).Contents (Elt Ideal) := m ((c : Thread nD τ).loc main_arg1)
abbrev A2 : (⟨S18432x5120, .bf16⟩ : BufTy).Contents (Elt Ideal) := m ((c : Thread nD τ).loc main_arg2)
abbrev A3 : (⟨S6x4x8192, .f32⟩ : BufTy).Contents (Elt Ideal) := m ((c : Thread nD τ).loc main_arg3)

/-- The queries, keys and log-forgets are real numbers. -/
structure Fin3 : Prop where
  q : ∀ b hd t d, ∃ r : ℝ, qA (A1 m c) b hd t d = r
  k : ∀ b hd t d, ∃ r : ℝ, kA (A2 m c) b hd t d = r
  g : ∀ b hd t, ∃ r : ℝ, cA (A3 m c) b hd t = r

variable {m c}

theorem Fin3.dot (H : Fin3 m c) (b : Fin 2) (hd : Fin 12) (t s : Fin 8192) :
    ∃ r : ℝ, (∑ d : Fin 128, qA (A1 m c) b hd t d * kA (A2 m c) b hd s d) = r :=
  sum_real _ _ (fun d => H.q b hd t d) (fun d => H.k b hd s d)

theorem Fin3.past (H : Fin3 m c) (b : Fin 2) (hd : Fin 12) (t s : Fin 8192) (h : s.val ≤ t.val) :
    ∃ r : ℝ, tau (A1 m c) (A2 m c) (A3 m c) b hd t s = r := by
  obtain ⟨σ, hσ⟩ := H.dot b hd t s
  obtain ⟨x, hx⟩ := H.g b hd t
  obtain ⟨y, hy⟩ := H.g b hd s
  refine ⟨σ * scale + (x - y), ?_⟩
  unfold tau
  rw [if_pos h, hσ, hx, hy, EReal.coe_add, EReal.coe_mul, EReal.coe_sub]

theorem Fin3.ne_top (H : Fin3 m c) (b : Fin 2) (hd : Fin 12) (t s : Fin 8192) : tau (A1 m c) (A2 m c) (A3 m c) b hd t s ≠ ⊤ := by
  by_cases h : s.val ≤ t.val
  · obtain ⟨r, hr⟩ := H.past b hd t s h
    rw [hr]; exact EReal.coe_ne_top r
  · unfold tau; rw [if_neg h]; exact bot_ne_top

variable (m c)

/-- A point's score of a key, over the arrays. -/
theorem score_read (t : Fin cfg0.N) (h : Fin 4) (r : Fin 512) (s : Fin 8192) :
    sc2 (iblk m c 0 t) (X0_1 m c t) (iblk m c 3 t) (pq t).val h.val r s.val
      = (∑ d : Fin 128, qA (A1 m c) (pb t) (hdOf (pg t) h) ⟨512 * (pq t).val + r.val, by omega⟩ d * kA (A2 m c) (pb t) (hdOf (pg t) h) s d) * ((SC : ℝ) : EReal)
        + (cA (A3 m c) (pb t) (hdOf (pg t) h) ⟨512 * (pq t).val, by omega⟩ - cA (A3 m c) (pb t) (hdOf (pg t) h) s) * ((L2 : ℝ) : EReal) := by
  unfold sc2
  rw [c_read m c t h s, show cv (iblk m c 3 t) h.val (512 * (pq t).val) = _ from c_read m c t h ⟨512 * (pq t).val, by omega⟩]
  refine congrArg (· * _ + _) (Finset.sum_congr rfl fun d _ => ?_)
  rw [q_read, k_read]

variable {m c}

theorem Fin3.score (H : Fin3 m c) (t : Fin cfg0.N) (h : Fin 4) (r : Fin 512) (n : ℕ) :
    ∃ ρ : ℝ, sc2 (iblk m c 0 t) (X0_1 m c t) (iblk m c 3 t) (pq t).val h.val r n = ρ := by
  have e : sc2 (iblk m c 0 t) (X0_1 m c t) (iblk m c 3 t) (pq t).val h.val r n = sc2 (iblk m c 0 t) (X0_1 m c t) (iblk m c 3 t) (pq t).val h.val r (n % 8192) := by
    simp only [sc2, kv, cv, Nat.mod_mod]
  rw [e, show sc2 (iblk m c 0 t) (X0_1 m c t) (iblk m c 3 t) (pq t).val h.val r (n % 8192) = _ from score_read m c t h r ⟨n % 8192, by omega⟩]
  obtain ⟨σ, hσ⟩ := H.dot (pb t) (hdOf (pg t) h) ⟨512 * (pq t).val + r.val, by omega⟩ ⟨n % 8192, by omega⟩
  obtain ⟨x, hx⟩ := H.g (pb t) (hdOf (pg t) h) ⟨512 * (pq t).val, by omega⟩
  obtain ⟨y, hy⟩ := H.g (pb t) (hdOf (pg t) h) ⟨n % 8192, by omega⟩
  refine ⟨σ * SC + (x - y) * L2, ?_⟩
  rw [hσ, hx, hy, EReal.coe_add, EReal.coe_mul, EReal.coe_mul, EReal.coe_sub]

/-- A point's head writes the plain attention of its rows. -/
theorem Fin3.point (H : Fin3 m c) (t : Fin cfg0.N) (h : Fin 4) (r : Fin 512) (d : Fin 128) :
    out (iblk m c 0 t) (X0_1 m c t) (X0_2 m c t) (iblk m c 3 t) (pq t).val h (ValueIdx.ix2 r d)
      = attn (A1 m c) (A2 m c) (A3 m c) (pb t) (hdOf (pg t) h) ⟨512 * (pq t).val + r.val, by omega⟩ d := by
  rw [out_apply _ _ _ _ (pq t).val (pq t).isLt h r d (fun n => H.score t h r n)]
  unfold attn
  obtain ⟨cf, hcf⟩ := H.g (pb t) (hdOf (pg t) h) ⟨512 * (pq t).val, by omega⟩
  obtain ⟨cq, hcq⟩ := H.g (pb t) (hdOf (pg t) h) ⟨512 * (pq t).val + r.val, by omega⟩
  refine Eq.trans (scale_cancel Finset.univ (Real.exp (cf - cq)) (Real.exp_pos _) _
    (fun s => we (tau (A1 m c) (A2 m c) (A3 m c) (pb t) (hdOf (pg t) h) ⟨512 * (pq t).val + r.val, by omega⟩ s)) (fun s _ => ?_) (fun s _ => we_nonneg _) _) ?_
  · show W (iblk m c 0 t) (X0_1 m c t) (iblk m c 3 t) (pq t).val h.val r s.val = _
    unfold W tau
    by_cases hs : s.val ≤ 512 * (pq t).val + r.val
    · rw [if_pos hs, if_pos hs, score_read]
      obtain ⟨σ, hσ⟩ := H.dot (pb t) (hdOf (pg t) h) ⟨512 * (pq t).val + r.val, by omega⟩ s
      obtain ⟨cs, hcs⟩ := H.g (pb t) (hdOf (pg t) h) s
      rw [hσ, hcf, hcq, hcs, weight_scale]
    · rw [if_neg hs, if_neg hs]
      simp [we]
  · refine congrArg _ (Finset.sum_congr rfl fun s _ => ?_)
    rw [v_read]

/-! ## The final array -/

theorem flush4 : ∀ t : Fin cfg0.N, (cfg0.win 4).flush t = true :=
  (by decide +kernel : ∀ t : Fin grid0.N, win0_4.flush t = true)

/-- The result at the attention's rows and columns. -/
theorem Fin3.inside (H : Fin3 m c) (b : Fin 2) (hd : Fin 12) (t : Fin 8192) (d : Fin 128) (i : S18432x4096.Idx) (h0 : (i 0).val = 8192 * b.val + t.val)
    (h1 : (i 1).val = 1536 + (128 * hd.val + d.val)) :
    (dats m 0 c).arrAt 4 cfg0.N i = attn (A1 m c) (A2 m c) (A3 m c) b hd t d := by
  have := b.isLt; have := t.isLt; have := hd.isLt; have := d.isLt
  obtain ⟨p, pb', pg', pq'⟩ := point_of b ⟨hd.val / 4, by omega⟩ ⟨t.val / 512, by omega⟩
  obtain ⟨e0, e1⟩ := index4 p
  have key := congrFun (blocks4 m c p (flush4 p)) (ValueIdx.ix2 (⟨t.val % 512, by omega⟩ : Fin 512) (⟨128 * (hd.val % 4) + d.val, by omega⟩ : Fin 512))
  rw [View.read_apply, flushed4_A] at key
  refine Eq.trans (congrArg ((dats m 0 c).arrAt 4 cfg0.N) (funext fun a => Fin.ext ?_)) (key.trans ?_)
  · match a with
    | ⟨0, _⟩ => show (i 0).val = win0_4.index p 0 * 512 + 1 * (t.val % 512); rw [e0, h0, pb', pq']; show _ = (16 * b.val + t.val / 512) * 512 + 1 * (t.val % 512); omega
    | ⟨1, _⟩ => show (i 1).val = win0_4.index p 1 * 512 + 1 * (128 * (hd.val % 4) + d.val); rw [e1, h1, pg']; show _ = (3 + hd.val / 4) * 512 + 1 * (128 * (hd.val % 4) + d.val); omega
  · show out0_A_4 c (grid0.coords p) _ _ _ _ _ _ _ _ _ _ _ _ _ _ (ValueIdx.ix2 (⟨t.val % 512, by omega⟩ : Fin 512) (⟨128 * (hd.val % 4) + d.val, by omega⟩ : Fin 512)) = _
    rw [out_block (F := Ideal) c (grid0.coords p) _ _ _ _ _ _ _ _ _ _ _ _ _ _ _ ⟨hd.val % 4, by omega⟩ d rfl]
    have eb : pb p = b := Fin.ext pb'
    have eg : hdOf (pg p) ⟨hd.val % 4, by omega⟩ = hd := Fin.ext (by show 4 * (pg p).val + hd.val % 4 = hd.val; rw [pg']; show 4 * (hd.val / 4) + hd.val % 4 = hd.val; omega)
    have et : (⟨512 * (pq p).val + t.val % 512, by omega⟩ : Fin 8192) = t := Fin.ext (by show 512 * (pq p).val + t.val % 512 = t.val; rw [pq']; show 512 * (t.val / 512) + t.val % 512 = t.val; omega)
    refine Eq.trans (congrArg (out _ _ _ _ (pq p).val _) (funext fun a => ?_)) ((H.point p ⟨hd.val % 4, by omega⟩ ⟨t.val % 512, by omega⟩ d).trans ?_)
    · match a with | ⟨0, _⟩ => rfl | ⟨1, _⟩ => rfl
    · rw [eb, eg, et]

variable (m c)

/-- … and elsewhere: the entry contents. -/
theorem outside (i : S18432x4096.Idx) (h : ¬ ((i 0).val < 16384 ∧ 1536 ≤ (i 1).val ∧ (i 1).val < 3072)) :
    (dats m 0 c).arrAt 4 cfg0.N i = m ((c : Thread nD τ).loc main_arg0) i := by
  rw [entry4 m c i (fun t _ hi => h ?_)]
  · exact congrFun (V_out m c) i
  · obtain ⟨e0, e1⟩ := index4 t
    have hi' : i ∈ ((View.whole main_v0).slice (win0_4.rect t)).set := hi
    rw [View.set_slice_whole, Rect.mem_set_unit] at hi'
    have a0 : win0_4.index t 0 * 512 ≤ (i 0).val ∧ (i 0).val < win0_4.index t 0 * 512 + 512 := hi' 0
    have a1 : win0_4.index t 1 * 512 ≤ (i 1).val ∧ (i 1).val < win0_4.index t 1 * 512 + 512 := hi' 1
    rw [e0] at a0
    rw [e1] at a1
    have := (pb t).isLt; have := (pg t).isLt; have := (pq t).isLt
    omega

end Whole
-- ==== Proof.Bounded.lean ====
module

public import proofs.«01_k».proof.Proof.Whole
public import proofs.«01_k».proof.Proof.Gen.Pre_finite
public import Idealize.ShloMosaic.Lib.ReduceAll

@[expose] public section

set_option maxRecDepth 16384

noncomputable section

/-! # The precondition, read at an index -/

namespace Bounded
open Idealize.ShloMosaic Idealize.ShloMosaic.TcCoe Idealize.SL.Sem
open Cert.Pre_finite Cert.Pre_finite.Gen

theorem real_of_lt (x : EReal) (h : max x (-x) < ⊤) : ∃ r : ℝ, x = r := by
  induction x with
  | bot => simp at h
  | top => simp at h
  | coe r => exact ⟨r, rfl⟩

theorem top_word : (FloatOps.ofBits .f32 0x7F800000#32 : Ideal .f32) = (⊤ : EReal) := by
  simp [pointwise, Ideal.ofBits, Ideal.ieee]

theorem real_of_word (x : EReal) (h : (FloatOps.cmpf (F := Ideal) (φ := .f32) .olt (max x (-x)) (FloatOps.ofBits .f32 0x7F800000#32)) = 1#1) : ∃ r : ℝ, x = r := by
  rw [top_word] at h
  refine real_of_lt x ?_
  have h' : BitVec.ofBool (decide (max x (-x) < (⊤ : EReal))) = 1#1 := h
  by_contra hn
  rw [decide_eq_false hn] at h'
  exact absurd h' (by decide)

theorem and_one (a b : IVec S_ 1) (j : S_.Idx) (h : andi a b j = 1#1) : a j = 1#1 ∧ b j = 1#1 :=
  IntOp.andi_eq_one.mp h

instance : Subsingleton S_.Idx := ⟨fun a b => funext fun x => x.elim0⟩

variable (x0 : FVec Ideal S18432x4096 .bf16) (x1 : FVec Ideal S18432x6656 .bf16) (x2 : FVec Ideal S18432x5120 .bf16) (x3 : FVec Ideal S6x4x8192 .f32)

theorem decode (h : fn (F := Ideal) x0 x1 x2 x3 = fun _ => 1#1) :
    (∀ (i : S16384x1536.Idx), ∃ r : ℝ, extractStridedSlice S16384x1536 ![0, 4608] x1 slices_S18432x6656_S16384x1536_0_4608 i = (r : EReal))
    ∧ (∀ (i : S16384x1536.Idx), ∃ r : ℝ, extractStridedSlice S16384x1536 ![0, 0] x2 slices_S18432x5120_S16384x1536_0_0 i = (r : EReal))
    ∧ ∀ i : S6x4x8192.Idx, ∃ r : ℝ, x3 i = (r : EReal) := by
  have h0 := congrFun h (fun a => a.elim0)
  dsimp only [fn] at h0
  obtain ⟨h1, hc⟩ := and_one _ _ _ h0
  obtain ⟨hq, hk⟩ := and_one _ _ _ h1
  exact ⟨fun i => real_of_word _ (Host.reduce_andi_all _ _ _ _ _ hq i), fun i => real_of_word _ (Host.reduce_andi_all _ _ _ _ _ hk i),
    fun i => real_of_word _ (Host.reduce_andi_all _ _ _ _ _ hc i)⟩

open Blocks Whole Cert.KernelIdeal in
/-- So the queries, keys and log-forgets of a memory that meets it are real numbers. -/
theorem fin3 (m : (ℓ : Loc Cert.KernelIdeal.nD Cert.KernelIdeal.τ Cert.KernelIdeal.sig) → Buf (Elt Ideal) ℓ) (c : Dev Cert.KernelIdeal.nD)
    (h : fn (F := Ideal) (m ((c.tc : Thread Cert.KernelIdeal.nD Cert.KernelIdeal.τ).loc Cert.KernelIdeal.main_arg0)) (A1 m c) (A2 m c) (A3 m c) = fun _ => 1#1) : Fin3 m c := by
  obtain ⟨hq, hk, hc⟩ := decode _ _ _ _ h
  refine ⟨fun b hd t d => ?_, fun b hd t d => ?_, fun b hd t => hc _⟩
  · obtain ⟨r, hr⟩ := hq (ValueIdx.ix2 ⟨8192 * b.val + t.val, by omega⟩ ⟨128 * hd.val + d.val, by omega⟩)
    rw [extractStridedSlice_apply ![0, 4608] (A1 m c) slices_S18432x6656_S16384x1536_0_4608 _
      (ValueIdx.ix2 (⟨8192 * b.val + t.val, by omega⟩ : Fin 18432) (⟨4608 + (128 * hd.val + d.val), by omega⟩ : Fin 6656)) (fun a => match a with
        | ⟨0, _⟩ => (Nat.zero_add _).symm
        | ⟨1, _⟩ => rfl)] at hr
    exact ⟨r, hr⟩
  · obtain ⟨r, hr⟩ := hk (ValueIdx.ix2 ⟨8192 * b.val + t.val, by omega⟩ ⟨128 * hd.val + d.val, by omega⟩)
    rw [extractStridedSlice_apply ![0, 0] (A2 m c) slices_S18432x5120_S16384x1536_0_0 _
      (ValueIdx.ix2 (⟨8192 * b.val + t.val, by omega⟩ : Fin 18432) (⟨128 * hd.val + d.val, by omega⟩ : Fin 5120)) (fun a => match a with
        | ⟨0, _⟩ => (Nat.zero_add _).symm
        | ⟨1, _⟩ => (Nat.zero_add _).symm)] at hr
    exact ⟨r, hr⟩

end Bounded
-- ==== Proof.GateRun.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.Pipeline.Value
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WordCmp

@[expose] public section

set_option maxRecDepth 16384

noncomputable section

/-! One run of the body of the gate and up products: what it leaves in its two output blocks, from the blocks of its
    inputs and the word that says how many rows of the tile hold tokens. -/

namespace Cert.Kernel2Ideal.Gate

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables, whole: each row's expert, and each tile's number of rows. -/
abbrev teM : Memref sig .tc .smem S79 .i32 := Memref.whole main_arg0
abbrev nuM : Memref sig .tc .smem S79 .i32 := Memref.whole main_arg1

/-- The word of the second table at a grid point's tile. -/
abbrev word (T : S79.Idx → Elt F .i32) (i : grid0.Coords) : Elt F .i32 :=
  View.readAt (Elt F) nuM.view (Rect.unit (s := S79) (k0_off1 i) S1.size (k0_off1_inb i)).toLoadRect T (Shape.Idx.first (numel1_S1.symm ▸ Nat.one_pos))

/-- The upper half of a tile's rows. -/
abbrev top (x0 : Vec F S512x4096 .bf16) : Vec F S256x4096 .bf16 :=
  View.ld x0 (Rect.unit (s := S512x4096) ![0, 0] S256x4096.size inb_S512x4096_S256x4096_0_0)

/-- What the body leaves in the block of products: all rows, the upper half and zeros, or zeros. -/
def gate (w : Elt F .i32) (x0 : Vec F S512x4096 .bf16) (x1 x2 : Vec F S1x4096x512 .bf16) : Vec F S512x512 .bf16 :=
  if k0_cond1 w = 1#1 then k0_pay1 x0 x1 x2
  else if k0_cond2 w = 1#1 then
    View.canon [⟨Rect.unit (s := S512x512) ![256, 0] S256x512.size inb_S512x512_S256x512_256_0, k0_pay3 (F := F)⟩,
      ⟨Rect.unit (s := S512x512) ![0, 0] S256x512.size inb_S512x512_S256x512_0_0, k0_pay2 (top x0) x1 x2⟩]
  else k0_pay4

/-- Exactly one of the three cases on the number of rows holds. -/
abbrev OneCase (w : Elt F .i32) : Prop :=
  (k0_cond1 w = 1#1 ∧ ¬k0_cond2 w = 1#1 ∧ ¬k0_cond3 w = 1#1) ∨ (¬k0_cond1 w = 1#1 ∧ k0_cond2 w = 1#1 ∧ ¬k0_cond3 w = 1#1)
    ∨ (¬k0_cond1 w = 1#1 ∧ ¬k0_cond2 w = 1#1 ∧ k0_cond3 w = 1#1)

/-- The body's inputs as it finds and leaves them: four blocks and the two tables. -/
abbrev held (c : Dev nD) (arg4 : Memref sig .tc .vmem S512x4096 .bf16) (arg5 arg6 : Memref sig .tc .vmem S1x4096x512 .bf16) (arg7 : Memref sig .tc .vmem S64x4096 .f32)
    (T0 T1 : S79.Idx → Elt F .i32) (x0 : Vec F S512x4096 .bf16) (x1 x2 : Vec F S1x4096x512 .bf16) (x3 : Vec F S64x4096 .f32) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (teM.view.loc (c : Thread nD τ) ↦{fullShare.right} T0)
    ∗ (nuM.view.loc (c : Thread nD τ) ↦{fullShare.right} T1))

/-! What the stores cover, and what whole loads and stores read and leave. -/

theorem cover1 (x : Vec F S512x512 .bf16) (y : S512x512.Idx) :
    ∃ p ∈ ([⟨Rect.unit (s := S512x512) ![0, 0] S512x512.size inb_S512x512_S512x512_0_0, x⟩] : List (View.Piece (Elt F) S512x512 .bf16)), y ∈ p.1.set :=
  View.cover_of_tiledL _ S512x512.size (by sl_kernel_rfl) y

theorem cover2 (x x' : Vec F S256x512 .bf16) (y : S512x512.Idx) :
    ∃ p ∈ ([⟨Rect.unit (s := S512x512) ![256, 0] S256x512.size inb_S512x512_S256x512_256_0, x⟩,
      ⟨Rect.unit (s := S512x512) ![0, 0] S256x512.size inb_S512x512_S256x512_0_0, x'⟩] : List (View.Piece (Elt F) S512x512 .bf16)), y ∈ p.1.set :=
  View.cover_of_tiledL (s := S512x512) _ ![256, 512] (by sl_kernel_rfl) y

theorem cover3 (x : Vec F S64x4096 .bf16) (y : S64x4096.Idx) :
    ∃ p ∈ ([⟨Rect.unit (s := S64x4096) ![0, 0] S64x4096.size inb_S64x4096_S64x4096_0_0, x⟩] : List (View.Piece (Elt F) S64x4096 .bf16)), y ∈ p.1.set :=
  View.cover_of_tiledL _ S64x4096.size (by sl_kernel_rfl) y

theorem whole_block (x : Vec F S512x512 .bf16) (L : List (View.Piece (Elt F) S512x512 .bf16)) :
    View.canon (⟨Rect.unit (s := S512x512) ![0, 0] S512x512.size inb_S512x512_S512x512_0_0, x⟩ :: L) = x :=
  View.canon_cons_unit_zero (funext (by decide)) _ _ _

theorem whole_cast (x : Vec F S64x4096 .bf16) (L : List (View.Piece (Elt F) S64x4096 .bf16)) :
    View.canon (⟨Rect.unit (s := S64x4096) ![0, 0] S64x4096.size inb_S64x4096_S64x4096_0_0, x⟩ :: L) = x :=
  View.canon_cons_unit_zero (funext (by decide)) _ _ _

theorem rd_rows (M : Memref sig .tc .vmem S512x4096 .bf16) (x : Vec F S512x4096 .bf16) :
    M.view.readAt (Elt F) (Rect.unit (s := S512x4096) ![0, 0] S512x4096.size inb_S512x4096_S512x4096_0_0).toLoadRect (M.view.rep x) = x := by
  rw [View.readAt_eq_ld, View.read_rep]; exact View.ld_unit_zero (funext (by decide)) _ _

theorem rd_top (M : Memref sig .tc .vmem S512x4096 .bf16) (x : Vec F S512x4096 .bf16) :
    M.view.readAt (Elt F) (Rect.unit (s := S512x4096) ![0, 0] S256x4096.size inb_S512x4096_S256x4096_0_0).toLoadRect (M.view.rep x) = top x := by
  rw [View.readAt_eq_ld, View.read_rep]

theorem rd_cols (M : Memref sig .tc .vmem S1x4096x512 .bf16) (x : Vec F S1x4096x512 .bf16) :
    M.view.readAt (Elt F) (Rect.unit (s := S1x4096x512) ![0, 0, 0] S1x4096x512.size inb_S1x4096x512_S1x4096x512_0_0_0).toLoadRect (M.view.rep x) = x := by
  rw [View.readAt_eq_ld, View.read_rep]; exact View.ld_unit_zero (funext (by decide)) _ _

theorem rd_cast (M : Memref sig .tc .vmem S64x4096 .f32) (x : Vec F S64x4096 .f32) :
    M.view.readAt (Elt F) (Rect.unit (s := S64x4096) ![0, 0] S64x4096.size inb_S64x4096_S64x4096_0_0).toLoadRect (M.view.rep x) = x := by
  rw [View.readAt_eq_ld, View.read_rep]; exact View.ld_unit_zero (funext (by decide)) _ _

section
variable (w : Elt F .i32) (x0 : Vec F S512x4096 .bf16) (x1 x2 : Vec F S1x4096x512 .bf16)

theorem gate_all (h1 : k0_cond1 w = 1#1) : gate w x0 x1 x2 = k0_pay1 x0 x1 x2 := by unfold gate; rw [if_pos h1]

theorem gate_half (h1 : ¬k0_cond1 w = 1#1) (h2 : k0_cond2 w = 1#1) : gate w x0 x1 x2 =
    View.canon [⟨Rect.unit (s := S512x512) ![256, 0] S256x512.size inb_S512x512_S256x512_256_0, k0_pay3 (F := F)⟩,
      ⟨Rect.unit (s := S512x512) ![0, 0] S256x512.size inb_S512x512_S256x512_0_0, k0_pay2 (top x0) x1 x2⟩] := by
  unfold gate; rw [if_neg h1, if_pos h2]

theorem gate_none (h1 : ¬k0_cond1 w = 1#1) (h2 : ¬k0_cond2 w = 1#1) : gate w x0 x1 x2 = k0_pay4 := by
  unfold gate; rw [if_neg h1, if_neg h2]

end

/-- The payloads at what the loads read. -/
theorem pay1_reads (M0 : Memref sig .tc .vmem S512x4096 .bf16) (M1 M2 : Memref sig .tc .vmem S1x4096x512 .bf16) (x0 : Vec F S512x4096 .bf16) (x1 x2 : Vec F S1x4096x512 .bf16) :
    k0_pay1 (M0.view.readAt (Elt F) (Rect.unit (s := S512x4096) ![0, 0] S512x4096.size inb_S512x4096_S512x4096_0_0).toLoadRect (M0.view.rep x0))
      (M1.view.readAt (Elt F) (Rect.unit (s := S1x4096x512) ![0, 0, 0] S1x4096x512.size inb_S1x4096x512_S1x4096x512_0_0_0).toLoadRect (M1.view.rep x1))
      (M2.view.readAt (Elt F) (Rect.unit (s := S1x4096x512) ![0, 0, 0] S1x4096x512.size inb_S1x4096x512_S1x4096x512_0_0_0).toLoadRect (M2.view.rep x2))
      = k0_pay1 x0 x1 x2 := by
  rw [rd_rows, rd_cols, rd_cols]

theorem pay2_reads (M0 : Memref sig .tc .vmem S512x4096 .bf16) (M1 M2 : Memref sig .tc .vmem S1x4096x512 .bf16) (x0 : Vec F S512x4096 .bf16) (x1 x2 : Vec F S1x4096x512 .bf16) :
    k0_pay2 (M0.view.readAt (Elt F) (Rect.unit (s := S512x4096) ![0, 0] S256x4096.size inb_S512x4096_S256x4096_0_0).toLoadRect (M0.view.rep x0))
      (M1.view.readAt (Elt F) (Rect.unit (s := S1x4096x512) ![0, 0, 0] S1x4096x512.size inb_S1x4096x512_S1x4096x512_0_0_0).toLoadRect (M1.view.rep x1))
      (M2.view.readAt (Elt F) (Rect.unit (s := S1x4096x512) ![0, 0, 0] S1x4096x512.size inb_S1x4096x512_S1x4096x512_0_0_0).toLoadRect (M2.view.rep x2))
      = k0_pay2 (top x0) x1 x2 := by
  rw [rd_top, rd_cols, rd_cols]

set_option maxHeartbeats 8000000 in
theorem run (c : Dev nD) (i : grid0.Coords) (arg4 : Memref sig .tc .vmem S512x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S64x4096 .f32) (harg7 : arg7.IsWhole) (arg8 : Memref sig .tc .vmem S512x512 .bf16) (harg8 : arg8.IsWhole) (arg9 : Memref sig .tc .vmem S64x4096 .bf16) (harg9 : arg9.IsWhole)
    (T0 T1 : S79.Idx → Elt F .i32) (x0 : Vec F S512x4096 .bf16) (x1 x2 : Vec F S1x4096x512 .bf16) (x3 : Vec F S64x4096 .f32) (d5 : Vec F S64x4096 .bf16) (hw : OneCase (word T1 i)) (K : PUnit → sProp 𝕄) :
    iprop(held c arg4 arg5 arg6 arg7 T0 T1 x0 x1 x2 x3
        ∗ (∃ d, owns (c : Thread nD τ) arg8 fullShare d)
        ∗ owns (c : Thread nD τ) arg9 fullShare d5
        ∗ (iprop(held c arg4 arg5 arg6 arg7 T0 T1 x0 x1 x2 x3
            ∗ owns (c : Thread nD τ) arg8 fullShare (gate (word T1 i) x0 x1 x2)
            ∗ owns (c : Thread nD τ) arg9 fullShare (if k0_cond4 i = 1#1 then k0_pay5 x3 else d5)) -∗ K ⟨⟩))
      ⊢ wp frame (wpE (defs₀ (F := F)) Variants.none c none) Set.univ (cc0_moe_gate_up i teM (Memref.isWhole_whole _) nuM (Memref.isWhole_whole _) arg4 harg4 arg5 harg5 arg6 harg6 arg7 harg7 arg8 harg8 arg9 harg9) K := by
  unfold held owns
  rw [cc0_moe_gate_up_eq_skeleton]; unfold cc0_moe_gate_up_skel
  iintro ⟨⟨H0, H1, H2, H3, HT0, HT1⟩, ⟨%d4, %f4, -, HO4⟩, ⟨%f5, %hf5, HO5⟩, Hk⟩
  have hT0 : teM.IsWhole := Memref.isWhole_whole _
  have hT1 : nuM.IsWhole := Memref.isWhole_whole _
  rcases hw with ⟨h1, h2, h3⟩ | ⟨h1, h2, h3⟩ | ⟨h1, h2, h3⟩ <;> by_cases h4 : k0_cond4 i = 1#1 <;>
  ( sl_exec! (disch := first | (guard_target = k0_cond1 _ = _; exact h1) | (guard_target = ¬(k0_cond1 _ = _); exact h1) | (guard_target = k0_cond2 _ = _; exact h2) | (guard_target = ¬(k0_cond2 _ = _); exact h2) | (guard_target = k0_cond3 _ = _; exact h3) | (guard_target = ¬(k0_cond3 _ = _); exact h3) | (guard_target = k0_cond4 _ = _; exact h4) | (guard_target = ¬(k0_cond4 _ = _); exact h4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; swap
      · iexact HO4
      · ipureintro
        sl_unfold_run_names
        first
          | exact (View.read_writes_eq_canon _ _ _ (cover1 _)).trans ((whole_block _ _).trans ((pay1_reads _ _ _ _ _ _).trans (gate_all _ _ _ _ h1).symm))
          | exact (View.read_writes_eq_canon _ _ _ (cover2 _ _)).trans
              ((congrArg (fun z => View.canon [_, (⟨Rect.unit (s := S512x512) ![0, 0] S256x512.size inb_S512x512_S256x512_0_0, z⟩ : View.Piece (Elt F) S512x512 .bf16)]) (pay2_reads _ _ _ _ _ _)).trans (gate_half _ _ _ _ h1 h2).symm)
          | exact (View.read_writes_eq_canon _ _ _ (cover1 _)).trans ((whole_block _ _).trans (gate_none _ _ _ _ h1 h2).symm)
    iexists _; isplitr; swap
    · iexact HO5
    · ipureintro
      first
        | (rw [if_neg h4]; exact hf5)
        | (rw [if_pos h4]
           sl_unfold_run_names
           exact (View.read_writes_eq_canon _ _ _ (cover3 _)).trans ((whole_cast _ _).trans (congrArg k0_pay5 (rd_cast _ _)))) )

end Cert.Kernel2Ideal.Gate

end
-- ==== Proof.GateFrame.lean ====
module

public import proofs.«01_k».proof.Proof.GateRun
public import Idealize.ShloMosaic.Lib.Claim
public import Idealize.ShloMosaic.Lib.Pipeline.Kit
public import Idealize.ShloMosaic.Adequacy
public import Idealize.ShloMosaic.Init

@[expose] public section

set_option maxRecDepth 16384

noncomputable section

/-! The whole run of the gate and up products, at any tables whose words are in range: it ends, no argument changes, and
    each result array holds the blocks its points leave. -/

namespace Cert.Kernel2Ideal.Gate

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the grid decides -/

theorem cast_live : ∀ t : Fin grid0.N, (k0_cond4 (grid0.coords t) == 1#1) = decide (t.val < 1792) := by decide +kernel

theorem cast_flush : ∀ t : Fin grid0.N, Pipeline.Window.flushOf grid0 true cc0_transform_5 t = (decide (t.val < 1791) || decide (t.val = 2211)) := by decide +kernel

variable (m : (ℓ : Loc nD τ sig) → Buf (Elt F) ℓ) (ρ : Dev nD → PrngReg)

/-- The tables as the run finds them. -/
def tbl : pre0.Contents (Elt F) := fun j => m ((0 : Dev nD).tc.loc (pre0.ref j))

theorem tbl_eq (c : Dev nD) (j : Fin 2) : m ((c : Thread nD τ).loc (pre0.ref j)) = tbl m j := by
  obtain rfl : c = 0 := Subsingleton.elim _ _; rfl

/-- What is asked of the tables: every block of weights they name is there, and each tile's number of rows falls in one case. -/
structure Fit : Prop where
  ok : ok0 (F := F) (tbl m)
  one : ∀ i : grid0.Coords, OneCase (word (tbl m 1) i)

variable (hF : Fit m)

abbrev adm : (pcfg0 (F := F)).Adm := ⟨tbl m, hF.ok⟩
abbrev cfgM : Pipeline.Cfg sig Λ₀ := cfg0 (adm m hF)
abbrev pcs : Fin 1 → Pipeline.Cfg sig Λ₀ := Pipeline.pin (pcfgs (F := F)) fun _ => adm m hF

abbrev crd (t : Fin (cfgM m hF).N) : grid0.Coords := grid0.coords t

abbrev st0 (t : Fin (cfgM m hF).N) : Memref sig .tc .vmem S512x4096 .bf16 := spec0_0.stage ((cfgM m hF).slots t (0 : Fin 6))
abbrev hst0 (t : Fin (cfgM m hF).N) : (st0 m hF t).IsWhole := hstage0_0 (((cfgM m hF).slots t (0 : Fin 6)).cast nbuf0_0)
abbrev st1 (t : Fin (cfgM m hF).N) : Memref sig .tc .vmem S1x4096x512 .bf16 := spec0_1.stage ((cfgM m hF).slots t (1 : Fin 6))
abbrev hst1 (t : Fin (cfgM m hF).N) : (st1 m hF t).IsWhole := hstage0_1 (((cfgM m hF).slots t (1 : Fin 6)).cast nbuf0_1)
abbrev st2 (t : Fin (cfgM m hF).N) : Memref sig .tc .vmem S1x4096x512 .bf16 := spec0_2.stage ((cfgM m hF).slots t (2 : Fin 6))
abbrev hst2 (t : Fin (cfgM m hF).N) : (st2 m hF t).IsWhole := hstage0_2 (((cfgM m hF).slots t (2 : Fin 6)).cast nbuf0_2)
abbrev st3 (t : Fin (cfgM m hF).N) : Memref sig .tc .vmem S64x4096 .f32 := spec0_3.stage ((cfgM m hF).slots t (3 : Fin 6))
abbrev hst3 (t : Fin (cfgM m hF).N) : (st3 m hF t).IsWhole := hstage0_3 (((cfgM m hF).slots t (3 : Fin 6)).cast nbuf0_3)
abbrev st4 (t : Fin (cfgM m hF).N) : Memref sig .tc .vmem S512x512 .bf16 := spec0_4.stage ((cfgM m hF).slots t (4 : Fin 6))
abbrev hst4 (t : Fin (cfgM m hF).N) : (st4 m hF t).IsWhole := hstage0_4 (((cfgM m hF).slots t (4 : Fin 6)).cast nbuf0_4)
abbrev st5 (t : Fin (cfgM m hF).N) : Memref sig .tc .vmem S64x4096 .bf16 := spec0_5.stage ((cfgM m hF).slots t (5 : Fin 6))
abbrev hst5 (t : Fin (cfgM m hF).N) : (st5 m hF t).IsWhole := hstage0_5 (((cfgM m hF).slots t (5 : Fin 6)).cast nbuf0_5)

/-- A window's block at a point, of its array as the run finds it. -/
def iblk (c : Dev nD) (w : Fin (cfgM m hF).W) (t : Fin (cfgM m hF).N) : (((cfgM m hF).win w).xblock ((cfgM m hF).grid.coords t)).Idx → Elt F ((cfgM m hF).win w).elt :=
  (((cfgM m hF).win w).blk t).view.read (Elt F) (m (((cfgM m hF).win w).arr.view.loc (c : Thread nD τ)))

/-- The last point up to this one that casts a block. -/
def cap (t : Fin (cfgM m hF).N) : Fin (cfgM m hF).N := ⟨min t.val 1791, Nat.lt_of_le_of_lt (Nat.min_le_left _ _) t.isLt⟩

/-- What each point leaves in the products' block, and what the cast's block holds after it. -/
def left4 (c : Dev nD) (t : Fin (cfgM m hF).N) : Vec F S512x512 .bf16 :=
  gate (word (tbl m 1) (crd m hF t)) (iblk m hF c (0 : Fin 6) t) (iblk m hF c (1 : Fin 6) t) (iblk m hF c (2 : Fin 6) t)
def left5 (c : Dev nD) (t : Fin (cfgM m hF).N) : Vec F S64x4096 .bf16 := k0_pay5 (iblk m hF c (3 : Fin 6) (cap m hF t))

def tables (c : Dev nD) : sProp 𝕄 :=
  iprop((teM.view.loc (c : Thread nD τ) ↦{fullShare.right} tbl m 0) ∗ (nuM.view.loc (c : Thread nD τ) ↦{fullShare.right} tbl m 1))

def dats (_ : Fin 1) (c : Dev nD) : Dat τ (Elt F) Unit ℕ (UR sig nD τ) ℕ (cfgM m hF) c where
  A w := m (((cfgM m hF).win w).arr.view.loc (c : Thread nD τ))
  after w t := match w with
    | ⟨0, _⟩ => iblk m hF c (0 : Fin 6) t
    | ⟨1, _⟩ => iblk m hF c (1 : Fin 6) t
    | ⟨2, _⟩ => iblk m hF c (2 : Fin 6) t
    | ⟨3, _⟩ => iblk m hF c (3 : Fin 6) t
    | ⟨4, _⟩ => left4 m hF c t
    | ⟨5, _⟩ => left5 m hF c t
  Φ _ := tables m c
  q _ := fullShare
  owed _ := 0

theorem after_0 (c : Dev nD) (t : Fin (cfgM m hF).N) : (dats m hF 0 c).after (0 : Fin 6) t = iblk m hF c (0 : Fin 6) t := rfl
theorem after_1 (c : Dev nD) (t : Fin (cfgM m hF).N) : (dats m hF 0 c).after (1 : Fin 6) t = iblk m hF c (1 : Fin 6) t := rfl
theorem after_2 (c : Dev nD) (t : Fin (cfgM m hF).N) : (dats m hF 0 c).after (2 : Fin 6) t = iblk m hF c (2 : Fin 6) t := rfl
theorem after_3 (c : Dev nD) (t : Fin (cfgM m hF).N) : (dats m hF 0 c).after (3 : Fin 6) t = iblk m hF c (3 : Fin 6) t := rfl
theorem after_4 (c : Dev nD) (t : Fin (cfgM m hF).N) : (dats m hF 0 c).after (4 : Fin 6) t = left4 m hF c t := rfl
theorem after_5 (c : Dev nD) (t : Fin (cfgM m hF).N) : (dats m hF 0 c).after (5 : Fin 6) t = left5 m hF c t := rfl

theorem before_0 (c : Dev nD) (t : Fin (cfgM m hF).N) (d) : (dats m hF 0 c).before (0 : Fin 6) t d = iblk m hF c (0 : Fin 6) t :=
  ((dats m hF 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgM m hF).N) (d) : (dats m hF 0 c).before (1 : Fin 6) t d = iblk m hF c (1 : Fin 6) t :=
  ((dats m hF 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgM m hF).N) (d) : (dats m hF 0 c).before (2 : Fin 6) t d = iblk m hF c (2 : Fin 6) t :=
  ((dats m hF 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgM m hF).N) (d) : (dats m hF 0 c).before (3 : Fin 6) t d = iblk m hF c (3 : Fin 6) t :=
  ((dats m hF 0 c).before_in_eq_fetched (3 : Fin 6) rfl (fun _ => rfl) (fun _ _ _ => rfl) (fun t => by rw [after_3]; unfold Dat.blockOf iblk; rfl) t d).trans
    (by unfold Dat.fetched Dat.blockOf iblk; rfl)

/-! ## The schedule of the outputs -/

theorem flush_4 (t : Fin (cfgM m hF).N) : ((cfgM m hF).win (4 : Fin 6)).flush t = true :=
  (fun t => (Pipeline.Window.flushOf_reads cc0_transform_4 reads0_4 hreads0_4 1 (by decide) (by decide) (Pipeline.Window.sep_of_coord cc0_transform_4 1 0 (fun _ => rfl) (by decide)) (P := 1) (m := 0) (by decide) rfl t).mpr (Nat.mod_one _) : ∀ t : Fin grid0.N, Pipeline.Window.flushOf grid0 true cc0_transform_4 t = true) t

theorem flush_5 (t : Fin (cfgM m hF).N) : ((cfgM m hF).win (5 : Fin 6)).flush t = (decide (t.val < 1791) || decide (t.val = 2211)) := cast_flush t

theorem idle_5 (t : Fin (cfgM m hF).N) : (cfgM m hF).idle (5 : Fin 6) ((cfgM m hF).grid.coords t) = !decide (t.val < 1792) :=
  congrArg (!·) (cast_live t)

/-- The word the schedule reads is the one the body loads. -/
theorem atD_word (T : pre0.Contents (Elt F)) (i : grid0.Coords) : T.atD 1 (k0_off1 i) = word (T 1) i := by
  have h : ∀ a : Fin 1, k0_off1 i a + 1 ≤ (pre0.ref 1).ty.shape.size a := fun a => by
    have h := k0_off1_inb i a
    revert h
    obtain rfl : a = 0 := Subsingleton.elim _ _
    exact id
  refine (dif_pos h).trans ?_
  exact congrArg (T 1) (funext fun a => Fin.ext rfl)

theorem live_4 (t : Fin (cfgM m hF).N) : (cfgM m hF).idle (4 : Fin 6) ((cfgM m hF).grid.coords t) = false := by
  have e : (cfgM m hF).idle (4 : Fin 6) ((cfgM m hF).grid.coords t)
      = (!(k0_cond1 ((tbl m).atD 1 (k0_off1 (crd m hF t))) == 1#1) && !(k0_cond2 ((tbl m).atD 1 (k0_off1 (crd m hF t))) == 1#1) && !(k0_cond3 ((tbl m).atD 1 (k0_off1 (crd m hF t))) == 1#1)) := rfl
  rw [e, atD_word]
  rcases hF.one (crd m hF t) with ⟨h, -, -⟩ | ⟨-, h, -⟩ | ⟨-, -, h⟩ <;> rw [h] <;> simp

theorem not_fresh (n : ℕ) (h : 1791 ≤ n) (hn : n < (cfgM m hF).N) : (cfgM m hF).fresh (5 : Fin 6) (n + 1) = false ∨ n = 2211 := by
  induction n, h using Nat.le_induction with
  | base =>
    left
    rw [Cfg.fresh_succ _ _ _ hn, flush_5, idle_5]
    simp
  | succ n h ih =>
    rcases ih (by omega) with ih | ih
    · by_cases e : n + 1 = 2211
      · exact .inr e
      · left
        rw [Cfg.fresh_succ _ _ _ hn, flush_5, idle_5, ih]
        simp only [Bool.and_false, Bool.or_false, Bool.or_eq_false_iff, decide_eq_false_iff_not]
        omega
    · have : (cfgM m hF).N = 2212 := N_0
      omega

theorem carry_5 (c : Dev nD) : ∀ (t : Fin (cfgM m hF).N) (ht : t.val ≠ 0), (cfgM m hF).idle (5 : Fin 6) ((cfgM m hF).grid.coords t) = true → (cfgM m hF).fresh (5 : Fin 6) t.val = false →
    (dats m hF 0 c).after (5 : Fin 6) t = (dats m hF 0 c).after (5 : Fin 6) ⟨t.val - 1, by omega⟩ := by
  intro t ht hi _
  rw [idle_5] at hi
  rw [after_5, after_5]
  have hge : ¬t.val < 1792 := by simpa using hi
  have e : cap m hF t = cap m hF ⟨t.val - 1, by omega⟩ := Fin.ext (show min t.val 1791 = min (t.val - 1) 1791 by omega)
  unfold left5
  rw [e]

/-- Where no block is cast the buffer holds the last one. -/
theorem before_5 (c : Dev nD) (t : Fin (cfgM m hF).N) (h : ¬t.val < 1792) (d) : (dats m hF 0 c).before (5 : Fin 6) t d = left5 m hF c t := by
  have hN : (cfgM m hF).N = 2212 := N_0
  have ht := t.isLt
  have hf : (cfgM m hF).fresh (5 : Fin 6) t.val = false := by
    rcases not_fresh m hF (t.val - 1) (by omega) (by omega) with h' | h'
    · rwa [show t.val - 1 + 1 = t.val by omega] at h'
    · omega
  rw [(dats m hF 0 c).before_out_traj (5 : Fin 6) rfl (fun _ _ => rfl) (carry_5 m hF c) t.val t rfl d, hf]
  rw [if_neg Bool.false_ne_true, after_5]
  have e : cap m hF ⟨t.val - 1, by omega⟩ = cap m hF t := Fin.ext (show min (t.val - 1) 1791 = min t.val 1791 by omega)
  unfold left5
  rw [e]

/-! ## The body's obligation -/

abbrev body (t : Fin (cfgM m hF).N) : Prog (TpuEff nD τ sig (Elt F) Λ₀ .tc) PUnit :=
  cc0_moe_gate_up (crd m hF t) teM (Memref.isWhole_whole _) nuM (Memref.isWhole_whole _) (st0 m hF t) (hst0 m hF t) (st1 m hF t) (hst1 m hF t) (st2 m hF t) (hst2 m hF t) (st3 m hF t) (hst3 m hF t) (st4 m hF t) (hst4 m hF t) (st5 m hF t) (hst5 m hF t)

/-- What the body is asked to leave in the cast's buffer. -/
theorem leaves_5 (c : Dev nD) (t : Fin (cfgM m hF).N) (d) :
    owns (c : Thread nD τ) (st5 m hF t) fullShare (if k0_cond4 (crd m hF t) = 1#1 then k0_pay5 (iblk m hF c (3 : Fin 6) t) else (dats m hF 0 c).before (5 : Fin 6) t d)
      ⊢ (match (cfgM m hF).idle (5 : Fin 6) ((cfgM m hF).grid.coords t) with
          | true =>
            match ((cfgM m hF).win (5 : Fin 6)).flush t with
            | false => iprop(∃ d, owns (c : Thread nD τ) (st5 m hF t) fullShare ((dats m hF 0 c).before (5 : Fin 6) t d))
            | true => owns (c : Thread nD τ) (st5 m hF t) fullShare ((dats m hF 0 c).after (5 : Fin 6) t)
          | false => owns (c : Thread nD τ) (st5 m hF t) fullShare ((dats m hF 0 c).after (5 : Fin 6) t) : sProp 𝕄) := by
  by_cases h : t.val < 1792
  · have hi : (cfgM m hF).idle (5 : Fin 6) ((cfgM m hF).grid.coords t) = false := by rw [idle_5]; simp [h]
    have h4 : k0_cond4 (crd m hF t) = 1#1 := by simpa [h] using cast_live t
    rw [hi, if_pos h4, after_5]
    have e : cap m hF t = t := Fin.ext (show min t.val 1791 = t.val by omega)
    unfold left5
    rw [e]
  · have hi : (cfgM m hF).idle (5 : Fin 6) ((cfgM m hF).grid.coords t) = true := by rw [idle_5]; simp [h]
    have h4 : ¬k0_cond4 (crd m hF t) = 1#1 := by simpa [h] using cast_live t
    rw [hi, if_neg h4]
    cases ((cfgM m hF).win (5 : Fin 6)).flush t
    · iintro H; iexists d; iexact H
    · rw [before_5 m hF c t h, after_5]

set_option maxHeartbeats 4800000 in
theorem sound_body (c : Dev nD) (t : Fin (cfgM m hF).N) :
    iprop((dats m hF 0 c).Φ t.castSucc ∗ (dats m hF 0 c).owesAt () t.castSucc
        ∗ (∃ d, owns (c : Thread nD τ) (st0 m hF t) fullShare ((dats m hF 0 c).before (0 : Fin 6) t d))
        ∗ (∃ d, owns (c : Thread nD τ) (st1 m hF t) fullShare ((dats m hF 0 c).before (1 : Fin 6) t d))
        ∗ (∃ d, owns (c : Thread nD τ) (st2 m hF t) fullShare ((dats m hF 0 c).before (2 : Fin 6) t d))
        ∗ (∃ d, owns (c : Thread nD τ) (st3 m hF t) fullShare ((dats m hF 0 c).before (3 : Fin 6) t d))
        ∗ (∃ d, owns (c : Thread nD τ) (st4 m hF t) fullShare ((dats m hF 0 c).before (4 : Fin 6) t d))
        ∗ (∃ d, owns (c : Thread nD τ) (st5 m hF t) fullShare ((dats m hF 0 c).before (5 : Fin 6) t d)))
      ⊢ wp frame (wpE (defs₀ (F := F)) Variants.none c none) Set.univ (body m hF t) fun _ =>
          iprop((dats m hF 0 c).Φ t.succ ∗ (dats m hF 0 c).owesAt () t.succ
            ∗ bigSep Finset.univ fun w : Fin (cfgM m hF).W =>
                match (cfgM m hF).idle w ((cfgM m hF).grid.coords t) with
                | true =>
                  match ((cfgM m hF).win w).flush t with
                  | false => iprop(∃ d, owns (c : Thread nD τ) (((cfgM m hF).win w).stage ((cfgM m hF).slots t w)) fullShare ((dats m hF 0 c).before w t d))
                  | true => owns (c : Thread nD τ) (((cfgM m hF).win w).stage ((cfgM m hF).slots t w)) fullShare ((dats m hF 0 c).after w t)
                | false => owns (c : Thread nD τ) (((cfgM m hF).win w).stage ((cfgM m hF).slots t w)) fullShare ((dats m hF 0 c).after w t)) := by
  rw [bigSep_W0, live_4]
  simp only [before_0, before_1, before_2, before_3, after_0, after_1, after_2, after_3, after_4]
  rewrite [show (dats m hF 0 c).Φ t.succ = tables m c from rfl, show (dats m hF 0 c).Φ t.castSucc = tables m c from rfl,
    show (dats m hF 0 c).owesAt () t.succ = (dats m hF 0 c).owesAt () t.castSucc from rfl]
  unfold tables
  iintro ⟨⟨HT0, HT1⟩, Ho, ⟨%d0, H0⟩, ⟨%d1, H1⟩, ⟨%d2, H2⟩, ⟨%d3, H3⟩, ⟨%d4, H4⟩, ⟨%d5, H5⟩⟩
  iapply (run c (crd m hF t) (st0 m hF t) (hst0 m hF t) (st1 m hF t) (hst1 m hF t) (st2 m hF t) (hst2 m hF t) (st3 m hF t) (hst3 m hF t) (st4 m hF t) (hst4 m hF t) (st5 m hF t) (hst5 m hF t) (tbl m 0) (tbl m 1) (iblk m hF c (0 : Fin 6) t) (iblk m hF c (1 : Fin 6) t) (iblk m hF c (2 : Fin 6) t) (iblk m hF c (3 : Fin 6) t) ((dats m hF 0 c).before (5 : Fin 6) t d5) (hF.one _) _)
  unfold held
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  isplitl [H5]; · iexact H5
  iintro ⟨⟨H0, H1, H2, H3, HT0, HT1⟩, H4, H5⟩
  isplitl [HT0 HT1]
  · isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iexact H4
  iapply (leaves_5 m hF c t d5)
  iexact H5

theorem body_obligation (c : Dev nD) : BodyObligation (dats m hF 0 c) (defs₀ (F := F)) Variants.none () Set.univ := fun t => by
  rw [bigSep_W0]
  exact sound_body m hF c t

/-! ## The launch -/

abbrev EP : Emb (UR sig nD τ) 𝕄 := emb₁

def u₀ : UR sig nD τ :=
  initOf (Pipeline.cells (pcs m hF) ((launch0 (F := F)).cellOf_inj fun _ => adm m hF))
    (Pipeline.launchToks (pcs m hF) ((launch0 (F := F)).cellOf_inj fun _ => adm m hF))

theorem share_eq (c : Dev nD) (w : Fin (cfgM m hF).W) : (dats m hF 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm m hF).1 ∗ Pipeline.scopedRest spec0 c) ⊢ (dats m hF 0 c).Φ 0 := by
  rw [prefHeld_eq, scopedRest0_eq, show (dats m hF 0 c).Φ 0 = tables m c from rfl]
  unfold tables
  iintro ⟨-, ⟨HT0, HT1⟩, -⟩
  isplitl [HT0]
  · iexact HT0
  iexact HT1

theorem leave (c : Dev nD) : (dats m hF 0 c).Φ (Fin.last (cfgM m hF).N) ⊢ iprop(BI.emp ∗ Pipeline.scopedRest spec0 c) := by
  rw [scopedRest0_eq]
  iintro -
  isplitr; · iempintro
  iempintro

/-- What the run ends in: every array at what its points leave, every table as found. -/
def Ends : PUnit × MemSt nD τ sig (Elt F) → Prop := fun r =>
  ∀ c : Dev nD, (∀ w : Fin (cfgM m hF).W, r.2.mem (((cfgM m hF).win w).arr.view.loc (c : Thread nD τ)) = (dats m hF 0 c).arrAt w (cfgM m hF).N)
    ∧ ∀ j, r.2.mem ((c : Thread nD τ).loc (pre0.ref j)) = (adm m hF).1 j

set_option backward.isDefEq.respectTransparency.types false in
set_option maxHeartbeats 4000000 in
theorem runs : θ_run (defs (F := F)) (onTc (τ := τ) (main (F := F))) ⟨m, fun _ => 0, ρ⟩ (fun r => Ends m hF r ∧ r.2.sem = fun _ => 0) :=
  Pipeline.θ_run_region_noSem_pf_quiescent pcfgs (fun _ => adm m hF) (dats m hF) () ((launch0 (F := F)).cellOf_inj fun _ => adm m hF) (0 : Fin 1)
    (launch0 (F := F)).win.to₀ (launch0 (F := F)).pre EP defs₀ Variants.none m ρ main
    (hbody := fun c => (body_obligation m hF c).loose) (hne := (launch0 (F := F)).block_pos)
    (harr := (launch0 (F := F)).arr_whole) (hstage := (launch0 (F := F)).stage_whole) (howed := fun _ _ => rfl)
    (u₀ := u₀ m hF) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hF) (dats m hF) 0 (launch0 (F := F)).win.arr_inj c (launch0 (F := F)).arr_whole
      (share_eq m hF c) _ _ fun _ => rfl)
    (hpf := tbl_eq m)
    (X := fun _ => iprop(emp)) (Y := fun _ => iprop(emp)) (Z := fun _ => iprop(emp))
    (hX := fun c => by rw [unscopedRestP0_eq]; iintro -; isplitr <;> iempintro)
    (hin := enter m hF)
    (hout := leave m hF)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they began. -/
theorem kept (r : PUnit × MemSt nD τ sig (Elt F)) (h : Ends m hF r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (tbl_eq m c 0).symm, ((h c).2 1).trans (tbl_eq m c 1).symm, ((h c).1 (0 : Fin 6)).trans ((dats m hF 0 c).arrAt_in (0 : Fin 6) rfl _),
    ((h c).1 (1 : Fin 6)).trans ((dats m hF 0 c).arrAt_in (1 : Fin 6) rfl _), ((h c).1 (2 : Fin 6)).trans ((dats m hF 0 c).arrAt_in (2 : Fin 6) rfl _),
    ((h c).1 (3 : Fin 6)).trans ((dats m hF 0 c).arrAt_in (3 : Fin 6) rfl _)⟩

/-- The run ends, with the arguments unchanged and every count back at zero. -/
theorem quiet (hF : Fit m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept m hF _ h.1, h.2⟩) (runs m ρ hF)

end Cert.Kernel2Ideal.Gate

end
-- ==== Proof.GatePre.lean ====
module

public import proofs.«01_k».proof.Proof.GateFrame
public import proofs.«01_k».proof.Proof.Gen.Pre_routed
public import Idealize.ShloMosaic.Lib.ReduceAll

@[expose] public section

set_option maxRecDepth 16384

noncomputable section

/-! The precondition read at a tile, and that the tables that meet it are in range. -/

namespace Cert.Kernel2Ideal.Gate

open Cert.Kernel2Ideal Cert.Kernel2Ideal.Gen
open Idealize.ShloMosaic Idealize.ShloMosaic.TcCoe

/-- Each tile's expert is one of the eight and its number of rows is not negative. -/
def InRange (te nu : S79.Idx → BitVec 32) : Prop :=
  ∀ r, 0 ≤ (te r).toInt ∧ (te r).toInt < 8 ∧ 0 ≤ (nu r).toInt

theorem both (a b : IVec Cert.Pre_routed.S_ 1) (j : Cert.Pre_routed.S_.Idx) (h : andi a b j = 1#1) : a j = 1#1 ∧ b j = 1#1 := IntOp.andi_eq_one.mp h
theorem both79 (a b : IVec S79 1) (j : S79.Idx) (h : andi a b j = 1#1) : a j = 1#1 ∧ b j = 1#1 := IntOp.andi_eq_one.mp h

instance : Subsingleton Cert.Pre_routed.S_.Idx := ⟨fun a b => funext fun x => x.elim0⟩

open Cert.Pre_routed Cert.Pre_routed.Gen in
theorem in_range {F : FTy → Type} [FloatOps F] (x0 x1 : IVec Cert.Pre_routed.S79 32) (x2 : FVec F Cert.Pre_routed.S40448x4096 .bf16)
    (x3 x4 : FVec F Cert.Pre_routed.S8x4096x14336 .bf16) (x5 : FVec F Cert.Pre_routed.S114688x4096 .f32)
    (h : fn x0 x1 x2 x3 x4 x5 = fun _ => 1#1) : InRange x0 x1 := by
  intro r
  have h0 := congrFun h (fun a => a.elim0)
  dsimp only [fn] at h0
  obtain ⟨h1, h2⟩ := both _ _ _ h0
  have e1 := Host.reduce_andi_all _ _ _ _ _ h1 r
  have e2 := Host.reduce_andi_all _ _ _ _ _ h2 r
  obtain ⟨e3, e4⟩ := both79 _ _ _ e1
  exact ⟨IntOp.cmpi_sge.mp e3, IntOp.cmpi_slt.mp e4, IntOp.cmpi_sge.mp e2⟩

/-- A grid point's tile, as an index of a table. -/
def tileIx (i : grid0.Coords) : S79.Idx := fun a => ⟨(i 1).val, by obtain rfl : a = 0 := Subsingleton.elim _ _; exact (i 1).isLt⟩

theorem word_eq {F : FTy → Type} [FloatOps F] (T : S79.Idx → Elt F .i32) (i : grid0.Coords) : word T i = T (tileIx i) :=
  congrArg T (funext fun a => Fin.ext (by
    obtain rfl : a = 0 := Subsingleton.elim (α := Fin 1) _ _
    have h : (k0_off1 i) 0 = (i 1).val := congrFun (k0_off1_eq i) 0
    show (k0_off1 i) 0 + 0 * 1 = (i 1).val
    omega))

theorem ne_word (c : BitVec 1) : IntOp.cmpi .ne (Scalar.extui c) 0#32 = 1#1 ↔ c = 1#1 := by revert c; decide

theorem full_iff (w : BitVec 32) : k0_cond1 w = 1#1 ↔ 256 < w.toInt := (ne_word _).trans IntOp.cmpi_sgt
theorem half_iff (w : BitVec 32) : k0_cond2 w = 1#1 ↔ 0 < w.toInt ∧ w.toInt ≤ 256 :=
  (ne_word _).trans (IntOp.andi_eq_one.trans (and_congr IntOp.cmpi_sgt IntOp.cmpi_sle))
theorem none_iff (w : BitVec 32) : k0_cond3 w = 1#1 ↔ w.toInt = 0 :=
  (ne_word _).trans (IntOp.cmpi_eq.trans ⟨fun h => congrArg BitVec.toInt h, fun h => BitVec.eq_of_toInt_eq (y := 0#32) h⟩)

theorem one_case {F : FTy → Type} [FloatOps F] (w : Elt F .i32) (h : 0 ≤ BitVec.toInt w) : OneCase (F := F) w := by
  unfold OneCase
  rw [full_iff, half_iff, none_iff]
  omega

theorem to_nat (w : BitVec 32) (h0 : 0 ≤ w.toInt) (h8 : w.toInt < 8) : w.toNat < 8 := by
  rw [BitVec.toInt_eq_toNat_cond] at h0 h8
  have := w.isLt
  split at h0 <;> omega

theorem col_word (i : grid0.Coords) : (BitVec.ofNat 32 (i 0).val).toNat = (i 0).val := by
  have h : (i 0).val < 28 := (i 0).isLt
  rw [BitVec.toNat_ofNat]; omega
theorem row_word (i : grid0.Coords) : (BitVec.ofNat 32 (i 1).val).toNat = (i 1).val := by
  have h : (i 1).val < 79 := (i 1).isLt
  rw [BitVec.toNat_ofNat]; omega

/-- Which block of each array a grid point takes. -/
theorem index0 (i : grid0.Coords) : cc0_transform_0 i = ![(i 1).val, 0] := by
  show ![(BitVec.ofNat 32 (i 1).val).toNat, 0] = _
  rw [row_word]

theorem index4 (i : grid0.Coords) : cc0_transform_4 i = ![(i 1).val, (i 0).val] := by
  show ![(BitVec.ofNat 32 (i 1).val).toNat, (BitVec.ofNat 32 (i 0).val).toNat] = _
  rw [row_word, col_word]

theorem index1 {F : FTy → Type} [FloatOps F] (T : pre0.Contents (Elt F)) (i : grid0.Coords) :
    cc0_transform_1 k0_off1_inb numel1_S1 T i = ![BitVec.toNat (T 0 (tileIx i)), 0, (i 0).val] := by
  exact congrArg₂ (fun a b => (![a, 0, b] : Fin 3 → Nat)) (congrArg BitVec.toNat (word_eq (F := F) (T 0) i))
    ((congrArg BitVec.toNat (BitVec.add_zero (BitVec.ofNat 32 (i 0).val))).trans (col_word i))

theorem index2 {F : FTy → Type} [FloatOps F] (T : pre0.Contents (Elt F)) (i : grid0.Coords) :
    cc0_transform_2 k0_off1_inb numel1_S1 T i = ![BitVec.toNat (T 0 (tileIx i)), 0, (i 0).val] := index1 T i

theorem index3 : ∀ t : Fin grid0.N, cc0_transform_3 (grid0.coords t) = ![min t.val 1791, 0] := by decide +kernel
theorem index5 : ∀ t : Fin grid0.N, cc0_transform_5 (grid0.coords t) = ![min t.val 1791, 0] := by decide +kernel

theorem weights_inb (n j : Nat) (hn : n < 8) (hj : j < 28) (a : Fin 3) :
    ((![n, 0, j] : Fin 3 → Nat) a + 1) * S1x4096x512.size a ≤ S8x4096x14336.size a := by
  fin_cases a
  · show (n + 1) * 1 ≤ 8; omega
  · show (0 + 1) * 4096 ≤ 4096; omega
  · show (j + 1) * 512 ≤ 14336; omega

variable {F : FTy → Type} [FloatOps F] (m : (ℓ : Loc nD τ sig) → Buf (Elt F) ℓ)

theorem fit (h : InRange (tbl m 0) (tbl m 1)) : Fit m := by
  refine ⟨⟨fun i => ⟨fun a => ?_, .inr (Affine.block_words_dvd (s := S8x4096x14336) (p := EltTy.packing .bf16) (by decide) (by decide))⟩,
    fun i => ⟨fun a => ?_, .inr (Affine.block_words_dvd (s := S8x4096x14336) (p := EltTy.packing .bf16) (by decide) (by decide))⟩⟩, fun i => ?_⟩
  · rw [index1]; exact weights_inb _ _ (to_nat _ (h _).1 (h _).2.1) (i 0).isLt a
  · rw [index2]; exact weights_inb _ _ (to_nat _ (h _).1 (h _).2.1) (i 0).isLt a
  · exact (congrArg (OneCase (F := F)) (word_eq (F := F) (tbl m 1) i)).mpr (one_case (F := F) _ (h _).2.2)

end Cert.Kernel2Ideal.Gate
-- ==== Proof.GateRef.lean ====
module

public import proofs.«01_k».proof.Proof.Gen.Reference2Ideal.Read
public import Idealize.ShloMosaic.Lib.IdealHost
public import Idealize.ShloMosaic.Lib.Affine
public import Idealize.ShloMosaic.Lib.Pointwise
public import Idealize.ShloMosaic.PureOps.Ideal.Laws

@[expose] public section

set_option maxRecDepth 16384

noncomputable section

/-! The reference of the gate and up products read at an index: of the eight experts' rows it keeps the tile's own. -/

namespace Cert.Reference2Ideal.Gate

open Cert.Reference2Ideal Cert.Reference2Ideal.Gen Cert.Reference2Ideal.Read
open Idealize.ShloMosaic Idealize.ShloMosaic.TcCoe

/-- One gated product. -/
def act (g u : EReal) : EReal := Ideal.div g (1 + Ideal.exp (-g)) * u

theorem one_word : (FloatOps.ofBits .f32 0x3F800000#32 : Ideal .f32) = (1 : EReal) := by
  exact Ideal.ofBits_one_f32
theorem zero_word : (FloatOps.ofBits .f32 0x00000000#32 : Ideal .f32) = (0 : EReal) := by
  exact Ideal.ofBits_zero_f32

theorem exp_nonneg (z : EReal) : 0 ≤ Ideal.exp z := by
  induction z with
  | bot => exact le_refl _
  | top => exact le_top
  | coe r => exact EReal.coe_nonneg.mpr (Real.exp_pos r).le

theorem one_add_exp_ne (z : EReal) : 1 + Ideal.exp z ≠ 0 := by
  intro h
  have h1 : (1 : EReal) ≤ 1 + Ideal.exp z := le_add_of_nonneg_right (exp_nonneg z)
  rw [h] at h1
  exact absurd h1 (by norm_num)

theorem slices_all (e : Nat) (he : e < 8) : S8x4096x14336.Slices ![e, 0, 0] S1x4096x14336 := by
  refine ⟨rfl, fun a => ?_⟩
  match a with
  | ⟨0, _⟩ => exact he
  | ⟨1, _⟩ => exact le_refl 4096
  | ⟨2, _⟩ => exact le_refl 14336

abbrev Wt : Type := FVec Ideal S8x4096x14336 .bf16
abbrev One : Type := FVec Ideal S1x4096x14336 .bf16
abbrev Xs : Type := FVec Ideal S40448x4096 .bf16
abbrev Out : Type := FVec Ideal S40448x14336 .f32
abbrev Tab : Type := IVec S79 32

/-- One expert's weights, the rows times them, and the gated product of two. -/
def expertOf (e : Nat) (he : e < 8) (w : Wt) : One := extractStridedSlice S1x4096x14336 ![e, 0, 0] w (slices_all e he)
def dense (x : Xs) (A : One) : Out :=
  Host.dotGeneral (φ₁ := .f32) (φ₂ := .f32) dot_S40448x4096_S4096x14336_S40448x14336_1_0_0_1_n_n none (val_main_v16 (F := Ideal) x)
    (extf .f32 (shapeCast S4096x14336 A shapeCasts_S1x4096x14336_S4096x14336) bitsLt_bf16_f32)
def gated (x : Xs) (A B : One) : Out :=
  mulf (mulf (dense x A) (Host.divf (val_main_call2_v4 (F := Ideal)) (addf (val_main_call2_v2 (F := Ideal)) (Host.exp (Host.negf (dense x A)))))) (dense x B)

/-- The rows of one expert put over what is there, and the experts so taken in order. -/
def put (te : Tab) (x : Xs) (w1 w3 : Wt) (e : Nat) (he : e < 8) (prev : Out) : Out :=
  select (broadcastInDim S40448x14336 ![0, 1] bcast_S40448x1_S40448x14336_0_1
      (cmpi .eq (val_main_v2 (F := Ideal) te) (broadcastInDim S40448x1 ![] bcast_S_S40448x1 (constantI S_ 32 (BitVec.ofNat 32 e)))))
    (gated x (expertOf e he w1) (expertOf e he w3)) prev
def upto (te : Tab) (x : Xs) (w1 w3 : Wt) : (n : Nat) → n ≤ 8 → Out
  | 0, _ => val_main_v17 (F := Ideal)
  | n + 1, h => put te x w1 w3 n h (upto te x w1 w3 n (Nat.le_of_succ_le h))

theorem all_put (te : Tab) (x : Xs) (w1 w3 : Wt) : val_main_v121 (F := Ideal) te x w1 w3 = upto te x w1 w3 8 (le_refl 8) := by
  rfl

/-! ## The values -/

theorem expertOf_at (e : Nat) (he : e < 8) (w : Wt) (k : Fin 4096) (j : Fin 14336) :
    expertOf e he w (ValueIdx.ix3 (0 : Fin 1) k j) = w (ValueIdx.ix3 (⟨e, he⟩ : Fin 8) k j) :=
  extractStridedSlice_apply ![e, 0, 0] w (slices_all e he) _ _ (fun a => match a with
    | ⟨0, _⟩ => (Nat.add_zero e).symm
    | ⟨1, _⟩ => (Nat.zero_add _).symm
    | ⟨2, _⟩ => (Nat.zero_add _).symm)

theorem flat_at (A : One) (k : Fin 4096) (j : Fin 14336) :
    shapeCast S4096x14336 A shapeCasts_S1x4096x14336_S4096x14336 (ValueIdx.ix2 k j) = A (ValueIdx.ix3 (0 : Fin 1) k j) :=
  shapeCast_apply A shapeCasts_S1x4096x14336_S4096x14336 (ValueIdx.ix2 k j) (ValueIdx.ix3 (0 : Fin 1) k j) (by
    rewrite [Shape.rowMajor_val_three, Shape.rowMajor_val_two]
    show (0 * 4096 + k.val) * 14336 + j.val = k.val * 14336 + j.val
    omega)

theorem dense_at (x : Xs) (A : One) (r : Fin 40448) (j : Fin 14336) :
    dense x A (ValueIdx.ix2 r j) = ∑ k : Fin 4096, (x (ValueIdx.ix2 r k) * A (ValueIdx.ix3 (0 : Fin 1) k j) : EReal) := by
  unfold dense
  simp only [Host.dotGeneral]
  rw [Ideal.dotGeneral_apply, ← Equiv.sum_comp (ValueIdx.contrEquiv1 dot_S40448x4096_S4096x14336_S40448x14336_1_0_0_1_n_n 4096 rfl rfl).symm]
  refine Finset.sum_congr rfl fun k _ => ?_
  have hk := ValueIdx.contrEquiv1_symm_val dot_S40448x4096_S4096x14336_S40448x14336_1_0_0_1_n_n 4096 rfl rfl k
  refine congrArg₂ (fun a b : EReal => a * b) (congrArg x (funext fun a => Fin.ext ?_))
    ((congrArg (shapeCast S4096x14336 A shapeCasts_S1x4096x14336_S4096x14336) (funext fun a => Fin.ext ?_)).trans (flat_at A k j))
  · match a with
    | ⟨0, _⟩ => exact lhs_main_v21_0 _ _
    | ⟨1, _⟩ => exact (lhs_main_v21_1 _ _).trans hk
  · match a with
    | ⟨0, _⟩ => exact (rhs_main_v21_0 _ _).trans hk
    | ⟨1, _⟩ => exact rhs_main_v21_1 _ _

theorem gated_at (x : Xs) (A B : One) (r : Fin 40448) (j : Fin 14336) :
    gated x A B (ValueIdx.ix2 r j) = act (dense x A (ValueIdx.ix2 r j)) (dense x B (ValueIdx.ix2 r j)) := by
  have h1 : val_main_call2_v4 (F := Ideal) (ValueIdx.ix2 r j) = (1 : EReal) := (val_main_call2_v4_apply _).trans ((val_main_call2_cst_0_apply _).trans one_word)
  have h2 : val_main_call2_v2 (F := Ideal) (ValueIdx.ix2 r j) = (1 : EReal) := (val_main_call2_v2_apply _).trans ((val_main_call2_cst_apply _).trans one_word)
  show (dense x A (ValueIdx.ix2 r j) * Ideal.div (val_main_call2_v4 (F := Ideal) (ValueIdx.ix2 r j)) (val_main_call2_v2 (F := Ideal) (ValueIdx.ix2 r j) + Ideal.exp (-(dense x A (ValueIdx.ix2 r j))))) * dense x B (ValueIdx.ix2 r j) = _
  rw [h1, h2]
  unfold act
  generalize dense x A (ValueIdx.ix2 r j) = g
  rw [Ideal.mul_one_div (one_add_exp_ne (-g))]

/-- The tile a row lies in. -/
def tileOf (r : Fin 40448) : S79.Idx := fun a => ⟨r.val / 512, by
  obtain rfl : a = 0 := Subsingleton.elim (α := Fin 1) _ _
  show r.val / 512 < 79
  omega⟩

theorem te_at (te : Tab) (r : Fin 40448) : val_main_v2 (F := Ideal) te (ValueIdx.ix2 r (0 : Fin 1)) = te (tileOf r) := by
  rw [val_main_v2_apply, val_main_v1_apply, val_main_v0_apply]
  refine congrArg te (funext fun a => Fin.ext ?_)
  match a with
  | ⟨0, _⟩ => show (r.val * 1 + 0) / 512 = r.val / 512; omega

/-- The gated product of a row and a column of one expert's weights. -/
def prod (x : Xs) (w1 w3 : Wt) (e : Fin 8) (r : Fin 40448) (j : Fin 14336) : EReal :=
  act (∑ k : Fin 4096, (x (ValueIdx.ix2 r k) * w1 (ValueIdx.ix3 e k j) : EReal)) (∑ k : Fin 4096, (x (ValueIdx.ix2 r k) * w3 (ValueIdx.ix3 e k j) : EReal))

theorem put_at (te : Tab) (x : Xs) (w1 w3 : Wt) (e : Nat) (he : e < 8) (prev : Out) (r : Fin 40448) (j : Fin 14336) :
    put te x w1 w3 e he prev (ValueIdx.ix2 r j) = if (te (tileOf r)).toNat = e then prod x w1 w3 ⟨e, he⟩ r j else prev (ValueIdx.ix2 r j) := by
  have hc : broadcastInDim S40448x14336 ![0, 1] bcast_S40448x1_S40448x14336_0_1
      (cmpi .eq (val_main_v2 (F := Ideal) te) (broadcastInDim S40448x1 ![] bcast_S_S40448x1 (constantI S_ 32 (BitVec.ofNat 32 e)))) (ValueIdx.ix2 r j)
        = IntOp.cmpi .eq (te (tileOf r)) (BitVec.ofNat 32 e) := by
    rw [← te_at te r]
    exact broadcastInDim_apply _ bcast_S40448x1_S40448x14336_0_1 _ (ValueIdx.ix2 r j) (ValueIdx.ix2 r (0 : Fin 1)) (fun a => match a with
      | ⟨0, _⟩ => by show r.val = if (40448 : Nat) = 1 then 0 else r.val; rw [if_neg (by decide)]
      | ⟨1, _⟩ => by show 0 = if (1 : Nat) = 1 then 0 else j.val; rw [if_pos rfl])
  have hg : gated x (expertOf e he w1) (expertOf e he w3) (ValueIdx.ix2 r j) = prod x w1 w3 ⟨e, he⟩ r j := by
    rw [gated_at, dense_at, dense_at]
    unfold prod
    simp only [expertOf_at]
  show Scalar.select (broadcastInDim S40448x14336 ![0, 1] bcast_S40448x1_S40448x14336_0_1
      (cmpi .eq (val_main_v2 (F := Ideal) te) (broadcastInDim S40448x1 ![] bcast_S_S40448x1 (constantI S_ 32 (BitVec.ofNat 32 e)))) (ValueIdx.ix2 r j))
    (gated x (expertOf e he w1) (expertOf e he w3) (ValueIdx.ix2 r j)) (prev (ValueIdx.ix2 r j)) = _
  rw [hc, hg]
  have hi : IntOp.cmpi .eq (te (tileOf r)) (BitVec.ofNat 32 e) = 1#1 ↔ (te (tileOf r)).toNat = e := by
    rw [IntOp.cmpi_eq, ← BitVec.toNat_inj, BitVec.toNat_ofNat, Nat.mod_eq_of_lt (by omega)]
  show (if IntOp.cmpi .eq (te (tileOf r)) (BitVec.ofNat 32 e) = 1#1 then _ else _) = _
  exact if_congr hi rfl rfl

theorem upto_at (te : Tab) (x : Xs) (w1 w3 : Wt) (r : Fin 40448) (j : Fin 14336) (e : Fin 8) (he : (te (tileOf r)).toNat = e.val) :
    ∀ (n : Nat) (h : n ≤ 8), e.val < n → upto te x w1 w3 n h (ValueIdx.ix2 r j) = prod x w1 w3 e r j
  | 0, _, hl => absurd hl (Nat.not_lt_zero _)
  | n + 1, h, hl => by
    unfold upto
    rw [put_at, he]
    by_cases hn : e.val = n
    · rw [if_pos hn]; subst hn; rfl
    · rw [if_neg hn]; exact upto_at te x w1 w3 r j e he n _ (by omega)

/-! ## The rows that hold tokens -/

theorem rows_at (nu : Tab) (r : Fin 40448) : val_main_v11 (F := Ideal) nu (ValueIdx.ix2 r (0 : Fin 1))
    = Scalar.select (IntOp.cmpi .sgt (nu (tileOf r)) 256#32) 512#32 (Scalar.select (IntOp.cmpi .sgt (nu (tileOf r)) 0#32) 256#32 0#32) := by
  have e : (idx_main_v9 (idx_main_v10 (idx_main_v11 (ValueIdx.ix2 r (0 : Fin 1))))) = tileOf r := funext fun a => Fin.ext (by
    match a with
    | ⟨0, _⟩ => show (r.val * 1 + 0) / 512 = r.val / 512; omega)
  rw [val_main_v11_apply, val_main_v10_apply, val_main_v9_apply, e, val_main_v8_apply, val_main_v7_apply, val_main_v4_apply, val_main_v6_apply,
    val_main_v3_apply, val_main_v5_apply, val_main_call0_v0_apply, val_main_call0_v1_apply, val_main_call1_v0_apply]
  rfl

theorem row_at (r : Fin 40448) : val_main_v15 (F := Ideal) (ValueIdx.ix2 r (0 : Fin 1)) = BitVec.ofNat 32 (r.val % 512) := by
  rw [val_main_v15_apply, val_main_v14_apply, val_main_v13_apply, val_main_v12_apply]
  refine congrArg (BitVec.ofNat 32) ?_
  show (r.val * 1 + 0) % 512 = r.val % 512
  omega

theorem rows_int (n : BitVec 32) :
    (Scalar.select (IntOp.cmpi .sgt n 256#32) 512#32 (Scalar.select (IntOp.cmpi .sgt n 0#32) 256#32 0#32)).toInt
      = if 256 < n.toInt then 512 else if 0 < n.toInt then 256 else 0 := by
  show (if IntOp.cmpi .sgt n 256#32 = 1#1 then 512#32 else if IntOp.cmpi .sgt n 0#32 = 1#1 then 256#32 else 0#32).toInt = _
  simp only [IntOp.cmpi_sgt]
  change (if 256 < n.toInt then 512#32 else if 0 < n.toInt then 256#32 else 0#32).toInt = _
  split
  · rfl
  · split <;> rfl

/-- The products of a row: its expert's if the tile has tokens there, zero if not. -/
theorem ref_at (te nu : Tab) (x : Xs) (w1 w3 : Wt) (r : Fin 40448) (j : Fin 14336) (e : Fin 8) (he : (te (tileOf r)).toNat = e.val) :
    val_main_v125 (F := Ideal) te nu x w1 w3 (ValueIdx.ix2 r j)
      = if 256 < (nu (tileOf r)).toInt ∨ (0 < (nu (tileOf r)).toInt ∧ r.val % 512 < 256) then prod x w1 w3 e r j else (0 : EReal) := by
  have hz : val_main_call18_v2 (F := Ideal) (ValueIdx.ix2 r j) = (0 : EReal) := by
    rw [val_main_call18_v2_apply, val_main_call18_v0_apply]; exact zero_word
  have hc : idx_main_call18_v1 (ValueIdx.ix2 r j) = ValueIdx.ix2 r (0 : Fin 1) := funext fun a => Fin.ext (by
    match a with
    | ⟨0, _⟩ => rfl
    | ⟨1, _⟩ => rfl)
  have hr : (BitVec.ofNat 32 (r.val % 512)).toInt = ((r.val % 512 : Nat) : Int) := by
    rw [BitVec.toInt_eq_toNat_of_lt (by rw [BitVec.toNat_ofNat]; omega), BitVec.toNat_ofNat]; omega
  show val_main_v124 (F := Ideal) te nu x w1 w3 (ValueIdx.ix2 r j) = _
  rw [val_main_v124_apply, hz, val_main_call18_v1_apply, hc, val_main_v123_apply, val_main_v122_apply, rows_at, row_at, all_put,
    upto_at te x w1 w3 r j e he 8 _ e.isLt]
  show (if IntOp.cmpi .slt (BitVec.ofNat 32 (r.val % 512)) _ = 1#1 then _ else _) = _
  refine if_congr (IntOp.cmpi_slt.trans ?_) rfl rfl
  rw [hr, rows_int]
  split
  · omega
  · split <;> omega

end Cert.Reference2Ideal.Gate
-- ==== Proof.GateBlock.lean ====
module

public import proofs.«01_k».proof.Proof.GatePre
public import proofs.«01_k».proof.Proof.GateRef

@[expose] public section

set_option maxRecDepth 16384

noncomputable section

/-! The block of products at an index, in exact arithmetic. -/

namespace Cert.Kernel2Ideal.Gate

open Cert.Kernel2Ideal Cert.Kernel2Ideal.Gen
open Idealize.ShloMosaic Idealize.ShloMosaic.TcCoe
open Cert.Reference2Ideal.Gate (act one_word zero_word)
open Idealize.ShloMosaic.ValueIdx (contrEquiv1 contrEquiv1_symm_val)

theorem full_lhs0 (j : S512x512.Idx) (q : dot_S512x4096_S4096x512_S512x512_1_0_0_1_n_n.contr.Idx) : (dot_S512x4096_S4096x512_S512x512_1_0_0_1_n_n.lhsIdx j q 0).val = (j 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl

theorem full_rhs1 (j : S512x512.Idx) (q : dot_S512x4096_S4096x512_S512x512_1_0_0_1_n_n.contr.Idx) : (dot_S512x4096_S4096x512_S512x512_1_0_0_1_n_n.rhsIdx j q 1).val = (j 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

theorem half_lhs0 (j : S256x512.Idx) (q : dot_S256x4096_S4096x512_S256x512_1_0_0_1_n_n.contr.Idx) : (dot_S256x4096_S4096x512_S256x512_1_0_0_1_n_n.lhsIdx j q 0).val = (j 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl

theorem half_rhs1 (j : S256x512.Idx) (q : dot_S256x4096_S4096x512_S256x512_1_0_0_1_n_n.contr.Idx) : (dot_S256x4096_S4096x512_S256x512_1_0_0_1_n_n.rhsIdx j q 1).val = (j 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

theorem flat (W : Vec Ideal S1x4096x512 .bf16) (k : Fin 4096) (j : Fin 512) :
    shapeCast S4096x512 W shapeCasts_S1x4096x512_S4096x512 (ValueIdx.ix2 k j) = W (ValueIdx.ix3 (0 : Fin 1) k j) :=
  shapeCast_apply W shapeCasts_S1x4096x512_S4096x512 (ValueIdx.ix2 k j) (ValueIdx.ix3 (0 : Fin 1) k j) (by
    rewrite [Shape.rowMajor_val_three, Shape.rowMajor_val_two]
    show (0 * 4096 + k.val) * 512 + j.val = k.val * 512 + j.val
    omega)

/-- A row of a block times a column of an expert's weights. -/
def dotRow {n : Nat} (x : (⟨2, ![n, 4096]⟩ : Shape).Idx → EReal) (W : Vec Ideal S1x4096x512 .bf16) (r : Fin n) (j : Fin 512) : EReal :=
  ∑ k : Fin 4096, x (ValueIdx.ix2 r k) * (W (ValueIdx.ix3 (0 : Fin 1) k j) : EReal)

theorem mm_full (x : FVec Ideal S512x4096 .bf16) (W : Vec Ideal S1x4096x512 .bf16) (r j : Fin 512) :
    matmul dot_S512x4096_S4096x512_S512x512_1_0_0_1_n_n none x (shapeCast S4096x512 W shapeCasts_S1x4096x512_S4096x512 : FVec Ideal S4096x512 .bf16) (constant S512x512 .f32 0x00000000#32) (ValueIdx.ix2 r j)
      = dotRow x W r j := by
  unfold matmul dotRow
  rw [Ideal.matmul_constant_zero_apply, ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  rw [← flat W k j]
  congr 2
  · funext a
    match a with
    | ⟨0, _⟩ => exact Fin.ext (full_lhs0 _ _)
    | ⟨1, _⟩ => exact Fin.ext ((DotDims.lhsIdx_val_of_single _ rfl _ _).trans hk)
  · funext a
    match a with
    | ⟨0, _⟩ => exact Fin.ext ((DotDims.rhsIdx_val_of_single _ rfl _ _).trans hk)
    | ⟨1, _⟩ => exact Fin.ext (full_rhs1 _ _)

theorem mm_half (x : FVec Ideal S256x4096 .bf16) (W : Vec Ideal S1x4096x512 .bf16) (r : Fin 256) (j : Fin 512) :
    matmul dot_S256x4096_S4096x512_S256x512_1_0_0_1_n_n none x (shapeCast S4096x512 W shapeCasts_S1x4096x512_S4096x512 : FVec Ideal S4096x512 .bf16) (constant S256x512 .f32 0x00000000#32) (ValueIdx.ix2 r j)
      = dotRow x W r j := by
  unfold matmul dotRow
  rw [Ideal.matmul_constant_zero_apply, ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  rw [← flat W k j]
  congr 2
  · funext a
    match a with
    | ⟨0, _⟩ => exact Fin.ext (half_lhs0 _ _)
    | ⟨1, _⟩ => exact Fin.ext ((DotDims.lhsIdx_val_of_single _ rfl _ _).trans hk)
  · funext a
    match a with
    | ⟨0, _⟩ => exact Fin.ext ((DotDims.rhsIdx_val_of_single _ rfl _ _).trans hk)
    | ⟨1, _⟩ => exact Fin.ext (half_rhs1 _ _)

theorem act_words (g u : EReal) : Ideal.div g ((FloatOps.ofBits .f32 0x3F800000#32 : Ideal .f32) + Ideal.exp ((FloatOps.ofBits .f32 0x00000000#32 : Ideal .f32) - g)) * u = act g u := by
  rw [one_word, zero_word]
  unfold act
  have h : (0 : EReal) - g = -g := zero_sub g
  rw [h]

theorem pay1_at (x0 : Vec Ideal S512x4096 .bf16) (x1 x2 : Vec Ideal S1x4096x512 .bf16) (r j : Fin 512) :
    k0_pay1 (F := Ideal) x0 x1 x2 (ValueIdx.ix2 r j) = act (dotRow x0 x1 r j) (dotRow x0 x2 r j) := by
  rw [← mm_full, ← mm_full, ← act_words]
  rfl

theorem pay2_at (x0 : Vec Ideal S256x4096 .bf16) (x1 x2 : Vec Ideal S1x4096x512 .bf16) (r : Fin 256) (j : Fin 512) :
    k0_pay2 (F := Ideal) x0 x1 x2 (ValueIdx.ix2 r j) = act (dotRow x0 x1 r j) (dotRow x0 x2 r j) := by
  rw [← mm_half, ← mm_half, ← act_words]
  rfl

theorem pay3_at (i : S256x512.Idx) : k0_pay3 (F := Ideal) i = (0 : EReal) := Ideal.ofBits_zero_bf16
theorem pay4_at (i : S512x512.Idx) : k0_pay4 (F := Ideal) i = (0 : EReal) := Ideal.ofBits_zero_bf16

theorem top_row (x0 : Vec Ideal S512x4096 .bf16) (W : Vec Ideal S1x4096x512 .bf16) (r : Fin 256) (j : Fin 512) :
    dotRow (top x0) W r j = dotRow x0 W (⟨r.val, by omega⟩ : Fin 512) j := by
  unfold dotRow
  refine Finset.sum_congr rfl fun k _ => congrArg (· * _) (congrArg x0 (funext fun a => Fin.ext ?_))
  match a with
  | ⟨0, _⟩ => show 0 + 1 * r.val = r.val; omega
  | ⟨1, _⟩ => show 0 + 1 * k.val = k.val; omega

/-- What a point leaves at a row and column of its block. -/
theorem gate_at (w : Elt Ideal .i32) (x0 : Vec Ideal S512x4096 .bf16) (x1 x2 : Vec Ideal S1x4096x512 .bf16) (r j : Fin 512) :
    gate (F := Ideal) w x0 x1 x2 (ValueIdx.ix2 r j)
      = if 256 < BitVec.toInt w ∨ (0 < BitVec.toInt w ∧ r.val < 256) then act (dotRow x0 x1 r j) (dotRow x0 x2 r j) else (0 : EReal) := by
  unfold gate
  by_cases h1 : k0_cond1 w = 1#1
  · rw [if_pos h1, if_pos (.inl ((full_iff w).mp h1)), pay1_at]
  rw [if_neg h1]
  have n1 : ¬256 < BitVec.toInt w := fun h => h1 ((full_iff w).mpr h)
  by_cases h2 : k0_cond2 w = 1#1
  · rw [if_pos h2]
    have p2 := (half_iff w).mp h2
    by_cases hr : r.val < 256
    · rw [if_pos (.inr ⟨p2.1, hr⟩), View.canon_cons_of_not_mem]
      · have e : (ValueIdx.ix2 r j : S512x512.Idx) = (Rect.unit (s := S512x512) ![0, 0] S256x512.size inb_S512x512_S256x512_0_0).emb (ValueIdx.ix2 (⟨r.val, hr⟩ : Fin 256) j) :=
          funext fun a => Fin.ext (by
            match a with
            | ⟨0, _⟩ => show r.val = 0 + 1 * r.val; omega
            | ⟨1, _⟩ => show j.val = 0 + 1 * j.val; omega)
        rw [e, View.canon_cons_emb]
        exact (pay2_at _ x1 x2 ⟨r.val, hr⟩ j).trans (congrArg₂ act (top_row x0 x1 _ j) (top_row x0 x2 _ j))
      · intro hm
        have h0 := ((Rect.mem_set_unit (inb := inb_S512x512_S256x512_256_0)).mp hm) (0 : Fin 2)
        have h00 : 256 ≤ r.val := h0.1
        omega
    · rw [if_neg (by omega)]
      have e : (ValueIdx.ix2 r j : S512x512.Idx) = (Rect.unit (s := S512x512) ![256, 0] S256x512.size inb_S512x512_S256x512_256_0).emb (ValueIdx.ix2 (⟨r.val - 256, by omega⟩ : Fin 256) j) :=
        funext fun a => Fin.ext (by
          match a with
          | ⟨0, _⟩ => show r.val = 256 + 1 * (r.val - 256); omega
          | ⟨1, _⟩ => show j.val = 0 + 1 * j.val; omega)
      rw [e, View.canon_cons_emb]
      exact pay3_at _
  · rw [if_neg h2, pay4_at, if_neg]
    have n2 : ¬(0 < BitVec.toInt w ∧ BitVec.toInt w ≤ 256) := fun h => h2 ((half_iff w).mpr h)
    omega

end Cert.Kernel2Ideal.Gate
-- ==== Proof.GateValue.lean ====
module

public import proofs.«01_k».proof.Proof.GateBlock

@[expose] public section

set_option maxRecDepth 16384

noncomputable section

/-! The two result arrays of the gate and up products, in exact arithmetic: they are the reference's. -/

namespace Cert.Kernel2Ideal.Gate

open Cert.Kernel2Ideal Cert.Kernel2Ideal.Gen
open Idealize.ShloMosaic Idealize.ShloMosaic.TcCoe
open Cert.Reference2Ideal.Gate (act prod tileOf)

variable (m : (ℓ : Loc nD τ sig) → Buf (Elt Ideal) ℓ) (hF : Fit m) (c : Dev nD)

/-- The rows, the two weights and the array to cast, as the run finds them. -/
abbrev xsA : FVec Ideal S40448x4096 .bf16 := m ((c : Thread nD τ).loc main_arg2)
abbrev w1A : FVec Ideal S8x4096x14336 .bf16 := m ((c : Thread nD τ).loc main_arg3)
abbrev w3A : FVec Ideal S8x4096x14336 .bf16 := m ((c : Thread nD τ).loc main_arg4)
abbrev w2A : FVec Ideal S114688x4096 .f32 := m ((c : Thread nD τ).loc main_arg5)
abbrev teA : IVec S79 32 := m ((c : Thread nD τ).loc main_arg0)
abbrev nuA : IVec S79 32 := m ((c : Thread nD τ).loc main_arg1)

theorem crd0 (t : Fin (cfgM m hF).N) : (crd m hF t 0).val = t.val / 79 :=
  (by decide +kernel : ∀ t : Fin grid0.N, (grid0.coords t 0).val = t.val / 79) t
theorem crd1 (t : Fin (cfgM m hF).N) : (crd m hF t 1).val = t.val % 79 :=
  (by decide +kernel : ∀ t : Fin grid0.N, (grid0.coords t 1).val = t.val % 79) t

theorem at0 (t : Fin (cfgM m hF).N) (q : Fin 512) (k : Fin 4096) (R : Fin 40448) (hR : R.val = 512 * (crd m hF t 1).val + q.val) :
    iblk m hF c (0 : Fin 6) t (ValueIdx.ix2 q k) = xsA m c (ValueIdx.ix2 R k) := by
  unfold iblk
  rw [View.read_apply]
  refine congrArg (m ((c : Thread nD τ).loc main_arg2)) (funext fun a => Fin.ext ?_)
  match a with
  | ⟨0, _⟩ => show cc0_transform_0 (crd m hF t) 0 * 512 + 1 * q.val = R.val; rw [index0, hR]; show (crd m hF t 1).val * 512 + 1 * q.val = _; omega
  | ⟨1, _⟩ => show cc0_transform_0 (crd m hF t) 1 * 4096 + 1 * k.val = k.val; rw [index0]; show 0 * 4096 + 1 * k.val = k.val; omega

theorem at1 (t : Fin (cfgM m hF).N) (k : Fin 4096) (q : Fin 512) (e : Fin 8) (he : (BitVec.toNat (tbl m 0 (tileIx (crd m hF t)))) = e.val)
    (J : Fin 14336) (hJ : J.val = 512 * (crd m hF t 0).val + q.val) :
    iblk m hF c (1 : Fin 6) t (ValueIdx.ix3 (0 : Fin 1) k q) = w1A m c (ValueIdx.ix3 e k J) := by
  unfold iblk
  rw [View.read_apply]
  refine congrArg (m ((c : Thread nD τ).loc main_arg3)) (funext fun a => Fin.ext ?_)
  match a with
  | ⟨0, _⟩ => show cc0_transform_1 k0_off1_inb numel1_S1 (tbl m) (crd m hF t) 0 * 1 + 1 * 0 = e.val; rw [index1, ← he]; exact (Nat.add_zero _).trans (Nat.mul_one _)
  | ⟨1, _⟩ => show cc0_transform_1 k0_off1_inb numel1_S1 (tbl m) (crd m hF t) 1 * 4096 + 1 * k.val = k.val; rw [index1]; show 0 * 4096 + 1 * k.val = k.val; omega
  | ⟨2, _⟩ => show cc0_transform_1 k0_off1_inb numel1_S1 (tbl m) (crd m hF t) 2 * 512 + 1 * q.val = J.val; rw [index1, hJ]; show (crd m hF t 0).val * 512 + 1 * q.val = _; omega

theorem at2 (t : Fin (cfgM m hF).N) (k : Fin 4096) (q : Fin 512) (e : Fin 8) (he : (BitVec.toNat (tbl m 0 (tileIx (crd m hF t)))) = e.val)
    (J : Fin 14336) (hJ : J.val = 512 * (crd m hF t 0).val + q.val) :
    iblk m hF c (2 : Fin 6) t (ValueIdx.ix3 (0 : Fin 1) k q) = w3A m c (ValueIdx.ix3 e k J) := by
  unfold iblk
  rw [View.read_apply]
  refine congrArg (m ((c : Thread nD τ).loc main_arg4)) (funext fun a => Fin.ext ?_)
  match a with
  | ⟨0, _⟩ => show cc0_transform_2 k0_off1_inb numel1_S1 (tbl m) (crd m hF t) 0 * 1 + 1 * 0 = e.val; rw [index2, ← he]; exact (Nat.add_zero _).trans (Nat.mul_one _)
  | ⟨1, _⟩ => show cc0_transform_2 k0_off1_inb numel1_S1 (tbl m) (crd m hF t) 1 * 4096 + 1 * k.val = k.val; rw [index2]; show 0 * 4096 + 1 * k.val = k.val; omega
  | ⟨2, _⟩ => show cc0_transform_2 k0_off1_inb numel1_S1 (tbl m) (crd m hF t) 2 * 512 + 1 * q.val = J.val; rw [index2, hJ]; show (crd m hF t 0).val * 512 + 1 * q.val = _; omega

theorem at3 (t : Fin (cfgM m hF).N) (q : Fin 64) (k : Fin 4096) (R : Fin 114688) (hR : R.val = 64 * min t.val 1791 + q.val) :
    iblk m hF c (3 : Fin 6) t (ValueIdx.ix2 q k) = w2A m c (ValueIdx.ix2 R k) := by
  unfold iblk
  rw [View.read_apply]
  refine congrArg (m ((c : Thread nD τ).loc main_arg5)) (funext fun a => Fin.ext ?_)
  match a with
  | ⟨0, _⟩ => show cc0_transform_3 (grid0.coords t) 0 * 64 + 1 * q.val = R.val; rw [index3, hR]; show min t.val 1791 * 64 + 1 * q.val = _; omega
  | ⟨1, _⟩ => show cc0_transform_3 (grid0.coords t) 1 * 4096 + 1 * k.val = k.val; rw [index3]; show 0 * 4096 + 1 * k.val = k.val; omega

/-! ## The products -/

/-- The products and the cast as the reference has them. -/
def ref4 : FVec Ideal S40448x14336 .bf16 :=
  Cert.Reference2Ideal.Read.val_main_v125 (F := Ideal) (teA m c) (nuA m c) (xsA m c) (w1A m c) (w3A m c)
def ref5 : FVec Ideal S114688x4096 .bf16 := Cert.Reference2Ideal.Read.val_main_v126 (F := Ideal) (w2A m c)

theorem emb4 (t : Fin (cfgM m hF).N) (q j : Fin 512) (R : Fin 40448) (hR : R.val = 512 * (t.val % 79) + q.val) (J : Fin 14336) (hJ : J.val = 512 * (t.val / 79) + j.val) :
    (((cfgM m hF).win (4 : Fin 6)).blk t).view.emb (ValueIdx.ix2 q j) = (ValueIdx.ix2 R J : S40448x14336.Idx) := funext fun a => Fin.ext (by
  have c0 := crd0 m hF t
  have c1 := crd1 m hF t
  match a with
  | ⟨0, _⟩ => show cc0_transform_4 (crd m hF t) 0 * 512 + 1 * q.val = R.val; rw [index4, hR]; show (crd m hF t 1).val * 512 + 1 * q.val = _; omega
  | ⟨1, _⟩ => show cc0_transform_4 (crd m hF t) 1 * 512 + 1 * j.val = J.val; rw [index4, hJ]; show (crd m hF t 0).val * 512 + 1 * j.val = _; omega)

theorem left4_at (h : InRange (tbl m 0) (tbl m 1)) (t : Fin (cfgM m hF).N) (q j : Fin 512) (R : Fin 40448) (hR : R.val = 512 * (t.val % 79) + q.val)
    (J : Fin 14336) (hJ : J.val = 512 * (t.val / 79) + j.val) : left4 m hF c t (ValueIdx.ix2 q j) = ref4 m c (ValueIdx.ix2 R J) := by
  have c0 := crd0 m hF t
  have c1 := crd1 m hF t
  have ht : tileOf R = tileIx (crd m hF t) := funext fun a => Fin.ext (by
    show R.val / 512 = (crd m hF t 1).val
    omega)
  have hte : teA m c (tileOf R) = tbl m 0 (tileIx (crd m hF t)) := by rw [ht]; exact congrFun (tbl_eq m c 0) _
  have hnu : nuA m c (tileOf R) = tbl m 1 (tileIx (crd m hF t)) := by rw [ht]; exact congrFun (tbl_eq m c 1) _
  obtain ⟨h0, h8, -⟩ := h (tileIx (crd m hF t))
  have he8 := to_nat _ h0 h8
  have hr := Cert.Reference2Ideal.Gate.ref_at (teA m c) (nuA m c) (xsA m c) (w1A m c) (w3A m c) R J ⟨_, he8⟩ (congrArg BitVec.toNat hte)
  refine Eq.trans ?_ hr.symm
  unfold left4
  refine (gate_at _ _ _ _ q j).trans ?_
  rw [hnu]
  refine if_congr ?_ ?_ rfl
  · have hw : BitVec.toInt (word (tbl m 1) (crd m hF t)) = BitVec.toInt (tbl m 1 (tileIx (crd m hF t))) := congrArg BitVec.toInt (word_eq (F := Ideal) (tbl m 1) (crd m hF t))
    rw [hw]
    have hq : R.val % 512 = q.val := by omega
    rw [hq]
  · unfold prod dotRow
    refine congrArg₂ act (Finset.sum_congr rfl fun k _ => ?_) (Finset.sum_congr rfl fun k _ => ?_)
    · exact congrArg₂ (fun a b : EReal => a * b) (at0 m hF c t q k R (by omega)) (at1 m hF c t k j ⟨_, he8⟩ rfl J (by omega))
    · exact congrArg₂ (fun a b : EReal => a * b) (at0 m hF c t q k R (by omega)) (at2 m hF c t k j ⟨_, he8⟩ rfl J (by omega))

theorem array4 (h : InRange (tbl m 0) (tbl m 1)) : (dats m hF 0 c).arrAt (4 : Fin 6) (cfgM m hF).N = ref4 m c := by
  refine (dats m hF 0 c).arrAt_eq_of_cover (4 : Fin 6) (ref4 m c) (fun t _ => funext fun y => ?_) (fun i => ?_)
  · rw [View.read_apply]
    have hy0 : (y 0).val < 512 := (y 0).isLt
    have hy1 : (y 1).val < 512 := (y 1).isLt
    have hN : t.val < 2212 := t.isLt
    have hy : y = (ValueIdx.ix2 (⟨(y 0).val, hy0⟩ : Fin 512) (⟨(y 1).val, hy1⟩ : Fin 512) : S512x512.Idx) := funext fun a => (by
      match a with
      | ⟨0, _⟩ => rfl
      | ⟨1, _⟩ => rfl)
    have hl := left4_at m hF c h t ⟨(y 0).val, hy0⟩ ⟨(y 1).val, hy1⟩ ⟨512 * (t.val % 79) + (y 0).val, by omega⟩ rfl ⟨512 * (t.val / 79) + (y 1).val, by omega⟩ rfl
    rw [← emb4 m hF t ⟨(y 0).val, hy0⟩ ⟨(y 1).val, hy1⟩ ⟨512 * (t.val % 79) + (y 0).val, by omega⟩ rfl ⟨512 * (t.val / 79) + (y 1).val, by omega⟩ rfl, ← hy] at hl
    exact hl
  · have h0 : (i 0).val < 40448 := (i 0).isLt
    have h1 : (i 1).val < 14336 := (i 1).isLt
    refine ⟨⟨79 * ((i 1).val / 512) + (i 0).val / 512, by show _ < 2212; omega⟩, flush_4 m hF _, ?_⟩
    have hi : i = (ValueIdx.ix2 (⟨(i 0).val, h0⟩ : Fin 40448) (⟨(i 1).val, h1⟩ : Fin 14336) : S40448x14336.Idx) := funext fun a => (by
      match a with
      | ⟨0, _⟩ => rfl
      | ⟨1, _⟩ => rfl)
    have he := emb4 m hF ⟨79 * ((i 1).val / 512) + (i 0).val / 512, by show _ < 2212; omega⟩ ⟨(i 0).val % 512, by omega⟩ ⟨(i 1).val % 512, by omega⟩
      ⟨(i 0).val, h0⟩ (by show (i 0).val = 512 * ((79 * ((i 1).val / 512) + (i 0).val / 512) % 79) + (i 0).val % 512; omega)
      ⟨(i 1).val, h1⟩ (by show (i 1).val = 512 * ((79 * ((i 1).val / 512) + (i 0).val / 512) / 79) + (i 1).val % 512; omega)
    exact Eq.subst (motive := fun x => x ∈ (((cfgM m hF).win (4 : Fin 6)).blk _).view.set) (he.trans hi.symm) (View.emb_mem_set _ _)

/-! ## The cast -/

theorem emb5 (t : Fin (cfgM m hF).N) (q : Fin 64) (k : Fin 4096) (R : Fin 114688) (hR : R.val = 64 * min t.val 1791 + q.val) :
    (((cfgM m hF).win (5 : Fin 6)).blk t).view.emb (ValueIdx.ix2 q k) = (ValueIdx.ix2 R k : S114688x4096.Idx) := funext fun a => Fin.ext (by
  match a with
  | ⟨0, _⟩ => show cc0_transform_5 (grid0.coords t) 0 * 64 + 1 * q.val = R.val; rw [index5, hR]; show min t.val 1791 * 64 + 1 * q.val = _; omega
  | ⟨1, _⟩ => show cc0_transform_5 (grid0.coords t) 1 * 4096 + 1 * k.val = k.val; rw [index5]; show 0 * 4096 + 1 * k.val = k.val; omega)

theorem left5_at (t : Fin (cfgM m hF).N) (q : Fin 64) (k : Fin 4096) (R : Fin 114688) (hR : R.val = 64 * min t.val 1791 + q.val) :
    left5 m hF c t (ValueIdx.ix2 q k) = ref5 m c (ValueIdx.ix2 R k) :=
  at3 m hF c (cap m hF t) q k R (by show R.val = 64 * min (min t.val 1791) 1791 + q.val; omega)

theorem array5 : (dats m hF 0 c).arrAt (5 : Fin 6) (cfgM m hF).N = ref5 m c := by
  refine (dats m hF 0 c).arrAt_eq_of_cover (5 : Fin 6) (ref5 m c) (fun t _ => funext fun y => ?_) (fun i => ?_)
  · rw [View.read_apply]
    have hy0 : (y 0).val < 64 := (y 0).isLt
    have hy1 : (y 1).val < 4096 := (y 1).isLt
    have hy : y = (ValueIdx.ix2 (⟨(y 0).val, hy0⟩ : Fin 64) (⟨(y 1).val, hy1⟩ : Fin 4096) : S64x4096.Idx) := funext fun a => (by
      match a with
      | ⟨0, _⟩ => rfl
      | ⟨1, _⟩ => rfl)
    have hl := left5_at m hF c t ⟨(y 0).val, hy0⟩ ⟨(y 1).val, hy1⟩ ⟨64 * min t.val 1791 + (y 0).val, by omega⟩ rfl
    rw [← emb5 m hF t ⟨(y 0).val, hy0⟩ ⟨(y 1).val, hy1⟩ ⟨64 * min t.val 1791 + (y 0).val, by omega⟩ rfl, ← hy] at hl
    exact hl
  · have h0 : (i 0).val < 114688 := (i 0).isLt
    have h1 : (i 1).val < 4096 := (i 1).isLt
    have hi : i = (ValueIdx.ix2 (⟨(i 0).val, h0⟩ : Fin 114688) (⟨(i 1).val, h1⟩ : Fin 4096) : S114688x4096.Idx) := funext fun a => (by
      match a with
      | ⟨0, _⟩ => rfl
      | ⟨1, _⟩ => rfl)
    obtain ⟨n, hn, hm, hf⟩ : ∃ n, n < 2212 ∧ min n 1791 = (i 0).val / 64 ∧ (n < 1791 ∨ n = 2211) := by
      by_cases hb : (i 0).val / 64 < 1791
      · exact ⟨(i 0).val / 64, by omega, by omega, .inl hb⟩
      · exact ⟨2211, by omega, by omega, .inr rfl⟩
    refine ⟨⟨n, hn⟩, ?_, ?_⟩
    · rw [flush_5]
      show (decide (n < 1791) || decide (n = 2211)) = true
      rcases hf with hf | hf
      · rw [decide_eq_true hf]; rfl
      · rw [decide_eq_true hf]; exact Bool.or_true _
    · rw [hi, ← emb5 m hF ⟨n, hn⟩ ⟨(i 0).val % 64, by omega⟩ ⟨(i 1).val, h1⟩ ⟨(i 0).val, h0⟩ (by show (i 0).val = 64 * min n 1791 + (i 0).val % 64; omega)]
      exact View.emb_mem_set _ _

end Cert.Kernel2Ideal.Gate
-- ==== Proof.DownRun.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.TableIdle
public import Idealize.ShloMosaic.Lib.Pipeline.Value
public import Idealize.ShloMosaic.Lib.Pipeline.Quiescent
public import Idealize.ShloMosaic.Lib.Writes
public import Idealize.ShloMosaic.Lib.WritesUnit
public import Idealize.ShloMosaic.Lib.VecWindow
public import Idealize.ShloMosaic.Lib.ValueIdx
public import Idealize.ShloMosaic.Lib.Ring
public import Idealize.ShloMosaic.Lib.Exec
public import Idealize.ShloMosaic.Lib.Affine
public import Idealize.ShloMosaic.Lib.Tactic
public import Idealize.ShloMosaic.Lib.WordCmp

@[expose] public section

set_option maxRecDepth 16384

noncomputable section

/-! One run of the body of the down product: what it leaves in its output block, from the blocks of its inputs, the word
    that says how many rows of the tile hold tokens, and what the output block held. -/

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)

variable {F : FTy → Type} [FloatOps F]

local notation "𝕄" => MT nD τ sig Unit (Elt F) ℕ (UR sig nD τ) ℕ

/-- The tables, whole: each tile's expert, and each tile's number of rows. -/
abbrev teM : Memref sig .tc .smem S79 .i32 := Memref.whole main_arg0
abbrev nuM : Memref sig .tc .smem S79 .i32 := Memref.whole main_arg1

/-- The word of the second table at a grid point's tile. -/
abbrev word (T : S79.Idx → Elt F .i32) (i : grid0.Coords) : Elt F .i32 :=
  View.readAt (Elt F) nuM.view (Rect.unit (s := S79) (k0_off1 i) S1.size (k0_off1_inb i)).toLoadRect T (Shape.Idx.first (numel1_S1.symm ▸ Nat.one_pos))

/-- The upper half of a tile's rows, of the input block and of the output block. -/
abbrev top (x0 : Vec F S512x1024 .bf16) : Vec F S256x1024 .bf16 :=
  window x0 ![0, 0] S256x1024.size inb_S512x1024_S256x1024_0_0
abbrev topO (d : Vec F S512x4096 .f32) : Vec F S256x4096 .f32 :=
  window d ![0, 0] S256x4096.size inb_S512x4096_S256x4096_0_0

/-- The first `n` rows of a block times their gates; the other rows as they are. -/
def scaledTo (n : ℕ) (x2 : Vec F S512x1 .f32) (a : Vec F S512x4096 .f32) : Vec F S512x4096 .f32 :=
  fun y => if (y 0).val < n then FloatOps.mulf (a y) (x2 (ValueIdx.ix2 (⟨(y 0).val, (y 0).isLt⟩ : Fin 512) (0 : Fin 1))) else a y

theorem scaledTo_zero (x2 : Vec F S512x1 .f32) (a : Vec F S512x4096 .f32) : scaledTo 0 x2 a = a :=
  funext fun _ => if_neg (Nat.not_lt_zero _)

theorem put_slab (x : Vec F S512x4096 .f32) (o : ℕ) (w : Vec F S32x4096 .f32) (y : S512x4096.Idx) :
    put x ![o, 0] S32x4096.size w y
      = if h : o ≤ (y 0).val ∧ (y 0).val < o + 32 then w (ValueIdx.ix2 (⟨(y 0).val - o, by omega⟩ : Fin 32) (⟨(y 1).val, (y 1).isLt⟩ : Fin 4096)) else x y := by
  by_cases h : o ≤ (y 0).val ∧ (y 0).val < o + 32
  · rw [dif_pos h]
    unfold put
    have hall : ∀ a : Fin 2, (![o, 0] : Fin 2 → ℕ) a ≤ (y a).val ∧ (y a).val < (![o, 0] : Fin 2 → ℕ) a + S32x4096.size a :=
      Fin.forall_fin_two.mpr ⟨h, ⟨Nat.zero_le _, by show (y 1).val < 0 + 4096; have h1 : (y 1).val < 4096 := (y 1).isLt; omega⟩⟩
    refine (dif_pos hall).trans (congrArg w (funext fun a => Fin.ext ?_))
    match a with
    | ⟨0, _⟩ => rfl
    | ⟨1, _⟩ => rfl
  · rw [dif_neg h]
    exact dif_neg fun hall => h (hall (0 : Fin 2))

theorem pay6_at (v : Vec F S32x4096 .f32) (g : Vec F S32x1 .f32) (r : Fin 32) (j : Fin 4096) :
    k0_pay6 v g (ValueIdx.ix2 r j) = FloatOps.mulf (v (ValueIdx.ix2 r j)) (g (ValueIdx.ix2 r (0 : Fin 1))) := by
  show FloatOps.mulf (shapeCast S32x4096 v shapeCasts_S32x4096_S32x4096 (ValueIdx.ix2 r j)) (broadcastTo S32x4096 g broadcasts_S32x1_S32x4096 (ValueIdx.ix2 r j)) = _
  rw [shapeCast_self]
  refine congrArg _ (broadcastTo_apply g _ _ _ fun a => ?_)
  match a with
  | ⟨0, _⟩ => rfl
  | ⟨1, _⟩ => rfl

theorem pay7_at (v : Vec F S32x4096 .f32) (g : Vec F S32x1 .f32) (r : Fin 32) (j : Fin 4096) :
    k0_pay7 v g (ValueIdx.ix2 r j) = FloatOps.mulf (v (ValueIdx.ix2 r j)) (g (ValueIdx.ix2 r (0 : Fin 1))) := pay6_at v g r j

/-- One trip of the scaling loop on values: two slabs of 32 rows, one after the other. -/
theorem slab_step (n : ℕ) (x2 : Vec F S512x1 .f32) (a : Vec F S512x4096 .f32) (o : ℕ) (ho : o = n) (w : Vec F S32x4096 .f32)
    (hw : ∀ (r : Fin 32) (j : Fin 4096) (R : Fin 512), R.val = n + r.val → w (ValueIdx.ix2 r j) = FloatOps.mulf (a (ValueIdx.ix2 R j)) (x2 (ValueIdx.ix2 R (0 : Fin 1)))) :
    put (scaledTo n x2 a) ![o, 0] S32x4096.size w = scaledTo (n + 32) x2 a := by
  subst ho
  funext y
  rw [put_slab]
  have hy : (y 0).val < 512 := (y 0).isLt
  unfold scaledTo
  by_cases h : o ≤ (y 0).val ∧ (y 0).val < o + 32
  · rw [dif_pos h, if_pos h.2]
    have e : (ValueIdx.ix2 (⟨(y 0).val, (y 0).isLt⟩ : Fin 512) (⟨(y 1).val, (y 1).isLt⟩ : Fin 4096) : S512x4096.Idx) = y := funext fun a => (by
      match a with
      | ⟨0, _⟩ => rfl
      | ⟨1, _⟩ => rfl)
    refine (hw _ _ ⟨(y 0).val, (y 0).isLt⟩ (by show (y 0).val = o + ((y 0).val - o); omega)).trans ?_
    rw [e]
  · rw [dif_neg h]
    by_cases h' : (y 0).val < o
    · rw [if_pos h', if_pos (by omega)]
    · rw [if_neg h', if_neg (by omega)]

/-- The two slabs of a trip. -/
theorem two_slabs (x2 : Vec F S512x1 .f32) (a : Vec F S512x4096 .f32) (k : ℕ) (w w' : Vec F S32x4096 .f32)
    (hw : ∀ (r : Fin 32) (j : Fin 4096) (R : Fin 512), R.val = 64 * k + r.val → w (ValueIdx.ix2 r j) = FloatOps.mulf (a (ValueIdx.ix2 R j)) (x2 (ValueIdx.ix2 R (0 : Fin 1))))
    (hw' : ∀ (r : Fin 32) (j : Fin 4096) (R : Fin 512), R.val = 64 * k + 32 + r.val → w' (ValueIdx.ix2 r j) = FloatOps.mulf (a (ValueIdx.ix2 R j)) (x2 (ValueIdx.ix2 R (0 : Fin 1)))) :
    put (put (scaledTo (64 * k) x2 a) ![64 * k + 32 * (0 : Fin 2).val, 0] S32x4096.size w) ![64 * k + 32 * (1 : Fin 2).val, 0] S32x4096.size w' = scaledTo (64 * (k + 1)) x2 a := by
  rw [slab_step (64 * k) x2 a (64 * k + 32 * (0 : Fin 2).val) rfl w hw, slab_step (64 * k + 32) x2 a (64 * k + 32 * (1 : Fin 2).val) rfl w' hw']
  exact congrArg (fun n => scaledTo n x2 a) (by omega)

section loop

variable (c : Dev nD) (i : grid0.Coords) (arg2 : Memref sig .tc .smem S79 .i32) (harg2 : arg2.IsWhole) (arg3 : Memref sig .tc .smem S79 .i32) (harg3 : arg3.IsWhole) (arg4 : Memref sig .tc .vmem S512x1024 .bf16) (harg4 : arg4.IsWhole) (arg5 : Memref sig .tc .vmem S1x1024x4096 .bf16) (harg5 : arg5.IsWhole) (arg6 : Memref sig .tc .vmem S512x1 .f32) (harg6 : arg6.IsWhole) (arg7 : Memref sig .tc .vmem S512x4096 .f32) (harg7 : arg7.IsWhole)
  (x2 : Vec F S512x1 .f32) (a : Vec F S512x4096 .f32)

/-- Before a trip of the scaling loop: the gates as they are, and 64 more rows scaled for each trip done. -/
def loopAt (k : ℕ) (_ : Unit) : sProp 𝕄 :=
  iprop((arg6.view.loc (c : Thread nD τ) ↦[arg6.view.set]{fullShare} arg6.view.rep x2)
    ∗ (∃ f, (arg7.view.loc (c : Thread nD τ) ↦[arg7.view.set]{fullShare} f) ∗ ⌜arg7.view.read (Elt F) f = scaledTo (64 * k) x2 a⌝))

/-- What a slab of the trip stores, at its rows. -/
theorem slab_at (f : arg7.view.ty.Contents (Elt F)) (k : Fin k0_t1_loop.trips) (o : ℕ) (n : ℕ) (hn : n ≤ 64 * k.val + o) (hf : arg7.view.read (Elt F) f = scaledTo n x2 a)
    (off : Fin 2 → ℕ) (inb : ∀ a, off a + S32x4096.size a ≤ S512x4096.size a) (hoff : off = ![64 * k.val + o, 0])
    (off' : Fin 2 → ℕ) (inb' : ∀ a, off' a + S32x1.size a ≤ S512x1.size a) (hoff' : off' = ![64 * k.val + o, 0])
    (r : Fin 32) (j : Fin 4096) (R : Fin 512) (hR : R.val = 64 * k.val + o + r.val) :
    k0_pay6 (arg7.view.readAt (Elt F) (Rect.unit (s := S512x4096) off S32x4096.size inb).toLoadRect f)
        (arg6.view.readAt (Elt F) (Rect.unit (s := S512x1) off' S32x1.size inb').toLoadRect (arg6.view.rep x2)) (ValueIdx.ix2 r j)
      = FloatOps.mulf (a (ValueIdx.ix2 R j)) (x2 (ValueIdx.ix2 R (0 : Fin 1))) := by
  subst hoff hoff'
  rw [pay6_at]
  congr 1
  · rw [View.readAt_unit arg7.view f inb rfl inb, hf]
    have e : (Rect.unit (s := S512x4096) ![64 * k.val + o, 0] S32x4096.size inb).emb (ValueIdx.ix2 r j) = (ValueIdx.ix2 R j : S512x4096.Idx) := funext fun b => Fin.ext (by
      match b with
      | ⟨0, _⟩ => show 64 * k.val + o + 1 * r.val = R.val; omega
      | ⟨1, _⟩ => show 0 + 1 * j.val = j.val; omega)
    show scaledTo n x2 a ((Rect.unit (s := S512x4096) ![64 * k.val + o, 0] S32x4096.size inb).emb (ValueIdx.ix2 r j)) = _
    rw [e]
    exact if_neg (by show ¬R.val < n; omega)
  · rw [View.readAt_rep_unit arg6.view x2 inb' rfl inb']
    refine congrArg x2 (funext fun b => Fin.ext ?_)
    match b with
    | ⟨0, _⟩ => show 64 * k.val + o + 1 * r.val = R.val; omega
    | ⟨1, _⟩ => rfl

/-- What a trip stores, read back. -/
theorem trip_read (f : arg7.view.ty.Contents (Elt F)) (k : Fin k0_t1_loop.trips) (hf : arg7.view.read (Elt F) f = scaledTo (64 * k.val) x2 a) :
    arg7.view.read (Elt F) (arg7.view.writes (Elt F) f
      [⟨Rect.unit (s := S512x4096) (k0_off2 k 32#32) S32x4096.size (k0_off2_inb k 1),
          k0_pay7 (arg7.view.readAt (Elt F) (Rect.unit (s := S512x4096) (k0_off2 k 32#32) S32x4096.size (k0_off2_inb k 1)).toLoadRect f)
            (arg6.view.readAt (Elt F) (Rect.unit (s := S512x1) (k0_off3 k 32#32) S32x1.size (k0_off3_inb k 1)).toLoadRect (arg6.view.rep x2))⟩,
        ⟨Rect.unit (s := S512x4096) (k0_off2 k 0#32) S32x4096.size (k0_off2_inb k 0),
          k0_pay6 (arg7.view.readAt (Elt F) (Rect.unit (s := S512x4096) (k0_off2 k 0#32) S32x4096.size (k0_off2_inb k 0)).toLoadRect f)
            (arg6.view.readAt (Elt F) (Rect.unit (s := S512x1) (k0_off3 k 0#32) S32x1.size (k0_off3_inb k 0)).toLoadRect (arg6.view.rep x2))⟩])
      = scaledTo (64 * (k.val + 1)) x2 a := by
  rw [View.read_writes_cons_put _ _ _ _ _ (k0_off2_eq k 1), View.read_writes_cons_put _ _ _ _ _ (k0_off2_eq k 0), View.writes_nil, hf]
  exact two_slabs x2 a k.val _ _
    (fun r j R hR => slab_at arg6 arg7 x2 a f k 0 (64 * k.val) (by omega) hf _ _ (k0_off2_eq k 0) _ _ (k0_off3_eq k 0) r j R (by omega))
    (fun r j R hR => slab_at arg6 arg7 x2 a f k 32 (64 * k.val) (by omega) hf _ _ (k0_off2_eq k 1) _ _ (k0_off3_eq k 1) r j R (by omega))

set_option maxHeartbeats 4000000 in
theorem loop_step (k : Fin k0_t1_loop.trips) (u : Unit) :
    loopAt c arg6 arg7 x2 a k.val u
      ⊢ wp frame (wpE (defs₀ (F := F)) Variants.none c none) Set.univ (k0_t1_body (F := F) i arg2 harg2 arg3 harg3 arg4 harg4 arg5 harg5 arg6 harg6 arg7 harg7 k u) (loopAt c arg6 arg7 x2 a (k.val + 1)) := by
  unfold loopAt k0_t1_body
  iintro ⟨H6, ⟨%f, H7, %hf⟩⟩
  sl_exec
  sl_step
  isplitl [H6]; · iexact H6
  iexists _; isplitl [H7]; · iexact H7
  ipureintro
  sl_unfold_run_names
  exact trip_read arg6 arg7 x2 a f k hf

end loop

/-! ## The cases of the body -/

theorem ne_word (b : BitVec 1) : IntOp.cmpi .ne (Scalar.extui b) 0#32 = 1#1 ↔ b = 1#1 := by revert b; decide
theorem not_word (b : BitVec 1) : Scalar.xori b 1#1 = 1#1 ↔ ¬b = 1#1 := by revert b; decide

theorem step_lt (i : grid0.Coords) : (i 1).val < 14 := (i 1).isLt
theorem first_iff (i : grid0.Coords) : IntOp.cmpi .eq (BitVec.ofNat 32 (i 1).val) 0#32 = 1#1 ↔ (i 1).val = 0 :=
  IntOp.cmpi_eq.trans (WordCmp.ofNat_eq_ofNat_iff (by have := step_lt i; omega) (by decide))
theorem last_iff (i : grid0.Coords) : IntOp.cmpi .eq (BitVec.ofNat 32 (i 1).val) 13#32 = 1#1 ↔ (i 1).val = 13 :=
  IntOp.cmpi_eq.trans (WordCmp.ofNat_eq_ofNat_iff (by have := step_lt i; omega) (by decide))
theorem later_iff (i : grid0.Coords) : IntOp.cmpi .sgt (BitVec.ofNat 32 (i 1).val) 0#32 = 1#1 ↔ 0 < (i 1).val := by
  refine IntOp.cmpi_sgt.trans ?_
  rw [WordCmp.toInt_ofNat_of_lt (a := (i 1).val) (by have := step_lt i; omega)]
  show (0 : Int) < _ ↔ _
  omega

theorem cond1_iff (i : grid0.Coords) (w : BitVec 32) : k0_cond1 i w = 1#1 ↔ 256 < w.toInt ∧ (i 1).val = 0 :=
  (ne_word _).trans (IntOp.andi_eq_one.trans (and_congr IntOp.cmpi_sgt (first_iff i)))
theorem cond2_iff (i : grid0.Coords) (w : BitVec 32) : k0_cond2 i w = 1#1 ↔ 256 < w.toInt ∧ 0 < (i 1).val :=
  (ne_word _).trans (IntOp.andi_eq_one.trans (and_congr IntOp.cmpi_sgt (later_iff i)))
theorem part_iff (w : BitVec 32) : Scalar.andi (Scalar.cmpi .sgt w 0#32) (Scalar.xori (Scalar.cmpi .sgt w 256#32) 1#1) = 1#1 ↔ 0 < w.toInt ∧ ¬256 < w.toInt :=
  IntOp.andi_eq_one.trans (and_congr IntOp.cmpi_sgt ((not_word _).trans (not_congr IntOp.cmpi_sgt)))
theorem cond3_iff (i : grid0.Coords) (w : BitVec 32) : k0_cond3 i w = 1#1 ↔ (0 < w.toInt ∧ ¬256 < w.toInt) ∧ (i 1).val = 0 :=
  (ne_word _).trans (IntOp.andi_eq_one.trans (and_congr (part_iff w) (first_iff i)))
theorem cond4_iff (i : grid0.Coords) (w : BitVec 32) : k0_cond4 i w = 1#1 ↔ (0 < w.toInt ∧ ¬256 < w.toInt) ∧ 0 < (i 1).val :=
  (ne_word _).trans (IntOp.andi_eq_one.trans (and_congr (part_iff w) (later_iff i)))
theorem cond5_iff (i : grid0.Coords) (w : BitVec 32) : k0_cond5 i w = 1#1 ↔ 0 < w.toInt ∧ (i 1).val = 13 :=
  (ne_word _).trans (IntOp.andi_eq_one.trans (and_congr IntOp.cmpi_sgt (last_iff i)))
theorem cond6_iff (i : grid0.Coords) (w : BitVec 32) : k0_cond6 i w = 1#1 ↔ ¬0 < w.toInt ∧ (i 1).val = 13 :=
  (ne_word _).trans (IntOp.andi_eq_one.trans (and_congr ((not_word _).trans (not_congr IntOp.cmpi_sgt)) (last_iff i)))

section value
variable (x0 : Vec F S512x1024 .bf16) (x1 : Vec F S1x1024x4096 .bf16) (x2 : Vec F S512x1 .f32) (d : Vec F S512x4096 .f32)

/-- The upper rows' first product with zeros below, and the upper rows with one more product. -/
def halfFirst : Vec F S512x4096 .f32 :=
  View.canon [⟨Rect.unit (s := S512x4096) ![256, 0] S256x4096.size inb_S512x4096_S256x4096_256_0, k0_pay4 (F := F)⟩,
    ⟨Rect.unit (s := S512x4096) ![0, 0] S256x4096.size inb_S512x4096_S256x4096_0_0, k0_pay3 (top x0) x1⟩]
def halfMore : Vec F S512x4096 .f32 :=
  put d ![0, 0] S256x4096.size (k0_pay5 (topO d) (top x0) x1)

/-- The running sum after a step: the first product, or one more, of all rows or of the upper half. -/
def summed (k : ℕ) (w : BitVec 32) : Vec F S512x4096 .f32 :=
  if 256 < w.toInt then (if k = 0 then k0_pay1 x0 x1 else k0_pay2 d x0 x1)
  else if 0 < w.toInt then (if k = 0 then halfFirst x0 x1 else halfMore x0 x1 d)
  else d

/-- What a step leaves in the output block: the running sum, at the last step times the rows' gates; zeros at the last
    step of a tile without tokens. -/
def left (k : ℕ) (w : BitVec 32) : Vec F S512x4096 .f32 :=
  if k = 13 then (if 0 < w.toInt then scaledTo 512 x2 (summed x0 x1 d k w) else k0_pay8 (F := F))
  else summed x0 x1 d k w

end value

/-! What the stores leave, read back. -/
section reads
variable (M4 : Memref sig .tc .vmem S512x1024 .bf16) (M5 : Memref sig .tc .vmem S1x1024x4096 .bf16) (M7 : Memref sig .tc .vmem S512x4096 .f32)
  (x0 : Vec F S512x1024 .bf16) (x1 : Vec F S1x1024x4096 .bf16) (f g : M7.view.ty.Contents (Elt F)) (d : Vec F S512x4096 .f32) (hf : M7.view.read (Elt F) f = d)

theorem rd4 : M4.view.readAt (Elt F) (Rect.unit (s := S512x1024) ![0, 0] S512x1024.size inb_S512x1024_S512x1024_0_0).toLoadRect (M4.view.rep x0) = x0 :=
  View.readAt_rep_full M4.view x0 _
theorem rd4t : M4.view.readAt (Elt F) (Rect.unit (s := S512x1024) ![0, 0] S256x1024.size inb_S512x1024_S256x1024_0_0).toLoadRect (M4.view.rep x0) = top x0 :=
  View.readAt_rep_unit M4.view x0 _ rfl _
theorem rd5 : M5.view.readAt (Elt F) (Rect.unit (s := S1x1024x4096) ![0, 0, 0] S1x1024x4096.size inb_S1x1024x4096_S1x1024x4096_0_0_0).toLoadRect (M5.view.rep x1) = x1 :=
  View.readAt_rep_full M5.view x1 _

theorem wrote1 : M7.view.read (Elt F) (M7.view.writes (Elt F) g
      [⟨Rect.unit (s := S512x4096) ![0, 0] S512x4096.size inb_S512x4096_S512x4096_0_0, k0_pay1
        (M4.view.readAt (Elt F) (Rect.unit (s := S512x1024) ![0, 0] S512x1024.size inb_S512x1024_S512x1024_0_0).toLoadRect (M4.view.rep x0))
        (M5.view.readAt (Elt F) (Rect.unit (s := S1x1024x4096) ![0, 0, 0] S1x1024x4096.size inb_S1x1024x4096_S1x1024x4096_0_0_0).toLoadRect (M5.view.rep x1))⟩])
      = k0_pay1 x0 x1 := by
  rw [rd4, rd5]; exact View.read_writes_full M7.view g _ _ []

include hf in
theorem wrote2 : M7.view.read (Elt F) (M7.view.writes (Elt F) g
      [⟨Rect.unit (s := S512x4096) ![0, 0] S512x4096.size inb_S512x4096_S512x4096_0_0, k0_pay2
        (M7.view.readAt (Elt F) (Rect.unit (s := S512x4096) ![0, 0] S512x4096.size inb_S512x4096_S512x4096_0_0).toLoadRect f)
        (M4.view.readAt (Elt F) (Rect.unit (s := S512x1024) ![0, 0] S512x1024.size inb_S512x1024_S512x1024_0_0).toLoadRect (M4.view.rep x0))
        (M5.view.readAt (Elt F) (Rect.unit (s := S1x1024x4096) ![0, 0, 0] S1x1024x4096.size inb_S1x1024x4096_S1x1024x4096_0_0_0).toLoadRect (M5.view.rep x1))⟩])
      = k0_pay2 d x0 x1 := by
  rw [rd4, rd5]
  refine (View.read_writes_full M7.view g _ _ []).trans (congrArg (fun z => k0_pay2 z x0 x1) ?_)
  exact (View.readAt_full M7.view f _).trans hf

theorem wrote3 : M7.view.read (Elt F) (M7.view.writes (Elt F) g
      [⟨Rect.unit (s := S512x4096) ![256, 0] S256x4096.size inb_S512x4096_S256x4096_256_0, k0_pay4 (F := F)⟩,
        ⟨Rect.unit (s := S512x4096) ![0, 0] S256x4096.size inb_S512x4096_S256x4096_0_0, k0_pay3
          (M4.view.readAt (Elt F) (Rect.unit (s := S512x1024) ![0, 0] S256x1024.size inb_S512x1024_S256x1024_0_0).toLoadRect (M4.view.rep x0))
          (M5.view.readAt (Elt F) (Rect.unit (s := S1x1024x4096) ![0, 0, 0] S1x1024x4096.size inb_S1x1024x4096_S1x1024x4096_0_0_0).toLoadRect (M5.view.rep x1))⟩])
      = halfFirst x0 x1 := by
  rw [rd4t, rd5]
  exact View.read_writes_eq_canon _ _ _ (View.cover_of_tiledL (s := S512x4096) _ ![256, 4096] (by sl_kernel_rfl))

include hf in
theorem wrote4 : M7.view.read (Elt F) (M7.view.writes (Elt F) f
      [⟨Rect.unit (s := S512x4096) ![0, 0] S256x4096.size inb_S512x4096_S256x4096_0_0, k0_pay5
          (M7.view.readAt (Elt F) (Rect.unit (s := S512x4096) ![0, 0] S256x4096.size inb_S512x4096_S256x4096_0_0).toLoadRect f)
          (M4.view.readAt (Elt F) (Rect.unit (s := S512x1024) ![0, 0] S256x1024.size inb_S512x1024_S256x1024_0_0).toLoadRect (M4.view.rep x0))
          (M5.view.readAt (Elt F) (Rect.unit (s := S1x1024x4096) ![0, 0, 0] S1x1024x4096.size inb_S1x1024x4096_S1x1024x4096_0_0_0).toLoadRect (M5.view.rep x1))⟩])
      = halfMore x0 x1 d := by
  rw [rd4t, rd5, View.read_writes_cons_put M7.view f _ _ _ rfl, View.writes_nil, View.readAt_unit M7.view f _ rfl inb_S512x4096_S256x4096_0_0, hf]
  rfl

theorem wrote8 : M7.view.read (Elt F) (M7.view.writes (Elt F) g
      [⟨Rect.unit (s := S512x4096) ![0, 0] S512x4096.size inb_S512x4096_S512x4096_0_0, k0_pay8 (F := F)⟩]) = k0_pay8 (F := F) :=
  View.read_writes_full M7.view g _ _ []

end reads

/-- The cases a step of the body falls in, and what it leaves there. -/
theorem step_cases (i : grid0.Coords) (w : BitVec 32) (x0 : Vec F S512x1024 .bf16) (x1 : Vec F S1x1024x4096 .bf16) (x2 : Vec F S512x1 .f32) (d : Vec F S512x4096 .f32) :
    (((k0_cond1 i w = 1#1 ∧ ¬k0_cond2 i w = 1#1 ∧ ¬k0_cond3 i w = 1#1 ∧ ¬k0_cond4 i w = 1#1 ∧ left x0 x1 x2 d (i 1).val w = k0_pay1 x0 x1)
      ∨ (¬k0_cond1 i w = 1#1 ∧ k0_cond2 i w = 1#1 ∧ ¬k0_cond3 i w = 1#1 ∧ ¬k0_cond4 i w = 1#1 ∧ left x0 x1 x2 d (i 1).val w = k0_pay2 d x0 x1)
      ∨ (¬k0_cond1 i w = 1#1 ∧ ¬k0_cond2 i w = 1#1 ∧ k0_cond3 i w = 1#1 ∧ ¬k0_cond4 i w = 1#1 ∧ left x0 x1 x2 d (i 1).val w = halfFirst x0 x1)
      ∨ (¬k0_cond1 i w = 1#1 ∧ ¬k0_cond2 i w = 1#1 ∧ ¬k0_cond3 i w = 1#1 ∧ k0_cond4 i w = 1#1 ∧ left x0 x1 x2 d (i 1).val w = halfMore x0 x1 d)
      ∨ (¬k0_cond1 i w = 1#1 ∧ ¬k0_cond2 i w = 1#1 ∧ ¬k0_cond3 i w = 1#1 ∧ ¬k0_cond4 i w = 1#1 ∧ left x0 x1 x2 d (i 1).val w = d))
      ∧ ¬k0_cond5 i w = 1#1 ∧ ¬k0_cond6 i w = 1#1)
    ∨ (((¬k0_cond1 i w = 1#1 ∧ k0_cond2 i w = 1#1 ∧ ¬k0_cond3 i w = 1#1 ∧ ¬k0_cond4 i w = 1#1 ∧ left x0 x1 x2 d (i 1).val w = scaledTo 512 x2 (k0_pay2 d x0 x1))
      ∨ (¬k0_cond1 i w = 1#1 ∧ ¬k0_cond2 i w = 1#1 ∧ ¬k0_cond3 i w = 1#1 ∧ k0_cond4 i w = 1#1 ∧ left x0 x1 x2 d (i 1).val w = scaledTo 512 x2 (halfMore x0 x1 d)))
      ∧ k0_cond5 i w = 1#1 ∧ ¬k0_cond6 i w = 1#1)
    ∨ ((¬k0_cond1 i w = 1#1 ∧ ¬k0_cond2 i w = 1#1 ∧ ¬k0_cond3 i w = 1#1 ∧ ¬k0_cond4 i w = 1#1 ∧ left x0 x1 x2 d (i 1).val w = k0_pay8 (F := F))
      ∧ ¬k0_cond5 i w = 1#1 ∧ k0_cond6 i w = 1#1) := by
  rw [cond1_iff, cond2_iff, cond3_iff, cond4_iff, cond5_iff, cond6_iff]
  unfold left summed
  by_cases hl : (i 1).val = 13
  · have hz : ¬(i 1).val = 0 := by omega
    rw [if_pos hl]
    by_cases hf : 256 < w.toInt
    · have hp : 0 < w.toInt := by omega
      rw [if_pos hp, if_pos hf, if_neg hz]
      refine .inr (.inl ⟨.inl ⟨?_, ?_, ?_, ?_, rfl⟩, ?_, ?_⟩) <;> omega
    · by_cases hp : 0 < w.toInt
      · rw [if_pos hp, if_neg hf, if_pos hp, if_neg hz]
        refine .inr (.inl ⟨.inr ⟨?_, ?_, ?_, ?_, rfl⟩, ?_, ?_⟩) <;> omega
      · rw [if_neg hp]
        refine .inr (.inr ⟨⟨?_, ?_, ?_, ?_, rfl⟩, ?_, ?_⟩) <;> omega
  · rw [if_neg hl]
    left
    refine ⟨?_, by omega, by omega⟩
    by_cases hf : 256 < w.toInt
    · rw [if_pos hf]
      by_cases hz : (i 1).val = 0
      · rw [if_pos hz]
        refine .inl ⟨?_, ?_, ?_, ?_, rfl⟩ <;> omega
      · rw [if_neg hz]
        refine .inr (.inl ⟨?_, ?_, ?_, ?_, rfl⟩) <;> omega
    · rw [if_neg hf]
      by_cases hp : 0 < w.toInt
      · rw [if_pos hp]
        by_cases hz : (i 1).val = 0
        · rw [if_pos hz]
          refine .inr (.inr (.inl ⟨?_, ?_, ?_, ?_, rfl⟩)) <;> omega
        · rw [if_neg hz]
          refine .inr (.inr (.inr (.inl ⟨?_, ?_, ?_, ?_, rfl⟩))) <;> omega
      · rw [if_neg hp]
        refine .inr (.inr (.inr (.inr ⟨?_, ?_, ?_, ?_, rfl⟩))) <;> omega

theorem trips_eq : Scf.trips k0_t1_loop.lb k0_t1_loop.ub k0_t1_loop.st = 8 := by decide

/-- The body's inputs as it finds and leaves them: three blocks and the two tables. -/
abbrev held (c : Dev nD) (arg4 : Memref sig .tc .vmem S512x1024 .bf16) (arg5 : Memref sig .tc .vmem S1x1024x4096 .bf16) (arg6 : Memref sig .tc .vmem S512x1 .f32)
    (T0 T1 : S79.Idx → Elt F .i32) (x0 : Vec F S512x1024 .bf16) (x1 : Vec F S1x1024x4096 .bf16) (x2 : Vec F S512x1 .f32) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (teM.view.loc (c : Thread nD τ) ↦{fullShare.right} T0)
    ∗ (nuM.view.loc (c : Thread nD τ) ↦{fullShare.right} T1))

set_option maxHeartbeats 1000000 in
theorem run (c : Dev nD) (i : grid0.Coords) (arg4 : Memref sig .tc .vmem S512x1024 .bf16) (harg4 : arg4.IsWhole) (arg5 : Memref sig .tc .vmem S1x1024x4096 .bf16) (harg5 : arg5.IsWhole) (arg6 : Memref sig .tc .vmem S512x1 .f32) (harg6 : arg6.IsWhole) (arg7 : Memref sig .tc .vmem S512x4096 .f32) (harg7 : arg7.IsWhole)
    (T0 T1 : S79.Idx → Elt F .i32) (x0 : Vec F S512x1024 .bf16) (x1 : Vec F S1x1024x4096 .bf16) (x2 : Vec F S512x1 .f32) (d : Vec F S512x4096 .f32) (K : PUnit → sProp 𝕄) :
    iprop(held c arg4 arg5 arg6 T0 T1 x0 x1 x2
        ∗ owns (c : Thread nD τ) arg7 fullShare d
        ∗ (iprop(held c arg4 arg5 arg6 T0 T1 x0 x1 x2
            ∗ owns (c : Thread nD τ) arg7 fullShare (left x0 x1 x2 d (i 1).val (word T1 i))) -∗ K ⟨⟩))
      ⊢ wp frame (wpE (defs₀ (F := F)) Variants.none c none) Set.univ (cc0_moe_down i teM (Memref.isWhole_whole _) nuM (Memref.isWhole_whole _) arg4 harg4 arg5 harg5 arg6 harg6 arg7 harg7) K := by
  unfold held owns
  rw [cc0_moe_down_eq_skeleton]; unfold cc0_moe_down_skel
  iintro ⟨⟨H4, H5, H6, HT0, HT1⟩, ⟨%f, %hf, H7⟩, Hk⟩
  have hT0 : teM.IsWhole := Memref.isWhole_whole _
  have hT1 : nuM.IsWhole := Memref.isWhole_whole _
  rcases step_cases i (word T1 i) x0 x1 x2 d with ⟨hc, h5, h6⟩ | ⟨hc, h5, h6⟩ | ⟨⟨h1, h2, h3, h4, he⟩, h5, h6⟩
  · rcases hc with ⟨h1, h2, h3, h4, he⟩ | ⟨h1, h2, h3, h4, he⟩ | ⟨h1, h2, h3, h4, he⟩ | ⟨h1, h2, h3, h4, he⟩ | ⟨h1, h2, h3, h4, he⟩ <;>
    ( sl_exec! (disch := first | (guard_target = k0_cond1 _ _ = _; exact h1) | (guard_target = ¬(k0_cond1 _ _ = _); exact h1) | (guard_target = k0_cond2 _ _ = _; exact h2) | (guard_target = ¬(k0_cond2 _ _ = _); exact h2) | (guard_target = k0_cond3 _ _ = _; exact h3) | (guard_target = ¬(k0_cond3 _ _ = _); exact h3) | (guard_target = k0_cond4 _ _ = _; exact h4) | (guard_target = ¬(k0_cond4 _ _ = _); exact h4) | (guard_target = ¬(k0_cond5 _ _ = _); exact h5) | (guard_target = ¬(k0_cond6 _ _ = _); exact h6))
      sl_step
      iapply Hk
      isplitl [H4 H5 H6 HT0 HT1]
      · isplitl [H4]; · iexact H4
        isplitl [H5]; · iexact H5
        isplitl [H6]; · iexact H6
        isplitl [HT0]; · iexact HT0
        iexact HT1
      iexists _; isplitr; swap
      · iexact H7
      ipureintro
      sl_unfold_run_names )
    · refine Eq.trans ?_ he.symm; exact wrote1 arg4 arg5 arg7 x0 x1 _
    · refine Eq.trans ?_ he.symm; exact wrote2 arg4 arg5 arg7 x0 x1 f _ d hf
    · refine Eq.trans ?_ he.symm; exact wrote3 arg4 arg5 arg7 x0 x1 _
    · refine Eq.trans ?_ he.symm; exact wrote4 arg4 arg5 arg7 x0 x1 f d hf
    · exact hf.trans he.symm
  · rcases hc with ⟨h1, h2, h3, h4, he⟩ | ⟨h1, h2, h3, h4, he⟩
    · sl_exec! (disch := first | (guard_target = ¬(k0_cond1 _ _ = _); exact h1) | (guard_target = k0_cond2 _ _ = _; exact h2) | (guard_target = ¬(k0_cond3 _ _ = _); exact h3) | (guard_target = ¬(k0_cond4 _ _ = _); exact h4) | (guard_target = k0_cond5 _ _ = _; exact h5) | (guard_target = ¬(k0_cond6 _ _ = _); exact h6))
      sl_for (loopAt c arg6 arg7 x2 (k0_pay2 d x0 x1)) $$ [H6 H7]
      case region => intro k u; exact loop_step c i teM hT0 nuM hT1 arg4 harg4 arg5 harg5 arg6 harg6 arg7 harg7 x2 (k0_pay2 d x0 x1) k u
      · unfold loopAt
        isplitl [H6]; · iexact H6
        iexists _; isplitl [H7]; · iexact H7
        ipureintro
        sl_unfold_run_names
        rw [Nat.mul_zero, scaledTo_zero]; exact wrote2 arg4 arg5 arg7 x0 x1 f _ d hf
      iintro %u HI
      unfold loopAt
      icases HI with ⟨H6, ⟨%g, H7, %hg⟩⟩
      sl_exec! (disch := first | (guard_target = ¬(k0_cond1 _ _ = _); exact h1) | (guard_target = k0_cond2 _ _ = _; exact h2) | (guard_target = ¬(k0_cond3 _ _ = _); exact h3) | (guard_target = ¬(k0_cond4 _ _ = _); exact h4) | (guard_target = k0_cond5 _ _ = _; exact h5) | (guard_target = ¬(k0_cond6 _ _ = _); exact h6))
      sl_step
      iapply Hk
      isplitl [H4 H5 H6 HT0 HT1]
      · isplitl [H4]; · iexact H4
        isplitl [H5]; · iexact H5
        isplitl [H6]; · iexact H6
        isplitl [HT0]; · iexact HT0
        iexact HT1
      iexists _; isplitr; swap
      · iexact H7
      ipureintro
      rw [trips_eq] at hg
      exact hg.trans he.symm
    · sl_exec! (disch := first | (guard_target = ¬(k0_cond1 _ _ = _); exact h1) | (guard_target = ¬(k0_cond2 _ _ = _); exact h2) | (guard_target = ¬(k0_cond3 _ _ = _); exact h3) | (guard_target = k0_cond4 _ _ = _; exact h4) | (guard_target = k0_cond5 _ _ = _; exact h5) | (guard_target = ¬(k0_cond6 _ _ = _); exact h6))
      sl_for (loopAt c arg6 arg7 x2 (halfMore x0 x1 d)) $$ [H6 H7]
      case region => intro k u; exact loop_step c i teM hT0 nuM hT1 arg4 harg4 arg5 harg5 arg6 harg6 arg7 harg7 x2 (halfMore x0 x1 d) k u
      · unfold loopAt
        isplitl [H6]; · iexact H6
        iexists _; isplitl [H7]; · iexact H7
        ipureintro
        sl_unfold_run_names
        rw [Nat.mul_zero, scaledTo_zero]; exact wrote4 arg4 arg5 arg7 x0 x1 f d hf
      iintro %u HI
      unfold loopAt
      icases HI with ⟨H6, ⟨%g, H7, %hg⟩⟩
      sl_exec! (disch := first | (guard_target = ¬(k0_cond1 _ _ = _); exact h1) | (guard_target = ¬(k0_cond2 _ _ = _); exact h2) | (guard_target = ¬(k0_cond3 _ _ = _); exact h3) | (guard_target = k0_cond4 _ _ = _; exact h4) | (guard_target = k0_cond5 _ _ = _; exact h5) | (guard_target = ¬(k0_cond6 _ _ = _); exact h6))
      sl_step
      iapply Hk
      isplitl [H4 H5 H6 HT0 HT1]
      · isplitl [H4]; · iexact H4
        isplitl [H5]; · iexact H5
        isplitl [H6]; · iexact H6
        isplitl [HT0]; · iexact HT0
        iexact HT1
      iexists _; isplitr; swap
      · iexact H7
      ipureintro
      rw [trips_eq] at hg
      exact hg.trans he.symm
  · sl_exec! (disch := first | (guard_target = ¬(k0_cond1 _ _ = _); exact h1) | (guard_target = ¬(k0_cond2 _ _ = _); exact h2) | (guard_target = ¬(k0_cond3 _ _ = _); exact h3) | (guard_target = ¬(k0_cond4 _ _ = _); exact h4) | (guard_target = ¬(k0_cond5 _ _ = _); exact h5) | (guard_target = k0_cond6 _ _ = _; exact h6))
    sl_step
    iapply Hk
    isplitl [H4 H5 H6 HT0 HT1]
    · isplitl [H4]; · iexact H4
      isplitl [H5]; · iexact H5
      isplitl [H6]; · iexact H6
      isplitl [HT0]; · iexact HT0
      iexact HT1
    iexists _; isplitr; swap
    · iexact H7
    · ipureintro
      sl_unfold_run_names
      refine Eq.trans ?_ he.symm; exact wrote8 arg7 _

end Cert.Kernel3Ideal.Down

end
-- ==== Proof.DownFrame.lean ====
module

public import proofs.«01_k».proof.Proof.DownRun
public import Idealize.ShloMosaic.Lib.Claim
public import Idealize.ShloMosaic.Lib.Pipeline.Kit
public import Idealize.ShloMosaic.Adequacy
public import Idealize.ShloMosaic.Init

@[expose] public section

set_option maxRecDepth 16384

noncomputable section

/-! The whole run of the down product, at any table of experts that names weight blocks of the array: it ends, no argument
    changes, and the result array holds the blocks its tiles' last steps leave. -/

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the grid decides -/

theorem tile_of : ∀ t : Fin grid0.N, (grid0.coords t 0).val = t.val / 14 := by decide +kernel
theorem step_of : ∀ t : Fin grid0.N, (grid0.coords t 1).val = t.val % 14 := by decide +kernel
theorem sum_flush : ∀ t : Fin grid0.N, Pipeline.Window.flushOf grid0 true cc0_transform_3 t = decide (t.val % 14 = 13) := by decide +kernel

/-! ## What a step leaves, by cases -/

theorem left_first (x0 : Vec F S512x1024 .bf16) (x1 : Vec F S1x1024x4096 .bf16) (x2 : Vec F S512x1 .f32) (d d' : Vec F S512x4096 .f32) (w : BitVec 32) (h : 0 < w.toInt) :
    left x0 x1 x2 d 0 w = left x0 x1 x2 d' 0 w := by
  unfold left summed
  rw [if_neg (show ¬(0 : ℕ) = 13 by decide), if_neg (show ¬(0 : ℕ) = 13 by decide), if_pos h, if_pos h]
  rfl

theorem left_last (x0 : Vec F S512x1024 .bf16) (x1 : Vec F S1x1024x4096 .bf16) (x2 : Vec F S512x1 .f32) (d : Vec F S512x4096 .f32) (w : BitVec 32) (h : ¬0 < w.toInt) :
    left x0 x1 x2 d 13 w = k0_pay8 (F := F) := by
  unfold left
  rw [if_pos rfl, if_neg h]

theorem left_idle (x0 : Vec F S512x1024 .bf16) (x1 : Vec F S1x1024x4096 .bf16) (x2 : Vec F S512x1 .f32) (d : Vec F S512x4096 .f32) (k : ℕ) (w : BitVec 32) (h : ¬0 < w.toInt) (hk : ¬k = 13) :
    left x0 x1 x2 d k w = d := by
  unfold left summed
  rw [if_neg hk, if_neg (by omega), if_neg h]

variable (m : (ℓ : Loc nD τ sig) → Buf (Elt F) ℓ) (ρ : Dev nD → PrngReg)

/-- The tables as the run finds them. -/
def tbl : pre0.Contents (Elt F) := fun j => m ((0 : Dev nD).tc.loc (pre0.ref j))

theorem tbl_eq (c : Dev nD) (j : Fin 2) : m ((c : Thread nD τ).loc (pre0.ref j)) = tbl m j := by
  obtain rfl : c = 0 := Subsingleton.elim _ _; rfl

variable (hF : ok0 (F := F) (tbl m))

abbrev adm : (pcfg0 (F := F)).Adm := ⟨tbl m, hF⟩
abbrev cfgM : Pipeline.Cfg sig Λ₀ := cfg0 (adm m hF)
abbrev pcs : Fin 1 → Pipeline.Cfg sig Λ₀ := Pipeline.pin (pcfgs (F := F)) fun _ => adm m hF

abbrev crd (t : Fin (cfgM m hF).N) : grid0.Coords := grid0.coords t

/-- How many rows of a point's tile hold tokens. -/
abbrev cnt (t : Fin (cfgM m hF).N) : BitVec 32 := word (tbl m 1) (crd m hF t)

abbrev st0 (t : Fin (cfgM m hF).N) : Memref sig .tc .vmem S512x1024 .bf16 := spec0_0.stage ((cfgM m hF).slots t (0 : Fin 4))
abbrev hst0 (t : Fin (cfgM m hF).N) : (st0 m hF t).IsWhole := hstage0_0 (((cfgM m hF).slots t (0 : Fin 4)).cast nbuf0_0)
abbrev st1 (t : Fin (cfgM m hF).N) : Memref sig .tc .vmem S1x1024x4096 .bf16 := spec0_1.stage ((cfgM m hF).slots t (1 : Fin 4))
abbrev hst1 (t : Fin (cfgM m hF).N) : (st1 m hF t).IsWhole := hstage0_1 (((cfgM m hF).slots t (1 : Fin 4)).cast nbuf0_1)
abbrev st2 (t : Fin (cfgM m hF).N) : Memref sig .tc .vmem S512x1 .f32 := spec0_2.stage ((cfgM m hF).slots t (2 : Fin 4))
abbrev hst2 (t : Fin (cfgM m hF).N) : (st2 m hF t).IsWhole := hstage0_2 (((cfgM m hF).slots t (2 : Fin 4)).cast nbuf0_2)
abbrev st3 (t : Fin (cfgM m hF).N) : Memref sig .tc .vmem S512x4096 .f32 := spec0_3.stage ((cfgM m hF).slots t (3 : Fin 4))
abbrev hst3 (t : Fin (cfgM m hF).N) : (st3 m hF t).IsWhole := hstage0_3 (((cfgM m hF).slots t (3 : Fin 4)).cast nbuf0_3)

/-- A window's block at a point, of its array as the run finds it. -/
def iblk (c : Dev nD) (w : Fin (cfgM m hF).W) (t : Fin (cfgM m hF).N) : (((cfgM m hF).win w).xblock ((cfgM m hF).grid.coords t)).Idx → Elt F ((cfgM m hF).win w).elt :=
  (((cfgM m hF).win w).blk t).view.read (Elt F) (m (((cfgM m hF).win w).arr.view.loc (c : Thread nD τ)))

/-- A step of a point on what its output block held: nothing is kept of it in a tile without tokens. -/
def stepOn (c : Dev nD) (t : Fin (cfgM m hF).N) (d : Vec F S512x4096 .f32) : Vec F S512x4096 .f32 :=
  if 0 < (cnt m hF t).toInt then left (iblk m hF c (0 : Fin 4) t) (iblk m hF c (1 : Fin 4) t) (iblk m hF c (2 : Fin 4) t) d (t.val % 14) (cnt m hF t)
  else k0_pay8 (F := F)

/-- What the points up to one leave in the output block. -/
def leftAt (c : Dev nD) : (n : ℕ) → n < (cfgM m hF).N → Vec F S512x4096 .f32
  | 0, h => stepOn m hF c ⟨0, h⟩ (k0_pay8 (F := F))
  | n + 1, h => stepOn m hF c ⟨n + 1, h⟩ (leftAt c n (by omega))

theorem leftAt_step (c : Dev nD) (t : Fin (cfgM m hF).N) (h : ¬t.val = 0) :
    leftAt m hF c t.val t.isLt = stepOn m hF c t (leftAt m hF c (t.val - 1) (by omega)) := by
  obtain ⟨n, hn⟩ := t
  cases n with
  | zero => exact absurd rfl h
  | succ n => rfl

theorem leftAt_start (c : Dev nD) (t : Fin (cfgM m hF).N) : ∃ d, leftAt m hF c t.val t.isLt = stepOn m hF c t d := by
  obtain ⟨n, hn⟩ := t
  cases n with
  | zero => exact ⟨_, rfl⟩
  | succ n => exact ⟨_, rfl⟩

theorem stepOn_zero (c : Dev nD) (t : Fin (cfgM m hF).N) (d) (h : ¬0 < (cnt m hF t).toInt) : stepOn m hF c t d = k0_pay8 (F := F) := if_neg h

def left3 (c : Dev nD) (t : Fin (cfgM m hF).N) : Vec F S512x4096 .f32 := leftAt m hF c t.val t.isLt

theorem left3_zero (c : Dev nD) (t : Fin (cfgM m hF).N) (h : ¬0 < (cnt m hF t).toInt) : left3 m hF c t = k0_pay8 (F := F) := by
  obtain ⟨d, e⟩ := leftAt_start m hF c t
  exact e.trans (stepOn_zero m hF c t d h)

/-- Within a tile with tokens a step takes up what the step before left; the first takes nothing up. -/
theorem left3_step (c : Dev nD) (t : Fin (cfgM m hF).N) (h : 0 < (cnt m hF t).toInt) (hk : ¬t.val % 14 = 0) :
    left3 m hF c t = left (iblk m hF c (0 : Fin 4) t) (iblk m hF c (1 : Fin 4) t) (iblk m hF c (2 : Fin 4) t) (left3 m hF c ⟨t.val - 1, by omega⟩) (t.val % 14) (cnt m hF t) :=
  (leftAt_step m hF c t (fun e => hk (by rw [e]))).trans (if_pos h)

theorem left3_first (c : Dev nD) (t : Fin (cfgM m hF).N) (h : 0 < (cnt m hF t).toInt) (hk : t.val % 14 = 0) (d : Vec F S512x4096 .f32) :
    left3 m hF c t = left (iblk m hF c (0 : Fin 4) t) (iblk m hF c (1 : Fin 4) t) (iblk m hF c (2 : Fin 4) t) d (t.val % 14) (cnt m hF t) := by
  obtain ⟨d', e⟩ := leftAt_start m hF c t
  refine (e.trans (if_pos h)).trans ?_
  rw [hk]
  exact left_first _ _ _ _ _ _ h

def tables (c : Dev nD) : sProp 𝕄 :=
  iprop((teM.view.loc (c : Thread nD τ) ↦{fullShare.right} tbl m 0) ∗ (nuM.view.loc (c : Thread nD τ) ↦{fullShare.right} tbl m 1))

def dats (_ : Fin 1) (c : Dev nD) : Dat τ (Elt F) Unit ℕ (UR sig nD τ) ℕ (cfgM m hF) c where
  A w := m (((cfgM m hF).win w).arr.view.loc (c : Thread nD τ))
  after w t := match w with
    | ⟨0, _⟩ => iblk m hF c (0 : Fin 4) t
    | ⟨1, _⟩ => iblk m hF c (1 : Fin 4) t
    | ⟨2, _⟩ => iblk m hF c (2 : Fin 4) t
    | ⟨3, _⟩ => left3 m hF c t
  Φ _ := tables m c
  q _ := fullShare
  owed _ := 0

theorem after_0 (c : Dev nD) (t : Fin (cfgM m hF).N) : (dats m hF 0 c).after (0 : Fin 4) t = iblk m hF c (0 : Fin 4) t := rfl
theorem after_1 (c : Dev nD) (t : Fin (cfgM m hF).N) : (dats m hF 0 c).after (1 : Fin 4) t = iblk m hF c (1 : Fin 4) t := rfl
theorem after_2 (c : Dev nD) (t : Fin (cfgM m hF).N) : (dats m hF 0 c).after (2 : Fin 4) t = iblk m hF c (2 : Fin 4) t := rfl
theorem after_3 (c : Dev nD) (t : Fin (cfgM m hF).N) : (dats m hF 0 c).after (3 : Fin 4) t = left3 m hF c t := rfl

theorem before_0 (c : Dev nD) (t : Fin (cfgM m hF).N) (d) : (dats m hF 0 c).before (0 : Fin 4) t d = iblk m hF c (0 : Fin 4) t :=
  ((dats m hF 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgM m hF).N) (d) : (dats m hF 0 c).before (1 : Fin 4) t d = iblk m hF c (1 : Fin 4) t :=
  ((dats m hF 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgM m hF).N) (d) : (dats m hF 0 c).before (2 : Fin 4) t d = iblk m hF c (2 : Fin 4) t :=
  ((dats m hF 0 c).before_in_eq_fetched (2 : Fin 4) rfl (fun _ => rfl) (fun _ _ _ => rfl) (fun t => by rw [after_2]; unfold Dat.blockOf iblk; rfl) t d).trans
    (by unfold Dat.fetched Dat.blockOf iblk; rfl)

/-! ## The schedule of the output -/

theorem flush_3 (t : Fin (cfgM m hF).N) : ((cfgM m hF).win (3 : Fin 4)).flush t = decide (t.val % 14 = 13) := sum_flush t

/-- The word the schedule reads is the one the body loads. -/
theorem atD_word (T : pre0.Contents (Elt F)) (i : grid0.Coords) : T.atD 1 (k0_off1 i) = word (T 1) i := by
  have h : ∀ a : Fin 1, k0_off1 i a + 1 ≤ (pre0.ref 1).ty.shape.size a := fun a => by
    have h := k0_off1_inb i a
    revert h
    obtain rfl : a = 0 := Subsingleton.elim _ _
    exact id
  refine (dif_pos h).trans ?_
  exact congrArg (T 1) (funext fun a => Fin.ext rfl)

theorem coords_step (t : Fin (cfgM m hF).N) : (crd m hF t 1).val = t.val % 14 := step_of t

/-- The output block is not touched before the last step of a tile without tokens, and elsewhere it is. -/
theorem idle_3 (t : Fin (cfgM m hF).N) :
    (cfgM m hF).idle (3 : Fin 4) ((cfgM m hF).grid.coords t) = decide (¬0 < (cnt m hF t).toInt ∧ ¬t.val % 14 = 13) := by
  have e : (cfgM m hF).idle (3 : Fin 4) ((cfgM m hF).grid.coords t)
      = (!(k0_cond1 (crd m hF t) ((tbl m).atD 1 (k0_off1 (crd m hF t))) == 1#1) && !(k0_cond2 (crd m hF t) ((tbl m).atD 1 (k0_off1 (crd m hF t))) == 1#1)
        && !(k0_cond3 (crd m hF t) ((tbl m).atD 1 (k0_off1 (crd m hF t))) == 1#1) && !(k0_cond4 (crd m hF t) ((tbl m).atD 1 (k0_off1 (crd m hF t))) == 1#1)
        && !(k0_cond5 (crd m hF t) ((tbl m).atD 1 (k0_off1 (crd m hF t))) == 1#1) && !(k0_cond6 (crd m hF t) ((tbl m).atD 1 (k0_off1 (crd m hF t))) == 1#1)) := rfl
  rw [e, atD_word, Bool.eq_iff_iff]
  simp only [Bool.and_eq_true, Bool.not_eq_true', beq_eq_false_iff_ne, ne_eq, decide_eq_true_eq]
  rw [cond1_iff, cond2_iff, cond3_iff, cond4_iff, cond5_iff, cond6_iff, coords_step]
  show _ ↔ ¬0 < BitVec.toInt (word (tbl m 1) (crd m hF t)) ∧ ¬t.val % 14 = 13
  omega

theorem fresh_3 (t : Fin (cfgM m hF).N) (h : 0 < (cnt m hF t).toInt) (hn : t.val + 1 < (cfgM m hF).N) (hk : ¬t.val % 14 = 13) : (cfgM m hF).fresh (3 : Fin 4) (t.val + 1) = false := by
  rw [Cfg.fresh_succ _ _ _ t.isLt, flush_3, idle_3]
  simp [h, hk]

/-- Two steps of one tile see one count. -/
theorem cnt_same (t : Fin (cfgM m hF).N) (hk : ¬t.val % 14 = 0) : cnt m hF ⟨t.val - 1, by omega⟩ = cnt m hF t := by
  refine congrArg (tbl m 1) (funext fun a => Fin.ext ?_)
  obtain rfl : a = 0 := Subsingleton.elim (α := Fin 1) _ _
  have e1 : (k0_off1 (crd m hF ⟨t.val - 1, by omega⟩)) 0 = (t.val - 1) / 14 := (congrFun (k0_off1_eq _) 0).trans (tile_of _)
  have e2 : (k0_off1 (crd m hF t)) 0 = t.val / 14 := (congrFun (k0_off1_eq _) 0).trans (tile_of _)
  show (k0_off1 (crd m hF ⟨t.val - 1, by omega⟩)) 0 + 0 * 1 = (k0_off1 (crd m hF t)) 0 + 0 * 1
  omega

theorem carry_3 (c : Dev nD) : ∀ (t : Fin (cfgM m hF).N) (ht : t.val ≠ 0), (cfgM m hF).idle (3 : Fin 4) ((cfgM m hF).grid.coords t) = true → (cfgM m hF).fresh (3 : Fin 4) t.val = false →
    (dats m hF 0 c).after (3 : Fin 4) t = (dats m hF 0 c).after (3 : Fin 4) ⟨t.val - 1, by omega⟩ := by
  intro t ht hi hfr
  rw [idle_3, decide_eq_true_eq] at hi
  have hk : ¬t.val % 14 = 0 := fun hk => by
    have hfl : (cfgM m hF).fresh (3 : Fin 4) (t.val - 1 + 1) = true := by
      rw [Cfg.fresh_succ _ _ (t.val - 1) (by omega), flush_3]
      have : (t.val - 1) % 14 = 13 := by omega
      simp [this]
    rw [show t.val - 1 + 1 = t.val by omega, hfr] at hfl
    exact Bool.false_ne_true hfl
  rw [after_3, after_3, left3_zero m hF c t hi.1, left3_zero m hF c _ (by rw [cnt_same m hF t hk]; exact hi.1)]

/-- Past a tile's first step, where it has tokens, the buffer holds what the step before left. -/
theorem before_3 (c : Dev nD) (t : Fin (cfgM m hF).N) (h : 0 < (cnt m hF t).toInt) (hk : ¬t.val % 14 = 0) (d) :
    (dats m hF 0 c).before (3 : Fin 4) t d = left3 m hF c ⟨t.val - 1, by omega⟩ := by
  have hf : (cfgM m hF).fresh (3 : Fin 4) t.val = false := by
    have e := fresh_3 m hF ⟨t.val - 1, by omega⟩ (by rw [cnt_same m hF t hk]; exact h) (by show t.val - 1 + 1 < _; have := t.isLt; omega) (by show ¬(t.val - 1) % 14 = 13; omega)
    rwa [show t.val - 1 + 1 = t.val by omega] at e
  rw [(dats m hF 0 c).before_out_traj (3 : Fin 4) rfl (fun _ _ => rfl) (carry_3 m hF c) t.val t rfl d, hf]
  rw [if_neg Bool.false_ne_true, after_3]

/-! ## The body's obligation -/

abbrev body (t : Fin (cfgM m hF).N) : Prog (TpuEff nD τ sig (Elt F) Λ₀ .tc) PUnit :=
  cc0_moe_down (crd m hF t) teM (Memref.isWhole_whole _) nuM (Memref.isWhole_whole _) (st0 m hF t) (hst0 m hF t) (st1 m hF t) (hst1 m hF t) (st2 m hF t) (hst2 m hF t) (st3 m hF t) (hst3 m hF t)

/-- What the body is asked to leave in the output's buffer. -/
theorem leaves_3 (c : Dev nD) (t : Fin (cfgM m hF).N) (d) :
    owns (c : Thread nD τ) (st3 m hF t) fullShare (left (iblk m hF c (0 : Fin 4) t) (iblk m hF c (1 : Fin 4) t) (iblk m hF c (2 : Fin 4) t) ((dats m hF 0 c).before (3 : Fin 4) t d) (crd m hF t 1).val (cnt m hF t))
      ⊢ (match (cfgM m hF).idle (3 : Fin 4) ((cfgM m hF).grid.coords t) with
          | true =>
            match ((cfgM m hF).win (3 : Fin 4)).flush t with
            | false => iprop(∃ d, owns (c : Thread nD τ) (st3 m hF t) fullShare ((dats m hF 0 c).before (3 : Fin 4) t d))
            | true => owns (c : Thread nD τ) (st3 m hF t) fullShare ((dats m hF 0 c).after (3 : Fin 4) t)
          | false => owns (c : Thread nD τ) (st3 m hF t) fullShare ((dats m hF 0 c).after (3 : Fin 4) t) : sProp 𝕄) := by
  rw [coords_step, after_3]
  by_cases h : 0 < (cnt m hF t).toInt
  · have hi : (cfgM m hF).idle (3 : Fin 4) ((cfgM m hF).grid.coords t) = false := by rw [idle_3]; simp [h]
    rw [hi]
    by_cases hk : t.val % 14 = 0
    · rw [← left3_first m hF c t h hk]
    · rw [before_3 m hF c t h hk, ← left3_step m hF c t h hk]
  · by_cases hk : t.val % 14 = 13
    · have hi : (cfgM m hF).idle (3 : Fin 4) ((cfgM m hF).grid.coords t) = false := by rw [idle_3]; simp [hk]
      rw [hi, left3_zero m hF c t h, hk, left_last _ _ _ _ _ h]
    · have hi : (cfgM m hF).idle (3 : Fin 4) ((cfgM m hF).grid.coords t) = true := by rw [idle_3]; simp only [decide_eq_true_eq]; exact ⟨h, hk⟩
      have hl : ((cfgM m hF).win (3 : Fin 4)).flush t = false := by rw [flush_3]; simp [hk]
      rw [hi, hl, left_idle _ _ _ _ _ _ h hk]
      iintro H; iexists d; iexact H

set_option maxHeartbeats 4800000 in
theorem sound_body (c : Dev nD) (t : Fin (cfgM m hF).N) :
    iprop((dats m hF 0 c).Φ t.castSucc ∗ (dats m hF 0 c).owesAt () t.castSucc
        ∗ (∃ d, owns (c : Thread nD τ) (st0 m hF t) fullShare ((dats m hF 0 c).before (0 : Fin 4) t d))
        ∗ (∃ d, owns (c : Thread nD τ) (st1 m hF t) fullShare ((dats m hF 0 c).before (1 : Fin 4) t d))
        ∗ (∃ d, owns (c : Thread nD τ) (st2 m hF t) fullShare ((dats m hF 0 c).before (2 : Fin 4) t d))
        ∗ (∃ d, owns (c : Thread nD τ) (st3 m hF t) fullShare ((dats m hF 0 c).before (3 : Fin 4) t d)))
      ⊢ wp frame (wpE (defs₀ (F := F)) Variants.none c none) Set.univ (body m hF t) fun _ =>
          iprop((dats m hF 0 c).Φ t.succ ∗ (dats m hF 0 c).owesAt () t.succ
            ∗ bigSep Finset.univ fun w : Fin (cfgM m hF).W =>
                match (cfgM m hF).idle w ((cfgM m hF).grid.coords t) with
                | true =>
                  match ((cfgM m hF).win w).flush t with
                  | false => iprop(∃ d, owns (c : Thread nD τ) (((cfgM m hF).win w).stage ((cfgM m hF).slots t w)) fullShare ((dats m hF 0 c).before w t d))
                  | true => owns (c : Thread nD τ) (((cfgM m hF).win w).stage ((cfgM m hF).slots t w)) fullShare ((dats m hF 0 c).after w t)
                | false => owns (c : Thread nD τ) (((cfgM m hF).win w).stage ((cfgM m hF).slots t w)) fullShare ((dats m hF 0 c).after w t)) := by
  rw [bigSep_W0]
  simp only [before_0, before_1, before_2, after_0, after_1, after_2]
  rewrite [show (dats m hF 0 c).Φ t.succ = tables m c from rfl, show (dats m hF 0 c).Φ t.castSucc = tables m c from rfl,
    show (dats m hF 0 c).owesAt () t.succ = (dats m hF 0 c).owesAt () t.castSucc from rfl]
  unfold tables
  iintro ⟨⟨HT0, HT1⟩, Ho, ⟨%d0, H0⟩, ⟨%d1, H1⟩, ⟨%d2, H2⟩, ⟨%d3, H3⟩⟩
  iapply (run c (crd m hF t) (st0 m hF t) (hst0 m hF t) (st1 m hF t) (hst1 m hF t) (st2 m hF t) (hst2 m hF t) (st3 m hF t) (hst3 m hF t) (tbl m 0) (tbl m 1) (iblk m hF c (0 : Fin 4) t) (iblk m hF c (1 : Fin 4) t) (iblk m hF c (2 : Fin 4) t) ((dats m hF 0 c).before (3 : Fin 4) t d3) _)
  unfold held
  isplitl [H0 H1 H2 HT0 HT1]
  · isplitl [H0]; · iapply rep_of_owns; iexact H0
    isplitl [H1]; · iapply rep_of_owns; iexact H1
    isplitl [H2]; · iapply rep_of_owns; iexact H2
    isplitl [HT0]; · iexact HT0
    iexact HT1
  isplitl [H3]; · iexact H3
  iintro ⟨⟨H0, H1, H2, HT0, HT1⟩, H3⟩
  isplitl [HT0 HT1]
  · isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  iapply (leaves_3 m hF c t d3)
  iexact H3

theorem body_obligation (c : Dev nD) : BodyObligation (dats m hF 0 c) (defs₀ (F := F)) Variants.none () Set.univ := fun t => by
  rw [bigSep_W0]
  exact sound_body m hF c t

/-! ## The launch -/

abbrev EP : Emb (UR sig nD τ) 𝕄 := emb₁

def u₀ : UR sig nD τ :=
  initOf (Pipeline.cells (pcs m hF) ((launch0 (F := F)).cellOf_inj fun _ => adm m hF))
    (Pipeline.launchToks (pcs m hF) ((launch0 (F := F)).cellOf_inj fun _ => adm m hF))

theorem share_eq (c : Dev nD) (w : Fin (cfgM m hF).W) : (dats m hF 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm m hF).1 ∗ Pipeline.scopedRest spec0 c) ⊢ (dats m hF 0 c).Φ 0 := by
  rw [prefHeld_eq, scopedRest0_eq, show (dats m hF 0 c).Φ 0 = tables m c from rfl]
  unfold tables
  iintro ⟨-, ⟨HT0, HT1⟩, -⟩
  isplitl [HT0]
  · iexact HT0
  iexact HT1

theorem leave (c : Dev nD) : (dats m hF 0 c).Φ (Fin.last (cfgM m hF).N) ⊢ iprop(BI.emp ∗ Pipeline.scopedRest spec0 c) := by
  rw [scopedRest0_eq]
  iintro -
  isplitr; · iempintro
  iempintro

/-- What the run ends in: every array at what its points leave, every table as found. -/
def Ends : PUnit × MemSt nD τ sig (Elt F) → Prop := fun r =>
  ∀ c : Dev nD, (∀ w : Fin (cfgM m hF).W, r.2.mem (((cfgM m hF).win w).arr.view.loc (c : Thread nD τ)) = (dats m hF 0 c).arrAt w (cfgM m hF).N)
    ∧ ∀ j, r.2.mem ((c : Thread nD τ).loc (pre0.ref j)) = (adm m hF).1 j

set_option backward.isDefEq.respectTransparency.types false in
set_option maxHeartbeats 4000000 in
theorem runs : θ_run (defs (F := F)) (onTc (τ := τ) (main (F := F))) ⟨m, fun _ => 0, ρ⟩ (fun r => Ends m hF r ∧ r.2.sem = fun _ => 0) :=
  Pipeline.θ_run_region_noSem_pf_quiescent pcfgs (fun _ => adm m hF) (dats m hF) () ((launch0 (F := F)).cellOf_inj fun _ => adm m hF) (0 : Fin 1)
    (launch0 (F := F)).win.to₀ (launch0 (F := F)).pre EP defs₀ Variants.none m ρ main
    (hbody := fun c => (body_obligation m hF c).loose) (hne := (launch0 (F := F)).block_pos)
    (harr := (launch0 (F := F)).arr_whole) (hstage := (launch0 (F := F)).stage_whole) (howed := fun _ _ => rfl)
    (u₀ := u₀ m hF) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hF) (dats m hF) 0 (launch0 (F := F)).win.arr_inj c (launch0 (F := F)).arr_whole
      (share_eq m hF c) _ _ fun _ => rfl)
    (hpf := tbl_eq m)
    (X := fun _ => iprop(emp)) (Y := fun _ => iprop(emp)) (Z := fun _ => iprop(emp))
    (hX := fun c => by rw [unscopedRestP0_eq]; iintro -; isplitr <;> iempintro)
    (hin := enter m hF)
    (hout := leave m hF)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they began. -/
theorem kept (r : PUnit × MemSt nD τ sig (Elt F)) (h : Ends m hF r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 0).trans (tbl_eq m c 0).symm, ((h c).2 1).trans (tbl_eq m c 1).symm, ((h c).1 (0 : Fin 4)).trans ((dats m hF 0 c).arrAt_in (0 : Fin 4) rfl _),
    ((h c).1 (1 : Fin 4)).trans ((dats m hF 0 c).arrAt_in (1 : Fin 4) rfl _), ((h c).1 (2 : Fin 4)).trans ((dats m hF 0 c).arrAt_in (2 : Fin 4) rfl _)⟩

/-- The run ends, with the arguments unchanged and every count back at zero. -/
theorem quiet (hF : ok0 (F := F) (tbl m)) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m hF _ h.1, h.2⟩) (runs m ρ hF)

end Cert.Kernel3Ideal.Down

end
-- ==== Proof.DownPre.lean ====
module

public import proofs.«01_k».proof.Proof.DownFrame
public import proofs.«01_k».proof.Proof.Gen.Pre_routed3
public import Idealize.ShloMosaic.Lib.ReduceAll

@[expose] public section

set_option maxRecDepth 16384

noncomputable section

/-! The precondition read at a tile, and that the tables that meet it are in range. -/

namespace Cert.Kernel3Ideal.Down

open Cert.Kernel3Ideal Cert.Kernel3Ideal.Gen
open Idealize.ShloMosaic Idealize.ShloMosaic.TcCoe

/-- Each tile's expert is one of the eight. -/
def InRange (te : S79.Idx → BitVec 32) : Prop :=
  ∀ r, 0 ≤ (te r).toInt ∧ (te r).toInt < 8

theorem both79 (a b : IVec S79 1) (j : S79.Idx) (h : andi a b j = 1#1) : a j = 1#1 ∧ b j = 1#1 := IntOp.andi_eq_one.mp h

instance : Subsingleton Cert.Pre_routed3.S_.Idx := ⟨fun a b => funext fun x => x.elim0⟩

open Cert.Pre_routed3 Cert.Pre_routed3.Gen in
theorem in_range {F : FTy → Type} [FloatOps F] (x0 x1 : IVec Cert.Pre_routed3.S79 32) (x2 : FVec F Cert.Pre_routed3.S40448x14336 .bf16)
    (x3 : FVec F Cert.Pre_routed3.S8x14336x4096 .bf16) (x4 : FVec F Cert.Pre_routed3.S40448x1 .f32)
    (h : fn x0 x1 x2 x3 x4 = fun _ => 1#1) : InRange x0 := by
  intro r
  have h0 := congrFun h (fun a => a.elim0)
  dsimp only [fn] at h0
  obtain ⟨e3, e4⟩ := both79 _ _ _ (Host.reduce_andi_all _ _ _ _ _ h0 r)
  exact ⟨IntOp.cmpi_sge.mp e3, IntOp.cmpi_slt.mp e4⟩

/-- A grid point's tile, as an index of a table. -/
def tileIx (i : grid0.Coords) : S79.Idx := fun a => ⟨(i 0).val, by obtain rfl : a = 0 := Subsingleton.elim _ _; exact (i 0).isLt⟩

theorem word_eq {F : FTy → Type} [FloatOps F] (T : S79.Idx → Elt F .i32) (i : grid0.Coords) : word T i = T (tileIx i) :=
  congrArg T (funext fun a => Fin.ext (by
    obtain rfl : a = 0 := Subsingleton.elim (α := Fin 1) _ _
    have h : (k0_off1 i) 0 = (i 0).val := congrFun (k0_off1_eq i) 0
    show (k0_off1 i) 0 + 0 * 1 = (i 0).val
    omega))

theorem to_nat (w : BitVec 32) (h0 : 0 ≤ w.toInt) (h8 : w.toInt < 8) : w.toNat < 8 := by
  rw [BitVec.toInt_eq_toNat_cond] at h0 h8
  have := w.isLt
  split at h0 <;> omega

theorem tile_word (i : grid0.Coords) : (BitVec.ofNat 32 (i 0).val).toNat = (i 0).val := by
  have h : (i 0).val < 79 := (i 0).isLt
  rw [BitVec.toNat_ofNat]; omega
theorem step_word (i : grid0.Coords) : (BitVec.ofNat 32 (i 1).val).toNat = (i 1).val := by
  have h : (i 1).val < 14 := (i 1).isLt
  rw [BitVec.toNat_ofNat]; omega

/-- Which block of each array a grid point takes. -/
theorem index0 (i : grid0.Coords) : cc0_transform_0 i = ![(i 0).val, (i 1).val] := by
  show ![(BitVec.ofNat 32 (i 0).val).toNat, (BitVec.ofNat 32 (i 1).val).toNat] = _
  rw [tile_word, step_word]

theorem index1 {F : FTy → Type} [FloatOps F] (T : pre0.Contents (Elt F)) (i : grid0.Coords) :
    cc0_transform_1 k0_off1_inb numel1_S1 T i = ![BitVec.toNat (T 0 (tileIx i)), (i 1).val, 0] := by
  exact congrArg₂ (fun a b => (![a, b, 0] : Fin 3 → Nat)) (congrArg BitVec.toNat (word_eq (F := F) (T 0) i)) (step_word i)

theorem index2 (i : grid0.Coords) : cc0_transform_2 i = ![(i 0).val, 0] := by
  show ![(BitVec.ofNat 32 (i 0).val).toNat, 0] = _
  rw [tile_word]

theorem index3 (i : grid0.Coords) : cc0_transform_3 i = ![(i 0).val, 0] := index2 i

theorem weights_inb (n j : Nat) (hn : n < 8) (hj : j < 14) (a : Fin 3) :
    ((![n, j, 0] : Fin 3 → Nat) a + 1) * S1x1024x4096.size a ≤ S8x14336x4096.size a := by
  fin_cases a
  · show (n + 1) * 1 ≤ 8; omega
  · show (j + 1) * 1024 ≤ 14336; omega
  · show (0 + 1) * 4096 ≤ 4096; omega

variable {F : FTy → Type} [FloatOps F] (m : (ℓ : Loc nD τ sig) → Buf (Elt F) ℓ)

theorem fit (h : InRange (tbl m 0)) : ok0 (F := F) (tbl m) := by
  refine fun i => ⟨fun a => ?_, .inr (Affine.block_words_dvd (s := S8x14336x4096) (p := EltTy.packing .bf16) (by decide) (by decide))⟩
  rw [index1]; exact weights_inb _ _ (to_nat _ (h _).1 (h _).2) (i 1).isLt a

end Cert.Kernel3Ideal.Down
-- ==== Proof.DownRef.lean ====
module

public import proofs.«01_k».proof.Proof.Gen.Reference3Ideal.Read
public import Idealize.ShloMosaic.Lib.IdealHost
public import Idealize.ShloMosaic.Lib.Affine
public import Idealize.ShloMosaic.Lib.Pointwise
public import Idealize.ShloMosaic.PureOps.Ideal.Laws

@[expose] public section

set_option maxRecDepth 16384

noncomputable section

/-! The reference of the down product read at an index: of the eight experts' rows it keeps the tile's own, times the row's gate. -/

namespace Cert.Reference3Ideal.Down

open Cert.Reference3Ideal Cert.Reference3Ideal.Gen Cert.Reference3Ideal.Read
open Idealize.ShloMosaic Idealize.ShloMosaic.TcCoe

theorem zero_word : (FloatOps.ofBits .f32 0x00000000#32 : Ideal .f32) = (0 : EReal) := by
  exact Ideal.ofBits_zero_f32

theorem slices_all (e : Nat) (he : e < 8) : S8x14336x4096.Slices ![e, 0, 0] S1x14336x4096 := by
  refine ⟨rfl, fun a => ?_⟩
  match a with
  | ⟨0, _⟩ => exact he
  | ⟨1, _⟩ => exact le_refl 14336
  | ⟨2, _⟩ => exact le_refl 4096

abbrev Wt : Type := FVec Ideal S8x14336x4096 .bf16
abbrev One : Type := FVec Ideal S1x14336x4096 .bf16
abbrev Xs : Type := FVec Ideal S40448x14336 .bf16
abbrev Out : Type := FVec Ideal S40448x4096 .f32
abbrev Tab : Type := IVec S79 32

/-- One expert's weights, the rows times them, and the gated product of two. -/
def expertOf (e : Nat) (he : e < 8) (w : Wt) : One := extractStridedSlice S1x14336x4096 ![e, 0, 0] w (slices_all e he)
def dense (x : Xs) (A : One) : Out :=
  Host.dotGeneral (φ₁ := .f32) (φ₂ := .f32) dot_S40448x14336_S14336x4096_S40448x4096_1_0_0_1_n_n none (val_main_v16 (F := Ideal) x)
    (extf .f32 (shapeCast S14336x4096 A shapeCasts_S1x14336x4096_S14336x4096) bitsLt_bf16_f32)

/-- The rows of one expert put over what is there, and the experts so taken in order. -/
def put (te : Tab) (x : Xs) (w : Wt) (e : Nat) (he : e < 8) (prev : Out) : Out :=
  select (broadcastInDim S40448x4096 ![0, 1] bcast_S40448x1_S40448x4096_0_1
      (cmpi .eq (val_main_v2 (F := Ideal) te) (broadcastInDim S40448x1 ![] bcast_S_S40448x1 (constantI S_ 32 (BitVec.ofNat 32 e)))))
    (dense x (expertOf e he w)) prev
def upto (te : Tab) (x : Xs) (w : Wt) : (n : Nat) → n ≤ 8 → Out
  | 0, _ => val_main_v17 (F := Ideal)
  | n + 1, h => put te x w n h (upto te x w n (Nat.le_of_succ_le h))

theorem all_put (te : Tab) (x : Xs) (w : Wt) : val_main_v73 (F := Ideal) te x w = upto te x w 8 (le_refl 8) := by
  rfl

/-! ## The values -/

theorem expertOf_at (e : Nat) (he : e < 8) (w : Wt) (k : Fin 14336) (j : Fin 4096) :
    expertOf e he w (ValueIdx.ix3 (0 : Fin 1) k j) = w (ValueIdx.ix3 (⟨e, he⟩ : Fin 8) k j) :=
  extractStridedSlice_apply ![e, 0, 0] w (slices_all e he) _ _ (fun a => match a with
    | ⟨0, _⟩ => (Nat.add_zero e).symm
    | ⟨1, _⟩ => (Nat.zero_add _).symm
    | ⟨2, _⟩ => (Nat.zero_add _).symm)

theorem flat_at (A : One) (k : Fin 14336) (j : Fin 4096) :
    shapeCast S14336x4096 A shapeCasts_S1x14336x4096_S14336x4096 (ValueIdx.ix2 k j) = A (ValueIdx.ix3 (0 : Fin 1) k j) :=
  shapeCast_apply A shapeCasts_S1x14336x4096_S14336x4096 (ValueIdx.ix2 k j) (ValueIdx.ix3 (0 : Fin 1) k j) (by
    rewrite [Shape.rowMajor_val_three, Shape.rowMajor_val_two]
    show (0 * 14336 + k.val) * 4096 + j.val = k.val * 4096 + j.val
    omega)

theorem dense_at (x : Xs) (A : One) (r : Fin 40448) (j : Fin 4096) :
    dense x A (ValueIdx.ix2 r j) = ∑ k : Fin 14336, (x (ValueIdx.ix2 r k) * A (ValueIdx.ix3 (0 : Fin 1) k j) : EReal) := by
  unfold dense
  simp only [Host.dotGeneral]
  rw [Ideal.dotGeneral_apply, ← Equiv.sum_comp (ValueIdx.contrEquiv1 dot_S40448x14336_S14336x4096_S40448x4096_1_0_0_1_n_n 14336 rfl rfl).symm]
  refine Finset.sum_congr rfl fun k _ => ?_
  have hk := ValueIdx.contrEquiv1_symm_val dot_S40448x14336_S14336x4096_S40448x4096_1_0_0_1_n_n 14336 rfl rfl k
  refine congrArg₂ (fun a b : EReal => a * b) (congrArg x (funext fun a => Fin.ext ?_))
    ((congrArg (shapeCast S14336x4096 A shapeCasts_S1x14336x4096_S14336x4096) (funext fun a => Fin.ext ?_)).trans (flat_at A k j))
  · match a with
    | ⟨0, _⟩ => exact lhs_main_v21_0 _ _
    | ⟨1, _⟩ => exact (lhs_main_v21_1 _ _).trans hk
  · match a with
    | ⟨0, _⟩ => exact (rhs_main_v21_0 _ _).trans hk
    | ⟨1, _⟩ => exact rhs_main_v21_1 _ _

/-- The tile a row lies in. -/
def tileOf (r : Fin 40448) : S79.Idx := fun a => ⟨r.val / 512, by
  obtain rfl : a = 0 := Subsingleton.elim (α := Fin 1) _ _
  show r.val / 512 < 79
  omega⟩

theorem te_at (te : Tab) (r : Fin 40448) : val_main_v2 (F := Ideal) te (ValueIdx.ix2 r (0 : Fin 1)) = te (tileOf r) := by
  rw [val_main_v2_apply, val_main_v1_apply, val_main_v0_apply]
  refine congrArg te (funext fun a => Fin.ext ?_)
  match a with
  | ⟨0, _⟩ => show (r.val * 1 + 0) / 512 = r.val / 512; omega

/-- A row times a column of one expert's weights. -/
def prod (x : Xs) (w : Wt) (e : Fin 8) (r : Fin 40448) (j : Fin 4096) : EReal :=
  ∑ k : Fin 14336, (x (ValueIdx.ix2 r k) * w (ValueIdx.ix3 e k j) : EReal)

theorem put_at (te : Tab) (x : Xs) (w : Wt) (e : Nat) (he : e < 8) (prev : Out) (r : Fin 40448) (j : Fin 4096) :
    put te x w e he prev (ValueIdx.ix2 r j) = if (te (tileOf r)).toNat = e then prod x w ⟨e, he⟩ r j else prev (ValueIdx.ix2 r j) := by
  have hc : broadcastInDim S40448x4096 ![0, 1] bcast_S40448x1_S40448x4096_0_1
      (cmpi .eq (val_main_v2 (F := Ideal) te) (broadcastInDim S40448x1 ![] bcast_S_S40448x1 (constantI S_ 32 (BitVec.ofNat 32 e)))) (ValueIdx.ix2 r j)
        = IntOp.cmpi .eq (te (tileOf r)) (BitVec.ofNat 32 e) := by
    rw [← te_at te r]
    exact broadcastInDim_apply _ bcast_S40448x1_S40448x4096_0_1 _ (ValueIdx.ix2 r j) (ValueIdx.ix2 r (0 : Fin 1)) (fun a => match a with
      | ⟨0, _⟩ => by show r.val = if (40448 : Nat) = 1 then 0 else r.val; rw [if_neg (by decide)]
      | ⟨1, _⟩ => by show 0 = if (1 : Nat) = 1 then 0 else j.val; rw [if_pos rfl])
  have hg : dense x (expertOf e he w) (ValueIdx.ix2 r j) = prod x w ⟨e, he⟩ r j := by
    rw [dense_at]
    unfold prod
    simp only [expertOf_at]
  show Scalar.select (broadcastInDim S40448x4096 ![0, 1] bcast_S40448x1_S40448x4096_0_1
      (cmpi .eq (val_main_v2 (F := Ideal) te) (broadcastInDim S40448x1 ![] bcast_S_S40448x1 (constantI S_ 32 (BitVec.ofNat 32 e)))) (ValueIdx.ix2 r j))
    (dense x (expertOf e he w) (ValueIdx.ix2 r j)) (prev (ValueIdx.ix2 r j)) = _
  rw [hc, hg]
  have hi : IntOp.cmpi .eq (te (tileOf r)) (BitVec.ofNat 32 e) = 1#1 ↔ (te (tileOf r)).toNat = e := by
    rw [IntOp.cmpi_eq, ← BitVec.toNat_inj, BitVec.toNat_ofNat, Nat.mod_eq_of_lt (by omega)]
  show (if IntOp.cmpi .eq (te (tileOf r)) (BitVec.ofNat 32 e) = 1#1 then _ else _) = _
  exact if_congr hi rfl rfl

theorem upto_at (te : Tab) (x : Xs) (w : Wt) (r : Fin 40448) (j : Fin 4096) (e : Fin 8) (he : (te (tileOf r)).toNat = e.val) :
    ∀ (n : Nat) (h : n ≤ 8), e.val < n → upto te x w n h (ValueIdx.ix2 r j) = prod x w e r j
  | 0, _, hl => absurd hl (Nat.not_lt_zero _)
  | n + 1, h, hl => by
    unfold upto
    rw [put_at, he]
    by_cases hn : e.val = n
    · rw [if_pos hn]; subst hn; rfl
    · rw [if_neg hn]; exact upto_at te x w r j e he n _ (by omega)

/-! ## The rows that hold tokens -/

theorem rows_at (nu : Tab) (r : Fin 40448) : val_main_v11 (F := Ideal) nu (ValueIdx.ix2 r (0 : Fin 1))
    = Scalar.select (IntOp.cmpi .sgt (nu (tileOf r)) 256#32) 512#32 (Scalar.select (IntOp.cmpi .sgt (nu (tileOf r)) 0#32) 256#32 0#32) := by
  have e : (idx_main_v9 (idx_main_v10 (idx_main_v11 (ValueIdx.ix2 r (0 : Fin 1))))) = tileOf r := funext fun a => Fin.ext (by
    match a with
    | ⟨0, _⟩ => show (r.val * 1 + 0) / 512 = r.val / 512; omega)
  rw [val_main_v11_apply, val_main_v10_apply, val_main_v9_apply, e, val_main_v8_apply, val_main_v7_apply, val_main_v4_apply, val_main_v6_apply,
    val_main_v3_apply, val_main_v5_apply, val_main_call0_v0_apply, val_main_call0_v1_apply, val_main_call1_v0_apply]
  rfl

theorem row_at (r : Fin 40448) : val_main_v15 (F := Ideal) (ValueIdx.ix2 r (0 : Fin 1)) = BitVec.ofNat 32 (r.val % 512) := by
  rw [val_main_v15_apply, val_main_v14_apply, val_main_v13_apply, val_main_v12_apply]
  refine congrArg (BitVec.ofNat 32) ?_
  show (r.val * 1 + 0) % 512 = r.val % 512
  omega

theorem rows_int (n : BitVec 32) :
    (Scalar.select (IntOp.cmpi .sgt n 256#32) 512#32 (Scalar.select (IntOp.cmpi .sgt n 0#32) 256#32 0#32)).toInt
      = if 256 < n.toInt then 512 else if 0 < n.toInt then 256 else 0 := by
  show (if IntOp.cmpi .sgt n 256#32 = 1#1 then 512#32 else if IntOp.cmpi .sgt n 0#32 = 1#1 then 256#32 else 0#32).toInt = _
  simp only [IntOp.cmpi_sgt]
  change (if 256 < n.toInt then 512#32 else if 0 < n.toInt then 256#32 else 0#32).toInt = _
  split
  · rfl
  · split <;> rfl

/-- The product of a row, times its gate: its expert's if the tile has tokens there, zero if not. -/
theorem ref_at (te nu : Tab) (x : Xs) (w : Wt) (g : FVec Ideal S40448x1 .f32) (r : Fin 40448) (j : Fin 4096) (e : Fin 8) (he : (te (tileOf r)).toNat = e.val) :
    val_main_v78 (F := Ideal) te nu x w g (ValueIdx.ix2 r j)
      = if 256 < (nu (tileOf r)).toInt ∨ (0 < (nu (tileOf r)).toInt ∧ r.val % 512 < 256) then (g (ValueIdx.ix2 r (0 : Fin 1)) * prod x w e r j : EReal) else (0 : EReal) := by
  have hz : val_main_call10_v2 (F := Ideal) (ValueIdx.ix2 r j) = (0 : EReal) := by
    rw [val_main_call10_v2_apply, val_main_call10_v0_apply]; exact zero_word
  have hc : idx_main_call10_v1 (ValueIdx.ix2 r j) = ValueIdx.ix2 r (0 : Fin 1) := funext fun a => Fin.ext (by
    match a with
    | ⟨0, _⟩ => rfl
    | ⟨1, _⟩ => rfl)
  have hg : idx_main_v77 (ValueIdx.ix2 r j) = ValueIdx.ix2 r (0 : Fin 1) := funext fun a => Fin.ext (by
    match a with
    | ⟨0, _⟩ => rfl
    | ⟨1, _⟩ => rfl)
  have hr : (BitVec.ofNat 32 (r.val % 512)).toInt = ((r.val % 512 : Nat) : Int) := by
    rw [BitVec.toInt_eq_toNat_of_lt (by rw [BitVec.toNat_ofNat]; omega), BitVec.toNat_ofNat]; omega
  have hv : val_main_v76 (F := Ideal) te nu x w (ValueIdx.ix2 r j)
      = if 256 < (nu (tileOf r)).toInt ∨ (0 < (nu (tileOf r)).toInt ∧ r.val % 512 < 256) then prod x w e r j else (0 : EReal) := by
    rw [val_main_v76_apply, hz, val_main_call10_v1_apply, hc, val_main_v75_apply, val_main_v74_apply, rows_at, row_at, all_put,
      upto_at te x w r j e he 8 _ e.isLt]
    show (if IntOp.cmpi .slt (BitVec.ofNat 32 (r.val % 512)) _ = 1#1 then _ else _) = _
    refine if_congr (IntOp.cmpi_slt.trans ?_) rfl rfl
    rw [hr, rows_int]
    split
    · omega
    · split <;> omega
  rw [val_main_v78_apply, val_main_v77_apply, hg, hv]
  show (g (ValueIdx.ix2 r (0 : Fin 1)) * (if _ then _ else _) : EReal) = _
  split
  · rfl
  · exact mul_zero _

end Cert.Reference3Ideal.Down
-- ==== Proof.DownBlock.lean ====
module

public import proofs.«01_k».proof.Proof.DownPre
public import proofs.«01_k».proof.Proof.DownRef

@[expose] public section

set_option maxRecDepth 16384

noncomputable section

/-! What a step of the down product adds to its block at an index, in exact arithmetic. -/

namespace Cert.Kernel3Ideal.Down

open Cert.Kernel3Ideal Cert.Kernel3Ideal.Gen
open Idealize.ShloMosaic Idealize.ShloMosaic.TcCoe
open Cert.Reference3Ideal.Down (zero_word)
open Idealize.ShloMosaic.ValueIdx (contrEquiv1 contrEquiv1_symm_val)
open Idealize.ShloMosaic.VecWindow (put window)

theorem full_lhs0 (j : S512x4096.Idx) (q : dot_S512x1024_S1024x4096_S512x4096_1_0_0_1_n_n.contr.Idx) : (dot_S512x1024_S1024x4096_S512x4096_1_0_0_1_n_n.lhsIdx j q 0).val = (j 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl

theorem full_rhs1 (j : S512x4096.Idx) (q : dot_S512x1024_S1024x4096_S512x4096_1_0_0_1_n_n.contr.Idx) : (dot_S512x1024_S1024x4096_S512x4096_1_0_0_1_n_n.rhsIdx j q 1).val = (j 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl

theorem half_lhs0 (j : S256x4096.Idx) (q : dot_S256x1024_S1024x4096_S256x4096_1_0_0_1_n_n.contr.Idx) : (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl

theorem half_rhs1 (j : S256x4096.Idx) (q : dot_S256x1024_S1024x4096_S256x4096_1_0_0_1_n_n.contr.Idx) : (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

theorem flat (W : Vec Ideal S1x1024x4096 .bf16) (k : Fin 1024) (j : Fin 4096) :
    shapeCast S1024x4096 W shapeCasts_S1x1024x4096_S1024x4096 (ValueIdx.ix2 k j) = W (ValueIdx.ix3 (0 : Fin 1) k j) :=
  shapeCast_apply W shapeCasts_S1x1024x4096_S1024x4096 (ValueIdx.ix2 k j) (ValueIdx.ix3 (0 : Fin 1) k j) (by
    rewrite [Shape.rowMajor_val_three, Shape.rowMajor_val_two]
    show (0 * 1024 + k.val) * 4096 + j.val = k.val * 4096 + j.val
    omega)

/-- A row of a block times a column of an expert's weights. -/
def dotRow {n : Nat} (x : (⟨2, ![n, 1024]⟩ : Shape).Idx → EReal) (W : Vec Ideal S1x1024x4096 .bf16) (r : Fin n) (j : Fin 4096) : EReal :=
  ∑ k : Fin 1024, x (ValueIdx.ix2 r k) * (W (ValueIdx.ix3 (0 : Fin 1) k j) : EReal)

theorem mm_full (x : FVec Ideal S512x1024 .bf16) (W : Vec Ideal S1x1024x4096 .bf16) (r : Fin 512) (j : Fin 4096) :
    matmul dot_S512x1024_S1024x4096_S512x4096_1_0_0_1_n_n none x (shapeCast S1024x4096 W shapeCasts_S1x1024x4096_S1024x4096 : FVec Ideal S1024x4096 .bf16) (constant S512x4096 .f32 0x00000000#32) (ValueIdx.ix2 r j)
      = dotRow x W r j := by
  unfold matmul dotRow
  rw [Ideal.matmul_constant_zero_apply, ← Equiv.sum_comp (contrEquiv1 dot_S512x1024_S1024x4096_S512x4096_1_0_0_1_n_n 1024 rfl rfl).symm]
  refine Finset.sum_congr rfl fun k _ => ?_
  have hk := contrEquiv1_symm_val dot_S512x1024_S1024x4096_S512x4096_1_0_0_1_n_n 1024 rfl rfl k
  rw [← flat W k j]
  congr 2
  · funext a
    match a with
    | ⟨0, _⟩ => exact Fin.ext (full_lhs0 _ _)
    | ⟨1, _⟩ => exact Fin.ext ((DotDims.lhsIdx_val_of_single _ rfl _ _).trans hk)
  · funext a
    match a with
    | ⟨0, _⟩ => exact Fin.ext ((DotDims.rhsIdx_val_of_single _ rfl _ _).trans hk)
    | ⟨1, _⟩ => exact Fin.ext (full_rhs1 _ _)

theorem mm_half (x : FVec Ideal S256x1024 .bf16) (W : Vec Ideal S1x1024x4096 .bf16) (r : Fin 256) (j : Fin 4096) :
    matmul dot_S256x1024_S1024x4096_S256x4096_1_0_0_1_n_n none x (shapeCast S1024x4096 W shapeCasts_S1x1024x4096_S1024x4096 : FVec Ideal S1024x4096 .bf16) (constant S256x4096 .f32 0x00000000#32) (ValueIdx.ix2 r j)
      = dotRow x W r j := by
  unfold matmul dotRow
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  rw [← flat W k j]
  congr 2
  · funext a
    match a with
    | ⟨0, _⟩ => exact Fin.ext (half_lhs0 _ _)
    | ⟨1, _⟩ => exact Fin.ext ((DotDims.lhsIdx_val_of_single _ rfl _ _).trans hk)
  · funext a
    match a with
    | ⟨0, _⟩ => exact Fin.ext ((DotDims.rhsIdx_val_of_single _ rfl _ _).trans hk)
    | ⟨1, _⟩ => exact Fin.ext (half_rhs1 _ _)

theorem pay1_at (x0 : Vec Ideal S512x1024 .bf16) (x1 : Vec Ideal S1x1024x4096 .bf16) (r : Fin 512) (j : Fin 4096) :
    k0_pay1 (F := Ideal) x0 x1 (ValueIdx.ix2 r j) = dotRow x0 x1 r j := mm_full x0 x1 r j

theorem pay2_at (d : Vec Ideal S512x4096 .f32) (x0 : Vec Ideal S512x1024 .bf16) (x1 : Vec Ideal S1x1024x4096 .bf16) (r : Fin 512) (j : Fin 4096) :
    k0_pay2 (F := Ideal) d x0 x1 (ValueIdx.ix2 r j) = (d (ValueIdx.ix2 r j) + dotRow x0 x1 r j : EReal) :=
  congrArg₂ (fun a b : EReal => a + b) (shapeCast_apply d shapeCasts_S512x4096_S512x4096 (ValueIdx.ix2 r j) (ValueIdx.ix2 r j) rfl) (mm_full x0 x1 r j)

theorem pay3_at (x0 : Vec Ideal S256x1024 .bf16) (x1 : Vec Ideal S1x1024x4096 .bf16) (r : Fin 256) (j : Fin 4096) :
    k0_pay3 (F := Ideal) x0 x1 (ValueIdx.ix2 r j) = dotRow x0 x1 r j := mm_half x0 x1 r j

theorem pay5_at (d : Vec Ideal S256x4096 .f32) (x0 : Vec Ideal S256x1024 .bf16) (x1 : Vec Ideal S1x1024x4096 .bf16) (r : Fin 256) (j : Fin 4096) :
    k0_pay5 (F := Ideal) d x0 x1 (ValueIdx.ix2 r j) = (d (ValueIdx.ix2 r j) + dotRow x0 x1 r j : EReal) :=
  congrArg₂ (fun a b : EReal => a + b) (shapeCast_apply d shapeCasts_S256x4096_S256x4096 (ValueIdx.ix2 r j) (ValueIdx.ix2 r j) rfl) (mm_half x0 x1 r j)

theorem pay4_at (i : S256x4096.Idx) : k0_pay4 (F := Ideal) i = (0 : EReal) := Ideal.ofBits_zero_f32
theorem pay8_at (i : S512x4096.Idx) : k0_pay8 (F := Ideal) i = (0 : EReal) := Ideal.ofBits_zero_f32

theorem top_row (x0 : Vec Ideal S512x1024 .bf16) (W : Vec Ideal S1x1024x4096 .bf16) (r : Fin 256) (j : Fin 4096) :
    dotRow (top x0) W r j = dotRow x0 W (⟨r.val, by omega⟩ : Fin 512) j := by
  unfold dotRow
  refine Finset.sum_congr rfl fun k _ => congrArg (· * _) (congrArg x0 (funext fun a => Fin.ext ?_))
  match a with
  | ⟨0, _⟩ => show 0 + 1 * r.val = r.val; omega
  | ⟨1, _⟩ => show 0 + 1 * k.val = k.val; omega

theorem upper_emb (r : Fin 512) (hr : r.val < 256) (j : Fin 4096) :
    (ValueIdx.ix2 r j : S512x4096.Idx) = (Rect.unit (s := S512x4096) ![0, 0] S256x4096.size inb_S512x4096_S256x4096_0_0).emb (ValueIdx.ix2 (⟨r.val, hr⟩ : Fin 256) j) :=
  funext fun a => Fin.ext (by
    match a with
    | ⟨0, _⟩ => show r.val = 0 + 1 * r.val; omega
    | ⟨1, _⟩ => show j.val = 0 + 1 * j.val; omega)

theorem halfFirst_at (x0 : Vec Ideal S512x1024 .bf16) (x1 : Vec Ideal S1x1024x4096 .bf16) (r : Fin 512) (j : Fin 4096) :
    halfFirst (F := Ideal) x0 x1 (ValueIdx.ix2 r j) = if r.val < 256 then dotRow x0 x1 r j else (0 : EReal) := by
  unfold halfFirst
  by_cases hr : r.val < 256
  · rw [if_pos hr, View.canon_cons_of_not_mem]
    · rw [upper_emb r hr j, View.canon_cons_emb]
      exact (pay3_at _ x1 ⟨r.val, hr⟩ j).trans (top_row x0 x1 _ j)
    · intro hm
      have h0 := ((Rect.mem_set_unit (inb := inb_S512x4096_S256x4096_256_0)).mp hm) (0 : Fin 2)
      have h00 : 256 ≤ r.val := h0.1
      omega
  · rw [if_neg hr]
    have e : (ValueIdx.ix2 r j : S512x4096.Idx) = (Rect.unit (s := S512x4096) ![256, 0] S256x4096.size inb_S512x4096_S256x4096_256_0).emb (ValueIdx.ix2 (⟨r.val - 256, by omega⟩ : Fin 256) j) :=
      funext fun a => Fin.ext (by
        match a with
        | ⟨0, _⟩ => show r.val = 256 + 1 * (r.val - 256); omega
        | ⟨1, _⟩ => show j.val = 0 + 1 * j.val; omega)
    rw [e, View.canon_cons_emb]
    exact pay4_at _

theorem halfMore_at (x0 : Vec Ideal S512x1024 .bf16) (x1 : Vec Ideal S1x1024x4096 .bf16) (d : Vec Ideal S512x4096 .f32) (r : Fin 512) (j : Fin 4096) :
    halfMore (F := Ideal) x0 x1 d (ValueIdx.ix2 r j) = if r.val < 256 then (d (ValueIdx.ix2 r j) + dotRow x0 x1 r j : EReal) else d (ValueIdx.ix2 r j) := by
  unfold halfMore put
  by_cases hr : r.val < 256
  · have hall : ∀ a : Fin 2, (![0, 0] : Fin 2 → ℕ) a ≤ ((ValueIdx.ix2 r j : S512x4096.Idx) a).val ∧ ((ValueIdx.ix2 r j : S512x4096.Idx) a).val < (![0, 0] : Fin 2 → ℕ) a + S256x4096.size a := fun a => by
      match a with
      | ⟨0, _⟩ => exact ⟨Nat.zero_le _, show r.val < 0 + 256 by omega⟩
      | ⟨1, _⟩ => exact ⟨Nat.zero_le _, show j.val < 0 + 4096 by omega⟩
    rw [if_pos hr, dif_pos hall]
    refine Eq.trans (congrArg (k0_pay5 (F := Ideal) (topO d) (top x0) x1) (?_ : _ = (ValueIdx.ix2 (⟨r.val, hr⟩ : Fin 256) j : S256x4096.Idx))) ?_
    · funext a
      match a with
      | ⟨0, _⟩ => rfl
      | ⟨1, _⟩ => rfl
    · refine (pay5_at _ _ x1 ⟨r.val, hr⟩ j).trans (congrArg₂ (fun a b : EReal => a + b) (congrArg d (funext fun a => Fin.ext ?_)) (top_row x0 x1 _ j))
      match a with
      | ⟨0, _⟩ => show 0 + 1 * r.val = r.val; omega
      | ⟨1, _⟩ => show 0 + 1 * j.val = j.val; omega
  · rw [if_neg hr, dif_neg]
    intro hall
    have h0 : r.val < 0 + 256 := (hall (0 : Fin 2)).2
    omega

/-- What a step of a tile with tokens adds at a row and column: the product of the rows that hold tokens. -/
theorem summed_at (x0 : Vec Ideal S512x1024 .bf16) (x1 : Vec Ideal S1x1024x4096 .bf16) (d : Vec Ideal S512x4096 .f32) (k : ℕ) (w : BitVec 32) (hw : 0 < w.toInt)
    (r : Fin 512) (j : Fin 4096) (P : EReal) (hP : ¬k = 0 → d (ValueIdx.ix2 r j) = P) (hP0 : k = 0 → P = 0)
    (hn : ¬(256 < w.toInt ∨ (0 < w.toInt ∧ r.val < 256)) → P = 0) :
    summed (F := Ideal) x0 x1 d k w (ValueIdx.ix2 r j)
      = if 256 < w.toInt ∨ (0 < w.toInt ∧ r.val < 256) then (P + dotRow x0 x1 r j : EReal) else (0 : EReal) := by
  unfold summed
  by_cases hf : 256 < w.toInt
  · have hl : 256 < w.toInt ∨ (0 < w.toInt ∧ r.val < 256) := .inl hf
    rw [if_pos hf, if_pos hl]
    by_cases hk : k = 0
    · rw [if_pos hk, pay1_at, hP0 hk, zero_add]
    · rw [if_neg hk, pay2_at, hP hk]
  · rw [if_neg hf, if_pos hw]
    by_cases hr : r.val < 256
    · have hl : 256 < w.toInt ∨ (0 < w.toInt ∧ r.val < 256) := .inr ⟨hw, hr⟩
      rw [if_pos hl]
      by_cases hk : k = 0
      · rw [if_pos hk, halfFirst_at, if_pos hr, hP0 hk, zero_add]
      · rw [if_neg hk, halfMore_at, if_pos hr, hP hk]
    · have hl : ¬(256 < w.toInt ∨ (0 < w.toInt ∧ r.val < 256)) := by omega
      rw [if_neg hl]
      by_cases hk : k = 0
      · rw [if_pos hk, halfFirst_at, if_neg hr]
      · rw [if_neg hk, halfMore_at, if_neg hr, hP hk, hn hl]

theorem scaled_at (x2 : Vec Ideal S512x1 .f32) (a : Vec Ideal S512x4096 .f32) (r : Fin 512) (j : Fin 4096) :
    scaledTo (F := Ideal) 512 x2 a (ValueIdx.ix2 r j) = (a (ValueIdx.ix2 r j) * x2 (ValueIdx.ix2 r (0 : Fin 1)) : EReal) := by
  unfold scaledTo
  exact if_pos r.isLt

end Cert.Kernel3Ideal.Down
-- ==== Proof.DownValue.lean ====
module

public import proofs.«01_k».proof.Proof.DownBlock

@[expose] public section

set_option maxRecDepth 16384

noncomputable section

/-! The result array of the down product, in exact arithmetic: it is the reference's. -/

namespace Cert.Kernel3Ideal.Down

open Cert.Kernel3Ideal Cert.Kernel3Ideal.Gen
open Idealize.ShloMosaic Idealize.ShloMosaic.TcCoe
open Cert.Reference3Ideal.Down (prod tileOf)

variable (m : (ℓ : Loc nD τ sig) → Buf (Elt Ideal) ℓ) (hF : ok0 (F := Ideal) (tbl m)) (c : Dev nD)

/-- The rows, the weights, the gates and the two tables, as the run finds them. -/
abbrev actA : FVec Ideal S40448x14336 .bf16 := m ((c : Thread nD τ).loc main_arg2)
abbrev w2A : FVec Ideal S8x14336x4096 .bf16 := m ((c : Thread nD τ).loc main_arg3)
abbrev gateA : FVec Ideal S40448x1 .f32 := m ((c : Thread nD τ).loc main_arg4)
abbrev teA : IVec S79 32 := m ((c : Thread nD τ).loc main_arg0)
abbrev nuA : IVec S79 32 := m ((c : Thread nD τ).loc main_arg1)

theorem crd0 (t : Fin (cfgM m hF).N) : (crd m hF t 0).val = t.val / 14 := tile_of t
theorem crd1 (t : Fin (cfgM m hF).N) : (crd m hF t 1).val = t.val % 14 := step_of t

theorem at0 (t : Fin (cfgM m hF).N) (q : Fin 512) (k : Fin 1024) (R : Fin 40448) (hR : R.val = 512 * (t.val / 14) + q.val) (K : Fin 14336) (hK : K.val = 1024 * (t.val % 14) + k.val) :
    iblk m hF c (0 : Fin 4) t (ValueIdx.ix2 q k) = actA m c (ValueIdx.ix2 R K) := by
  have c0 := crd0 m hF t
  have c1 := crd1 m hF t
  unfold iblk
  rw [View.read_apply]
  refine congrArg (m ((c : Thread nD τ).loc main_arg2)) (funext fun a => Fin.ext ?_)
  match a with
  | ⟨0, _⟩ => show cc0_transform_0 (crd m hF t) 0 * 512 + 1 * q.val = R.val; rw [index0, hR]; show (crd m hF t 0).val * 512 + 1 * q.val = _; omega
  | ⟨1, _⟩ => show cc0_transform_0 (crd m hF t) 1 * 1024 + 1 * k.val = K.val; rw [index0, hK]; show (crd m hF t 1).val * 1024 + 1 * k.val = _; omega

theorem at1 (t : Fin (cfgM m hF).N) (k : Fin 1024) (j : Fin 4096) (e : Fin 8) (he : (BitVec.toNat (tbl m 0 (tileIx (crd m hF t)))) = e.val)
    (K : Fin 14336) (hK : K.val = 1024 * (t.val % 14) + k.val) :
    iblk m hF c (1 : Fin 4) t (ValueIdx.ix3 (0 : Fin 1) k j) = w2A m c (ValueIdx.ix3 e K j) := by
  have c1 := crd1 m hF t
  unfold iblk
  rw [View.read_apply]
  refine congrArg (m ((c : Thread nD τ).loc main_arg3)) (funext fun a => Fin.ext ?_)
  match a with
  | ⟨0, _⟩ => show cc0_transform_1 k0_off1_inb numel1_S1 (tbl m) (crd m hF t) 0 * 1 + 1 * 0 = e.val; rw [index1, ← he]; exact (Nat.add_zero _).trans (Nat.mul_one _)
  | ⟨1, _⟩ => show cc0_transform_1 k0_off1_inb numel1_S1 (tbl m) (crd m hF t) 1 * 1024 + 1 * k.val = K.val; rw [index1, hK]; show (crd m hF t 1).val * 1024 + 1 * k.val = _; omega
  | ⟨2, _⟩ => show cc0_transform_1 k0_off1_inb numel1_S1 (tbl m) (crd m hF t) 2 * 4096 + 1 * j.val = j.val; rw [index1]; show 0 * 4096 + 1 * j.val = j.val; omega

theorem at2 (t : Fin (cfgM m hF).N) (q : Fin 512) (R : Fin 40448) (hR : R.val = 512 * (t.val / 14) + q.val) :
    iblk m hF c (2 : Fin 4) t (ValueIdx.ix2 q (0 : Fin 1)) = gateA m c (ValueIdx.ix2 R (0 : Fin 1)) := by
  have c0 := crd0 m hF t
  unfold iblk
  rw [View.read_apply]
  refine congrArg (m ((c : Thread nD τ).loc main_arg4)) (funext fun a => Fin.ext ?_)
  match a with
  | ⟨0, _⟩ => show cc0_transform_2 (crd m hF t) 0 * 512 + 1 * q.val = R.val; rw [index2, hR]; show (crd m hF t 0).val * 512 + 1 * q.val = _; omega
  | ⟨1, _⟩ => show cc0_transform_2 (crd m hF t) 1 * 1 + 1 * 0 = 0; rw [index2]; rfl

/-! ## The running sum -/

/-- One term of a row times a column of an expert's weights, and none past the end. -/
def term (R : Fin 40448) (e : Fin 8) (j : Fin 4096) (n : ℕ) : EReal :=
  if h : n < 14336 then (actA m c (ValueIdx.ix2 R ⟨n, h⟩) * w2A m c (ValueIdx.ix3 e ⟨n, h⟩ j) : EReal) else 0

theorem prod_eq (R : Fin 40448) (e : Fin 8) (j : Fin 4096) : prod (actA m c) (w2A m c) e R j = ∑ n ∈ Finset.range 14336, term m c R e j n := by
  rw [Finset.sum_range]
  unfold prod term
  refine Finset.sum_congr rfl fun k _ => ?_
  rw [dif_pos k.isLt]

theorem dot_eq (t : Fin (cfgM m hF).N) (q : Fin 512) (j : Fin 4096) (R : Fin 40448) (hR : R.val = 512 * (t.val / 14) + q.val)
    (e : Fin 8) (he : (BitVec.toNat (tbl m 0 (tileIx (crd m hF t)))) = e.val) :
    dotRow (iblk m hF c (0 : Fin 4) t) (iblk m hF c (1 : Fin 4) t) q j = ∑ n ∈ Finset.range 1024, term m c R e j (1024 * (t.val % 14) + n) := by
  rw [Finset.sum_range]
  unfold dotRow
  refine Finset.sum_congr rfl fun k _ => ?_
  have hk : 1024 * (t.val % 14) + k.val < 14336 := by omega
  refine Eq.trans ?_ (dif_pos hk).symm
  exact congrArg₂ (fun a b : EReal => a * b) (at0 m hF c t q k R hR ⟨_, hk⟩ rfl) (at1 m hF c t k j e he ⟨_, hk⟩ rfl)

/-- Whether a row of a tile is one that holds tokens, by the tile's count. -/
def Live (w : BitVec 32) (q : Fin 512) : Prop := 256 < w.toInt ∨ (0 < w.toInt ∧ q.val < 256)
instance (w : BitVec 32) (q : Fin 512) : Decidable (Live w q) := by unfold Live; infer_instance

/-- A step adds its part of the row's product to the parts before. -/
theorem summed_eq (t : Fin (cfgM m hF).N) (q : Fin 512) (j : Fin 4096) (R : Fin 40448) (hR : R.val = 512 * (t.val / 14) + q.val)
    (e : Fin 8) (he : (BitVec.toNat (tbl m 0 (tileIx (crd m hF t)))) = e.val) (hw : 0 < (cnt m hF t).toInt) (d : Vec Ideal S512x4096 .f32)
    (hd : ¬t.val % 14 = 0 → d (ValueIdx.ix2 q j) = if Live (cnt m hF t) q then ∑ n ∈ Finset.range (1024 * (t.val % 14)), term m c R e j n else (0 : EReal)) :
    summed (F := Ideal) (iblk m hF c (0 : Fin 4) t) (iblk m hF c (1 : Fin 4) t) d (t.val % 14) (cnt m hF t) (ValueIdx.ix2 q j)
      = if Live (cnt m hF t) q then ∑ n ∈ Finset.range (1024 * (t.val % 14) + 1024), term m c R e j n else (0 : EReal) := by
  have h := summed_at (iblk m hF c (0 : Fin 4) t) (iblk m hF c (1 : Fin 4) t) d (t.val % 14) (cnt m hF t) hw q j
    (if Live (cnt m hF t) q then ∑ n ∈ Finset.range (1024 * (t.val % 14)), term m c R e j n else (0 : EReal)) hd
    (fun h0 => by rw [h0, Nat.mul_zero, Finset.sum_range_zero, ite_self]) (fun hl => if_neg hl)
  rw [dot_eq m hF c t q j R hR e he] at h
  refine h.trans ?_
  by_cases hl : Live (cnt m hF t) q
  · rw [if_pos hl, if_pos hl, Finset.sum_range_add]
    exact if_pos hl
  · rw [if_neg hl, if_neg hl]
    exact if_neg hl

/-- Two points of one tile name one expert. -/
theorem tile_same (t : Fin (cfgM m hF).N) (hk : ¬t.val % 14 = 0) : tileIx (crd m hF ⟨t.val - 1, by omega⟩) = tileIx (crd m hF t) :=
  funext fun a => Fin.ext (by
    have h1 := crd0 m hF ⟨t.val - 1, by omega⟩
    have h2 := crd0 m hF t
    show (crd m hF ⟨t.val - 1, by omega⟩ 0).val = (crd m hF t 0).val
    rw [h1, h2]
    show (t.val - 1) / 14 = t.val / 14
    omega)

theorem left3_sum (q : Fin 512) (j : Fin 4096) (R : Fin 40448) (e : Fin 8) : ∀ (k : ℕ) (t : Fin (cfgM m hF).N), t.val % 14 = k → k < 13 → R.val = 512 * (t.val / 14) + q.val →
    (BitVec.toNat (tbl m 0 (tileIx (crd m hF t)))) = e.val → 0 < (cnt m hF t).toInt →
    left3 m hF c t (ValueIdx.ix2 q j) = if Live (cnt m hF t) q then ∑ n ∈ Finset.range (1024 * k + 1024), term m c R e j n else (0 : EReal)
  | 0, t, hk, _, hR, he, hw => by
    rw [left3_first m hF c t hw hk (k0_pay8 (F := Ideal))]
    unfold left
    rw [if_neg (by omega), summed_eq m hF c t q j R hR e he hw _ (fun h => absurd hk h), hk]
  | k + 1, t, hk, h13, hR, he, hw => by
    have hz : ¬t.val % 14 = 0 := by omega
    have hc := cnt_same m hF t hz
    have ih := left3_sum q j R e k ⟨t.val - 1, by omega⟩ (by show (t.val - 1) % 14 = k; omega) (by omega)
      (by show R.val = 512 * ((t.val - 1) / 14) + q.val; omega) (by rw [tile_same m hF t hz]; exact he) (by rw [hc]; exact hw)
    rw [left3_step m hF c t hw hz]
    unfold left
    rw [if_neg (by omega), summed_eq m hF c t q j R hR e he hw _ (fun _ => ?_), hk]
    rw [ih, hc, hk]
    rfl

/-! ## The array -/

/-- The result as the reference has it. -/
def ref3 : FVec Ideal S40448x4096 .f32 :=
  Cert.Reference3Ideal.Read.val_main_v78 (F := Ideal) (teA m c) (nuA m c) (actA m c) (w2A m c) (gateA m c)

theorem emb3 (t : Fin (cfgM m hF).N) (q : Fin 512) (j : Fin 4096) (R : Fin 40448) (hR : R.val = 512 * (t.val / 14) + q.val) :
    (((cfgM m hF).win (3 : Fin 4)).blk t).view.emb (ValueIdx.ix2 q j) = (ValueIdx.ix2 R j : S40448x4096.Idx) := funext fun a => Fin.ext (by
  have c0 := crd0 m hF t
  match a with
  | ⟨0, _⟩ => show cc0_transform_3 (crd m hF t) 0 * 512 + 1 * q.val = R.val; rw [index3, hR]; show (crd m hF t 0).val * 512 + 1 * q.val = _; omega
  | ⟨1, _⟩ => show cc0_transform_3 (crd m hF t) 1 * 4096 + 1 * j.val = j.val; rw [index3]; show 0 * 4096 + 1 * j.val = j.val; omega)

/-- At a tile's last step a row holds its product times its gate, or zero where the tile has no tokens. -/
theorem left3_last (t : Fin (cfgM m hF).N) (h13 : t.val % 14 = 13) (q : Fin 512) (j : Fin 4096) (R : Fin 40448) (hR : R.val = 512 * (t.val / 14) + q.val)
    (e : Fin 8) (he : (BitVec.toNat (tbl m 0 (tileIx (crd m hF t)))) = e.val) :
    left3 m hF c t (ValueIdx.ix2 q j) = if Live (cnt m hF t) q then (gateA m c (ValueIdx.ix2 R (0 : Fin 1)) * prod (actA m c) (w2A m c) e R j : EReal) else (0 : EReal) := by
  by_cases hw : 0 < (cnt m hF t).toInt
  · have hz : ¬t.val % 14 = 0 := by omega
    have hc := cnt_same m hF t hz
    rw [left3_step m hF c t hw hz]
    unfold left
    rw [if_pos h13, if_pos hw, scaled_at, summed_eq m hF c t q j R hR e he hw _ (fun _ => ?_), at2 m hF c t q R hR]
    · by_cases hl : Live (cnt m hF t) q
      · rw [if_pos hl, if_pos hl, prod_eq, h13]
        exact mul_comm _ _
      · rw [if_neg hl, if_neg hl]
        exact zero_mul _
    · rw [left3_sum m hF c q j R e 12 ⟨t.val - 1, by omega⟩ (by show (t.val - 1) % 14 = 12; omega) (by omega)
        (by show R.val = 512 * ((t.val - 1) / 14) + q.val; omega) (by rw [tile_same m hF t hz]; exact he) (by rw [hc]; exact hw), hc, h13]
  · rw [left3_zero m hF c t hw, pay8_at, if_neg]
    unfold Live
    omega

theorem left3_ref (h : InRange (tbl m 0)) (t : Fin (cfgM m hF).N) (h13 : t.val % 14 = 13) (q : Fin 512) (j : Fin 4096) (R : Fin 40448) (hR : R.val = 512 * (t.val / 14) + q.val) :
    left3 m hF c t (ValueIdx.ix2 q j) = ref3 m c (ValueIdx.ix2 R j) := by
  have c0 := crd0 m hF t
  have ht : tileOf R = tileIx (crd m hF t) := funext fun a => Fin.ext (by
    show R.val / 512 = (crd m hF t 0).val
    omega)
  have hte : teA m c (tileOf R) = tbl m 0 (tileIx (crd m hF t)) := by rw [ht]; exact congrFun (tbl_eq m c 0) _
  have hnu : nuA m c (tileOf R) = tbl m 1 (tileIx (crd m hF t)) := by rw [ht]; exact congrFun (tbl_eq m c 1) _
  obtain ⟨h0, h8⟩ := h (tileIx (crd m hF t))
  have he8 := to_nat _ h0 h8
  have hr := Cert.Reference3Ideal.Down.ref_at (teA m c) (nuA m c) (actA m c) (w2A m c) (gateA m c) R j ⟨_, he8⟩ (congrArg BitVec.toNat hte)
  refine Eq.trans ?_ hr.symm
  refine (left3_last m hF c t h13 q j R hR ⟨_, he8⟩ rfl).trans (if_congr ?_ rfl rfl)
  have hw : BitVec.toInt (cnt m hF t) = BitVec.toInt (tbl m 1 (tileIx (crd m hF t))) := congrArg BitVec.toInt (word_eq (F := Ideal) (tbl m 1) (crd m hF t))
  unfold Live
  rw [hnu, hw]
  have hq : R.val % 512 = q.val := by omega
  rw [hq]

theorem array3 (h : InRange (tbl m 0)) : (dats m hF 0 c).arrAt (3 : Fin 4) (cfgM m hF).N = ref3 m c := by
  refine (dats m hF 0 c).arrAt_eq_of_cover (3 : Fin 4) (ref3 m c) (fun t hfl => funext fun y => ?_) (fun i => ?_)
  · rw [View.read_apply]
    have h13 : t.val % 14 = 13 := of_decide_eq_true ((flush_3 m hF t).symm.trans hfl)
    have hy0 : (y 0).val < 512 := (y 0).isLt
    have hy1 : (y 1).val < 4096 := (y 1).isLt
    have hN : t.val < 1106 := t.isLt
    have hy : y = (ValueIdx.ix2 (⟨(y 0).val, hy0⟩ : Fin 512) (⟨(y 1).val, hy1⟩ : Fin 4096) : S512x4096.Idx) := funext fun a => (by
      match a with
      | ⟨0, _⟩ => rfl
      | ⟨1, _⟩ => rfl)
    have hl := left3_ref m hF c h t h13 ⟨(y 0).val, hy0⟩ ⟨(y 1).val, hy1⟩ ⟨512 * (t.val / 14) + (y 0).val, by omega⟩ rfl
    rw [← emb3 m hF t ⟨(y 0).val, hy0⟩ ⟨(y 1).val, hy1⟩ ⟨512 * (t.val / 14) + (y 0).val, by omega⟩ rfl, ← hy] at hl
    exact hl
  · have h0 : (i 0).val < 40448 := (i 0).isLt
    have h1 : (i 1).val < 4096 := (i 1).isLt
    have hn : 14 * ((i 0).val / 512) + 13 < 1106 := by omega
    refine ⟨⟨14 * ((i 0).val / 512) + 13, hn⟩, ?_, ?_⟩
    · rw [flush_3]
      show decide ((14 * ((i 0).val / 512) + 13) % 14 = 13) = true
      rw [decide_eq_true_eq]
      omega
    · have hi : i = (ValueIdx.ix2 (⟨(i 0).val, h0⟩ : Fin 40448) (⟨(i 1).val, h1⟩ : Fin 4096) : S40448x4096.Idx) := funext fun a => (by
        match a with
        | ⟨0, _⟩ => rfl
        | ⟨1, _⟩ => rfl)
      have he := emb3 m hF ⟨14 * ((i 0).val / 512) + 13, hn⟩ ⟨(i 0).val % 512, by omega⟩ ⟨(i 1).val, h1⟩
        ⟨(i 0).val, h0⟩ (by show (i 0).val = 512 * ((14 * ((i 0).val / 512) + 13) / 14) + (i 0).val % 512; omega)
      exact Eq.subst (motive := fun x => x ∈ (((cfgM m hF).win (3 : Fin 4)).blk _).view.set) (he.trans hi.symm) (View.emb_mem_set _ _)

end Cert.Kernel3Ideal.Down
-- ==== Proof.ProjRun.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.TableIdle
public import Idealize.ShloMosaic.Lib.Pipeline.Value
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WordCmp

@[expose] public section

set_option maxRecDepth 16384

noncomputable section

/-! One run of the body of the projection onto keys and values, at a tile all of whose rows hold tokens: what it leaves
    in its two output blocks, from its block of rows and its block of weights. -/

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables, whole: each tile's weights, and each tile's number of rows. -/
abbrev teM : Memref sig .tc .smem S18 .i32 := Memref.whole main_v25
abbrev nuM : Memref sig .tc .smem S18 .i32 := Memref.whole main_v26

/-- The word of the second table at a grid point's tile. -/
abbrev word (T : S18.Idx → Elt F .i32) (i : grid0.Coords) : Elt F .i32 :=
  View.readAt (Elt F) nuM.view (Rect.unit (s := S18) (k0_off1 i) S1.size (k0_off1_inb i)).toLoadRect T (Shape.Idx.first (numel1_S1.symm ▸ Nat.one_pos))

/-- All rows of the tile hold tokens. -/
abbrev Full (w : Elt F .i32) : Prop := k0_cond1 w = 1#1 ∧ ¬k0_cond2 w = 1#1 ∧ ¬k0_cond3 w = 1#1

/-- The body's inputs as it finds and leaves them: two blocks and the two tables. -/
abbrev held (c : Dev nD) (arg4 : Memref sig .tc .vmem S1024x4096 .bf16) (arg5 : Memref sig .tc .vmem S1x1024x4096 .bf16)
    (T0 T1 : S18.Idx → Elt F .i32) (x0 : Vec F S1024x4096 .bf16) (x1 : Vec F S1x1024x4096 .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (teM.view.loc (c : Thread nD τ) ↦{fullShare.right} T0)
    ∗ (nuM.view.loc (c : Thread nD τ) ↦{fullShare.right} T1))

theorem cover {e : EltTy} (x : Vec F S1024x1024 e) (y : S1024x1024.Idx) :
    ∃ p ∈ ([⟨Rect.unit (s := S1024x1024) ![0, 0] S1024x1024.size inb_S1024x1024_S1024x1024_0_0, x⟩] : List (View.Piece (Elt F) S1024x1024 e)), y ∈ p.1.set :=
  View.cover_of_tiledL _ S1024x1024.size (by sl_kernel_rfl) y

theorem whole_block {e : EltTy} (x : Vec F S1024x1024 e) (L : List (View.Piece (Elt F) S1024x1024 e)) :
    View.canon (⟨Rect.unit (s := S1024x1024) ![0, 0] S1024x1024.size inb_S1024x1024_S1024x1024_0_0, x⟩ :: L) = x :=
  View.canon_cons_unit_zero (funext (by decide)) _ _ _

theorem rd_rows (M : Memref sig .tc .vmem S1024x4096 .bf16) (x : Vec F S1024x4096 .bf16) :
    M.view.readAt (Elt F) (Rect.unit (s := S1024x4096) ![0, 0] S1024x4096.size inb_S1024x4096_S1024x4096_0_0).toLoadRect (M.view.rep x) = x := by
  rw [View.readAt_eq_ld, View.read_rep]; exact View.ld_unit_zero (funext (by decide)) _ _

theorem rd_cols (M : Memref sig .tc .vmem S1x1024x4096 .bf16) (x : Vec F S1x1024x4096 .bf16) :
    M.view.readAt (Elt F) (Rect.unit (s := S1x1024x4096) ![0, 0, 0] S1x1024x4096.size inb_S1x1024x4096_S1x1024x4096_0_0_0).toLoadRect (M.view.rep x) = x := by
  rw [View.readAt_eq_ld, View.read_rep]; exact View.ld_unit_zero (funext (by decide)) _ _

/-- The payloads at what the loads read. -/
theorem pay1_reads (M0 : Memref sig .tc .vmem S1024x4096 .bf16) (M1 : Memref sig .tc .vmem S1x1024x4096 .bf16) (x0 : Vec F S1024x4096 .bf16) (x1 : Vec F S1x1024x4096 .bf16) :
    k0_pay1 (M0.view.readAt (Elt F) (Rect.unit (s := S1024x4096) ![0, 0] S1024x4096.size inb_S1024x4096_S1024x4096_0_0).toLoadRect (M0.view.rep x0))
      (M1.view.readAt (Elt F) (Rect.unit (s := S1x1024x4096) ![0, 0, 0] S1x1024x4096.size inb_S1x1024x4096_S1x1024x4096_0_0_0).toLoadRect (M1.view.rep x1))
      = k0_pay1 x0 x1 := by
  rw [rd_rows, rd_cols]

theorem pay2_reads (M0 : Memref sig .tc .vmem S1024x4096 .bf16) (M1 : Memref sig .tc .vmem S1x1024x4096 .bf16) (x0 : Vec F S1024x4096 .bf16) (x1 : Vec F S1x1024x4096 .bf16) :
    k0_pay2 (M0.view.readAt (Elt F) (Rect.unit (s := S1024x4096) ![0, 0] S1024x4096.size inb_S1024x4096_S1024x4096_0_0).toLoadRect (M0.view.rep x0))
      (M1.view.readAt (Elt F) (Rect.unit (s := S1x1024x4096) ![0, 0, 0] S1x1024x4096.size inb_S1x1024x4096_S1x1024x4096_0_0_0).toLoadRect (M1.view.rep x1))
      = k0_pay2 x0 x1 := by
  rw [rd_rows, rd_cols]

set_option maxHeartbeats 4000000 in
theorem run (c : Dev nD) (i : grid0.Coords) (arg4 : Memref sig .tc .vmem S1024x4096 .bf16) (harg4 : arg4.IsWhole) (arg5 : Memref sig .tc .vmem S1x1024x4096 .bf16) (harg5 : arg5.IsWhole) (arg6 : Memref sig .tc .vmem S1024x1024 .f32) (harg6 : arg6.IsWhole) (arg7 : Memref sig .tc .vmem S1024x1024 .bf16) (harg7 : arg7.IsWhole)
    (T0 T1 : S18.Idx → Elt F .i32) (x0 : Vec F S1024x4096 .bf16) (x1 : Vec F S1x1024x4096 .bf16) (hw : Full (word T1 i)) (K : PUnit → sProp 𝕄) :
    iprop(held c arg4 arg5 T0 T1 x0 x1
        ∗ (∃ d, owns (c : Thread nD τ) arg6 fullShare d)
        ∗ (∃ d, owns (c : Thread nD τ) arg7 fullShare d)
        ∗ (iprop(held c arg4 arg5 T0 T1 x0 x1
            ∗ owns (c : Thread nD τ) arg6 fullShare (k0_pay1 x0 x1)
            ∗ owns (c : Thread nD τ) arg7 fullShare (k0_pay2 x0 x1)) -∗ K ⟨⟩))
      ⊢ wp frame (wpE (defs₀ (F := F)) Variants.none c none) Set.univ (cc0_proj_state i teM (Memref.isWhole_whole _) nuM (Memref.isWhole_whole _) arg4 harg4 arg5 harg5 arg6 harg6 arg7 harg7) K := by
  unfold held owns
  rw [cc0_proj_state_eq_skeleton]; unfold cc0_proj_state_skel
  iintro ⟨⟨H0, H1, HT0, HT1⟩, ⟨%d2, %f2, -, HO2⟩, ⟨%d3, %f3, -, HO3⟩, Hk⟩
  have hT0 : teM.IsWhole := Memref.isWhole_whole _
  have hT1 : nuM.IsWhole := Memref.isWhole_whole _
  obtain ⟨h1, h2, h3⟩ := hw
  sl_exec! (disch := first | (guard_target = k0_cond1 _ = _; exact h1) | (guard_target = ¬(k0_cond2 _ = _); exact h2) | (guard_target = ¬(k0_cond3 _ = _); exact h3))
  sl_step
  iapply Hk
  isplitl [H0 H1 HT0 HT1]
  · isplitl [H0]; · iexact H0
    isplitl [H1]; · iexact H1
    isplitl [HT0]; · iexact HT0
    iexact HT1
  isplitl [HO2]
  · iexists _; isplitr; swap
    · iexact HO2
    · ipureintro
      sl_unfold_run_names
      exact (View.read_writes_eq_canon _ _ _ (cover _)).trans ((whole_block _ _).trans (pay1_reads _ _ _ _))
  iexists _; isplitr; swap
  · iexact HO3
  · ipureintro
    sl_unfold_run_names
    exact (View.read_writes_eq_canon _ _ _ (cover _)).trans ((whole_block _ _).trans (pay2_reads _ _ _ _))

end Cert.Kernel4Ideal.Proj

end
-- ==== Proof.ProjTables.lean ====
module

public import proofs.«01_k».proof.Proof.ProjRun
public import Idealize.ShloMosaic.Lib.Claim
public import Idealize.ShloMosaic.Lib.StableHlo.RunClose
public import Idealize.ShloMosaic.Lib.Pipeline.Frame
public import Idealize.ShloMosaic.Lib.Pipeline.Kit

@[expose] public section

set_option maxRecDepth 16384

noncomputable section

/-! What the arrays hold when the projection's grid starts: the two tables are constant, the rows are
    those of prompts and samples, the weights those of the argument, reordered; and which block of each array a grid point takes. -/

namespace Cert.Kernel4Ideal.Proj

open Cert.Kernel4Ideal Cert.Kernel4Ideal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The arrays after the operations that precede the grid. -/
def ent (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  repeat' first | exact rfl | refine And.intro rfl ?_

/-- The rows that the projection takes: those of the prompts, then those of the samples. -/
def rows (c : Dev nD) : FVec F S18432x4096 .f32 :=
  concatenate S18432x4096 0 [⟨S16384x4096, shapeCast S16384x4096 (m ((c : Thread nD τ).loc main_arg0)) shapeCasts_S2x8192x4096_S16384x4096⟩,
    ⟨S2048x4096, shapeCast S2048x4096 (m ((c : Thread nD τ).loc main_arg1)) shapeCasts_S32x64x4096_S2048x4096⟩] concatenates_S16384x4096_S2048x4096_S18432x4096_d0

/-- The weights, transposed. -/
def wT (c : Dev nD) : FVec F S12316x4096 .f32 :=
  transpose S12316x4096 [1, 0] (m ((c : Thread nD τ).loc main_arg2)) transposes_S4096x12316_S12316x4096_1_0

/-- The transposed weights in the order in which the projection takes them: first those of keys and values. -/
def wM (w : FVec F S12316x4096 .f32) : FVec F S12288x4096 .f32 :=
  concatenate S12288x4096 0 [⟨S1536x4096, extractStridedSlice S1536x4096 ![1536, 0] w slices_S12316x4096_S1536x4096_1536_0⟩,
    ⟨S1536x4096, extractStridedSlice S1536x4096 ![3072, 0] w slices_S12316x4096_S1536x4096_3072_0⟩,
    ⟨S1024x4096, extractStridedSlice S1024x4096 ![5644, 0] w slices_S12316x4096_S1024x4096_5644_0⟩,
    ⟨S1024x4096, extractStridedSlice S1024x4096 ![6668, 0] w slices_S12316x4096_S1024x4096_6668_0⟩,
    ⟨S768x4096, extractStridedSlice S768x4096 ![7692, 0] w slices_S12316x4096_S768x4096_7692_0⟩,
    ⟨S768x4096, extractStridedSlice S768x4096 ![8460, 0] w slices_S12316x4096_S768x4096_8460_0⟩,
    ⟨S1536x4096, extractStridedSlice S1536x4096 ![9228, 0] w slices_S12316x4096_S1536x4096_9228_0⟩,
    ⟨S1536x4096, extractStridedSlice S1536x4096 ![10764, 0] w slices_S12316x4096_S1536x4096_10764_0⟩,
    ⟨S1536x4096, extractStridedSlice S1536x4096 ![0, 0] w slices_S12316x4096_S1536x4096_0_0⟩,
    ⟨S1024x4096, extractStridedSlice S1024x4096 ![4620, 0] w slices_S12316x4096_S1024x4096_4620_0⟩]
    concatenates_S1536x4096_S1536x4096_S1024x4096_S1024x4096_S768x4096_S768x4096_S1536x4096_S1536x4096_S1536x4096_S1024x4096_S12288x4096_d0

theorem ent_arg0 (c : Dev nD) : ent m c main_arg0 = m ((c : Thread nD τ).loc main_arg0) := by
  unfold ent; after_results

theorem ent_arg1 (c : Dev nD) : ent m c main_arg1 = m ((c : Thread nD τ).loc main_arg1) := by
  unfold ent; after_results

theorem ent_arg2 (c : Dev nD) : ent m c main_arg2 = m ((c : Thread nD τ).loc main_arg2) := by
  unfold ent; after_results

theorem ent_te (c : Dev nD) : ent m c main_v25 = broadcastInDim S18 ![] bcast_S_S18 (constantI S_ 32 0#32) := by
  unfold ent; after_results

theorem ent_nu (c : Dev nD) : ent m c main_v26 = broadcastInDim S18 ![] bcast_S_S18 (constantI S_ 32 1024#32) := by
  unfold ent; after_results

theorem ent_x (c : Dev nD) : ent m c main_v3 = truncf .bf16 (rows m c) bitsLt_bf16_f32 := by
  unfold ent rows; after_results; rfl

theorem ent_w (c : Dev nD) : ent m c main_v27 = broadcastInDim S1x12288x4096 ![1, 2] bcast_S12288x4096_S1x12288x4096_1_2
    (truncf .bf16 (wM (wT m c)) bitsLt_bf16_f32) := by
  unfold ent wM wT
  after_results_entrywise (rounds := 1) []

/-- The tables as the grid finds them. -/
def tbl : pre0.Contents (Elt F) := fun j => ent m (0 : Dev nD) (pre0.ref j)

theorem tbl_eq (c : Dev nD) (j : Fin 2) : ent m c (pre0.ref j) = tbl m j := by
  obtain rfl : c = 0 := Subsingleton.elim _ _; rfl

theorem tbl0 (j : S18.Idx) : tbl m 0 j = (0#32 : BitVec 32) := congrFun (ent_te m 0) j
theorem tbl1 (j : S18.Idx) : tbl m 1 j = (1024#32 : BitVec 32) := congrFun (ent_nu m 0) j

theorem full (i : grid0.Coords) : Full (word (tbl m 1) i) := by
  have e : word (tbl m 1) i = (1024#32 : BitVec 32) := tbl1 m _
  have h : Full (F := F) (1024#32 : BitVec 32) := by
    refine ⟨?_, ?_, ?_⟩
    · show k0_cond1 (1024#32 : BitVec 32) = 1#1; decide
    · show ¬k0_cond2 (1024#32 : BitVec 32) = 1#1; decide
    · show ¬k0_cond3 (1024#32 : BitVec 32) = 1#1; decide
  exact (congrArg (Full (F := F)) e).mpr h

theorem col_word (i : grid0.Coords) : (BitVec.ofNat 32 (i 0).val).toNat = (i 0).val := by
  have h : (i 0).val < 5 := (i 0).isLt
  rw [BitVec.toNat_ofNat]; omega
theorem row_word (i : grid0.Coords) : (BitVec.ofNat 32 (i 1).val).toNat = (i 1).val := by
  have h : (i 1).val < 18 := (i 1).isLt
  rw [BitVec.toNat_ofNat]; omega

theorem index0 (i : grid0.Coords) : cc0_transform_0 i = ![(i 1).val, 0] := by
  show ![(BitVec.ofNat 32 (i 1).val).toNat, 0] = _
  rw [row_word]

theorem index2 (i : grid0.Coords) : cc0_transform_2 i = ![(i 1).val, (i 0).val] := by
  show ![(BitVec.ofNat 32 (i 1).val).toNat, (BitVec.ofNat 32 (i 0).val).toNat] = _
  rw [row_word, col_word]

theorem index3 (i : grid0.Coords) : cc0_transform_3 i = ![(i 1).val, (i 0).val] := index2 i

theorem index1 (i : grid0.Coords) : cc0_transform_1 k0_off1_inb numel1_S1 (tbl m) i = ![0, (i 0).val, 0] :=
  congrArg₂ (fun a b => (![a, b, 0] : Fin 3 → Nat)) (congrArg BitVec.toNat (tbl0 m _))
    ((congrArg BitVec.toNat (BitVec.add_zero (BitVec.ofNat 32 (i 0).val))).trans (col_word i))

theorem weights_inb (j : Nat) (hj : j < 5) (a : Fin 3) : ((![0, j, 0] : Fin 3 → Nat) a + 1) * S1x1024x4096.size a ≤ S1x12288x4096.size a := by
  fin_cases a
  · show (0 + 1) * 1 ≤ 1; omega
  · show (j + 1) * 1024 ≤ 12288; omega
  · show (0 + 1) * 4096 ≤ 4096; omega

/-- Every block of weights a grid point takes is there. -/
theorem fit : ok0 (F := F) (tbl m) := fun i =>
  ⟨fun a => by rw [index1]; exact weights_inb _ (i 0).isLt a, .inr (Affine.block_words_dvd (s := S1x12288x4096) (p := EltTy.packing .bf16) (by decide) (by decide))⟩

end Cert.Kernel4Ideal.Proj

end
-- ==== Proof.ProjFrame.lean ====
module

public import proofs.«01_k».proof.Proof.ProjTables
public import Idealize.ShloMosaic.Adequacy
public import Idealize.ShloMosaic.Init

@[expose] public section

set_option maxRecDepth 16384

noncomputable section

/-! The whole run of the projection onto keys and values: it ends, no argument changes, and each result array holds the
    blocks its points leave. -/

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (pcfg0 (F := F)).Adm := ⟨tbl m, fit m⟩
abbrev cfgM : Pipeline.Cfg sig Λ₀ := cfg0 (adm m)
abbrev pcs : Fin 1 → Pipeline.Cfg sig Λ₀ := Pipeline.pin (pcfgs (F := F)) fun _ => adm m

abbrev crd (t : Fin (cfgM m).N) : grid0.Coords := grid0.coords t

abbrev st0 (t : Fin (cfgM m).N) : Memref sig .tc .vmem S1024x4096 .bf16 := spec0_0.stage ((cfgM m).slots t (0 : Fin 4))
abbrev hst0 (t : Fin (cfgM m).N) : (st0 m t).IsWhole := hstage0_0 (((cfgM m).slots t (0 : Fin 4)).cast nbuf0_0)
abbrev st1 (t : Fin (cfgM m).N) : Memref sig .tc .vmem S1x1024x4096 .bf16 := spec0_1.stage ((cfgM m).slots t (1 : Fin 4))
abbrev hst1 (t : Fin (cfgM m).N) : (st1 m t).IsWhole := hstage0_1 (((cfgM m).slots t (1 : Fin 4)).cast nbuf0_1)
abbrev st2 (t : Fin (cfgM m).N) : Memref sig .tc .vmem S1024x1024 .f32 := spec0_2.stage ((cfgM m).slots t (2 : Fin 4))
abbrev hst2 (t : Fin (cfgM m).N) : (st2 m t).IsWhole := hstage0_2 (((cfgM m).slots t (2 : Fin 4)).cast nbuf0_2)
abbrev st3 (t : Fin (cfgM m).N) : Memref sig .tc .vmem S1024x1024 .bf16 := spec0_3.stage ((cfgM m).slots t (3 : Fin 4))
abbrev hst3 (t : Fin (cfgM m).N) : (st3 m t).IsWhole := hstage0_3 (((cfgM m).slots t (3 : Fin 4)).cast nbuf0_3)

/-- A window's block at a point, of its array as the grid finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (ent m c (Pipeline.arrRef (cfgM m).spec w))

/-- What each point leaves in its two output blocks. -/
def left2 (c : Dev nD) (t : Fin (cfgM m).N) : Vec F S1024x1024 .f32 := k0_pay1 (iblk m c (0 : Fin 4) t) (iblk m c (1 : Fin 4) t)
def left3 (c : Dev nD) (t : Fin (cfgM m).N) : Vec F S1024x1024 .bf16 := k0_pay2 (iblk m c (0 : Fin 4) t) (iblk m c (1 : Fin 4) t)

/-- What the body may use between points: the tables, half of each, and what it need not describe. -/
def inv (c : Dev nD) : sProp 𝕄 := iprop(Pipeline.ΦA (cfgM m).spec c ∗ Pipeline.ΦT pre0 (tbl m) c)

def dats (_ : Fin 1) (c : Dev nD) : Dat τ (Elt F) Unit ℕ (UR sig nD τ) ℕ (cfgM m) c where
  A w := ent m c (Pipeline.arrRef (cfgM m).spec w)
  after w t := match w with
    | ⟨0, _⟩ => iblk m c (0 : Fin 4) t
    | ⟨1, _⟩ => iblk m c (1 : Fin 4) t
    | ⟨2, _⟩ => left2 m c t
    | ⟨3, _⟩ => left3 m c t
  Φ _ := inv m c
  q _ := fullShare
  owed _ := 0

theorem after_0 (c : Dev nD) (t : Fin (cfgM m).N) : (dats m 0 c).after (0 : Fin 4) t = iblk m c (0 : Fin 4) t := rfl
theorem after_1 (c : Dev nD) (t : Fin (cfgM m).N) : (dats m 0 c).after (1 : Fin 4) t = iblk m c (1 : Fin 4) t := rfl
theorem after_2 (c : Dev nD) (t : Fin (cfgM m).N) : (dats m 0 c).after (2 : Fin 4) t = left2 m c t := rfl
theorem after_3 (c : Dev nD) (t : Fin (cfgM m).N) : (dats m 0 c).after (3 : Fin 4) t = left3 m c t := rfl

theorem before_0 (c : Dev nD) (t : Fin (cfgM m).N) (d) : (dats m 0 c).before (0 : Fin 4) t d = iblk m c (0 : Fin 4) t :=
  ((dats m 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgM m).N) (d) : (dats m 0 c).before (1 : Fin 4) t d = iblk m c (1 : Fin 4) t :=
  ((dats m 0 c).before_in_eq_fetched (1 : Fin 4) rfl (fun _ => rfl) (fun _ _ _ => rfl) (fun t => by rw [after_1]; unfold Dat.blockOf iblk; rfl) t d).trans
    (by unfold Dat.fetched Dat.blockOf iblk; rfl)

/-! ## The schedule of the outputs -/

theorem flush_2 (t : Fin (cfgM m).N) : ((cfgM m).win (2 : Fin 4)).flush t = true :=
  (fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) : ∀ t : Fin grid0.N, Pipeline.Window.flushOf grid0 true cc0_transform_2 t = true) t

theorem flush_3 (t : Fin (cfgM m).N) : ((cfgM m).win (3 : Fin 4)).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true) t

/-- The word the schedule reads is the one the body loads. -/
theorem atD_word (T : pre0.Contents (Elt F)) (i : grid0.Coords) : T.atD 1 (k0_off1 i) = word (T 1) i := by
  have h : ∀ a : Fin 1, k0_off1 i a + 1 ≤ (pre0.ref 1).ty.shape.size a := fun a => by
    have h := k0_off1_inb i a
    revert h
    obtain rfl : a = 0 := Subsingleton.elim _ _
    exact id
  refine (dif_pos h).trans ?_
  exact congrArg (T 1) (funext fun a => Fin.ext rfl)

theorem live_2 (t : Fin (cfgM m).N) : (cfgM m).idle (2 : Fin 4) ((cfgM m).grid.coords t) = false := by
  have e : (cfgM m).idle (2 : Fin 4) ((cfgM m).grid.coords t)
      = (!(k0_cond1 ((tbl m).atD 1 (k0_off1 (crd m t))) == 1#1) && !(k0_cond2 ((tbl m).atD 1 (k0_off1 (crd m t))) == 1#1) && !(k0_cond3 ((tbl m).atD 1 (k0_off1 (crd m t))) == 1#1)) := rfl
  rw [e, atD_word, (full m (crd m t)).1]
  simp

/-! ## The body's obligation -/

abbrev body (t : Fin (cfgM m).N) : Prog (TpuEff nD τ sig (Elt F) Λ₀ .tc) PUnit :=
  cc0_proj_state (crd m t) teM (Memref.isWhole_whole _) nuM (Memref.isWhole_whole _) (st0 m t) (hst0 m t) (st1 m t) (hst1 m t) (st2 m t) (hst2 m t) (st3 m t) (hst3 m t)

theorem inv_eq (c : Dev nD) : (inv m c : sProp 𝕄)
    = iprop(Pipeline.ΦA (cfgM m).spec c ∗ (teM.view.loc (c : Thread nD τ) ↦{fullShare.right} tbl m 0) ∗ (nuM.view.loc (c : Thread nD τ) ↦{fullShare.right} tbl m 1)) := by
  unfold inv Pipeline.ΦT Pipeline.prefHeld
  rw [show (Finset.univ : Finset (Fin 2)) = insert (0 : Fin 2) {(1 : Fin 2)} from by decide,
    bigSep_insert (by decide), bigSep_singleton]
  rfl

set_option maxHeartbeats 4800000 in
theorem sound_body (c : Dev nD) (t : Fin (cfgM m).N) :
    iprop((dats m 0 c).Φ t.castSucc ∗ (dats m 0 c).owesAt () t.castSucc
        ∗ (∃ d, owns (c : Thread nD τ) (st0 m t) fullShare ((dats m 0 c).before (0 : Fin 4) t d))
        ∗ (∃ d, owns (c : Thread nD τ) (st1 m t) fullShare ((dats m 0 c).before (1 : Fin 4) t d))
        ∗ (∃ d, owns (c : Thread nD τ) (st2 m t) fullShare ((dats m 0 c).before (2 : Fin 4) t d))
        ∗ (∃ d, owns (c : Thread nD τ) (st3 m t) fullShare ((dats m 0 c).before (3 : Fin 4) t d)))
      ⊢ wp frame (wpE (defs₀ (F := F)) Variants.none c none) Set.univ (body m t) fun _ =>
          iprop((dats m 0 c).Φ t.succ ∗ (dats m 0 c).owesAt () t.succ
            ∗ bigSep Finset.univ fun w : Fin (cfgM m).W =>
                match (cfgM m).idle w ((cfgM m).grid.coords t) with
                | true =>
                  match ((cfgM m).win w).flush t with
                  | false => iprop(∃ d, owns (c : Thread nD τ) (((cfgM m).win w).stage ((cfgM m).slots t w)) fullShare ((dats m 0 c).before w t d))
                  | true => owns (c : Thread nD τ) (((cfgM m).win w).stage ((cfgM m).slots t w)) fullShare ((dats m 0 c).after w t)
                | false => owns (c : Thread nD τ) (((cfgM m).win w).stage ((cfgM m).slots t w)) fullShare ((dats m 0 c).after w t)) := by
  rw [bigSep_W0, live_2]
  simp only [before_0, before_1, after_0, after_1, after_2, after_3]
  rewrite [show (dats m 0 c).Φ t.succ = inv m c from rfl, show (dats m 0 c).Φ t.castSucc = inv m c from rfl,
    show (dats m 0 c).owesAt () t.succ = (dats m 0 c).owesAt () t.castSucc from rfl]
  rw [inv_eq]
  iintro ⟨⟨HA, HT0, HT1⟩, Ho, ⟨%d0, H0⟩, ⟨%d1, H1⟩, ⟨%d2, H2⟩, ⟨%d3, H3⟩⟩
  iapply (run c (crd m t) (st0 m t) (hst0 m t) (st1 m t) (hst1 m t) (st2 m t) (hst2 m t) (st3 m t) (hst3 m t) (tbl m 0) (tbl m 1) (iblk m c (0 : Fin 4) t) (iblk m c (1 : Fin 4) t) (full m _) _)
  unfold held
  isplitl [H0 H1 HT0 HT1]
  · isplitl [H0]; · iapply rep_of_owns; iexact H0
    isplitl [H1]; · iapply rep_of_owns; iexact H1
    isplitl [HT0]; · iexact HT0
    iexact HT1
  isplitl [H2]; · iexists _; iexact H2
  isplitl [H3]; · iexists _; iexact H3
  iintro ⟨⟨H0, H1, HT0, HT1⟩, H2, H3⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iexact H2
  iexact H3

theorem body_obligation (c : Dev nD) : BodyObligation (dats m 0 c) (defs₀ (F := F)) Variants.none () Set.univ := fun t => by
  rw [bigSep_W0]
  exact sound_body m c t

/-! ## The launch -/

theorem share_eq (c : Dev nD) (w : Fin (cfgM m).W) : (dats m 0 c).share w = fullShare := by unfold Dat.share; split <;> rfl

theorem hmain : Pipeline.HMainP (Ix := Unit) (Name := ℕ) (U := UR sig nD τ) (Lvl := ℕ) (pcfgs (F := F)) 0 defs₀ Variants.none m main (ent m) :=
  Pipeline.hmainP_prefix pcfgs 0 defs₀ Variants.none m main hostOps0 hostOps0_sub fresh0 main_chain

/-- What the run ends in: every array at what its points leave, every other one as the grid found it. -/
abbrev Ends (r : PUnit × MemSt nD τ sig (Elt F)) : Prop := Pipeline.FramePost (pcs m) (dats m) 0 (ent m) r

set_option backward.isDefEq.respectTransparency.types false in
set_option maxHeartbeats 4000000 in
theorem runs : θ_run (defs (F := F)) (onTc (τ := τ) (main (F := F))) ⟨m, fun _ => 0, ρ⟩ (fun r => Ends m r ∧ r.2.sem = fun _ => 0) :=
  Pipeline.θ_run_frameP pcfgs (fun _ => adm m) (dats m) 0 launch0 defs₀ Variants.none m ρ main
    (fun c => (body_obligation m c).loose) (share_eq m) (fun _ _ => rfl) (ent m) (hmain m) (fun _ _ => rfl) (tbl_eq m) (fun _ _ => rfl)
    _ (fun _ h => h)

/-- The arguments end as they began. -/
theorem kept (r : PUnit × MemSt nD τ sig (Elt F)) (h : Ends m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of (win := spec0) main_arg0 rfl (by decide))).trans (ent_arg0 m c),
    ((h c).2 main_arg1 (Pipeline.mem_restRefs_of (win := spec0) main_arg1 rfl (by decide))).trans (ent_arg1 m c),
    ((h c).2 main_arg2 (Pipeline.mem_restRefs_of (win := spec0) main_arg2 rfl (by decide))).trans (ent_arg2 m c)⟩

/-- The run ends, with the arguments unchanged and every count back at zero. -/
theorem quiet : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨kept m _ h.1, h.2⟩) (runs m ρ)

end Cert.Kernel4Ideal.Proj

end
-- ==== Proof.ProjValue.lean ====
module

public import proofs.«01_k».proof.Proof.ProjFrame
public import proofs.«01_k».proof.Proof.Gen.Reference4Ideal.Read

@[expose] public section

set_option maxRecDepth 16384

noncomputable section

/-! The two result arrays of the projection onto keys and values, in exact arithmetic: they are the reference's. -/

namespace Cert.Kernel4Ideal.Proj

open Cert.Kernel4Ideal Cert.Kernel4Ideal.Gen
open Idealize.ShloMosaic Idealize.ShloMosaic.TcCoe
open Idealize.ShloMosaic.ValueIdx (contrEquiv1 contrEquiv1_symm_val)

/-! ## A block of products at an index -/

theorem lhs0 (j : S1024x1024.Idx) (q : dot_S1024x4096_S1024x4096_S1024x1024_1_1_0_0_n_n.contr.Idx) : (dot_S1024x4096_S1024x4096_S1024x1024_1_1_0_0_n_n.lhsIdx j q 0).val = (j 0).val := by
  unfold DotDims.lhsIdx
  rw [dif_neg (show ¬(0 : Fin S1024x4096.rank) ∈ dot_S1024x4096_S1024x4096_S1024x1024_1_1_0_0_n_n.lhsBatch by decide), dif_pos (show (0 : Fin S1024x4096.rank) ∈ dot_S1024x4096_S1024x4096_S1024x1024_1_1_0_0_n_n.lhsNonContracting by decide)]
  rfl

theorem rhs0 (j : S1024x1024.Idx) (q : dot_S1024x4096_S1024x4096_S1024x1024_1_1_0_0_n_n.contr.Idx) : (dot_S1024x4096_S1024x4096_S1024x1024_1_1_0_0_n_n.rhsIdx j q 0).val = (j 1).val := by
  unfold DotDims.rhsIdx
  rw [dif_neg (show ¬(0 : Fin S1024x4096.rank) ∈ dot_S1024x4096_S1024x4096_S1024x1024_1_1_0_0_n_n.rhsBatch by decide), dif_pos (show (0 : Fin S1024x4096.rank) ∈ dot_S1024x4096_S1024x4096_S1024x1024_1_1_0_0_n_n.rhsNonContracting by decide)]
  rfl

theorem flat (W : Vec Ideal S1x1024x4096 .bf16) (j : Fin 1024) (k : Fin 4096) :
    shapeCast S1024x4096 W shapeCasts_S1x1024x4096_S1024x4096 (ValueIdx.ix2 j k) = W (ValueIdx.ix3 (0 : Fin 1) j k) :=
  shapeCast_apply W shapeCasts_S1x1024x4096_S1024x4096 (ValueIdx.ix2 j k) (ValueIdx.ix3 (0 : Fin 1) j k) (by
    rewrite [Shape.rowMajor_val_three, Shape.rowMajor_val_two]
    show (0 * 1024 + j.val) * 4096 + k.val = j.val * 4096 + k.val
    omega)

theorem pay1_at (x : Vec Ideal S1024x4096 .bf16) (W : Vec Ideal S1x1024x4096 .bf16) (r j : Fin 1024) :
    k0_pay1 (F := Ideal) x W (ValueIdx.ix2 r j) = ∑ k : Fin 4096, (x (ValueIdx.ix2 r k) : EReal) * (W (ValueIdx.ix3 (0 : Fin 1) j k) : EReal) := by
  unfold k0_pay1 matmul
  rw [shapeCast_self, Ideal.matmul_constant_zero_apply, ← Equiv.sum_comp (contrEquiv1 dot_S1024x4096_S1024x4096_S1024x1024_1_1_0_0_n_n 4096 rfl rfl).symm]
  refine Finset.sum_congr rfl fun k _ => ?_
  have hk := contrEquiv1_symm_val dot_S1024x4096_S1024x4096_S1024x1024_1_1_0_0_n_n 4096 rfl rfl k
  rw [← flat W j k]
  congr 2
  · funext a
    match a with
    | ⟨0, _⟩ => exact Fin.ext (lhs0 _ _)
    | ⟨1, _⟩ => exact Fin.ext ((DotDims.lhsIdx_val_of_single _ rfl _ _).trans hk)
  · funext a
    match a with
    | ⟨0, _⟩ => exact Fin.ext (rhs0 _ _)
    | ⟨1, _⟩ => exact Fin.ext ((DotDims.rhsIdx_val_of_single _ rfl _ _).trans hk)

/-! ## Arrays of two axes put together -/

theorem piece_row {α : Type} {N M n : Nat} (xs : List ((s : Shape) × (s.Idx → α))) (h : Shape.Concatenates (xs.map (·.1)) (⟨2, ![N, M]⟩ : Shape) 0) (J : Fin N) (k : Fin M)
    (i : Nat) (hi : i < xs.length) (x : Shape.Idx ⟨2, ![n, M]⟩ → α) (hx : xs[i] = ⟨⟨2, ![n, M]⟩, x⟩) (pre : Nat)
    (hpre : (((xs.take i).map (·.1)).map fun s => if h : s.rank = 2 then s.size ((0 : Fin 2).cast h.symm) else 0).sum = pre)
    (j : Fin n) (hj : pre + j.val = J.val) : concatenate (⟨2, ![N, M]⟩ : Shape) 0 xs h (ValueIdx.ix2 J k) = x (ValueIdx.ix2 j k) :=
  concatenate_apply_piece (t := ⟨2, ![N, M]⟩) 0 xs h (ValueIdx.ix2 J k) i hi ⟨2, ![n, M]⟩ x hx rfl pre hpre (ValueIdx.ix2 j k)
    (fun b hb => by
      match b, hb with
      | ⟨0, _⟩, hb => exact absurd rfl hb
      | ⟨1, _⟩, _ => rfl) hj

theorem piece_column {α : Type} {N M n : Nat} (xs : List ((s : Shape) × (s.Idx → α))) (h : Shape.Concatenates (xs.map (·.1)) (⟨2, ![M, N]⟩ : Shape) 1) (k : Fin M) (J : Fin N)
    (i : Nat) (hi : i < xs.length) (x : Shape.Idx ⟨2, ![M, n]⟩ → α) (hx : xs[i] = ⟨⟨2, ![M, n]⟩, x⟩) (pre : Nat)
    (hpre : (((xs.take i).map (·.1)).map fun s => if h : s.rank = 2 then s.size ((1 : Fin 2).cast h.symm) else 0).sum = pre)
    (j : Fin n) (hj : pre + j.val = J.val) : concatenate (⟨2, ![M, N]⟩ : Shape) 1 xs h (ValueIdx.ix2 k J) = x (ValueIdx.ix2 k j) :=
  concatenate_apply_piece (t := ⟨2, ![M, N]⟩) 1 xs h (ValueIdx.ix2 k J) i hi ⟨2, ![M, n]⟩ x hx rfl pre hpre (ValueIdx.ix2 k j)
    (fun b hb => by
      match b, hb with
      | ⟨0, _⟩, _ => rfl
      | ⟨1, _⟩, hb => exact absurd rfl hb) hj

/-! ## The blocks in the arrays -/

variable (m : (ℓ : Loc nD τ sig) → Buf (Elt Ideal) ℓ) (c : Dev nD)

/-- The arguments, as the run finds them: the prompts, the samples, the weights. -/
abbrev pA : FVec Ideal S2x8192x4096 .f32 := m ((c : Thread nD τ).loc main_arg0)
abbrev sA : FVec Ideal S32x64x4096 .f32 := m ((c : Thread nD τ).loc main_arg1)
abbrev wA : FVec Ideal S4096x12316 .f32 := m ((c : Thread nD τ).loc main_arg2)

/-- The column of the weights that a column of the results takes: the forgetting attention's keys and values lie behind
    its queries, those of the band behind the forget gates and the band's queries. -/
def col (J : Fin 5120) : Fin 12316 := ⟨if J.val < 3072 then J.val + 1536 else J.val + 2572, by split <;> omega⟩

/-- A row of a slice of the transposed weights is a column of the weights. -/
theorem slice_at {n : Nat} (o : Nat) (h : S12316x4096.Slices ![o, 0] ⟨2, ![n, 4096]⟩) (j : Fin n) (k : Fin 4096) (C : Fin 12316) (hC : C.val = o + j.val) :
    extractStridedSlice ⟨2, ![n, 4096]⟩ ![o, 0] (wT m c) h (ValueIdx.ix2 j k) = wA m c (ValueIdx.ix2 k C) := by
  refine (extractStridedSlice_apply ![o, 0] (wT m c) h (ValueIdx.ix2 j k) (ValueIdx.ix2 C k : S12316x4096.Idx) (fun a => ?_)).trans ?_
  · match a with
    | ⟨0, _⟩ => exact hC
    | ⟨1, _⟩ => show k.val = 0 + k.val; omega
  · unfold wT
    exact congrArg (wA m c) (funext fun a => Fin.ext (by
      match a with
      | ⟨0, _⟩ => rfl
      | ⟨1, _⟩ => rfl))

/-- The first 5120 rows of the reordered weights. -/
theorem wM_at (J : Fin 5120) (k : Fin 4096) : wM (wT m c) (ValueIdx.ix2 (⟨J.val, by omega⟩ : Fin 12288) k) = wA m c (ValueIdx.ix2 k (col J)) := by
  unfold wM
  by_cases h1 : J.val < 1536
  · refine (piece_row _ _ _ _ 0 (by simp) _ (by rfl) 0 (by rfl) (⟨J.val, h1⟩ : Fin 1536) (by show 0 + J.val = J.val; omega)).trans ?_
    exact slice_at m c _ _ _ k _ (by show (if J.val < 3072 then J.val + 1536 else J.val + 2572) = 1536 + J.val; split <;> omega)
  by_cases h2 : J.val < 3072
  · refine (piece_row _ _ _ _ 1 (by simp) _ (by rfl) 1536 (by rfl) (⟨J.val - 1536, by omega⟩ : Fin 1536) (by show 1536 + (J.val - 1536) = J.val; omega)).trans ?_
    exact slice_at m c _ _ _ k _ (by show (if J.val < 3072 then J.val + 1536 else J.val + 2572) = 3072 + (J.val - 1536); split <;> omega)
  by_cases h3 : J.val < 4096
  · refine (piece_row _ _ _ _ 2 (by simp) _ (by rfl) 3072 (by rfl) (⟨J.val - 3072, by omega⟩ : Fin 1024) (by show 3072 + (J.val - 3072) = J.val; omega)).trans ?_
    exact slice_at m c _ _ _ k _ (by show (if J.val < 3072 then J.val + 1536 else J.val + 2572) = 5644 + (J.val - 3072); split <;> omega)
  · refine (piece_row _ _ _ _ 3 (by simp) _ (by rfl) 4096 (by rfl) (⟨J.val - 4096, by omega⟩ : Fin 1024) (by show 4096 + (J.val - 4096) = J.val; omega)).trans ?_
    exact slice_at m c _ _ _ k _ (by show (if J.val < 3072 then J.val + 1536 else J.val + 2572) = 6668 + (J.val - 4096); split <;> omega)

theorem crd0 (t : Fin (cfgM m).N) : (crd m t 0).val = t.val / 18 :=
  (by decide +kernel : ∀ t : Fin grid0.N, (grid0.coords t 0).val = t.val / 18) t
theorem crd1 (t : Fin (cfgM m).N) : (crd m t 1).val = t.val % 18 :=
  (by decide +kernel : ∀ t : Fin grid0.N, (grid0.coords t 1).val = t.val % 18) t

theorem at0 (t : Fin (cfgM m).N) (q : Fin 1024) (k : Fin 4096) (R : Fin 18432) (hR : R.val = 1024 * (crd m t 1).val + q.val) :
    iblk m c (0 : Fin 4) t (ValueIdx.ix2 q k) = rows m c (ValueIdx.ix2 R k) := by
  unfold iblk
  rw [View.read_apply]
  refine Eq.trans (congrArg (ent m c main_v3) (funext fun a => Fin.ext ?_)) (congrFun (ent_x m c) (ValueIdx.ix2 R k : S18432x4096.Idx))
  match a with
  | ⟨0, _⟩ => show cc0_transform_0 (crd m t) 0 * 1024 + 1 * q.val = R.val; rw [index0, hR]; show (crd m t 1).val * 1024 + 1 * q.val = _; omega
  | ⟨1, _⟩ => show cc0_transform_0 (crd m t) 1 * 4096 + 1 * k.val = k.val; rw [index0]; show 0 * 4096 + 1 * k.val = k.val; omega

/-- The weights the grid reads are the reordered ones. -/
theorem rows_at (J : Fin 5120) (k : Fin 4096) :
    broadcastInDim S1x12288x4096 ![1, 2] bcast_S12288x4096_S1x12288x4096_1_2
        (truncf .bf16 (wM (wT m c)) bitsLt_bf16_f32) (ValueIdx.ix3 (0 : Fin 1) (⟨J.val, by omega⟩ : Fin 12288) k)
      = wA m c (ValueIdx.ix2 k (col J)) :=
  (show _ = truncf .bf16 (wM (wT m c)) bitsLt_bf16_f32 (ValueIdx.ix2 (⟨J.val, by omega⟩ : Fin 12288) k : S12288x4096.Idx) from
    congrArg (truncf .bf16 (wM (wT m c)) bitsLt_bf16_f32) (funext fun a => Fin.ext (by
      match a with
      | ⟨0, _⟩ => rfl
      | ⟨1, _⟩ => rfl))).trans (wM_at m c J k)

theorem at1 (t : Fin (cfgM m).N) (j : Fin 1024) (k : Fin 4096) (J : Fin 5120) (hJ : J.val = 1024 * (crd m t 0).val + j.val) :
    iblk m c (1 : Fin 4) t (ValueIdx.ix3 (0 : Fin 1) j k) = wA m c (ValueIdx.ix2 k (col J)) := by
  unfold iblk
  rw [View.read_apply]
  refine Eq.trans (congrArg (ent m c main_v27) (funext fun a => Fin.ext ?_))
    ((congrFun (ent_w m c) (ValueIdx.ix3 (0 : Fin 1) (⟨J.val, by omega⟩ : Fin 12288) k : S1x12288x4096.Idx)).trans (rows_at m c J k))
  match a with
  | ⟨0, _⟩ => show cc0_transform_1 k0_off1_inb numel1_S1 (tbl m) (crd m t) 0 * 1 + 1 * 0 = 0; rw [index1]; rfl
  | ⟨1, _⟩ => show cc0_transform_1 k0_off1_inb numel1_S1 (tbl m) (crd m t) 1 * 1024 + 1 * j.val = J.val; rw [index1, hJ]; show (crd m t 0).val * 1024 + 1 * j.val = _; omega
  | ⟨2, _⟩ => show cc0_transform_1 k0_off1_inb numel1_S1 (tbl m) (crd m t) 2 * 4096 + 1 * k.val = k.val; rw [index1]; show 0 * 4096 + 1 * k.val = k.val; omega

/-! ## The results -/

/-- The two results as the reference has them. -/
def ref2 : FVec Ideal S18432x5120 .f32 := Cert.Reference4Ideal.Read.val_main_v12 (F := Ideal) (pA m c) (sA m c) (wA m c)
def ref3 : FVec Ideal S18432x5120 .bf16 := Cert.Reference4Ideal.Read.val_main_v13 (F := Ideal) (pA m c) (sA m c) (wA m c)

/-- The whole product at an index. -/
theorem product_at (i : Cert.Reference4Ideal.S18432x12316.Idx) (R : Fin 18432) (C : Fin 12316) (hR : (i 0).val = R.val) (hC : (i 1).val = C.val) :
    Cert.Reference4Ideal.Read.val_main_v3 (F := Ideal) (pA m c) (sA m c) (wA m c) i
      = ∑ k : Fin 4096, (rows m c (ValueIdx.ix2 R k) : EReal) * (wA m c (ValueIdx.ix2 k C) : EReal) := by
  refine (Cert.Reference4Ideal.Read.val_main_v3_apply _ _ _ i).trans (Finset.sum_congr rfl fun k _ => ?_)
  refine congrArg₂ (fun a b : EReal => a * b) (congrArg (rows m c) (funext fun a => Fin.ext ?_)) (congrArg (wA m c) (funext fun a => Fin.ext ?_))
  · match a with
    | ⟨0, _⟩ => exact hR
    | ⟨1, _⟩ => rfl
  · match a with
    | ⟨0, _⟩ => rfl
    | ⟨1, _⟩ => exact hC

theorem ref_at (R : Fin 18432) (J : Fin 5120) :
    ref2 m c (ValueIdx.ix2 R J) = ∑ k : Fin 4096, (rows m c (ValueIdx.ix2 R k) : EReal) * (wA m c (ValueIdx.ix2 k (col J)) : EReal) := by
  unfold ref2 Cert.Reference4Ideal.Read.val_main_v12
  by_cases h1 : J.val < 1536
  · refine (piece_column _ _ _ _ 0 (by simp) _ (by rfl) 0 (by rfl) (⟨J.val, h1⟩ : Fin 1536) (by show 0 + J.val = J.val; omega)).trans ?_
    exact (Cert.Reference4Ideal.Read.val_main_v5_apply _ _ _ _).trans (product_at m c _ R (col J) rfl (by show 1536 + J.val = (if J.val < 3072 then J.val + 1536 else J.val + 2572); split <;> omega))
  by_cases h2 : J.val < 3072
  · refine (piece_column _ _ _ _ 1 (by simp) _ (by rfl) 1536 (by rfl) (⟨J.val - 1536, by omega⟩ : Fin 1536) (by show 1536 + (J.val - 1536) = J.val; omega)).trans ?_
    exact (Cert.Reference4Ideal.Read.val_main_v6_apply _ _ _ _).trans (product_at m c _ R (col J) rfl (by show 3072 + (J.val - 1536) = (if J.val < 3072 then J.val + 1536 else J.val + 2572); split <;> omega))
  by_cases h3 : J.val < 4096
  · refine (piece_column _ _ _ _ 2 (by simp) _ (by rfl) 3072 (by rfl) (⟨J.val - 3072, by omega⟩ : Fin 1024) (by show 3072 + (J.val - 3072) = J.val; omega)).trans ?_
    exact (Cert.Reference4Ideal.Read.val_main_v9_apply _ _ _ _).trans (product_at m c _ R (col J) rfl (by show 5644 + (J.val - 3072) = (if J.val < 3072 then J.val + 1536 else J.val + 2572); split <;> omega))
  · refine (piece_column _ _ _ _ 3 (by simp) _ (by rfl) 4096 (by rfl) (⟨J.val - 4096, by omega⟩ : Fin 1024) (by show 4096 + (J.val - 4096) = J.val; omega)).trans ?_
    exact (Cert.Reference4Ideal.Read.val_main_v10_apply _ _ _ _).trans (product_at m c _ R (col J) rfl (by show 6668 + (J.val - 4096) = (if J.val < 3072 then J.val + 1536 else J.val + 2572); split <;> omega))

theorem left2_at (t : Fin (cfgM m).N) (q j : Fin 1024) (R : Fin 18432) (hR : R.val = 1024 * (t.val % 18) + q.val)
    (J : Fin 5120) (hJ : J.val = 1024 * (t.val / 18) + j.val) : left2 m c t (ValueIdx.ix2 q j) = ref2 m c (ValueIdx.ix2 R J) := by
  have c0 := crd0 m t
  have c1 := crd1 m t
  rw [ref_at]
  unfold left2
  refine (pay1_at _ _ q j).trans (Finset.sum_congr rfl fun k _ => ?_)
  exact congrArg₂ (fun a b : EReal => a * b) (at0 m c t q k R (by omega)) (at1 m c t j k J (by omega))

/-- At exact arithmetic the narrower result is the wider one. -/
theorem left3_at (t : Fin (cfgM m).N) (q j : Fin 1024) (R : Fin 18432) (hR : R.val = 1024 * (t.val % 18) + q.val)
    (J : Fin 5120) (hJ : J.val = 1024 * (t.val / 18) + j.val) : left3 m c t (ValueIdx.ix2 q j) = ref3 m c (ValueIdx.ix2 R J) :=
  left2_at m c t q j R hR J hJ

theorem emb2 (t : Fin (cfgM m).N) (q j : Fin 1024) (R : Fin 18432) (hR : R.val = 1024 * (t.val % 18) + q.val) (J : Fin 5120) (hJ : J.val = 1024 * (t.val / 18) + j.val) :
    (((cfgM m).win (2 : Fin 4)).blk t).view.emb (ValueIdx.ix2 q j) = (ValueIdx.ix2 R J : S18432x5120.Idx) := funext fun a => Fin.ext (by
  have c0 := crd0 m t
  have c1 := crd1 m t
  match a with
  | ⟨0, _⟩ => show cc0_transform_2 (crd m t) 0 * 1024 + 1 * q.val = R.val; rw [index2, hR]; show (crd m t 1).val * 1024 + 1 * q.val = _; omega
  | ⟨1, _⟩ => show cc0_transform_2 (crd m t) 1 * 1024 + 1 * j.val = J.val; rw [index2, hJ]; show (crd m t 0).val * 1024 + 1 * j.val = _; omega)

theorem emb3 (t : Fin (cfgM m).N) (q j : Fin 1024) (R : Fin 18432) (hR : R.val = 1024 * (t.val % 18) + q.val) (J : Fin 5120) (hJ : J.val = 1024 * (t.val / 18) + j.val) :
    (((cfgM m).win (3 : Fin 4)).blk t).view.emb (ValueIdx.ix2 q j) = (ValueIdx.ix2 R J : S18432x5120.Idx) := emb2 m t q j R hR J hJ

/-- An index of a block by its two coordinates, and an index of a result likewise. -/
theorem pair_block (y : S1024x1024.Idx) : y = (ValueIdx.ix2 (⟨(y 0).val, (y 0).isLt⟩ : Fin 1024) (⟨(y 1).val, (y 1).isLt⟩ : Fin 1024) : S1024x1024.Idx) :=
  funext fun a => (by
    match a with
    | ⟨0, _⟩ => rfl
    | ⟨1, _⟩ => rfl)
theorem pair_array (i : S18432x5120.Idx) : i = (ValueIdx.ix2 (⟨(i 0).val, (i 0).isLt⟩ : Fin 18432) (⟨(i 1).val, (i 1).isLt⟩ : Fin 5120) : S18432x5120.Idx) :=
  funext fun a => (by
    match a with
    | ⟨0, _⟩ => rfl
    | ⟨1, _⟩ => rfl)

/-- The point whose block holds an index of a result, and where in that block. -/
theorem point_of (i : S18432x5120.Idx) : ∃ (t : Fin grid0.N) (q j : Fin 1024), (i 0).val = 1024 * (t.val % 18) + q.val ∧ (i 1).val = 1024 * (t.val / 18) + j.val := by
  have h0 : (i 0).val < 18432 := (i 0).isLt
  have h1 : (i 1).val < 5120 := (i 1).isLt
  refine ⟨⟨18 * ((i 1).val / 1024) + (i 0).val / 1024, by rw [N_0]; omega⟩, ⟨(i 0).val % 1024, by omega⟩, ⟨(i 1).val % 1024, by omega⟩, ?_, ?_⟩
  · show (i 0).val = 1024 * ((18 * ((i 1).val / 1024) + (i 0).val / 1024) % 18) + (i 0).val % 1024; omega
  · show (i 1).val = 1024 * ((18 * ((i 1).val / 1024) + (i 0).val / 1024) / 18) + (i 1).val % 1024; omega

theorem array2 : (dats m 0 c).arrAt (2 : Fin 4) (cfgM m).N = ref2 m c := by
  refine (dats m 0 c).arrAt_eq_of_cover (2 : Fin 4) (ref2 m c) (fun t _ => funext fun y => ?_) (fun i => ?_)
  · rw [View.read_apply]
    have hy0 : (y 0).val < 1024 := (y 0).isLt
    have hy1 : (y 1).val < 1024 := (y 1).isLt
    have hN : t.val < 90 := t.isLt
    have hl := left2_at m c t ⟨(y 0).val, hy0⟩ ⟨(y 1).val, hy1⟩ ⟨1024 * (t.val % 18) + (y 0).val, by omega⟩ rfl ⟨1024 * (t.val / 18) + (y 1).val, by omega⟩ rfl
    rw [← emb2 m t ⟨(y 0).val, hy0⟩ ⟨(y 1).val, hy1⟩ ⟨1024 * (t.val % 18) + (y 0).val, by omega⟩ rfl ⟨1024 * (t.val / 18) + (y 1).val, by omega⟩ rfl, ← pair_block y] at hl
    exact hl
  · obtain ⟨t, q, j, h0, h1⟩ := point_of i
    refine ⟨t, flush_2 m _, ?_⟩
    have he := emb2 m t q j ⟨(i 0).val, (i 0).isLt⟩ h0 ⟨(i 1).val, (i 1).isLt⟩ h1
    exact Eq.subst (motive := fun x => x ∈ (((cfgM m).win (2 : Fin 4)).blk t).view.set) (he.trans (pair_array i).symm) (View.emb_mem_set _ _)

theorem array3 : (dats m 0 c).arrAt (3 : Fin 4) (cfgM m).N = ref3 m c := by
  refine (dats m 0 c).arrAt_eq_of_cover (3 : Fin 4) (ref3 m c) (fun t _ => funext fun y => ?_) (fun i => ?_)
  · rw [View.read_apply]
    have hy0 : (y 0).val < 1024 := (y 0).isLt
    have hy1 : (y 1).val < 1024 := (y 1).isLt
    have hN : t.val < 90 := t.isLt
    have hl := left3_at m c t ⟨(y 0).val, hy0⟩ ⟨(y 1).val, hy1⟩ ⟨1024 * (t.val % 18) + (y 0).val, by omega⟩ rfl ⟨1024 * (t.val / 18) + (y 1).val, by omega⟩ rfl
    rw [← emb3 m t ⟨(y 0).val, hy0⟩ ⟨(y 1).val, hy1⟩ ⟨1024 * (t.val % 18) + (y 0).val, by omega⟩ rfl ⟨1024 * (t.val / 18) + (y 1).val, by omega⟩ rfl, ← pair_block y] at hl
    exact hl
  · obtain ⟨t, q, j, h0, h1⟩ := point_of i
    refine ⟨t, flush_3 m _, ?_⟩
    have he := emb3 m t q j ⟨(i 0).val, (i 0).isLt⟩ h0 ⟨(i 1).val, (i 1).isLt⟩ h1
    exact Eq.subst (motive := fun x => x ∈ (((cfgM m).win (3 : Fin 4)).blk t).view.set) (he.trans (pair_array i).symm) (View.emb_mem_set _ _)

end Cert.Kernel4Ideal.Proj
-- ==== Proof.RestRun.lean ====
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.TableIdle
public import Idealize.ShloMosaic.Lib.Pipeline.Value
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WordCmp

@[expose] public section

set_option maxRecDepth 16384

noncomputable section

/-! One run of the body of the projection onto queries and the recurrence's inputs, at a tile all of whose rows hold tokens: what it leaves
    in its output block, from its block of rows and its block of weights. -/

namespace Cert.Kernel5Ideal.Rest

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables, whole: each tile's weights, and each tile's number of rows. -/
abbrev teM : Memref sig .tc .smem S18 .i32 := Memref.whole main_v25
abbrev nuM : Memref sig .tc .smem S18 .i32 := Memref.whole main_v26

/-- The word of the second table at a grid point's tile. -/
abbrev word (T : S18.Idx → Elt F .i32) (i : grid0.Coords) : Elt F .i32 :=
  View.readAt (Elt F) nuM.view (Rect.unit (s := S18) (k0_off1 i) S1.size (k0_off1_inb i)).toLoadRect T (Shape.Idx.first (numel1_S1.symm ▸ Nat.one_pos))

/-- All rows of the tile hold tokens. -/
abbrev Full (w : Elt F .i32) : Prop := k0_cond1 w = 1#1 ∧ ¬k0_cond2 w = 1#1 ∧ ¬k0_cond3 w = 1#1

/-- The body's inputs as it finds and leaves them: two blocks and the two tables. -/
abbrev held (c : Dev nD) (arg4 : Memref sig .tc .vmem S1024x4096 .bf16) (arg5 : Memref sig .tc .vmem S1x1024x4096 .bf16)
    (T0 T1 : S18.Idx → Elt F .i32) (x0 : Vec F S1024x4096 .bf16) (x1 : Vec F S1x1024x4096 .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (teM.view.loc (c : Thread nD τ) ↦{fullShare.right} T0)
    ∗ (nuM.view.loc (c : Thread nD τ) ↦{fullShare.right} T1))

theorem cover {e : EltTy} (x : Vec F S1024x1024 e) (y : S1024x1024.Idx) :
    ∃ p ∈ ([⟨Rect.unit (s := S1024x1024) ![0, 0] S1024x1024.size inb_S1024x1024_S1024x1024_0_0, x⟩] : List (View.Piece (Elt F) S1024x1024 e)), y ∈ p.1.set :=
  View.cover_of_tiledL _ S1024x1024.size (by sl_kernel_rfl) y

theorem whole_block {e : EltTy} (x : Vec F S1024x1024 e) (L : List (View.Piece (Elt F) S1024x1024 e)) :
    View.canon (⟨Rect.unit (s := S1024x1024) ![0, 0] S1024x1024.size inb_S1024x1024_S1024x1024_0_0, x⟩ :: L) = x :=
  View.canon_cons_unit_zero (funext (by decide)) _ _ _

theorem rd_rows (M : Memref sig .tc .vmem S1024x4096 .bf16) (x : Vec F S1024x4096 .bf16) :
    M.view.readAt (Elt F) (Rect.unit (s := S1024x4096) ![0, 0] S1024x4096.size inb_S1024x4096_S1024x4096_0_0).toLoadRect (M.view.rep x) = x := by
  rw [View.readAt_eq_ld, View.read_rep]; exact View.ld_unit_zero (funext (by decide)) _ _

theorem rd_cols (M : Memref sig .tc .vmem S1x1024x4096 .bf16) (x : Vec F S1x1024x4096 .bf16) :
    M.view.readAt (Elt F) (Rect.unit (s := S1x1024x4096) ![0, 0, 0] S1x1024x4096.size inb_S1x1024x4096_S1x1024x4096_0_0_0).toLoadRect (M.view.rep x) = x := by
  rw [View.readAt_eq_ld, View.read_rep]; exact View.ld_unit_zero (funext (by decide)) _ _

/-- The payload at what the loads read. -/
theorem pay1_reads (M0 : Memref sig .tc .vmem S1024x4096 .bf16) (M1 : Memref sig .tc .vmem S1x1024x4096 .bf16) (x0 : Vec F S1024x4096 .bf16) (x1 : Vec F S1x1024x4096 .bf16) :
    k0_pay1 (M0.view.readAt (Elt F) (Rect.unit (s := S1024x4096) ![0, 0] S1024x4096.size inb_S1024x4096_S1024x4096_0_0).toLoadRect (M0.view.rep x0))
      (M1.view.readAt (Elt F) (Rect.unit (s := S1x1024x4096) ![0, 0, 0] S1x1024x4096.size inb_S1x1024x4096_S1x1024x4096_0_0_0).toLoadRect (M1.view.rep x1))
      = k0_pay1 x0 x1 := by
  rw [rd_rows, rd_cols]

set_option maxHeartbeats 4000000 in
theorem run (c : Dev nD) (i : grid0.Coords) (arg4 : Memref sig .tc .vmem S1024x4096 .bf16) (harg4 : arg4.IsWhole) (arg5 : Memref sig .tc .vmem S1x1024x4096 .bf16) (harg5 : arg5.IsWhole) (arg6 : Memref sig .tc .vmem S1024x1024 .bf16) (harg6 : arg6.IsWhole)
    (T0 T1 : S18.Idx → Elt F .i32) (x0 : Vec F S1024x4096 .bf16) (x1 : Vec F S1x1024x4096 .bf16) (hw : Full (word T1 i)) (K : PUnit → sProp 𝕄) :
    iprop(held c arg4 arg5 T0 T1 x0 x1
        ∗ (∃ d, owns (c : Thread nD τ) arg6 fullShare d)
        ∗ (iprop(held c arg4 arg5 T0 T1 x0 x1
            ∗ owns (c : Thread nD τ) arg6 fullShare (k0_pay1 x0 x1)) -∗ K ⟨⟩))
      ⊢ wp frame (wpE (defs₀ (F := F)) Variants.none c none) Set.univ (cc0_proj_rest i teM (Memref.isWhole_whole _) nuM (Memref.isWhole_whole _) arg4 harg4 arg5 harg5 arg6 harg6) K := by
  unfold held owns
  rw [cc0_proj_rest_eq_skeleton]; unfold cc0_proj_rest_skel
  iintro ⟨⟨H0, H1, HT0, HT1⟩, ⟨%d2, %f2, -, HO2⟩, Hk⟩
  have hT0 : teM.IsWhole := Memref.isWhole_whole _
  have hT1 : nuM.IsWhole := Memref.isWhole_whole _
  obtain ⟨h1, h2, h3⟩ := hw
  sl_exec! (disch := first | (guard_target = k0_cond1 _ = _; exact h1) | (guard_target = ¬(k0_cond2 _ = _); exact h2) | (guard_target = ¬(k0_cond3 _ = _); exact h3))
  sl_step
  iapply Hk
  isplitl [H0 H1 HT0 HT1]
  · isplitl [H0]; · iexact H0
    isplitl [H1]; · iexact H1
    isplitl [HT0]; · iexact HT0
    iexact HT1
  iexists _; isplitr; swap
  · iexact HO2
  · ipureintro
    sl_unfold_run_names
    exact (View.read_writes_eq_canon _ _ _ (cover _)).trans ((whole_block _ _).trans (pay1_reads _ _ _ _))

end Cert.Kernel5Ideal.Rest

end
-- ==== Proof.RestTables.lean ====
module

public import proofs.«01_k».proof.Proof.RestRun
public import Idealize.ShloMosaic.Lib.Claim
public import Idealize.ShloMosaic.Lib.StableHlo.RunClose
public import Idealize.ShloMosaic.Lib.Pipeline.Frame
public import Idealize.ShloMosaic.Lib.Pipeline.Kit

@[expose] public section

set_option maxRecDepth 16384

noncomputable section

/-! What the arrays hold when the projection's grid starts: the two tables are constant, the rows are
    those of prompts and samples, the weights those of the argument, reordered; and which block of each array a grid point takes. -/

namespace Cert.Kernel5Ideal.Rest

open Cert.Kernel5Ideal Cert.Kernel5Ideal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The arrays after the operations that precede the grid. -/
def ent (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  repeat' first | exact rfl | refine And.intro rfl ?_

/-- The rows that the projection takes: those of the prompts, then those of the samples. -/
def rows (c : Dev nD) : FVec F S18432x4096 .f32 :=
  concatenate S18432x4096 0 [⟨S16384x4096, shapeCast S16384x4096 (m ((c : Thread nD τ).loc main_arg0)) shapeCasts_S2x8192x4096_S16384x4096⟩,
    ⟨S2048x4096, shapeCast S2048x4096 (m ((c : Thread nD τ).loc main_arg1)) shapeCasts_S32x64x4096_S2048x4096⟩] concatenates_S16384x4096_S2048x4096_S18432x4096_d0

/-- The weights, transposed. -/
def wT (c : Dev nD) : FVec F S12316x4096 .f32 :=
  transpose S12316x4096 [1, 0] (m ((c : Thread nD τ).loc main_arg2)) transposes_S4096x12316_S12316x4096_1_0

/-- The transposed weights in the order in which the projections take them: first those of keys and values. -/
def wM (w : FVec F S12316x4096 .f32) : FVec F S12288x4096 .f32 :=
  concatenate S12288x4096 0 [⟨S1536x4096, extractStridedSlice S1536x4096 ![1536, 0] w slices_S12316x4096_S1536x4096_1536_0⟩,
    ⟨S1536x4096, extractStridedSlice S1536x4096 ![3072, 0] w slices_S12316x4096_S1536x4096_3072_0⟩,
    ⟨S1024x4096, extractStridedSlice S1024x4096 ![5644, 0] w slices_S12316x4096_S1024x4096_5644_0⟩,
    ⟨S1024x4096, extractStridedSlice S1024x4096 ![6668, 0] w slices_S12316x4096_S1024x4096_6668_0⟩,
    ⟨S768x4096, extractStridedSlice S768x4096 ![7692, 0] w slices_S12316x4096_S768x4096_7692_0⟩,
    ⟨S768x4096, extractStridedSlice S768x4096 ![8460, 0] w slices_S12316x4096_S768x4096_8460_0⟩,
    ⟨S1536x4096, extractStridedSlice S1536x4096 ![9228, 0] w slices_S12316x4096_S1536x4096_9228_0⟩,
    ⟨S1536x4096, extractStridedSlice S1536x4096 ![10764, 0] w slices_S12316x4096_S1536x4096_10764_0⟩,
    ⟨S1536x4096, extractStridedSlice S1536x4096 ![0, 0] w slices_S12316x4096_S1536x4096_0_0⟩,
    ⟨S1024x4096, extractStridedSlice S1024x4096 ![4620, 0] w slices_S12316x4096_S1024x4096_4620_0⟩]
    concatenates_S1536x4096_S1536x4096_S1024x4096_S1024x4096_S768x4096_S768x4096_S1536x4096_S1536x4096_S1536x4096_S1024x4096_S12288x4096_d0

theorem ent_arg0 (c : Dev nD) : ent m c main_arg0 = m ((c : Thread nD τ).loc main_arg0) := by
  unfold ent; after_results

theorem ent_arg1 (c : Dev nD) : ent m c main_arg1 = m ((c : Thread nD τ).loc main_arg1) := by
  unfold ent; after_results

theorem ent_arg2 (c : Dev nD) : ent m c main_arg2 = m ((c : Thread nD τ).loc main_arg2) := by
  unfold ent; after_results

theorem ent_te (c : Dev nD) : ent m c main_v25 = broadcastInDim S18 ![] bcast_S_S18 (constantI S_ 32 0#32) := by
  unfold ent; after_results

theorem ent_nu (c : Dev nD) : ent m c main_v26 = broadcastInDim S18 ![] bcast_S_S18 (constantI S_ 32 1024#32) := by
  unfold ent; after_results

theorem ent_x (c : Dev nD) : ent m c main_v3 = truncf .bf16 (rows m c) bitsLt_bf16_f32 := by
  unfold ent rows; after_results; rfl

theorem ent_w (c : Dev nD) : ent m c main_v27 = broadcastInDim S1x12288x4096 ![1, 2] bcast_S12288x4096_S1x12288x4096_1_2
    (truncf .bf16 (wM (wT m c)) bitsLt_bf16_f32) := by
  unfold ent wM wT
  after_results_entrywise (rounds := 1) []

/-- The tables as the grid finds them. -/
def tbl : pre0.Contents (Elt F) := fun j => ent m (0 : Dev nD) (pre0.ref j)

theorem tbl_eq (c : Dev nD) (j : Fin 2) : ent m c (pre0.ref j) = tbl m j := by
  obtain rfl : c = 0 := Subsingleton.elim _ _; rfl

theorem tbl0 (j : S18.Idx) : tbl m 0 j = (0#32 : BitVec 32) := congrFun (ent_te m 0) j
theorem tbl1 (j : S18.Idx) : tbl m 1 j = (1024#32 : BitVec 32) := congrFun (ent_nu m 0) j

theorem full (i : grid0.Coords) : Full (word (tbl m 1) i) := by
  have e : word (tbl m 1) i = (1024#32 : BitVec 32) := tbl1 m _
  have h : Full (F := F) (1024#32 : BitVec 32) := by
    refine ⟨?_, ?_, ?_⟩
    · show k0_cond1 (1024#32 : BitVec 32) = 1#1; decide
    · show ¬k0_cond2 (1024#32 : BitVec 32) = 1#1; decide
    · show ¬k0_cond3 (1024#32 : BitVec 32) = 1#1; decide
  exact (congrArg (Full (F := F)) e).mpr h

theorem col_word (i : grid0.Coords) : (BitVec.ofNat 32 (i 0).val).toNat = (i 0).val := by
  have h : (i 0).val < 7 := (i 0).isLt
  rw [BitVec.toNat_ofNat]; omega
theorem col_word5 (i : grid0.Coords) : (BitVec.ofNat 32 (i 0).val + 5#32).toNat = (i 0).val + 5 := by
  have h : (i 0).val < 7 := (i 0).isLt
  rw [BitVec.toNat_add, BitVec.toNat_ofNat]
  show ((i 0).val % 2 ^ 32 + 5) % 2 ^ 32 = _
  omega
theorem row_word (i : grid0.Coords) : (BitVec.ofNat 32 (i 1).val).toNat = (i 1).val := by
  have h : (i 1).val < 18 := (i 1).isLt
  rw [BitVec.toNat_ofNat]; omega

theorem index0 (i : grid0.Coords) : cc0_transform_0 i = ![(i 1).val, 0] := by
  show ![(BitVec.ofNat 32 (i 1).val).toNat, 0] = _
  rw [row_word]

theorem index2 (i : grid0.Coords) : cc0_transform_2 i = ![(i 1).val, (i 0).val] := by
  show ![(BitVec.ofNat 32 (i 1).val).toNat, (BitVec.ofNat 32 (i 0).val).toNat] = _
  rw [row_word, col_word]

theorem index1 (i : grid0.Coords) : cc0_transform_1 k0_off1_inb numel1_S1 (tbl m) i = ![0, (i 0).val + 5, 0] :=
  congrArg₂ (fun a b => (![a, b, 0] : Fin 3 → Nat)) (congrArg BitVec.toNat (tbl0 m _)) (col_word5 i)

theorem weights_inb (j : Nat) (hj : j < 12) (a : Fin 3) : ((![0, j, 0] : Fin 3 → Nat) a + 1) * S1x1024x4096.size a ≤ S1x12288x4096.size a := by
  fin_cases a
  · show (0 + 1) * 1 ≤ 1; omega
  · show (j + 1) * 1024 ≤ 12288; omega
  · show (0 + 1) * 4096 ≤ 4096; omega

/-- Every block of weights a grid point takes is there. -/
theorem fit : ok0 (F := F) (tbl m) := fun i =>
  ⟨fun a => by rw [index1]; exact weights_inb _ (by have h : (i 0).val < 7 := (i 0).isLt; omega) a, .inr (Affine.block_words_dvd (s := S1x12288x4096) (p := EltTy.packing .bf16) (by decide) (by decide))⟩

end Cert.Kernel5Ideal.Rest

end
-- ==== Proof.RestFrame.lean ====
module

public import proofs.«01_k».proof.Proof.RestTables
public import Idealize.ShloMosaic.Adequacy
public import Idealize.ShloMosaic.Init

@[expose] public section

set_option maxRecDepth 16384

noncomputable section

/-! The whole run of the projection onto queries and the recurrence's inputs: it ends, no argument changes, and the result array holds the
    blocks its points leave. -/

namespace Cert.Kernel5Ideal.Rest

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (pcfg0 (F := F)).Adm := ⟨tbl m, fit m⟩
abbrev cfgM : Pipeline.Cfg sig Λ₀ := cfg0 (adm m)
abbrev pcs : Fin 1 → Pipeline.Cfg sig Λ₀ := Pipeline.pin (pcfgs (F := F)) fun _ => adm m

abbrev crd (t : Fin (cfgM m).N) : grid0.Coords := grid0.coords t

abbrev st0 (t : Fin (cfgM m).N) : Memref sig .tc .vmem S1024x4096 .bf16 := spec0_0.stage ((cfgM m).slots t (0 : Fin 3))
abbrev hst0 (t : Fin (cfgM m).N) : (st0 m t).IsWhole := hstage0_0 (((cfgM m).slots t (0 : Fin 3)).cast nbuf0_0)
abbrev st1 (t : Fin (cfgM m).N) : Memref sig .tc .vmem S1x1024x4096 .bf16 := spec0_1.stage ((cfgM m).slots t (1 : Fin 3))
abbrev hst1 (t : Fin (cfgM m).N) : (st1 m t).IsWhole := hstage0_1 (((cfgM m).slots t (1 : Fin 3)).cast nbuf0_1)
abbrev st2 (t : Fin (cfgM m).N) : Memref sig .tc .vmem S1024x1024 .bf16 := spec0_2.stage ((cfgM m).slots t (2 : Fin 3))
abbrev hst2 (t : Fin (cfgM m).N) : (st2 m t).IsWhole := hstage0_2 (((cfgM m).slots t (2 : Fin 3)).cast nbuf0_2)

/-- A window's block at a point, of its array as the grid finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (ent m c (Pipeline.arrRef (cfgM m).spec w))

/-- What each point leaves in its output block. -/
def left2 (c : Dev nD) (t : Fin (cfgM m).N) : Vec F S1024x1024 .bf16 := k0_pay1 (iblk m c (0 : Fin 3) t) (iblk m c (1 : Fin 3) t)

/-- What the body may use between points: the tables, half of each, and what it need not describe. -/
def inv (c : Dev nD) : sProp 𝕄 := iprop(Pipeline.ΦA (cfgM m).spec c ∗ Pipeline.ΦT pre0 (tbl m) c)

def dats (_ : Fin 1) (c : Dev nD) : Dat τ (Elt F) Unit ℕ (UR sig nD τ) ℕ (cfgM m) c where
  A w := ent m c (Pipeline.arrRef (cfgM m).spec w)
  after w t := match w with
    | ⟨0, _⟩ => iblk m c (0 : Fin 3) t
    | ⟨1, _⟩ => iblk m c (1 : Fin 3) t
    | ⟨2, _⟩ => left2 m c t
  Φ _ := inv m c
  q _ := fullShare
  owed _ := 0

theorem after_0 (c : Dev nD) (t : Fin (cfgM m).N) : (dats m 0 c).after (0 : Fin 3) t = iblk m c (0 : Fin 3) t := rfl
theorem after_1 (c : Dev nD) (t : Fin (cfgM m).N) : (dats m 0 c).after (1 : Fin 3) t = iblk m c (1 : Fin 3) t := rfl
theorem after_2 (c : Dev nD) (t : Fin (cfgM m).N) : (dats m 0 c).after (2 : Fin 3) t = left2 m c t := rfl

theorem before_0 (c : Dev nD) (t : Fin (cfgM m).N) (d) : (dats m 0 c).before (0 : Fin 3) t d = iblk m c (0 : Fin 3) t :=
  ((dats m 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgM m).N) (d) : (dats m 0 c).before (1 : Fin 3) t d = iblk m c (1 : Fin 3) t :=
  ((dats m 0 c).before_in_eq_fetched (1 : Fin 3) rfl (fun _ => rfl) (fun _ _ _ => rfl) (fun t => by rw [after_1]; unfold Dat.blockOf iblk; rfl) t d).trans
    (by unfold Dat.fetched Dat.blockOf iblk; rfl)

/-! ## The schedule of the output -/

theorem flush_2 (t : Fin (cfgM m).N) : ((cfgM m).win (2 : Fin 3)).flush t = true :=
  (fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) : ∀ t : Fin grid0.N, Pipeline.Window.flushOf grid0 true cc0_transform_2 t = true) t

/-- The word the schedule reads is the one the body loads. -/
theorem atD_word (T : pre0.Contents (Elt F)) (i : grid0.Coords) : T.atD 1 (k0_off1 i) = word (T 1) i := by
  have h : ∀ a : Fin 1, k0_off1 i a + 1 ≤ (pre0.ref 1).ty.shape.size a := fun a => by
    have h := k0_off1_inb i a
    revert h
    obtain rfl : a = 0 := Subsingleton.elim _ _
    exact id
  refine (dif_pos h).trans ?_
  exact congrArg (T 1) (funext fun a => Fin.ext rfl)

theorem live_2 (t : Fin (cfgM m).N) : (cfgM m).idle (2 : Fin 3) ((cfgM m).grid.coords t) = false := by
  have e : (cfgM m).idle (2 : Fin 3) ((cfgM m).grid.coords t)
      = (!(k0_cond1 ((tbl m).atD 1 (k0_off1 (crd m t))) == 1#1) && !(k0_cond2 ((tbl m).atD 1 (k0_off1 (crd m t))) == 1#1) && !(k0_cond3 ((tbl m).atD 1 (k0_off1 (crd m t))) == 1#1)) := rfl
  rw [e, atD_word, (full m (crd m t)).1]
  simp

/-! ## The body's obligation -/

abbrev body (t : Fin (cfgM m).N) : Prog (TpuEff nD τ sig (Elt F) Λ₀ .tc) PUnit :=
  cc0_proj_rest (crd m t) teM (Memref.isWhole_whole _) nuM (Memref.isWhole_whole _) (st0 m t) (hst0 m t) (st1 m t) (hst1 m t) (st2 m t) (hst2 m t)

theorem inv_eq (c : Dev nD) : (inv m c : sProp 𝕄)
    = iprop(Pipeline.ΦA (cfgM m).spec c ∗ (teM.view.loc (c : Thread nD τ) ↦{fullShare.right} tbl m 0) ∗ (nuM.view.loc (c : Thread nD τ) ↦{fullShare.right} tbl m 1)) := by
  unfold inv Pipeline.ΦT Pipeline.prefHeld
  rw [show (Finset.univ : Finset (Fin 2)) = insert (0 : Fin 2) {(1 : Fin 2)} from by decide,
    bigSep_insert (by decide), bigSep_singleton]
  rfl

set_option maxHeartbeats 4800000 in
theorem sound_body (c : Dev nD) (t : Fin (cfgM m).N) :
    iprop((dats m 0 c).Φ t.castSucc ∗ (dats m 0 c).owesAt () t.castSucc
        ∗ (∃ d, owns (c : Thread nD τ) (st0 m t) fullShare ((dats m 0 c).before (0 : Fin 3) t d))
        ∗ (∃ d, owns (c : Thread nD τ) (st1 m t) fullShare ((dats m 0 c).before (1 : Fin 3) t d))
        ∗ (∃ d, owns (c : Thread nD τ) (st2 m t) fullShare ((dats m 0 c).before (2 : Fin 3) t d)))
      ⊢ wp frame (wpE (defs₀ (F := F)) Variants.none c none) Set.univ (body m t) fun _ =>
          iprop((dats m 0 c).Φ t.succ ∗ (dats m 0 c).owesAt () t.succ
            ∗ bigSep Finset.univ fun w : Fin (cfgM m).W =>
                match (cfgM m).idle w ((cfgM m).grid.coords t) with
                | true =>
                  match ((cfgM m).win w).flush t with
                  | false => iprop(∃ d, owns (c : Thread nD τ) (((cfgM m).win w).stage ((cfgM m).slots t w)) fullShare ((dats m 0 c).before w t d))
                  | true => owns (c : Thread nD τ) (((cfgM m).win w).stage ((cfgM m).slots t w)) fullShare ((dats m 0 c).after w t)
                | false => owns (c : Thread nD τ) (((cfgM m).win w).stage ((cfgM m).slots t w)) fullShare ((dats m 0 c).after w t)) := by
  rw [bigSep_W0, live_2]
  simp only [before_0, before_1, after_0, after_1, after_2]
  rewrite [show (dats m 0 c).Φ t.succ = inv m c from rfl, show (dats m 0 c).Φ t.castSucc = inv m c from rfl,
    show (dats m 0 c).owesAt () t.succ = (dats m 0 c).owesAt () t.castSucc from rfl]
  rw [inv_eq]
  iintro ⟨⟨HA, HT0, HT1⟩, Ho, ⟨%d0, H0⟩, ⟨%d1, H1⟩, ⟨%d2, H2⟩⟩
  iapply (run c (crd m t) (st0 m t) (hst0 m t) (st1 m t) (hst1 m t) (st2 m t) (hst2 m t) (tbl m 0) (tbl m 1) (iblk m c (0 : Fin 3) t) (iblk m c (1 : Fin 3) t) (full m _) _)
  unfold held
  isplitl [H0 H1 HT0 HT1]
  · isplitl [H0]; · iapply rep_of_owns; iexact H0
    isplitl [H1]; · iapply rep_of_owns; iexact H1
    isplitl [HT0]; · iexact HT0
    iexact HT1
  isplitl [H2]; · iexists _; iexact H2
  iintro ⟨⟨H0, H1, HT0, HT1⟩, H2⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  iexact H2

theorem body_obligation (c : Dev nD) : BodyObligation (dats m 0 c) (defs₀ (F := F)) Variants.none () Set.univ := fun t => by
  rw [bigSep_W0]
  exact sound_body m c t

/-! ## The launch -/

theorem share_eq (c : Dev nD) (w : Fin (cfgM m).W) : (dats m 0 c).share w = fullShare := by unfold Dat.share; split <;> rfl

theorem hmain : Pipeline.HMainP (Ix := Unit) (Name := ℕ) (U := UR sig nD τ) (Lvl := ℕ) (pcfgs (F := F)) 0 defs₀ Variants.none m main (ent m) :=
  Pipeline.hmainP_prefix pcfgs 0 defs₀ Variants.none m main hostOps0 hostOps0_sub fresh0 main_chain

/-- What the run ends in: every array at what its points leave, every other one as the grid found it. -/
abbrev Ends (r : PUnit × MemSt nD τ sig (Elt F)) : Prop := Pipeline.FramePost (pcs m) (dats m) 0 (ent m) r

set_option backward.isDefEq.respectTransparency.types false in
set_option maxHeartbeats 4000000 in
theorem runs : θ_run (defs (F := F)) (onTc (τ := τ) (main (F := F))) ⟨m, fun _ => 0, ρ⟩ (fun r => Ends m r ∧ r.2.sem = fun _ => 0) :=
  Pipeline.θ_run_frameP pcfgs (fun _ => adm m) (dats m) 0 launch0 defs₀ Variants.none m ρ main
    (fun c => (body_obligation m c).loose) (share_eq m) (fun _ _ => rfl) (ent m) (hmain m) (fun _ _ => rfl) (tbl_eq m) (fun _ _ => rfl)
    _ (fun _ h => h)

/-- The arguments end as they began. -/
theorem kept (r : PUnit × MemSt nD τ sig (Elt F)) (h : Ends m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of (win := spec0) main_arg0 rfl (by decide))).trans (ent_arg0 m c),
    ((h c).2 main_arg1 (Pipeline.mem_restRefs_of (win := spec0) main_arg1 rfl (by decide))).trans (ent_arg1 m c),
    ((h c).2 main_arg2 (Pipeline.mem_restRefs_of (win := spec0) main_arg2 rfl (by decide))).trans (ent_arg2 m c)⟩

/-- The run ends, with the arguments unchanged and every count back at zero. -/
theorem quiet : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨kept m _ h.1, h.2⟩) (runs m ρ)

end Cert.Kernel5Ideal.Rest

end
-- ==== Proof.RestValue.lean ====
module

public import proofs.«01_k».proof.Proof.RestFrame
public import proofs.«01_k».proof.Proof.Gen.Reference5Ideal.Read

@[expose] public section

set_option maxRecDepth 16384

noncomputable section

/-! The result array of the projection onto queries and the recurrence's inputs, in exact arithmetic: it is the
    reference's. -/

namespace Cert.Kernel5Ideal.Rest

open Cert.Kernel5Ideal Cert.Kernel5Ideal.Gen
open Idealize.ShloMosaic Idealize.ShloMosaic.TcCoe
open Idealize.ShloMosaic.ValueIdx (contrEquiv1 contrEquiv1_symm_val)

/-! ## A block of products at an index -/

theorem lhs0 (j : S1024x1024.Idx) (q : dot_S1024x4096_S1024x4096_S1024x1024_1_1_0_0_n_n.contr.Idx) : (dot_S1024x4096_S1024x4096_S1024x1024_1_1_0_0_n_n.lhsIdx j q 0).val = (j 0).val := by
  unfold DotDims.lhsIdx
  rw [dif_neg (show ¬(0 : Fin S1024x4096.rank) ∈ dot_S1024x4096_S1024x4096_S1024x1024_1_1_0_0_n_n.lhsBatch by decide), dif_pos (show (0 : Fin S1024x4096.rank) ∈ dot_S1024x4096_S1024x4096_S1024x1024_1_1_0_0_n_n.lhsNonContracting by decide)]
  rfl

theorem rhs0 (j : S1024x1024.Idx) (q : dot_S1024x4096_S1024x4096_S1024x1024_1_1_0_0_n_n.contr.Idx) : (dot_S1024x4096_S1024x4096_S1024x1024_1_1_0_0_n_n.rhsIdx j q 0).val = (j 1).val := by
  unfold DotDims.rhsIdx
  rw [dif_neg (show ¬(0 : Fin S1024x4096.rank) ∈ dot_S1024x4096_S1024x4096_S1024x1024_1_1_0_0_n_n.rhsBatch by decide), dif_pos (show (0 : Fin S1024x4096.rank) ∈ dot_S1024x4096_S1024x4096_S1024x1024_1_1_0_0_n_n.rhsNonContracting by decide)]
  rfl

theorem flat (W : Vec Ideal S1x1024x4096 .bf16) (j : Fin 1024) (k : Fin 4096) :
    shapeCast S1024x4096 W shapeCasts_S1x1024x4096_S1024x4096 (ValueIdx.ix2 j k) = W (ValueIdx.ix3 (0 : Fin 1) j k) :=
  shapeCast_apply W shapeCasts_S1x1024x4096_S1024x4096 (ValueIdx.ix2 j k) (ValueIdx.ix3 (0 : Fin 1) j k) (by
    rewrite [Shape.rowMajor_val_three, Shape.rowMajor_val_two]
    show (0 * 1024 + j.val) * 4096 + k.val = j.val * 4096 + k.val
    omega)

theorem pay1_at (x : Vec Ideal S1024x4096 .bf16) (W : Vec Ideal S1x1024x4096 .bf16) (r j : Fin 1024) :
    k0_pay1 (F := Ideal) x W (ValueIdx.ix2 r j) = ∑ k : Fin 4096, (x (ValueIdx.ix2 r k) : EReal) * (W (ValueIdx.ix3 (0 : Fin 1) j k) : EReal) := by
  unfold k0_pay1 matmul
  change (FloatOps.matmul (F := Ideal) dot_S1024x4096_S1024x4096_S1024x1024_1_1_0_0_n_n none (shapeCast S1024x4096 x _)
    (shapeCast S1024x4096 W shapeCasts_S1x1024x4096_S1024x4096) (constant S1024x1024 .f32 0#32) (ValueIdx.ix2 r j) : EReal) = _
  rw [shapeCast_self, Ideal.matmul_constant_zero_apply, ← Equiv.sum_comp (contrEquiv1 dot_S1024x4096_S1024x4096_S1024x1024_1_1_0_0_n_n 4096 rfl rfl).symm]
  refine Finset.sum_congr rfl fun k _ => ?_
  have hk := contrEquiv1_symm_val dot_S1024x4096_S1024x4096_S1024x1024_1_1_0_0_n_n 4096 rfl rfl k
  rw [← flat W j k]
  congr 2
  · funext a
    match a with
    | ⟨0, _⟩ => exact Fin.ext (lhs0 _ _)
    | ⟨1, _⟩ => exact Fin.ext ((DotDims.lhsIdx_val_of_single _ rfl _ _).trans hk)
  · funext a
    match a with
    | ⟨0, _⟩ => exact Fin.ext (rhs0 _ _)
    | ⟨1, _⟩ => exact Fin.ext ((DotDims.rhsIdx_val_of_single _ rfl _ _).trans hk)

/-! ## Arrays of two axes put together -/

theorem piece_row {α : Type} {N M n : Nat} (xs : List ((s : Shape) × (s.Idx → α))) (h : Shape.Concatenates (xs.map (·.1)) (⟨2, ![N, M]⟩ : Shape) 0) (J : Fin N) (k : Fin M)
    (i : Nat) (hi : i < xs.length) (x : Shape.Idx ⟨2, ![n, M]⟩ → α) (hx : xs[i] = ⟨⟨2, ![n, M]⟩, x⟩) (pre : Nat)
    (hpre : (((xs.take i).map (·.1)).map fun s => if h : s.rank = 2 then s.size ((0 : Fin 2).cast h.symm) else 0).sum = pre)
    (j : Fin n) (hj : pre + j.val = J.val) : concatenate (⟨2, ![N, M]⟩ : Shape) 0 xs h (ValueIdx.ix2 J k) = x (ValueIdx.ix2 j k) :=
  concatenate_apply_piece (t := ⟨2, ![N, M]⟩) 0 xs h (ValueIdx.ix2 J k) i hi ⟨2, ![n, M]⟩ x hx rfl pre hpre (ValueIdx.ix2 j k)
    (fun b hb => by
      match b, hb with
      | ⟨0, _⟩, hb => exact absurd rfl hb
      | ⟨1, _⟩, _ => rfl) hj

theorem piece_column {α : Type} {N M n : Nat} (xs : List ((s : Shape) × (s.Idx → α))) (h : Shape.Concatenates (xs.map (·.1)) (⟨2, ![M, N]⟩ : Shape) 1) (k : Fin M) (J : Fin N)
    (i : Nat) (hi : i < xs.length) (x : Shape.Idx ⟨2, ![M, n]⟩ → α) (hx : xs[i] = ⟨⟨2, ![M, n]⟩, x⟩) (pre : Nat)
    (hpre : (((xs.take i).map (·.1)).map fun s => if h : s.rank = 2 then s.size ((1 : Fin 2).cast h.symm) else 0).sum = pre)
    (j : Fin n) (hj : pre + j.val = J.val) : concatenate (⟨2, ![M, N]⟩ : Shape) 1 xs h (ValueIdx.ix2 k J) = x (ValueIdx.ix2 k j) :=
  concatenate_apply_piece (t := ⟨2, ![M, N]⟩) 1 xs h (ValueIdx.ix2 k J) i hi ⟨2, ![M, n]⟩ x hx rfl pre hpre (ValueIdx.ix2 k j)
    (fun b hb => by
      match b, hb with
      | ⟨0, _⟩, _ => rfl
      | ⟨1, _⟩, hb => exact absurd rfl hb) hj

/-! ## The blocks in the arrays -/

variable (m : (ℓ : Loc nD τ sig) → Buf (Elt Ideal) ℓ) (c : Dev nD)

/-- The arguments, as the run finds them: the prompts, the samples, the weights. -/
abbrev pA : FVec Ideal S2x8192x4096 .f32 := m ((c : Thread nD τ).loc main_arg0)
abbrev sA : FVec Ideal S32x64x4096 .f32 := m ((c : Thread nD τ).loc main_arg1)
abbrev wA : FVec Ideal S4096x12316 .f32 := m ((c : Thread nD τ).loc main_arg2)

/-- The column of the weights that a column of the result takes: the recurrence's queries, keys, values and gates lie
    behind all keys and values, the forgetting attention's queries in front, the band's behind the forget gates. -/
def col (J : Fin 7168) : Fin 12316 := ⟨if J.val < 4608 then J.val + 7692 else if J.val < 6144 then J.val - 4608 else J.val - 1524, by (repeat' split) <;> omega⟩

/-- A row of a slice of the transposed weights is a column of the weights. -/
theorem slice_at {n : Nat} (o : Nat) (h : S12316x4096.Slices ![o, 0] ⟨2, ![n, 4096]⟩) (j : Fin n) (k : Fin 4096) (C : Fin 12316) (hC : C.val = o + j.val) :
    extractStridedSlice ⟨2, ![n, 4096]⟩ ![o, 0] (wT m c) h (ValueIdx.ix2 j k) = wA m c (ValueIdx.ix2 k C) := by
  refine (extractStridedSlice_apply ![o, 0] (wT m c) h (ValueIdx.ix2 j k) (ValueIdx.ix2 C k : S12316x4096.Idx) (fun a => ?_)).trans ?_
  · match a with
    | ⟨0, _⟩ => exact hC
    | ⟨1, _⟩ => show k.val = 0 + k.val; omega
  · unfold wT
    exact congrArg (wA m c) (funext fun a => Fin.ext (by
      match a with
      | ⟨0, _⟩ => rfl
      | ⟨1, _⟩ => rfl))

set_option maxHeartbeats 2000000 in
/-- The rows of the reordered weights behind the first 5120. -/
theorem wM_at (J : Fin 7168) (k : Fin 4096) : wM (wT m c) (ValueIdx.ix2 (⟨5120 + J.val, by omega⟩ : Fin 12288) k) = wA m c (ValueIdx.ix2 k (col J)) := by
  unfold wM
  by_cases h0 : J.val < 768
  · refine (piece_row _ _ _ _ 4 (by simp) _ (by rfl) 5120 (by rfl) (⟨J.val, by omega⟩ : Fin 768) (by show 5120 + (J.val) = 5120 + J.val; omega)).trans ?_
    exact slice_at m c _ _ _ k _ (by show (if J.val < 4608 then J.val + 7692 else if J.val < 6144 then J.val - 4608 else J.val - 1524) = 7692 + (J.val); (repeat' split) <;> omega)
  by_cases h1 : J.val < 1536
  · refine (piece_row _ _ _ _ 5 (by simp) _ (by rfl) 5888 (by rfl) (⟨J.val - 768, by omega⟩ : Fin 768) (by show 5888 + (J.val - 768) = 5120 + J.val; omega)).trans ?_
    exact slice_at m c _ _ _ k _ (by show (if J.val < 4608 then J.val + 7692 else if J.val < 6144 then J.val - 4608 else J.val - 1524) = 8460 + (J.val - 768); (repeat' split) <;> omega)
  by_cases h2 : J.val < 3072
  · refine (piece_row _ _ _ _ 6 (by simp) _ (by rfl) 6656 (by rfl) (⟨J.val - 1536, by omega⟩ : Fin 1536) (by show 6656 + (J.val - 1536) = 5120 + J.val; omega)).trans ?_
    exact slice_at m c _ _ _ k _ (by show (if J.val < 4608 then J.val + 7692 else if J.val < 6144 then J.val - 4608 else J.val - 1524) = 9228 + (J.val - 1536); (repeat' split) <;> omega)
  by_cases h3 : J.val < 4608
  · refine (piece_row _ _ _ _ 7 (by simp) _ (by rfl) 8192 (by rfl) (⟨J.val - 3072, by omega⟩ : Fin 1536) (by show 8192 + (J.val - 3072) = 5120 + J.val; omega)).trans ?_
    exact slice_at m c _ _ _ k _ (by show (if J.val < 4608 then J.val + 7692 else if J.val < 6144 then J.val - 4608 else J.val - 1524) = 10764 + (J.val - 3072); (repeat' split) <;> omega)
  by_cases h4 : J.val < 6144
  · refine (piece_row _ _ _ _ 8 (by simp) _ (by rfl) 9728 (by rfl) (⟨J.val - 4608, by omega⟩ : Fin 1536) (by show 9728 + (J.val - 4608) = 5120 + J.val; omega)).trans ?_
    exact slice_at m c _ _ _ k _ (by show (if J.val < 4608 then J.val + 7692 else if J.val < 6144 then J.val - 4608 else J.val - 1524) = 0 + (J.val - 4608); (repeat' split) <;> omega)
  · refine (piece_row _ _ _ _ 9 (by simp) _ (by rfl) 11264 (by simp) (⟨J.val - 6144, by omega⟩ : Fin 1024) (by show 11264 + (J.val - 6144) = 5120 + J.val; omega)).trans ?_
    exact slice_at m c _ _ _ k _ (by show (if J.val < 4608 then J.val + 7692 else if J.val < 6144 then J.val - 4608 else J.val - 1524) = 4620 + (J.val - 6144); (repeat' split) <;> omega)

theorem crd0 (t : Fin (cfgM m).N) : (crd m t 0).val = t.val / 18 :=
  (by decide +kernel : ∀ t : Fin grid0.N, (grid0.coords t 0).val = t.val / 18) t
theorem crd1 (t : Fin (cfgM m).N) : (crd m t 1).val = t.val % 18 :=
  (by decide +kernel : ∀ t : Fin grid0.N, (grid0.coords t 1).val = t.val % 18) t

theorem at0 (t : Fin (cfgM m).N) (q : Fin 1024) (k : Fin 4096) (R : Fin 18432) (hR : R.val = 1024 * (crd m t 1).val + q.val) :
    iblk m c (0 : Fin 3) t (ValueIdx.ix2 q k) = rows m c (ValueIdx.ix2 R k) := by
  unfold iblk
  rw [View.read_apply]
  refine Eq.trans (congrArg (ent m c main_v3) (funext fun a => Fin.ext ?_)) (congrFun (ent_x m c) (ValueIdx.ix2 R k : S18432x4096.Idx))
  match a with
  | ⟨0, _⟩ => show cc0_transform_0 (crd m t) 0 * 1024 + 1 * q.val = R.val; rw [index0, hR]; show (crd m t 1).val * 1024 + 1 * q.val = _; omega
  | ⟨1, _⟩ => show cc0_transform_0 (crd m t) 1 * 4096 + 1 * k.val = k.val; rw [index0]; show 0 * 4096 + 1 * k.val = k.val; omega

/-- The weights the grid reads are the reordered ones. -/
theorem rows_at (J : Fin 7168) (k : Fin 4096) :
    broadcastInDim S1x12288x4096 ![1, 2] bcast_S12288x4096_S1x12288x4096_1_2
        (truncf .bf16 (wM (wT m c)) bitsLt_bf16_f32) (ValueIdx.ix3 (0 : Fin 1) (⟨5120 + J.val, by omega⟩ : Fin 12288) k)
      = wA m c (ValueIdx.ix2 k (col J)) :=
  (show _ = truncf .bf16 (wM (wT m c)) bitsLt_bf16_f32 (ValueIdx.ix2 (⟨5120 + J.val, by omega⟩ : Fin 12288) k : S12288x4096.Idx) from
    congrArg (truncf .bf16 (wM (wT m c)) bitsLt_bf16_f32) (funext fun a => Fin.ext (by
      match a with
      | ⟨0, _⟩ => rfl
      | ⟨1, _⟩ => rfl))).trans (wM_at m c J k)

theorem at1 (t : Fin (cfgM m).N) (j : Fin 1024) (k : Fin 4096) (J : Fin 7168) (hJ : J.val = 1024 * (crd m t 0).val + j.val) :
    iblk m c (1 : Fin 3) t (ValueIdx.ix3 (0 : Fin 1) j k) = wA m c (ValueIdx.ix2 k (col J)) := by
  unfold iblk
  rw [View.read_apply]
  refine Eq.trans (congrArg (ent m c main_v27) (funext fun a => Fin.ext ?_))
    ((congrFun (ent_w m c) (ValueIdx.ix3 (0 : Fin 1) (⟨5120 + J.val, by omega⟩ : Fin 12288) k : S1x12288x4096.Idx)).trans (rows_at m c J k))
  match a with
  | ⟨0, _⟩ => show cc0_transform_1 k0_off1_inb numel1_S1 (tbl m) (crd m t) 0 * 1 + 1 * 0 = 0; rw [index1]; rfl
  | ⟨1, _⟩ => show cc0_transform_1 k0_off1_inb numel1_S1 (tbl m) (crd m t) 1 * 1024 + 1 * j.val = 5120 + J.val; rw [index1, hJ]; show ((crd m t 0).val + 5) * 1024 + 1 * j.val = _; omega
  | ⟨2, _⟩ => show cc0_transform_1 k0_off1_inb numel1_S1 (tbl m) (crd m t) 2 * 4096 + 1 * k.val = k.val; rw [index1]; show 0 * 4096 + 1 * k.val = k.val; omega

/-! ## The results -/

/-- The result as the reference has it. -/
def ref2 : FVec Ideal S18432x7168 .bf16 := Cert.Reference5Ideal.Read.val_main_v14 (F := Ideal) (pA m c) (sA m c) (wA m c)

/-- The whole product at an index. -/
theorem product_at (i : Cert.Reference5Ideal.S18432x12316.Idx) (R : Fin 18432) (C : Fin 12316) (hR : (i 0).val = R.val) (hC : (i 1).val = C.val) :
    Cert.Reference5Ideal.Read.val_main_v3 (F := Ideal) (pA m c) (sA m c) (wA m c) i
      = ∑ k : Fin 4096, (rows m c (ValueIdx.ix2 R k) : EReal) * (wA m c (ValueIdx.ix2 k C) : EReal) := by
  refine (Cert.Reference5Ideal.Read.val_main_v3_apply _ _ _ i).trans (Finset.sum_congr rfl fun k _ => ?_)
  refine congrArg₂ (fun a b : EReal => a * b) (congrArg (rows m c) (funext fun a => Fin.ext ?_)) (congrArg (wA m c) (funext fun a => Fin.ext ?_))
  · match a with
    | ⟨0, _⟩ => exact hR
    | ⟨1, _⟩ => rfl
  · match a with
    | ⟨0, _⟩ => rfl
    | ⟨1, _⟩ => exact hC

theorem ref_at (R : Fin 18432) (J : Fin 7168) :
    ref2 m c (ValueIdx.ix2 R J) = ∑ k : Fin 4096, (rows m c (ValueIdx.ix2 R k) : EReal) * (wA m c (ValueIdx.ix2 k (col J)) : EReal) := by
  show Cert.Reference5Ideal.Read.val_main_v13 (F := Ideal) (pA m c) (sA m c) (wA m c) (ValueIdx.ix2 R J) = _
  unfold Cert.Reference5Ideal.Read.val_main_v13
  by_cases h0 : J.val < 4608
  · refine (piece_column _ _ _ _ 0 (by simp) _ (by rfl) 0 (by rfl) (⟨J.val, by omega⟩ : Fin 4608) (by show 0 + (J.val) = J.val; omega)).trans ?_
    exact (Cert.Reference5Ideal.Read.val_main_v11_apply _ _ _ _).trans (product_at m c _ R (col J) rfl (by show 7692 + (J.val) = (if J.val < 4608 then J.val + 7692 else if J.val < 6144 then J.val - 4608 else J.val - 1524); (repeat' split) <;> omega))
  by_cases h1 : J.val < 6144
  · refine (piece_column _ _ _ _ 1 (by simp) _ (by rfl) 4608 (by rfl) (⟨J.val - 4608, by omega⟩ : Fin 1536) (by show 4608 + (J.val - 4608) = J.val; omega)).trans ?_
    exact (Cert.Reference5Ideal.Read.val_main_v4_apply _ _ _ _).trans (product_at m c _ R (col J) rfl (by show (J.val - 4608) = (if J.val < 4608 then J.val + 7692 else if J.val < 6144 then J.val - 4608 else J.val - 1524); (repeat' split) <;> omega))
  · refine (piece_column _ _ _ _ 2 (by simp) _ (by rfl) 6144 (by rfl) (⟨J.val - 6144, by omega⟩ : Fin 1024) (by show 6144 + (J.val - 6144) = J.val; omega)).trans ?_
    exact (Cert.Reference5Ideal.Read.val_main_v8_apply _ _ _ _).trans (product_at m c _ R (col J) rfl (by show 4620 + (J.val - 6144) = (if J.val < 4608 then J.val + 7692 else if J.val < 6144 then J.val - 4608 else J.val - 1524); (repeat' split) <;> omega))

theorem left2_at (t : Fin (cfgM m).N) (q j : Fin 1024) (R : Fin 18432) (hR : R.val = 1024 * (t.val % 18) + q.val)
    (J : Fin 7168) (hJ : J.val = 1024 * (t.val / 18) + j.val) : left2 m c t (ValueIdx.ix2 q j) = ref2 m c (ValueIdx.ix2 R J) := by
  have c0 := crd0 m t
  have c1 := crd1 m t
  rw [ref_at]
  unfold left2
  refine (pay1_at _ _ q j).trans (Finset.sum_congr rfl fun k _ => ?_)
  exact congrArg₂ (fun a b : EReal => a * b) (at0 m c t q k R (by omega)) (at1 m c t j k J (by omega))

theorem emb2 (t : Fin (cfgM m).N) (q j : Fin 1024) (R : Fin 18432) (hR : R.val = 1024 * (t.val % 18) + q.val) (J : Fin 7168) (hJ : J.val = 1024 * (t.val / 18) + j.val) :
    (((cfgM m).win (2 : Fin 3)).blk t).view.emb (ValueIdx.ix2 q j) = (ValueIdx.ix2 R J : S18432x7168.Idx) := funext fun a => Fin.ext (by
  have c0 := crd0 m t
  have c1 := crd1 m t
  match a with
  | ⟨0, _⟩ => show cc0_transform_2 (crd m t) 0 * 1024 + 1 * q.val = R.val; rw [index2, hR]; show (crd m t 1).val * 1024 + 1 * q.val = _; omega
  | ⟨1, _⟩ => show cc0_transform_2 (crd m t) 1 * 1024 + 1 * j.val = J.val; rw [index2, hJ]; show (crd m t 0).val * 1024 + 1 * j.val = _; omega)

/-- An index of a block by its two coordinates, and an index of a result likewise. -/
theorem pair_block (y : S1024x1024.Idx) : y = (ValueIdx.ix2 (⟨(y 0).val, (y 0).isLt⟩ : Fin 1024) (⟨(y 1).val, (y 1).isLt⟩ : Fin 1024) : S1024x1024.Idx) :=
  funext fun a => (by
    match a with
    | ⟨0, _⟩ => rfl
    | ⟨1, _⟩ => rfl)
theorem pair_array (i : S18432x7168.Idx) : i = (ValueIdx.ix2 (⟨(i 0).val, (i 0).isLt⟩ : Fin 18432) (⟨(i 1).val, (i 1).isLt⟩ : Fin 7168) : S18432x7168.Idx) :=
  funext fun a => (by
    match a with
    | ⟨0, _⟩ => rfl
    | ⟨1, _⟩ => rfl)

/-- The point whose block holds an index of a result, and where in that block. -/
theorem point_of (i : S18432x7168.Idx) : ∃ (t : Fin grid0.N) (q j : Fin 1024), (i 0).val = 1024 * (t.val % 18) + q.val ∧ (i 1).val = 1024 * (t.val / 18) + j.val := by
  have h0 : (i 0).val < 18432 := (i 0).isLt
  have h1 : (i 1).val < 7168 := (i 1).isLt
  refine ⟨⟨18 * ((i 1).val / 1024) + (i 0).val / 1024, by rw [N_0]; omega⟩, ⟨(i 0).val % 1024, by omega⟩, ⟨(i 1).val % 1024, by omega⟩, ?_, ?_⟩
  · show (i 0).val = 1024 * ((18 * ((i 1).val / 1024) + (i 0).val / 1024) % 18) + (i 0).val % 1024; omega
  · show (i 1).val = 1024 * ((18 * ((i 1).val / 1024) + (i 0).val / 1024) / 18) + (i 1).val % 1024; omega

theorem array2 : (dats m 0 c).arrAt (2 : Fin 3) (cfgM m).N = ref2 m c := by
  refine (dats m 0 c).arrAt_eq_of_cover (2 : Fin 3) (ref2 m c) (fun t _ => funext fun y => ?_) (fun i => ?_)
  · rw [View.read_apply]
    have hy0 : (y 0).val < 1024 := (y 0).isLt
    have hy1 : (y 1).val < 1024 := (y 1).isLt
    have hN : t.val < 126 := t.isLt
    have hl := left2_at m c t ⟨(y 0).val, hy0⟩ ⟨(y 1).val, hy1⟩ ⟨1024 * (t.val % 18) + (y 0).val, by omega⟩ rfl ⟨1024 * (t.val / 18) + (y 1).val, by omega⟩ rfl
    rw [← emb2 m t ⟨(y 0).val, hy0⟩ ⟨(y 1).val, hy1⟩ ⟨1024 * (t.val % 18) + (y 0).val, by omega⟩ rfl ⟨1024 * (t.val / 18) + (y 1).val, by omega⟩ rfl, ← pair_block y] at hl
    exact hl
  · obtain ⟨t, q, j, h0, h1⟩ := point_of i
    refine ⟨t, flush_2 m _, ?_⟩
    have he := emb2 m t q j ⟨(i 0).val, (i 0).isLt⟩ h0 ⟨(i 1).val, (i 1).isLt⟩ h1
    exact Eq.subst (motive := fun x => x ∈ (((cfgM m).win (2 : Fin 3)).blk t).view.set) (he.trans (pair_array i).symm) (View.emb_mem_set _ _)

end Cert.Kernel5Ideal.Rest
-- ==== Proof.LogitsValue.lean ====
module

public import proofs.«01_k».proof.Proof.Gen.Kernel6Ideal.Frame
public import proofs.«01_k».proof.Proof.Gen.Reference6Ideal.Read
public import proofs.«01_k».proof.Proof.RestValue
public import Idealize.ShloMosaic.Lib.Routing.OpsSet
public import Idealize.ShloMosaic.Lib.IdealHost
public import Idealize.ShloMosaic.Lib.Pipeline.ValueKit.Basic
public import Idealize.ShloMosaic.PureOps.Ideal.Laws

@[expose] public section

set_option maxRecDepth 16384

noncomputable section

/-! The forget logits, in exact arithmetic: the kernel's result arrays are the reference's. -/

namespace Cert.Kernel6Ideal.Logits

open Cert.Kernel6Ideal Cert.Kernel6Ideal.Gen
open Idealize.ShloMosaic Idealize.ShloMosaic.TcCoe
open Idealize.ShloMosaic.ValueIdx (contrEquiv1 contrEquiv1_symm_val)

/-! ## The logarithm of the logistic function -/

/-- The logarithm of the logistic function, as the kernel writes it. -/
def logsig (s : EReal) : EReal := min s 0 - Ideal.log (1 + Ideal.exp (0 - max s (-s)))

theorem log_one : Ideal.log (1 + Ideal.exp (-(⊤ : EReal))) = ((0 : ℝ) : EReal) := by
  rw [EReal.neg_top]
  show Ideal.log (((1 : ℝ) : EReal) + 0) = _
  rw [add_zero]
  show (if (1 : ℝ) ≤ 0 then (⊥ : EReal) else ((Real.log 1 : ℝ) : EReal)) = _
  rw [if_neg (by norm_num), Real.log_one]

theorem logsig_eq (s : EReal) :
    -(max (-s) 0 + Ideal.log (1 + Ideal.exp (-(max (-s - 0) (-(-s - 0)))))) = logsig s := by
  unfold logsig
  have e : max (-s - 0) (-(-s - 0)) = max s (-s) := by rw [sub_zero, neg_neg, max_comm]
  rw [e, zero_sub]
  have hL : ∃ r : ℝ, Ideal.log (1 + Ideal.exp (-(max s (-s)))) = (r : EReal) := by
    induction s using EReal.rec with
    | bot => exact ⟨0, by rw [max_eq_right bot_le, EReal.neg_bot]; exact log_one⟩
    | top => exact ⟨0, by rw [max_eq_left le_top]; exact log_one⟩
    | coe x =>
      refine ⟨Real.log (1 + Real.exp (-(max x (-x)))), ?_⟩
      have h : -(max (x : EReal) (-(x : EReal))) = ((-(max x (-x)) : ℝ) : EReal) := by
        rw [← EReal.coe_neg, ← EReal.coe_strictMono.monotone.map_max, ← EReal.coe_neg]
      have hp : ¬ (1 + Real.exp (-(max x (-x))) ≤ 0) := by have := Real.exp_pos (-(max x (-x))); linarith
      rw [h]
      show Ideal.log (((1 : ℝ) : EReal) + ((Real.exp (-(max x (-x))) : ℝ) : EReal)) = _
      rw [← EReal.coe_add]
      exact if_neg hp
  obtain ⟨r, hr⟩ := hL
  rw [hr, EReal.neg_add (Or.inr (EReal.coe_ne_top r)) (Or.inr (EReal.coe_ne_bot r))]
  congr 1
  rcases le_total s 0 with h | h
  · rw [min_eq_left h, max_eq_left (by rw [EReal.le_neg, neg_zero]; exact h), neg_neg]
  · rw [min_eq_right h, max_eq_right (by rw [EReal.neg_le, neg_zero]; exact h), neg_zero]

/-! ## The biases, put into a column -/

/-- Where an entry of the biases goes: its own row. -/
theorem lands (idx : IVec S2 32) (h0 : ∀ j, idx j = 0#32) (k : S12.Idx) (r : Fin 16) :
    scatter_S16x1_S2_S12_0_1_01_0.resultIdx? k idx = some (ValueIdx.ix2 r (0 : Fin 1) : S16x1.Idx) ↔ (k 0).val = r.val := by
  rw [Routing.resultIdx?_eq_some]
  have hs : ∀ a, scatter_S16x1_S2_S12_0_1_01_0.start k idx a = 0 := fun a => by
    unfold ScatterDims.start
    split
    · rw [h0]; rfl
    · rfl
  have w0 : scatter_S16x1_S2_S12_0_1_01_0.window k 0 = (k 0).val := by
    unfold ScatterDims.window
    rw [dif_pos (show (0 : Fin S16x1.rank) ∈ scatter_S16x1_S2_S12_0_1_01_0.sKept by decide)]
    rfl
  have w1 : scatter_S16x1_S2_S12_0_1_01_0.window k 1 = 0 := by
    unfold ScatterDims.window
    rw [dif_neg (show ¬(1 : Fin S16x1.rank) ∈ scatter_S16x1_S2_S12_0_1_01_0.sKept by decide)]
  constructor
  · intro h
    have := h 0
    rw [hs, w0] at this
    have e : (0 : Int) + ((k 0).val : Int) = (r.val : Int) := this
    omega
  · intro h a
    match a with
    | ⟨0, _⟩ => refine (congrArg₂ (fun (x : Int) (y : Nat) => x + (y : Int)) (hs 0) w0).trans ?_; show (0 : Int) + ((k 0).val : Int) = (r.val : Int); omega
    | ⟨1, _⟩ => refine (congrArg₂ (fun (x : Int) (y : Nat) => x + (y : Int)) (hs 1) w1).trans ?_; rfl

theorem column_at (x : FVec Ideal S16x1 .f32) (idx : IVec S2 32) (h0 : ∀ j, idx j = 0#32) (b : FVec Ideal S12 .f32) (h : Fin 12) :
    Host.scatter scatter_S16x1_S2_S12_0_1_01_0 (fun _ b => b) x idx b (ValueIdx.ix2 (⟨h.val, by omega⟩ : Fin 16) (0 : Fin 1)) = b (ValueIdx.ix1 h) :=
  Routing.scatter_set_hit _ x idx b _ _ (fun k hk => congrArg b (funext fun a => Fin.ext (by
    match a with
    | ⟨0, _⟩ => exact (lands idx h0 k _).1 hk)))
    (ValueIdx.ix1 h) ((lands idx h0 _ _).2 rfl)

/-! ## A block of logits at an index -/

theorem lhs0 (j : S16x512.Idx) (q : dot_S16x4096_S512x4096_S16x512_1_1_0_0_n_n.contr.Idx) : (dot_S16x4096_S512x4096_S16x512_1_1_0_0_n_n.lhsIdx j q 0).val = (j 0).val := by
  unfold DotDims.lhsIdx
  rw [dif_neg (show ¬(0 : Fin S16x4096.rank) ∈ dot_S16x4096_S512x4096_S16x512_1_1_0_0_n_n.lhsBatch by decide), dif_pos (show (0 : Fin S16x4096.rank) ∈ dot_S16x4096_S512x4096_S16x512_1_1_0_0_n_n.lhsNonContracting by decide)]
  rfl

theorem rhs0 (j : S16x512.Idx) (q : dot_S16x4096_S512x4096_S16x512_1_1_0_0_n_n.contr.Idx) : (dot_S16x4096_S512x4096_S16x512_1_1_0_0_n_n.rhsIdx j q 0).val = (j 1).val := by
  unfold DotDims.rhsIdx
  rw [dif_neg (show ¬(0 : Fin S512x4096.rank) ∈ dot_S16x4096_S512x4096_S16x512_1_1_0_0_n_n.rhsBatch by decide), dif_pos (show (0 : Fin S512x4096.rank) ∈ dot_S16x4096_S512x4096_S16x512_1_1_0_0_n_n.rhsNonContracting by decide)]
  rfl

theorem product_at (W : FVec Ideal S16x4096 .bf16) (x : FVec Ideal S512x4096 .bf16) (h : Fin 16) (r : Fin 512) :
    (FloatOps.matmul (F := Ideal) dot_S16x4096_S512x4096_S16x512_1_1_0_0_n_n none W x (constant S16x512 .f32 0#32) (ValueIdx.ix2 h r) : EReal)
      = ∑ k : Fin 4096, (W (ValueIdx.ix2 h k) : EReal) * (x (ValueIdx.ix2 r k) : EReal) := by
  rw [Ideal.matmul_constant_zero_apply, ← Equiv.sum_comp (contrEquiv1 dot_S16x4096_S512x4096_S16x512_1_1_0_0_n_n 4096 rfl rfl).symm]
  refine Finset.sum_congr rfl fun k _ => ?_
  have hk := contrEquiv1_symm_val dot_S16x4096_S512x4096_S16x512_1_1_0_0_n_n 4096 rfl rfl k
  congr 2
  · funext a
    match a with
    | ⟨0, _⟩ => exact Fin.ext (lhs0 _ _)
    | ⟨1, _⟩ => exact Fin.ext ((DotDims.lhsIdx_val_of_single _ rfl _ _).trans hk)
  · funext a
    match a with
    | ⟨0, _⟩ => exact Fin.ext (rhs0 _ _)
    | ⟨1, _⟩ => exact Fin.ext ((DotDims.rhsIdx_val_of_single _ rfl _ _).trans hk)

theorem pay1_at (W : FVec Ideal S16x4096 .bf16) (x : FVec Ideal S512x4096 .bf16) (b : FVec Ideal S16x1 .f32) (h : Fin 16) (r : Fin 512) :
    k0_pay1 (F := Ideal) W x b (ValueIdx.ix2 h r)
      = logsig (∑ k : Fin 4096, (W (ValueIdx.ix2 h k) : EReal) * (x (ValueIdx.ix2 r k) : EReal) + (b (ValueIdx.ix2 h (0 : Fin 1)) : EReal)) := by
  have hb : broadcastTo S16x512 b broadcasts_S16x1_S16x512 (ValueIdx.ix2 h r) = b (ValueIdx.ix2 h (0 : Fin 1)) :=
    congrArg b (funext fun a => Fin.ext (by
      match a with
      | ⟨0, _⟩ => rfl
      | ⟨1, _⟩ => rfl))
  rw [← product_at, ← hb]
  unfold k0_pay1 matmul
  rw [shapeCast_self, shapeCast_self, shapeCast_self]
  show min (_ : EReal) (Ideal.ofBits .f32 0#32) - Ideal.log (Ideal.ofBits .f32 0x3F800000#32 + Ideal.exp (Ideal.ofBits .f32 0#32 - max (_ : EReal) (-_))) = _
  rw [show Ideal.ofBits .f32 0#32 = (0 : EReal) from Ideal.ofBits_zero_f32, show Ideal.ofBits .f32 0x3F800000#32 = (1 : EReal) from Ideal.ofBits_one_f32]
  rfl

/-! ## The arrays the grid finds -/

variable (m : (ℓ : Loc nD τ sig) → Buf (Elt Ideal) ℓ) (c : Dev nD)

/-- The arguments, as the run finds them: the prompts, the samples, the weights, the biases. -/
abbrev pA : FVec Ideal S2x8192x4096 .f32 := m ((c : Thread nD τ).loc main_arg0)
abbrev sA : FVec Ideal S32x64x4096 .f32 := m ((c : Thread nD τ).loc main_arg1)
abbrev wA : FVec Ideal S4096x12316 .f32 := m ((c : Thread nD τ).loc main_arg2)
abbrev bA : FVec Ideal S12 .f32 := m ((c : Thread nD τ).loc main_arg3)

/-- The rows of the prompts and the samples, one after another. -/
def rows : FVec Ideal S18432x4096 .f32 :=
  concatenate S18432x4096 0 [⟨S16384x4096, shapeCast S16384x4096 (pA m c) shapeCasts_S2x8192x4096_S16384x4096⟩,
    ⟨S2048x4096, shapeCast S2048x4096 (sA m c) shapeCasts_S32x64x4096_S2048x4096⟩] concatenates_S16384x4096_S2048x4096_S18432x4096_d0

/-- The columns of the weights for the forget gates, as rows, and four rows of zeros. -/
def wF : FVec Ideal S16x4096 .f32 :=
  concatenate S16x4096 0 [⟨S12x4096, extractStridedSlice S12x4096 ![4608, 0]
      (transpose S12316x4096 [1, 0] (wA m c) transposes_S4096x12316_S12316x4096_1_0) slices_S12316x4096_S12x4096_4608_0⟩,
    ⟨S4x4096, broadcastInDim S4x4096 ![] bcast_S_S4x4096 (constant (F := Ideal) S_ .f32 0x00000000#32)⟩] concatenates_S12x4096_S4x4096_S16x4096_d0

/-- The two indices at which the biases are put: both zero. -/
def zz : IVec S2 32 := concatenate S2 0 [⟨S1, broadcastInDim S1 ![] bcast_S_S1 (constantI S_ 32 0#32)⟩,
    ⟨S1, broadcastInDim S1 ![] bcast_S_S1 (constantI S_ 32 0#32)⟩] concatenates_S1_S1_S2_d0

/-- The biases as a column. -/
def bF : FVec Ideal S16x1 .f32 :=
  Host.scatter scatter_S16x1_S2_S12_0_1_01_0 (fun _ b => b) (broadcastInDim S16x1 ![] bcast_S_S16x1 (constant (F := Ideal) S_ .f32 0x00000000#32)) zz (bA m c)

theorem V_x : V m c main_v3 = truncf .bf16 (rows m c) bitsLt_bf16_f32 := by
  unfold rows
  rw [show V m c main_v3 = StableHlo.after hostOps0 (fun b => m (c, b)) main_v3 from rfl]
  after_results
  rfl

theorem V_w : V m c main_v21 = truncf .bf16 (wF m c) bitsLt_bf16_f32 := by
  unfold wF
  after_results
  rfl

theorem V_b : V m c main_v29 = bF m c := by
  unfold bF zz
  after_results
  rfl

/-- The array the grid leaves. -/
def out : FVec Ideal S16x18432 .f32 := (dats m 0 c).arrAt (3 : Fin 4) cfg0.N

theorem arr_out : Pipeline.withArrays (cfgs 0).spec c (V0 m c) (fun w => (dats m 0 c).arrAt w (cfgs 0).N) (Proc.tc.devRef main_v30) = out m c :=
  Pipeline.withArrays_arr (cfgs 0).spec (by decide) c (V0 m c) (fun w => (dats m 0 c).arrAt w (cfgs 0).N) (3 : Fin 4)

/-- The first result: the columns of the prompts, turned over. -/
def res36 : FVec Ideal S2x8192x12 .f32 :=
  transpose S2x8192x12 [1, 2, 0] (shapeCast S12x2x8192 (extractStridedSlice S12x16384 ![0, 0] (out m c)
    slices_S16x18432_S12x16384_0_0) shapeCasts_S12x16384_S12x2x8192) transposes_S12x2x8192_S2x8192x12_1_2_0

/-- The second result: the columns of the samples, turned over. -/
def res37 : FVec Ideal S32x64x12 .f32 :=
  transpose S32x64x12 [0, 2, 1] (transpose S32x12x64 [1, 0, 2] (shapeCast S12x32x64 (extractStridedSlice S12x2048 ![0, 16384] (out m c)
    slices_S16x18432_S12x2048_0_16384) shapeCasts_S12x2048_S12x32x64) transposes_S12x32x64_S32x12x64_1_0_2) transposes_S32x12x64_S32x64x12_0_2_1

theorem tail36 : Pipeline.afterTail₀ cfgs (dats m) 0 (V0 m) [hostOps1] c main_v36 = res36 m c := by
  unfold Pipeline.afterTail₀ res36
  rw [show [hostOps1].flatten = (hostOps1 : List (HloOp τ sig (Elt Ideal))) from rfl]
  after_results
  rw [arr_out]
  rfl

theorem tail37 : Pipeline.afterTail₀ cfgs (dats m) 0 (V0 m) [hostOps1] c main_v37 = res37 m c := by
  unfold Pipeline.afterTail₀ res37
  rw [show [hostOps1].flatten = (hostOps1 : List (HloOp τ sig (Elt Ideal))) from rfl]
  after_results
  rw [arr_out]
  rfl

/-! ## The array the grid leaves -/

/-- The logit of gate `h` at row `R`. -/
def logit (h : Fin 16) (R : Fin 18432) : EReal :=
  logsig (∑ k : Fin 4096, (wF m c (ValueIdx.ix2 h k) : EReal) * (rows m c (ValueIdx.ix2 R k) : EReal) + (bF m c (ValueIdx.ix2 h (0 : Fin 1)) : EReal))

def grid : FVec Ideal S16x18432 .f32 := fun i => logit m c ⟨(i 0).val, (i 0).isLt⟩ ⟨(i 1).val, (i 1).isLt⟩

theorem crd (t : Fin cfg0.N) : (grid0.coords t 0).val = t.val :=
  (by decide +kernel : ∀ t : Fin grid0.N, (grid0.coords t 0).val = t.val) t

theorem word_eq (i : grid0.Coords) : (BitVec.ofNat 32 (i 0).val).toNat = (i 0).val := by
  have h : (i 0).val < 36 := (i 0).isLt
  rw [BitVec.toNat_ofNat]; omega

theorem index2 (i : grid0.Coords) : cc0_transform_2 i = ![(i 0).val, 0] := by
  show ![(BitVec.ofNat 32 (i 0).val).toNat, 0] = _
  rw [word_eq]
theorem index3 (i : grid0.Coords) : cc0_transform_3 i = ![0, (i 0).val] := by
  show ![0, (BitVec.ofNat 32 (i 0).val).toNat] = _
  rw [word_eq]

theorem at0 (t : Fin cfg0.N) (h : Fin 16) (k : Fin 4096) : iblk m c (0 : Fin 4) t (ValueIdx.ix2 h k) = wF m c (ValueIdx.ix2 h k) := by
  unfold iblk
  rw [View.read_apply]
  refine Eq.trans (congrArg (V m c main_v21) (funext fun a => Fin.ext ?_)) (congrFun (V_w m c) (ValueIdx.ix2 h k : S16x4096.Idx))
  match a with
  | ⟨0, _⟩ => show 0 * 16 + 1 * h.val = h.val; omega
  | ⟨1, _⟩ => show 0 * 4096 + 1 * k.val = k.val; omega

theorem at1 (t : Fin cfg0.N) (h : Fin 16) : iblk m c (1 : Fin 4) t (ValueIdx.ix2 h (0 : Fin 1)) = bF m c (ValueIdx.ix2 h (0 : Fin 1)) := by
  unfold iblk
  rw [View.read_apply]
  refine Eq.trans (congrArg (V m c main_v29) (funext fun a => Fin.ext ?_)) (congrFun (V_b m c) (ValueIdx.ix2 h (0 : Fin 1) : S16x1.Idx))
  match a with
  | ⟨0, _⟩ => show 0 * 16 + 1 * h.val = h.val; omega
  | ⟨1, _⟩ => rfl

theorem at2 (t : Fin cfg0.N) (r : Fin 512) (k : Fin 4096) (R : Fin 18432) (hR : R.val = 512 * t.val + r.val) :
    iblk m c (2 : Fin 4) t (ValueIdx.ix2 r k) = rows m c (ValueIdx.ix2 R k) := by
  have hc := crd t
  unfold iblk
  rw [View.read_apply]
  refine Eq.trans (congrArg (V m c main_v3) (funext fun a => Fin.ext ?_)) (congrFun (V_x m c) (ValueIdx.ix2 R k : S18432x4096.Idx))
  match a with
  | ⟨0, _⟩ => show cc0_transform_2 (grid0.coords t) 0 * 512 + 1 * r.val = R.val; rw [index2, hR]; show (grid0.coords t 0).val * 512 + 1 * r.val = _; omega
  | ⟨1, _⟩ => show cc0_transform_2 (grid0.coords t) 1 * 4096 + 1 * k.val = k.val; rw [index2]; show 0 * 4096 + 1 * k.val = k.val; omega

theorem emb3 (t : Fin cfg0.N) (h : Fin 16) (r : Fin 512) (R : Fin 18432) (hR : R.val = 512 * t.val + r.val) :
    ((cfg0.win (3 : Fin 4)).blk t).view.emb (ValueIdx.ix2 h r) = (ValueIdx.ix2 h R : S16x18432.Idx) := funext fun a => Fin.ext (by
  have hc := crd t
  match a with
  | ⟨0, _⟩ => show cc0_transform_3 (grid0.coords t) 0 * 16 + 1 * h.val = h.val; rw [index3]; show 0 * 16 + 1 * h.val = h.val; omega
  | ⟨1, _⟩ => show cc0_transform_3 (grid0.coords t) 1 * 512 + 1 * r.val = R.val; rw [index3, hR]; show (grid0.coords t 0).val * 512 + 1 * r.val = _; omega)

theorem out_pay (x0 : FVec Ideal S16x4096 .bf16) (x1 : FVec Ideal S16x1 .f32) (x2 : FVec Ideal S512x4096 .bf16) : out0_3 (F := Ideal) x0 x1 x2 = k0_pay1 (F := Ideal) x0 x2 x1 := by
  have h0 : View.ld (Val := Elt Ideal) (e' := .bf16) x0 r0_0 = x0 := View.ld_unit_lit (Val := Elt Ideal) (e := .bf16) (S := S16x4096) (off := ![0, 0]) _ x0 (by decide)
  have h1 : View.ld (Val := Elt Ideal) (e' := .f32) x1 r0_2 = x1 := View.ld_unit_lit (Val := Elt Ideal) (e := .f32) (S := S16x1) (off := ![0, 0]) _ x1 (by decide)
  have h2 : View.ld (Val := Elt Ideal) (e' := .bf16) x2 r0_1 = x2 := View.ld_unit_lit (Val := Elt Ideal) (e := .bf16) (S := S512x4096) (off := ![0, 0]) _ x2 (by decide)
  unfold out0_3
  rw [h0, h1, h2]
  exact View.canon_cons_unit_lit (Val := Elt Ideal) (e := .f32) (S := S16x512) (off := ![0, 0]) _ _ [] (by decide)

theorem left_at (t : Fin cfg0.N) (h : Fin 16) (r : Fin 512) (R : Fin 18432) (hR : R.val = 512 * t.val + r.val) :
    (dats m 0 c).after (3 : Fin 4) t (ValueIdx.ix2 h r) = logit m c h R := by
  rw [after0_3, out_pay]
  refine (pay1_at _ _ _ h r).trans ?_
  unfold logit
  refine congrArg logsig (congrArg₂ (fun a b : EReal => a + b) (Finset.sum_congr rfl fun k _ => ?_) (at1 m c t h))
  exact congrArg₂ (fun a b : EReal => a * b) (at0 m c t h k) (at2 m c t r k R hR)

/-- An index of a block by its two coordinates, and an index of the array likewise. -/
theorem pair_block (y : S16x512.Idx) : y = (ValueIdx.ix2 (⟨(y 0).val, (y 0).isLt⟩ : Fin 16) (⟨(y 1).val, (y 1).isLt⟩ : Fin 512) : S16x512.Idx) :=
  funext fun a => (by
    match a with
    | ⟨0, _⟩ => rfl
    | ⟨1, _⟩ => rfl)
theorem pair_array (i : S16x18432.Idx) : i = (ValueIdx.ix2 (⟨(i 0).val, (i 0).isLt⟩ : Fin 16) (⟨(i 1).val, (i 1).isLt⟩ : Fin 18432) : S16x18432.Idx) :=
  funext fun a => (by
    match a with
    | ⟨0, _⟩ => rfl
    | ⟨1, _⟩ => rfl)

theorem out_eq : out m c = grid m c := by
  refine (dats m 0 c).arrAt_eq_of_cover (3 : Fin 4) (grid m c) (fun t _ => funext fun y => ?_) (fun i => ?_)
  · rw [View.read_apply]
    have hy0 : (y 0).val < 16 := (y 0).isLt
    have hy1 : (y 1).val < 512 := (y 1).isLt
    have hN : t.val < 36 := t.isLt
    have hl : _ = grid m c (ValueIdx.ix2 (⟨(y 0).val, hy0⟩ : Fin 16) (⟨512 * t.val + (y 1).val, by omega⟩ : Fin 18432)) :=
      left_at m c t ⟨(y 0).val, hy0⟩ ⟨(y 1).val, hy1⟩ ⟨512 * t.val + (y 1).val, by omega⟩ rfl
    rw [← emb3 t ⟨(y 0).val, hy0⟩ ⟨(y 1).val, hy1⟩ ⟨512 * t.val + (y 1).val, by omega⟩ rfl, ← pair_block y] at hl
    exact hl
  · have h1 : (i 1).val < 18432 := (i 1).isLt
    have hN : cfg0.N = 36 := by decide +kernel
    refine ⟨⟨(i 1).val / 512, by rw [hN]; omega⟩, flush0_3 _, ?_⟩
    have he := emb3 ⟨(i 1).val / 512, by rw [hN]; omega⟩ ⟨(i 0).val, (i 0).isLt⟩ ⟨(i 1).val % 512, by omega⟩ ⟨(i 1).val, h1⟩ (by show (i 1).val = 512 * ((i 1).val / 512) + (i 1).val % 512; omega)
    exact Eq.subst (motive := fun x => x ∈ ((cfg0.win (3 : Fin 4)).blk _).view.set) (he.trans (pair_array i).symm) (View.emb_mem_set _ _)

/-! ## The arguments in the arrays -/

theorem zz_eq (j : S2.Idx) : zz j = 0#32 := by
  have h : ∀ i : Fin 2, zz (ValueIdx.ix1 i) = 0#32 := fun i => by
    match i with
    | ⟨0, _⟩ => rfl
    | ⟨1, _⟩ => rfl
  exact (congrArg zz (funext fun a => (by
    match a with
    | ⟨0, _⟩ => rfl))).trans (h ⟨(j 0).val, (j 0).isLt⟩)

theorem bias_at (h : Fin 12) : bF m c (ValueIdx.ix2 (⟨h.val, by omega⟩ : Fin 16) (0 : Fin 1)) = bA m c (ValueIdx.ix1 h) :=
  column_at _ zz zz_eq (bA m c) h

theorem weight_at (h : Fin 12) (k : Fin 4096) : wF m c (ValueIdx.ix2 (⟨h.val, by omega⟩ : Fin 16) k) = wA m c (ValueIdx.ix2 k (⟨4608 + h.val, by omega⟩ : Fin 12316)) := by
  unfold wF
  refine (Cert.Kernel5Ideal.Rest.piece_row _ _ _ _ 0 (by simp) _ (by rfl) 0 (by rfl) h (by show 0 + h.val = h.val; omega)).trans ?_
  refine (extractStridedSlice_apply ![4608, 0] _ slices_S12316x4096_S12x4096_4608_0 (ValueIdx.ix2 h k)
    (ValueIdx.ix2 (⟨4608 + h.val, by omega⟩ : Fin 12316) k : S12316x4096.Idx) (fun a => ?_)).trans ?_
  · match a with
    | ⟨0, _⟩ => rfl
    | ⟨1, _⟩ => show k.val = 0 + k.val; omega
  · exact congrArg (wA m c) (funext fun a => Fin.ext (by
      match a with
      | ⟨0, _⟩ => rfl
      | ⟨1, _⟩ => rfl))

theorem prompt_at (b : Fin 2) (t : Fin 8192) (k : Fin 4096) : rows m c (ValueIdx.ix2 (⟨8192 * b.val + t.val, by omega⟩ : Fin 18432) k) = pA m c (ValueIdx.ix3 b t k) := by
  unfold rows
  refine (Cert.Kernel5Ideal.Rest.piece_row _ _ _ _ 0 (by simp) _ (by rfl) 0 (by rfl) (⟨8192 * b.val + t.val, by omega⟩ : Fin 16384) (by show 0 + (8192 * b.val + t.val) = 8192 * b.val + t.val; omega)).trans ?_
  exact shapeCast_apply (pA m c) shapeCasts_S2x8192x4096_S16384x4096 _ (ValueIdx.ix3 b t k : S2x8192x4096.Idx) (by
    rewrite [Shape.rowMajor_val_three, Shape.rowMajor_val_two]
    show (b.val * 8192 + t.val) * 4096 + k.val = (8192 * b.val + t.val) * 4096 + k.val
    omega)

theorem sample_at (b : Fin 32) (t : Fin 64) (k : Fin 4096) : rows m c (ValueIdx.ix2 (⟨16384 + (64 * b.val + t.val), by omega⟩ : Fin 18432) k) = sA m c (ValueIdx.ix3 b t k) := by
  unfold rows
  refine (Cert.Kernel5Ideal.Rest.piece_row _ _ _ _ 1 (by simp) _ (by rfl) 16384 (by rfl) (⟨64 * b.val + t.val, by omega⟩ : Fin 2048) rfl).trans ?_
  exact shapeCast_apply (sA m c) shapeCasts_S32x64x4096_S2048x4096 _ (ValueIdx.ix3 b t k : S32x64x4096.Idx) (by
    rewrite [Shape.rowMajor_val_three, Shape.rowMajor_val_two]
    show (b.val * 64 + t.val) * 4096 + k.val = (64 * b.val + t.val) * 4096 + k.val
    omega)

/-! ## The results -/

theorem res36_at (b : Fin 2) (t : Fin 8192) (h : Fin 12) :
    res36 m c (ValueIdx.ix3 b t h) = logit m c ⟨h.val, by omega⟩ ⟨8192 * b.val + t.val, by omega⟩ := by
  unfold res36
  refine (show _ = shapeCast S12x2x8192 (extractStridedSlice S12x16384 ![0, 0] (out m c) slices_S16x18432_S12x16384_0_0) shapeCasts_S12x16384_S12x2x8192
      (ValueIdx.ix3 h b t : S12x2x8192.Idx) from congrArg _ (funext fun a => Fin.ext (by
    match a with
    | ⟨0, _⟩ => rfl
    | ⟨1, _⟩ => rfl
    | ⟨2, _⟩ => rfl))).trans ?_
  refine (shapeCast_apply _ shapeCasts_S12x16384_S12x2x8192 _ (ValueIdx.ix2 h (⟨8192 * b.val + t.val, by omega⟩ : Fin 16384) : S12x16384.Idx) (by
    rewrite [Shape.rowMajor_val_three, Shape.rowMajor_val_two]
    show h.val * 16384 + (8192 * b.val + t.val) = (h.val * 2 + b.val) * 8192 + t.val
    omega)).trans ?_
  refine (extractStridedSlice_apply ![0, 0] _ slices_S16x18432_S12x16384_0_0 _
    (ValueIdx.ix2 (⟨h.val, by omega⟩ : Fin 16) (⟨8192 * b.val + t.val, by omega⟩ : Fin 18432) : S16x18432.Idx) (fun a => ?_)).trans ?_
  · match a with
    | ⟨0, _⟩ => show h.val = 0 + h.val; omega
    | ⟨1, _⟩ => show 8192 * b.val + t.val = 0 + (8192 * b.val + t.val); omega
  · exact congrFun (out_eq m c) _

theorem res37_at (b : Fin 32) (t : Fin 64) (h : Fin 12) :
    res37 m c (ValueIdx.ix3 b t h) = logit m c ⟨h.val, by omega⟩ ⟨16384 + (64 * b.val + t.val), by omega⟩ := by
  unfold res37
  refine (show _ = shapeCast S12x32x64 (extractStridedSlice S12x2048 ![0, 16384] (out m c) slices_S16x18432_S12x2048_0_16384) shapeCasts_S12x2048_S12x32x64
      (ValueIdx.ix3 h b t : S12x32x64.Idx) from congrArg _ (funext fun a => Fin.ext (by
    match a with
    | ⟨0, _⟩ => rfl
    | ⟨1, _⟩ => rfl
    | ⟨2, _⟩ => rfl))).trans ?_
  refine (shapeCast_apply _ shapeCasts_S12x2048_S12x32x64 _ (ValueIdx.ix2 h (⟨64 * b.val + t.val, by omega⟩ : Fin 2048) : S12x2048.Idx) (by
    rewrite [Shape.rowMajor_val_three, Shape.rowMajor_val_two]
    show h.val * 2048 + (64 * b.val + t.val) = (h.val * 32 + b.val) * 64 + t.val
    omega)).trans ?_
  refine (extractStridedSlice_apply ![0, 16384] _ slices_S16x18432_S12x2048_0_16384 _
    (ValueIdx.ix2 (⟨h.val, by omega⟩ : Fin 16) (⟨16384 + (64 * b.val + t.val), by omega⟩ : Fin 18432) : S16x18432.Idx) (fun a => ?_)).trans ?_
  · match a with
    | ⟨0, _⟩ => show h.val = 0 + h.val; omega
    | ⟨1, _⟩ => rfl
  · exact congrFun (out_eq m c) _

/-- The reference's logarithm of the logistic function is the kernel's. -/
theorem ref_logsig (s z1 z2 e : Ideal .f32) (h1 : z1 = (0 : EReal)) (h2 : z2 = (0 : EReal)) :
    FloatOps.hostNegf (Scalar.select (FloatOps.cmpf .une (FloatOps.subf (FloatOps.hostNegf s) z2) (FloatOps.subf (FloatOps.hostNegf s) z2)) e
      (FloatOps.addf (FloatOps.maximumf (FloatOps.hostNegf s) z1)
        (FloatOps.hostUnary .log1p (FloatOps.hostUnary .exp (FloatOps.hostNegf (FloatOps.hostAbsf (FloatOps.subf (FloatOps.hostNegf s) z2))))))) = logsig s := by
  have hc : FloatOps.cmpf .une (FloatOps.subf (FloatOps.hostNegf s) z2) (FloatOps.subf (FloatOps.hostNegf s) z2) = 0#1 := by
    show BitVec.ofBool (decide (_ ≠ _)) = 0#1
    rw [decide_eq_false (fun h => h rfl)]; rfl
  rw [hc, h1, h2]
  exact logsig_eq s

theorem ref36_at (b : Fin 2) (t : Fin 8192) (h : Fin 12) :
    Cert.Reference6Ideal.Read.val_main_v7 (F := Ideal) (pA m c) (wA m c) (bA m c) (ValueIdx.ix3 b t h)
      = logsig (∑ k : Fin 4096, (pA m c (ValueIdx.ix3 b t k) : EReal) * (wA m c (ValueIdx.ix2 k (⟨4608 + h.val, by omega⟩ : Fin 12316)) : EReal) + (bA m c (ValueIdx.ix1 h) : EReal)) := by
  refine (ref_logsig (Cert.Reference6Ideal.Read.val_main_v6 (F := Ideal) (pA m c) (wA m c) (bA m c) (ValueIdx.ix3 b t h))
    (Cert.Reference6Ideal.Read.val_main_call0_call0_v0 (F := Ideal) (ValueIdx.ix3 b t h)) (Cert.Reference6Ideal.Read.val_main_call0_call0_v2 (F := Ideal) (ValueIdx.ix3 b t h)) _
    ((Cert.Reference6Ideal.Read.val_main_call0_call0_v0_apply _).trans Ideal.ofBits_zero_f32)
    ((Cert.Reference6Ideal.Read.val_main_call0_call0_v2_apply _).trans Ideal.ofBits_zero_f32)).trans ?_
  refine congrArg logsig (congrArg₂ (fun a b : EReal => a + b) ?_ ?_)
  · refine (Cert.Reference6Ideal.Read.val_main_v2_apply _ _ _).trans ((Cert.Reference6Ideal.Read.val_main_v0_apply _ _ _).trans (Finset.sum_congr rfl fun k _ => ?_))
    refine congrArg₂ (fun a b : EReal => a * b) (congrArg (pA m c) (funext fun a => Fin.ext ?_)) (congrArg (wA m c) (funext fun a => Fin.ext ?_))
    · match a with
      | ⟨0, _⟩ => rfl
      | ⟨1, _⟩ => rfl
      | ⟨2, _⟩ => rfl
    · match a with
      | ⟨0, _⟩ => rfl
      | ⟨1, _⟩ => rfl
  · refine (Cert.Reference6Ideal.Read.val_main_v5_apply _ _).trans ((Cert.Reference6Ideal.Read.val_main_v4_apply _ _).trans (congrArg (bA m c) (funext fun a => Fin.ext ?_)))
    match a with
    | ⟨0, _⟩ => rfl

theorem ref37_at (b : Fin 32) (t : Fin 64) (h : Fin 12) :
    Cert.Reference6Ideal.Read.val_main_v15 (F := Ideal) (sA m c) (wA m c) (bA m c) (ValueIdx.ix3 b t h)
      = logsig (∑ k : Fin 4096, (sA m c (ValueIdx.ix3 b t k) : EReal) * (wA m c (ValueIdx.ix2 k (⟨4608 + h.val, by omega⟩ : Fin 12316)) : EReal) + (bA m c (ValueIdx.ix1 h) : EReal)) := by
  refine (ref_logsig (Cert.Reference6Ideal.Read.val_main_v14 (F := Ideal) (sA m c) (wA m c) (bA m c) (ValueIdx.ix3 b t h))
    (Cert.Reference6Ideal.Read.val_main_call1_call0_v0 (F := Ideal) (ValueIdx.ix3 b t h)) (Cert.Reference6Ideal.Read.val_main_call1_call0_v2 (F := Ideal) (ValueIdx.ix3 b t h)) _
    ((Cert.Reference6Ideal.Read.val_main_call1_call0_v0_apply _).trans Ideal.ofBits_zero_f32)
    ((Cert.Reference6Ideal.Read.val_main_call1_call0_v2_apply _).trans Ideal.ofBits_zero_f32)).trans ?_
  refine congrArg logsig (congrArg₂ (fun a b : EReal => a + b) ?_ ?_)
  · refine (Cert.Reference6Ideal.Read.val_main_v10_apply _ _ _).trans ((Cert.Reference6Ideal.Read.val_main_v8_apply _ _ _).trans (Finset.sum_congr rfl fun k _ => ?_))
    refine congrArg₂ (fun a b : EReal => a * b) (congrArg (sA m c) (funext fun a => Fin.ext ?_)) (congrArg (wA m c) (funext fun a => Fin.ext ?_))
    · match a with
      | ⟨0, _⟩ => rfl
      | ⟨1, _⟩ => rfl
      | ⟨2, _⟩ => rfl
    · match a with
      | ⟨0, _⟩ => rfl
      | ⟨1, _⟩ => rfl
  · refine (Cert.Reference6Ideal.Read.val_main_v13_apply _ _).trans ((Cert.Reference6Ideal.Read.val_main_v12_apply _ _).trans (congrArg (bA m c) (funext fun a => Fin.ext ?_)))
    match a with
    | ⟨0, _⟩ => rfl

/-- The first result is the reference's. -/
theorem same36 : res36 m c = Cert.Reference6Ideal.Read.val_main_v7 (F := Ideal) (pA m c) (wA m c) (bA m c) := funext fun (i : S2x8192x12.Idx) => by
  have e : i = (ValueIdx.ix3 (⟨(i 0).val, (i 0).isLt⟩ : Fin 2) (⟨(i 1).val, (i 1).isLt⟩ : Fin 8192) (⟨(i 2).val, (i 2).isLt⟩ : Fin 12) : S2x8192x12.Idx) := funext fun a => (by
    match a with
    | ⟨0, _⟩ => rfl
    | ⟨1, _⟩ => rfl
    | ⟨2, _⟩ => rfl)
  rw [e]
  refine (res36_at m c _ _ _).trans (Eq.trans ?_ (ref36_at m c _ _ _).symm)
  unfold logit
  refine congrArg logsig (congrArg₂ (fun a b : EReal => a + b) (Finset.sum_congr rfl fun k _ => ?_) (bias_at m c _))
  exact (congrArg₂ (fun a b : EReal => a * b) (weight_at m c _ k) (prompt_at m c _ _ k)).trans (mul_comm _ _)

/-- The second result is the reference's. -/
theorem same37 : res37 m c = Cert.Reference6Ideal.Read.val_main_v15 (F := Ideal) (sA m c) (wA m c) (bA m c) := funext fun (i : S32x64x12.Idx) => by
  have e : i = (ValueIdx.ix3 (⟨(i 0).val, (i 0).isLt⟩ : Fin 32) (⟨(i 1).val, (i 1).isLt⟩ : Fin 64) (⟨(i 2).val, (i 2).isLt⟩ : Fin 12) : S32x64x12.Idx) := funext fun a => (by
    match a with
    | ⟨0, _⟩ => rfl
    | ⟨1, _⟩ => rfl
    | ⟨2, _⟩ => rfl)
  rw [e]
  refine (res37_at m c _ _ _).trans (Eq.trans ?_ (ref37_at m c _ _ _).symm)
  unfold logit
  refine congrArg logsig (congrArg₂ (fun a b : EReal => a + b) (Finset.sum_congr rfl fun k _ => ?_) (bias_at m c _))
  exact (congrArg₂ (fun a b : EReal => a * b) (weight_at m c _ k) (sample_at m c _ _ k)).trans (mul_comm _ _)

end Cert.Kernel6Ideal.Logits
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Bounded
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.GateValue
public import proofs.«01_k».proof.Proof.Gen.Kernel3
public import proofs.«01_k».proof.Proof.Gen.Kernel3.Launch
public import proofs.«01_k».proof.Proof.Gen.Kernel3.Skeleton
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.DownValue
public import proofs.«01_k».proof.Proof.Gen.Pre_routed3
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_routed
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Launch
public import proofs.«01_k».proof.Proof.Gen.Kernel4.Skeleton
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Reference4Ideal.Read
public import proofs.«01_k».proof.Proof.ProjValue
public import proofs.«01_k».proof.Proof.Gen.Kernel5
public import proofs.«01_k».proof.Proof.Gen.Kernel5.Launch
public import proofs.«01_k».proof.Proof.Gen.Kernel5.Skeleton
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.RestValue
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.LogitsValue
public import Idealize.ShloMosaic.Adequacy
public import Idealize.ShloMosaic.Init

@[expose] public section

noncomputable section

namespace Cert.Proof

open Idealize.ShloMosaic Idealize.SL.Sem Cert.Kernel

open Blocks Whole Plain in
/-- The kernel's final array is the reference's result on the same arguments. -/
theorem same (m : (ℓ : Loc Cert.KernelIdeal.nD Cert.KernelIdeal.τ Cert.KernelIdeal.sig) → Buf (Elt Ideal) ℓ) (c : Dev Cert.KernelIdeal.nD) (H : Fin3 m c) :
    (Cert.KernelIdeal.Gen.dats m 0 c).arrAt 4 Cert.KernelIdeal.cfg0.N
      = Cert.ReferenceIdeal.Read.val_main_v41 (F := Ideal) (m ((c.tc : Thread Cert.KernelIdeal.nD Cert.KernelIdeal.τ).loc Cert.KernelIdeal.main_arg0)) (A1 m c) (A2 m c) (A3 m c) := by
  funext (i : Cert.KernelIdeal.S18432x4096.Idx)
  by_cases h : (i 0).val < 16384 ∧ 1536 ≤ (i 1).val ∧ (i 1).val < 3072
  · obtain ⟨h0, h1, h2⟩ := h
    have e0 : (i 0).val = 8192 * (⟨(i 0).val / 8192, by omega⟩ : Fin 2).val + (⟨(i 0).val % 8192, by omega⟩ : Fin 8192).val := by
      show (i 0).val = 8192 * ((i 0).val / 8192) + (i 0).val % 8192; omega
    have e1 : (i 1).val = 1536 + (128 * (⟨((i 1).val - 1536) / 128, by omega⟩ : Fin 12).val + (⟨((i 1).val - 1536) % 128, by omega⟩ : Fin 128).val) := by
      show (i 1).val = 1536 + (128 * (((i 1).val - 1536) / 128) + ((i 1).val - 1536) % 128); omega
    obtain ⟨ρ, hρ⟩ := H.past ⟨(i 0).val / 8192, by omega⟩ ⟨((i 1).val - 1536) / 128, by omega⟩ ⟨(i 0).val % 8192, by omega⟩ ⟨(i 0).val % 8192, by omega⟩ le_rfl
    exact (H.inside _ _ _ _ i e0 e1).trans (result_in _ _ _ _ _ _ _ _ i e0 e1 (fun s => H.ne_top _ _ _ s) ρ hρ).symm
  · exact (outside m c i h).trans (result_out _ _ _ _ i h).symm

/-- The reference leaves its arguments as they were, and it has no semaphore. -/
theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- Tables that meet the precondition are in range. -/
theorem ranged {F : FTy → Type} [FloatOps F] (m : (ℓ : Loc Cert.Kernel2Ideal.nD Cert.Kernel2Ideal.τ Cert.Kernel2Ideal.sig) → Buf (Elt F) ℓ)
    (h : ∀ c : Dev Cert.Kernel2Ideal.nD, Cert.Pre_routed.fn (F := F) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) = fun _ => 1#1) :
    Cert.Kernel2Ideal.Gate.InRange (Cert.Kernel2Ideal.Gate.tbl m 0) (Cert.Kernel2Ideal.Gate.tbl m 1) :=
  Cert.Kernel2Ideal.Gate.in_range (F := F) _ _ _ _ _ _ (h 0)

theorem quiet2 : quiescent_Kernel2 := fun m ρ hpre =>
  Eq.mp (by sl_kernel_rfl) (Cert.Kernel2Ideal.Gate.quiet (F := Bits) m ρ (Cert.Kernel2Ideal.Gate.fit m (ranged (F := Bits) m hpre)))

theorem frame_ref2 : quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem equal2 : algebraic_Kernel2Ideal_Reference2Ideal := fun m ρ m' ρ' hpre hargs =>
  have h := ranged (F := Ideal) m hpre
  have hF := Cert.Kernel2Ideal.Gate.fit m h
  ⟨fun c => Cert.Kernel2Ideal.Gate.ref4 m c, fun c => Cert.Kernel2Ideal.Gate.ref5 m c,
    (θ_run Cert.Kernel2Ideal.defs _ _).mono (fun r hr c => ⟨((hr.1 c).1 (4 : Fin 6)).trans (Cert.Kernel2Ideal.Gate.array4 m hF c h),
      ((hr.1 c).1 (5 : Fin 6)).trans (Cert.Kernel2Ideal.Gate.array5 m hF c), Cert.Kernel2Ideal.Gate.kept m hF r hr.1 c⟩) (Cert.Kernel2Ideal.Gate.runs m ρ hF),
    (θ_run Cert.Reference2Ideal.defs _ _).mono (fun r hr c => by
      obtain ⟨e0, e1, hk⟩ := hr c
      obtain ⟨a0, a1, a2, a3, a4, a5⟩ := hargs c
      refine ⟨e0.trans ?_, e1.trans ?_, hk⟩
      · exact (Cert.Reference2Ideal.Read.val_main_v125_eq (StableHlo.launchContents m' c)).trans
          (congr (congr (congr (congr (congrArg (Cert.Reference2Ideal.Read.val_main_v125 (F := Ideal)) a0) a1) a2) a3) a4)
      · exact (Cert.Reference2Ideal.Read.val_main_v126_eq (StableHlo.launchContents m' c)).trans
          (congrArg (Cert.Reference2Ideal.Read.val_main_v126 (F := Ideal)) a5)) (Cert.Reference2Ideal.Value.run m' ρ')⟩

/-- A table of experts that meets the precondition is in range. -/
theorem ranged3 {F : FTy → Type} [FloatOps F] (m : (ℓ : Loc Cert.Kernel3Ideal.nD Cert.Kernel3Ideal.τ Cert.Kernel3Ideal.sig) → Buf (Elt F) ℓ)
    (h : ∀ c : Dev Cert.Kernel3Ideal.nD, Cert.Pre_routed3.fn (F := F) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) = fun _ => 1#1) :
    Cert.Kernel3Ideal.Down.InRange (Cert.Kernel3Ideal.Down.tbl m 0) :=
  Cert.Kernel3Ideal.Down.in_range (F := F) _ _ _ _ _ (h 0)

theorem quiet3 : quiescent_Kernel3 := fun m ρ hpre =>
  Eq.mp (by sl_kernel_rfl) (Cert.Kernel3Ideal.Down.quiet (F := Bits) m ρ (Cert.Kernel3Ideal.Down.fit m (ranged3 (F := Bits) m hpre)))

theorem frame_ref3 : quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem equal3 : algebraic_Kernel3Ideal_Reference3Ideal := fun m ρ m' ρ' hpre hargs =>
  have h := ranged3 (F := Ideal) m hpre
  have hF := Cert.Kernel3Ideal.Down.fit m h
  ⟨fun c => Cert.Kernel3Ideal.Down.ref3 m c,
    (θ_run Cert.Kernel3Ideal.defs _ _).mono (fun r hr c => ⟨((hr.1 c).1 (3 : Fin 4)).trans (Cert.Kernel3Ideal.Down.array3 m hF c h),
      Cert.Kernel3Ideal.Down.kept m hF r hr.1 c⟩) (Cert.Kernel3Ideal.Down.runs m ρ hF),
    (θ_run Cert.Reference3Ideal.defs _ _).mono (fun r hr c => by
      obtain ⟨e0, hk⟩ := hr c
      obtain ⟨a0, a1, a2, a3, a4⟩ := hargs c
      refine ⟨e0.trans ?_, hk⟩
      exact (Cert.Reference3Ideal.Read.val_main_v78_eq m' c).trans
        (congr (congr (congr (congr (congrArg (Cert.Reference3Ideal.Read.val_main_v78 (F := Ideal)) a0) a1) a2) a3) a4)) (Cert.Reference3Ideal.Value.run m' ρ')⟩

theorem quiet4 : quiescent_Kernel4 := fun m ρ _ => Eq.mp (by sl_kernel_rfl) (Cert.Kernel4Ideal.Proj.quiet (F := Bits) m ρ)

theorem frame_ref4 : quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

theorem equal4 : algebraic_Kernel4Ideal_Reference4Ideal := fun m ρ m' ρ' _ hargs =>
  ⟨fun c => Cert.Kernel4Ideal.Proj.ref2 m c, fun c => Cert.Kernel4Ideal.Proj.ref3 m c,
    (θ_run Cert.Kernel4Ideal.defs _ _).mono (fun r hr c => ⟨((hr.1 c).1 (2 : Fin 4)).trans (Cert.Kernel4Ideal.Proj.array2 m c),
      ((hr.1 c).1 (3 : Fin 4)).trans (Cert.Kernel4Ideal.Proj.array3 m c), Cert.Kernel4Ideal.Proj.kept m r hr.1 c⟩) (Cert.Kernel4Ideal.Proj.runs m ρ),
    (θ_run Cert.Reference4Ideal.defs _ _).mono (fun r hr c => by
      obtain ⟨e0, e1, hk⟩ := hr c
      obtain ⟨a0, a1, a2⟩ := hargs c
      refine ⟨e0.trans ?_, e1.trans ?_, hk⟩
      · exact (Cert.Reference4Ideal.Read.val_main_v12_eq _ _ _).trans (congr (congr (congrArg (Cert.Reference4Ideal.Read.val_main_v12 (F := Ideal)) a0) a1) a2)
      · exact (Cert.Reference4Ideal.Read.val_main_v13_eq _ _ _).trans (congr (congr (congrArg (Cert.Reference4Ideal.Read.val_main_v13 (F := Ideal)) a0) a1) a2)) (Cert.Reference4Ideal.Value.run m' ρ')⟩

theorem quiet5 : quiescent_Kernel5 := fun m ρ _ => Eq.mp (by sl_kernel_rfl) (Cert.Kernel5Ideal.Rest.quiet (F := Bits) m ρ)

theorem frame_ref5 : quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem equal5 : algebraic_Kernel5Ideal_Reference5Ideal := fun m ρ m' ρ' _ hargs =>
  ⟨fun c => Cert.Kernel5Ideal.Rest.ref2 m c,
    (θ_run Cert.Kernel5Ideal.defs _ _).mono (fun r hr c => ⟨((hr.1 c).1 (2 : Fin 3)).trans (Cert.Kernel5Ideal.Rest.array2 m c),
      Cert.Kernel5Ideal.Rest.kept m r hr.1 c⟩) (Cert.Kernel5Ideal.Rest.runs m ρ),
    (θ_run Cert.Reference5Ideal.defs _ _).mono (fun r hr c => by
      obtain ⟨e0, hk⟩ := hr c
      obtain ⟨a0, a1, a2⟩ := hargs c
      refine ⟨e0.trans ?_, hk⟩
      exact (Cert.Reference5Ideal.Read.val_main_v14_eq _ _ _).trans (congr (congr (congrArg (Cert.Reference5Ideal.Read.val_main_v14 (F := Ideal)) a0) a1) a2)) (Cert.Reference5Ideal.Value.run m' ρ')⟩

theorem quiet6 : quiescent_Kernel6 := fun m ρ _ => Cert.Kernel6.Gen.frame (F := Bits) m ρ

theorem frame_ref6 : quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

theorem equal6 : algebraic_Kernel6Ideal_Reference6Ideal := fun m ρ m' ρ' _ hargs =>
  ⟨fun c => Cert.Kernel6Ideal.Logits.res36 m c, fun c => Cert.Kernel6Ideal.Logits.res37 m c,
    (θ_run Cert.Kernel6Ideal.defs _ _).mono (fun r h c =>
      ⟨((h c).2 Cert.Kernel6Ideal.main_v36 (Pipeline.mem_restRefs_of Cert.Kernel6Ideal.main_v36 (by decide) (by decide))).trans (Cert.Kernel6Ideal.Logits.tail36 m c),
        ((h c).2 Cert.Kernel6Ideal.main_v37 (Pipeline.mem_restRefs_of Cert.Kernel6Ideal.main_v37 (by decide) (by decide))).trans (Cert.Kernel6Ideal.Logits.tail37 m c),
        ((h c).2 Cert.Kernel6Ideal.main_arg0 (Pipeline.mem_restRefs_of Cert.Kernel6Ideal.main_arg0 (by decide) (by decide))).trans (Cert.Kernel6Ideal.Gen.W_main_arg0 m (Cert.Kernel6Ideal.Gen.dats m) c),
        ((h c).2 Cert.Kernel6Ideal.main_arg1 (Pipeline.mem_restRefs_of Cert.Kernel6Ideal.main_arg1 (by decide) (by decide))).trans (Cert.Kernel6Ideal.Gen.W_main_arg1 m (Cert.Kernel6Ideal.Gen.dats m) c),
        ((h c).2 Cert.Kernel6Ideal.main_arg2 (Pipeline.mem_restRefs_of Cert.Kernel6Ideal.main_arg2 (by decide) (by decide))).trans (Cert.Kernel6Ideal.Gen.W_main_arg2 m (Cert.Kernel6Ideal.Gen.dats m) c),
        ((h c).2 Cert.Kernel6Ideal.main_arg3 (Pipeline.mem_restRefs_of Cert.Kernel6Ideal.main_arg3 (by decide) (by decide))).trans (Cert.Kernel6Ideal.Gen.W_main_arg3 m (Cert.Kernel6Ideal.Gen.dats m) c)⟩)
      (Cert.Kernel6Ideal.Gen.run_main (F := Ideal) m ρ),
    (θ_run Cert.Reference6Ideal.defs _ _).mono (fun r hr c => by
      obtain ⟨e0, e1, hk⟩ := hr c
      obtain ⟨a0, a1, a2, a3⟩ := hargs c
      refine ⟨e0.trans ?_, e1.trans ?_, hk⟩
      · exact (Cert.Reference6Ideal.Read.val_main_v7_eq _ _ _).trans ((congr (congr (congrArg (Cert.Reference6Ideal.Read.val_main_v7 (F := Ideal)) a0) a2) a3).trans (Cert.Kernel6Ideal.Logits.same36 m c).symm)
      · exact (Cert.Reference6Ideal.Read.val_main_v15_eq _ _ _).trans ((congr (congr (congrArg (Cert.Reference6Ideal.Read.val_main_v15 (F := Ideal)) a1) a2) a3).trans (Cert.Kernel6Ideal.Logits.same37 m c).symm)) (Cert.Reference6Ideal.Value.run m' ρ')⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts, Cert.Pre_routed.Gen.facts, Cert.Pre_routed3.Gen.facts,
    fun m ρ _ => Cert.Kernel.Gen.frame m ρ,
    fun m ρ _ => Cert.KernelIdeal.Gen.frame m ρ,
    fun m ρ _ => Cert.KernelIdeal.Gen.frame m ρ,
    fun m ρ _ => frame_ref m ρ,
    fun m ρ _ => frame_ref m ρ,
    quiet2,
    fun m ρ hpre => Cert.Kernel2Ideal.Gate.quiet m ρ (Cert.Kernel2Ideal.Gate.fit m (ranged m hpre)),
    frame_ref2,
    fun m ρ _ => frame_ref2 m ρ trivial,
    quiet3,
    fun m ρ hpre => Cert.Kernel3Ideal.Down.quiet m ρ (Cert.Kernel3Ideal.Down.fit m (ranged3 m hpre)),
    frame_ref3,
    fun m ρ _ => frame_ref3 m ρ trivial,
    quiet4,
    fun m ρ _ => Cert.Kernel4Ideal.Proj.quiet m ρ,
    frame_ref4,
    quiet5,
    fun m ρ _ => Cert.Kernel5Ideal.Rest.quiet m ρ,
    frame_ref5,
    quiet6,
    fun m ρ _ => Cert.Kernel6Ideal.Gen.frame m ρ,
    frame_ref6,
    ⟨IdealRules.named_const.statement Cert.KernelIdeal.κ "scale_log2e" .f32 0x3E0293EE#32 _ rfl,
      IdealRules.named_const.statement Cert.KernelIdeal.κ "log2e" .f32 0x3FB8AA3B#32 _ rfl⟩,
    fun m ρ m' ρ' hpre hargs => ⟨fun c => (Cert.KernelIdeal.Gen.dats m 0 c).arrAt 4 Cert.KernelIdeal.cfg0.N,
      Cert.KernelIdeal.Value.run_blocks m ρ,
      (θ_run Cert.ReferenceIdeal.defs _ _).mono (fun r h c => by
        obtain ⟨hv, h0, h1, h2, h3⟩ := h c
        obtain ⟨a0, a1, a2, a3⟩ := hargs c
        refine ⟨hv.trans ?_, h0, h1, h2, h3⟩
        rw [Cert.ReferenceIdeal.Read.val_main_v41_eq, a0, a1, a2, a3]
        exact (same m c (Bounded.fin3 m c (hpre c))).symm) (Cert.ReferenceIdeal.Value.run m' ρ')⟩,
    trivial, equal2, trivial, equal3, trivial, equal4, trivial, equal5, trivial, equal6⟩

end Cert.Proof

end
